-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_tail [hPre_finite_tail : Cert.Pre_finite_tail.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_tail.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).1 = (fun _ => 1#1)
    ∧ (Cert.Pre_finite_tail.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.1 = (fun _ => 1#1)
    ∧ (Cert.Pre_finite_tail.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.1 = (fun _ => 1#1)
    ∧ (Cert.Pre_finite_tail.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_tail [hPre_finite_tail : Cert.Pre_finite_tail.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_tail.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).1 = (fun _ => 1#1)
    ∧ (Cert.Pre_finite_tail.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.1 = (fun _ => 1#1)
    ∧ (Cert.Pre_finite_tail.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.1 = (fun _ => 1#1)
    ∧ (Cert.Pre_finite_tail.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_finite_tail [hKernel7Ideal : Cert.Kernel7Ideal.Facts] [hPre_finite_tail : Cert.Pre_finite_tail.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_tail m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_finite_tail [hReference7Ideal : Cert.Reference7Ideal.Facts] [hPre_finite_tail : Cert.Pre_finite_tail.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_tail m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite_tail [hKernel7Ideal : Cert.Kernel7Ideal.Facts] [hReference7Ideal : Cert.Reference7Ideal.Facts] [hPre_finite_tail : Cert.Pre_finite_tail.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_tail m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v15)) (v1 : (c : Dev Cert.Kernel7Ideal.nD) → Buf (Elt Ideal) ((c.tc : Thread Cert.Kernel7Ideal.nD Cert.Kernel7Ideal.τ).loc Cert.Kernel7Ideal.main_v14_1)) (v2 : (c : Dev Cert.Kernel7Ideal.nD) → Buf (Elt Ideal) ((c.tc : Thread Cert.Kernel7Ideal.nD Cert.Kernel7Ideal.τ).loc Cert.Kernel7Ideal.main_v14_2)) (v3 : (c : Dev Cert.Kernel7Ideal.nD) → Buf (Elt Ideal) ((c.tc : Thread Cert.Kernel7Ideal.nD Cert.Kernel7Ideal.τ).loc Cert.Kernel7Ideal.main_v14_3)) (v4 : (c : Dev Cert.Kernel7Ideal.nD) → Buf (Elt Ideal) ((c.tc : Thread Cert.Kernel7Ideal.nD Cert.Kernel7Ideal.τ).loc Cert.Kernel7Ideal.main_v14_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15) = v0 c
          ∧ r.2.mem ((c.tc : Thread Cert.Kernel7Ideal.nD Cert.Kernel7Ideal.τ).loc Cert.Kernel7Ideal.main_v14_1) = v1 c
          ∧ r.2.mem ((c.tc : Thread Cert.Kernel7Ideal.nD Cert.Kernel7Ideal.τ).loc Cert.Kernel7Ideal.main_v14_2) = v2 c
          ∧ r.2.mem ((c.tc : Thread Cert.Kernel7Ideal.nD Cert.Kernel7Ideal.τ).loc Cert.Kernel7Ideal.main_v14_3) = v3 c
          ∧ r.2.mem ((c.tc : Thread Cert.Kernel7Ideal.nD Cert.Kernel7Ideal.τ).loc Cert.Kernel7Ideal.main_v14_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v52) = v0 c
          ∧ r.2.mem ((c.tc : Thread Cert.Reference7Ideal.nD Cert.Reference7Ideal.τ).loc Cert.Reference7Ideal.main_v53) = v1 c
          ∧ r.2.mem ((c.tc : Thread Cert.Reference7Ideal.nD Cert.Reference7Ideal.τ).loc Cert.Reference7Ideal.main_v54) = v2 c
          ∧ r.2.mem ((c.tc : Thread Cert.Reference7Ideal.nD Cert.Reference7Ideal.τ).loc Cert.Reference7Ideal.main_v55) = v3 c
          ∧ r.2.mem ((c.tc : Thread Cert.Reference7Ideal.nD Cert.Reference7Ideal.τ).loc Cert.Reference7Ideal.main_v56) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v8_0)) (v1 : (c : Dev Cert.Kernel8Ideal.nD) → Buf (Elt Ideal) ((c.tc : Thread Cert.Kernel8Ideal.nD Cert.Kernel8Ideal.τ).loc Cert.Kernel8Ideal.main_v8_1)) (v2 : (c : Dev Cert.Kernel8Ideal.nD) → Buf (Elt Ideal) ((c.tc : Thread Cert.Kernel8Ideal.nD Cert.Kernel8Ideal.τ).loc Cert.Kernel8Ideal.main_v8_2)) (v3 : (c : Dev Cert.Kernel8Ideal.nD) → Buf (Elt Ideal) ((c.tc : Thread Cert.Kernel8Ideal.nD Cert.Kernel8Ideal.τ).loc Cert.Kernel8Ideal.main_v8_3)) (v4 : (c : Dev Cert.Kernel8Ideal.nD) → Buf (Elt Ideal) ((c.tc : Thread Cert.Kernel8Ideal.nD Cert.Kernel8Ideal.τ).loc Cert.Kernel8Ideal.main_v8_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8_0) = v0 c
          ∧ r.2.mem ((c.tc : Thread Cert.Kernel8Ideal.nD Cert.Kernel8Ideal.τ).loc Cert.Kernel8Ideal.main_v8_1) = v1 c
          ∧ r.2.mem ((c.tc : Thread Cert.Kernel8Ideal.nD Cert.Kernel8Ideal.τ).loc Cert.Kernel8Ideal.main_v8_2) = v2 c
          ∧ r.2.mem ((c.tc : Thread Cert.Kernel8Ideal.nD Cert.Kernel8Ideal.τ).loc Cert.Kernel8Ideal.main_v8_3) = v3 c
          ∧ r.2.mem ((c.tc : Thread Cert.Kernel8Ideal.nD Cert.Kernel8Ideal.τ).loc Cert.Kernel8Ideal.main_v8_5) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v59) = v0 c
          ∧ r.2.mem ((c.tc : Thread Cert.Reference8Ideal.nD Cert.Reference8Ideal.τ).loc Cert.Reference8Ideal.main_v60) = v1 c
          ∧ r.2.mem ((c.tc : Thread Cert.Reference8Ideal.nD Cert.Reference8Ideal.τ).loc Cert.Reference8Ideal.main_v61) = v2 c
          ∧ r.2.mem ((c.tc : Thread Cert.Reference8Ideal.nD Cert.Reference8Ideal.τ).loc Cert.Reference8Ideal.main_v62) = v3 c
          ∧ r.2.mem ((c.tc : Thread Cert.Reference8Ideal.nD Cert.Reference8Ideal.τ).loc Cert.Reference8Ideal.main_v58) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite_tail : Cert.Pre_finite_tail.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_tail (hKernel7Ideal := hKernel7Ideal) (hPre_finite_tail := hPre_finite_tail)
    ∧ quiescent_Reference7Ideal (hReference7Ideal := hReference7Ideal)
    ∧ quiescent_Reference7Ideal_pre_finite_tail (hReference7Ideal := hReference7Ideal) (hPre_finite_tail := hPre_finite_tail)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_tail (hKernel7Ideal := hKernel7Ideal) (hReference7Ideal := hReference7Ideal) (hPre_finite_tail := hPre_finite_tail)
    ∧ preserves_Kernel8_Kernel8Ideal
    ∧ algebraic_Kernel8Ideal_Reference8Ideal (hKernel8Ideal := hKernel8Ideal) (hReference8Ideal := hReference8Ideal)
-- ==== Pre_finite.lean ====
abbrev S2x2048x8x128 : Shape := ⟨4, ![2, 2048, 8, 128]⟩
abbrev S2x2048x8x64 : Shape := ⟨4, ![2, 2048, 8, 64]⟩
abbrev S2x2048x64 : Shape := ⟨3, ![2, 2048, 64]⟩
abbrev S_ : Shape := ⟨0, ![]⟩

class Facts : Prop where
  bcast_S_S2x2048x8x128 : S_.BroadcastsInDim S2x2048x8x128 (![] : Fin 0 → Fin S2x2048x8x128.rank)
  bcast_S_S2x2048x8x64 : S_.BroadcastsInDim S2x2048x8x64 (![] : Fin 0 → Fin S2x2048x8x64.rank)
  bcast_S_S2x2048x64 : S_.BroadcastsInDim S2x2048x64 (![] : Fin 0 → Fin S2x2048x64.rank)

variable [Facts]

def fn {F : FTy → Type} [FloatOps F] (main_arg0 : FVec F S2x2048x8x128 .f32) (main_arg1 : FVec F S2x2048x8x64 .f32) (main_arg2 : FVec F S2x2048x8x128 .f32) (main_arg3 : FVec F S2x2048x64 .f32) (main_arg4 : FVec F S2x2048x8x128 .f32) (main_arg5 : FVec F S2x2048x8x128 .f32) : IVec S2x2048x8x128 1 × IVec S2x2048x8x64 1 × IVec S2x2048x8x128 1 × IVec S2x2048x64 1 × IVec S2x2048x8x128 1 × IVec S2x2048x8x128 1 :=
  let main_v0 : FVec F S2x2048x8x128 .f32 := Host.absf main_arg0
  let main_cst : FVec F S_ .f32 := constant S_ .f32 0x7F800000#32
  let main_v1 : FVec F S2x2048x8x128 .f32 := broadcastInDim S2x2048x8x128 ![] bcast_S_S2x2048x8x128 main_cst
  let main_v2 : IVec S2x2048x8x128 1 := cmpf .olt main_v0 main_v1
  let main_v3 : FVec F S2x2048x8x64 .f32 := Host.absf main_arg1
  let main_cst_0 : FVec F S_ .f32 := constant S_ .f32 0x7F800000#32
  let main_v4 : FVec F S2x2048x8x64 .f32 := broadcastInDim S2x2048x8x64 ![] bcast_S_S2x2048x8x64 main_cst_0
  let main_v5 : IVec S2x2048x8x64 1 := cmpf .olt main_v3 main_v4
  let main_v6 : FVec F S2x2048x8x128 .f32 := Host.absf main_arg2
  let main_cst_1 : FVec F S_ .f32 := constant S_ .f32 0x7F800000#32
  let main_v7 : FVec F S2x2048x8x128 .f32 := broadcastInDim S2x2048x8x128 ![] bcast_S_S2x2048x8x128 main_cst_1
  let main_v8 : IVec S2x2048x8x128 1 := cmpf .olt main_v6 main_v7
  let main_v9 : FVec F S2x2048x64 .f32 := Host.absf main_arg3
  let main_cst_2 : FVec F S_ .f32 := constant S_ .f32 0x7F800000#32
  let main_v10 : FVec F S2x2048x64 .f32 := broadcastInDim S2x2048x64 ![] bcast_S_S2x2048x64 main_cst_2
  let main_v11 : IVec S2x2048x64 1 := cmpf .olt main_v9 main_v10
  let main_v12 : FVec F S2x2048x8x128 .f32 := Host.absf main_arg4
  let main_cst_3 : FVec F S_ .f32 := constant S_ .f32 0x7F800000#32
  let main_v13 : FVec F S2x2048x8x128 .f32 := broadcastInDim S2x2048x8x128 ![] bcast_S_S2x2048x8x128 main_cst_3
  let main_v14 : IVec S2x2048x8x128 1 := cmpf .olt main_v12 main_v13
  let main_v15 : FVec F S2x2048x8x128 .f32 := Host.absf main_arg5
  let main_cst_4 : FVec F S_ .f32 := constant S_ .f32 0x7F800000#32
  let main_v16 : FVec F S2x2048x8x128 .f32 := broadcastInDim S2x2048x8x128 ![] bcast_S_S2x2048x8x128 main_cst_4
  let main_v17 : IVec S2x2048x8x128 1 := cmpf .olt main_v15 main_v16
  (main_v2, main_v5, main_v8, main_v11, main_v14, main_v17)
-- ==== Pre_finite_tail.lean ====
abbrev S8x4096x1024 : Shape := ⟨3, ![8, 4096, 1024]⟩
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S1024x1024 : S_.BroadcastsInDim S1024x1024 (![] : Fin 0 → Fin S1024x1024.rank)

variable [Facts]

def fn {F : FTy → Type} [FloatOps F] (main_arg0 : FVec F S8x4096x1024 .f32) (main_arg1 : FVec F S4096x1024 .f32) (main_arg2 : FVec F S4096x1024 .f32) (main_arg3 : FVec F S1024x1024 .f32) (main_arg4 : FVec F S1024x1024 .f32) (main_arg5 : FVec F S1024x1024 .f32) (main_arg6 : FVec F S4096x1024 .f32) : IVec S4096x1024 1 × IVec S1024x1024 1 × IVec S1024x1024 1 × IVec S4096x1024 1 :=
  let main_v0 : FVec F S4096x1024 .f32 := Host.absf main_arg2
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x1024 .f32 := Host.absf main_arg4
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024x1024 .f32 := Host.absf main_arg5
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S4096x1024 .f32 := Host.absf main_arg6
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Kernel.lean ====
abbrev S2x2048x8x128 : Shape := ⟨4, ![2, 2048, 8, 128]⟩
abbrev S2x2048x8x64 : Shape := ⟨4, ![2, 2048, 8, 64]⟩
abbrev S2x2048x64 : Shape := ⟨3, ![2, 2048, 64]⟩
abbrev S_ : Shape := ⟨0, ![]⟩
abbrev S2x2048x8x256 : Shape := ⟨4, ![2, 2048, 8, 256]⟩
abbrev S2x2048x1x64 : Shape := ⟨4, ![2, 2048, 1, 64]⟩
abbrev S2x8x2048x2048 : Shape := ⟨4, ![2, 8, 2048, 2048]⟩
abbrev S2x2048x2048x8 : Shape := ⟨4, ![2, 2048, 2048, 8]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x2048x8x1 : Shape := ⟨4, ![2, 2048, 8, 1]⟩
abbrev S4096x2048 : Shape := ⟨2, ![4096, 2048]⟩
abbrev S4096x1024 : Shape := ⟨2, ![4096, 1024]⟩
abbrev S8x128 : Shape := ⟨2, ![8, 128]⟩
abbrev S2048x256 : Shape := ⟨2, ![2048, 256]⟩
abbrev S2048x128 : Shape := ⟨2, ![2048, 128]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S1x512 : Shape := ⟨2, ![1, 512]⟩
abbrev S512x256 : Shape := ⟨2, ![512, 256]⟩
abbrev S512x512 : Shape := ⟨2, ![512, 512]⟩

abbrev nBuf : Space → Nat
  | .hbm => 72
  | .vmem => 19
  | .smem => 0
  | _ => 0

abbrev bufTy : (tb : Table) → Fin (tcTables nBuf tb) → BufTy
  | .hbm, ⟨0, _⟩ => ⟨S2x2048x8x128, .f32⟩
  | .hbm, ⟨1, _⟩ => ⟨S2x2048x8x64, .f32⟩
  | .hbm, ⟨2, _⟩ => ⟨S2x2048x8x128, .f32⟩
  | .hbm, ⟨3, _⟩ => ⟨S2x2048x64, .f32⟩
  | .hbm, ⟨4, _⟩ => ⟨S2x2048x8x128, .f32⟩
  | .hbm, ⟨5, _⟩ => ⟨S2x2048x8x128, .f32⟩
  | .hbm, ⟨6, _⟩ => ⟨S_, .f32⟩
  | .hbm, ⟨7, _⟩ => ⟨S2x2048x8x64, .f32⟩
  | .hbm, ⟨8, _⟩ => ⟨S_, .f32⟩
  | .hbm, ⟨9, _⟩ => ⟨S_, .f32⟩
  | .hbm, ⟨10, _⟩ => ⟨S2x2048x8x256, .f32⟩
  | .hbm, ⟨11, _⟩ => ⟨S_, .f32⟩
  | .hbm, ⟨12, _⟩ => ⟨S_, .f32⟩
  | .hbm, ⟨13, _⟩ => ⟨S2x2048x8x256, .f32⟩
  | .hbm, ⟨14, _⟩ => ⟨S2x2048x8x256, .f32⟩
  | .hbm, ⟨15, _⟩ => ⟨S2x2048x1x64, .f32⟩
  | .hbm, ⟨16, _⟩ => ⟨S2x2048x8x64, .f32⟩
  | .hbm, ⟨17, _⟩ => ⟨S2x2048x8x256, .f32⟩
  | .hbm, ⟨18, _⟩ => ⟨S2x2048x8x256, .f32⟩
  | .hbm, ⟨19, _⟩ => ⟨S2x8x2048x2048, .f32⟩
  | .hbm, ⟨20, _⟩ => ⟨S2x2048x2048x8, .f32⟩
  | .hbm, ⟨21, _⟩ => ⟨S2x8x2048x2048, .f32⟩
  | .hbm, ⟨22, _⟩ => ⟨S2x8x2048x2048, .f32⟩
  | .hbm, ⟨23, _⟩ => ⟨S_, .f32⟩
  | .hbm, ⟨24, _⟩ => ⟨S2x8x2048x2048, .f32⟩
  | .hbm, ⟨25, _⟩ => ⟨S2x8x2048x2048, .f32⟩
  | .hbm, ⟨26, _⟩ => ⟨S2048, .i32⟩
  | .hbm, ⟨27, _⟩ => ⟨S1x2048, .i32⟩
  | .hbm, ⟨28, _⟩ => ⟨S2048x1, .i32⟩
  | .hbm, ⟨29, _⟩ => ⟨S2048x2048, .i32⟩
  | .hbm, ⟨30, _⟩ => ⟨S2048x2048, .i32⟩
  | .hbm, ⟨31, _⟩ => ⟨S2048x2048, .i1⟩
  | .hbm, ⟨32, _⟩ => ⟨S_, .f32⟩
  | .hbm, ⟨33, _⟩ => ⟨S_, .f32⟩
  | .hbm, ⟨34, _⟩ => ⟨S2x8x2048x2048, .i1⟩
  | .hbm, ⟨35, _⟩ => ⟨S2x8x2048x2048, .f32⟩
  | .hbm, ⟨36, _⟩ => ⟨S2x8x2048x2048, .f32⟩
  | .hbm, ⟨37, _⟩ => ⟨S_, .f32⟩
  | .hbm, ⟨38, _⟩ => ⟨S2x8x2048, .f32⟩
  | .hbm, ⟨39, _⟩ => ⟨S2x8x2048x1, .f32⟩
  | .hbm, ⟨40, _⟩ => ⟨S2x8x2048x2048, .f32⟩
  | .hbm, ⟨41, _⟩ => ⟨S2x8x2048x2048, .f32⟩
  | .hbm, ⟨42, _⟩ => ⟨S2x8x2048x2048, .f32⟩
  | .hbm, ⟨43, _⟩ => ⟨S_, .f32⟩
  | .hbm, ⟨44, _⟩ => ⟨S2x8x2048, .f32⟩
  | .hbm, ⟨45, _⟩ => ⟨S2x8x2048x1, .f32⟩
  | .hbm, ⟨46, _⟩ => ⟨S2x8x2048x2048, .f32⟩
  | .hbm, ⟨47, _⟩ => ⟨S2x8x2048x2048, .f32⟩
  | .hbm, ⟨48, _⟩ => ⟨S2x8x128x2048, .f32⟩
  | .hbm, ⟨49, _⟩ => ⟨S2x2048x8x128, .f32⟩
  | .hbm, ⟨50, _⟩ => ⟨S2x8x2048x1, .f32⟩
  | .hbm, ⟨51, _⟩ => ⟨S2x8x2048x1, .f32⟩
  | .hbm, ⟨52, _⟩ => ⟨S2x8x2048x1, .f32⟩
  | .hbm, ⟨53, _⟩ => ⟨S2x8x2048x1, .f32⟩
  | .hbm, ⟨54, _⟩ => ⟨S2x2048x8x1, .f32⟩
  | .hbm, ⟨55, _⟩ => ⟨S2x2048x8x128, .f32⟩
  | .hbm, ⟨56, _⟩ => ⟨S2x2048x8x256, .bf16⟩
  | .hbm, ⟨57, _⟩ => ⟨S4096x2048, .bf16⟩
  | .hbm, ⟨58, _⟩ => ⟨S2x2048x8x256, .bf16⟩
  | .hbm, ⟨59, _⟩ => ⟨S4096x2048, .bf16⟩
  | .hbm, ⟨60, _⟩ => ⟨S2x2048x8x256, .bf16⟩
  | .hbm, ⟨61, _⟩ => ⟨S4096x2048, .bf16⟩
  | .hbm, ⟨62, _⟩ => ⟨S2x2048x8x128, .bf16⟩
  | .hbm, ⟨63, _⟩ => ⟨S4096x1024, .bf16⟩
  | .hbm, ⟨64, _⟩ => ⟨S2x2048x8x128, .bf16⟩
  | .hbm, ⟨65, _⟩ => ⟨S4096x1024, .bf16⟩
  | .hbm, ⟨66, _⟩ => ⟨S4096x1024, .f32⟩
  | .hbm, ⟨67, _⟩ => ⟨S_, .f32⟩
  | .hbm, ⟨68, _⟩ => ⟨S8x128, .f32⟩
  | .hbm, ⟨69, _⟩ => ⟨S4096x2048, .f32⟩
  | .hbm, ⟨70, _⟩ => ⟨S4096x2048, .bf16⟩
  | .hbm, ⟨71, _⟩ => ⟨S4096x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .f32⟩
  | .local _ .vmem, ⟨11, _⟩ => ⟨S2048x128, .f32⟩
  | .local _ .vmem, ⟨12, _⟩ => ⟨S8x128, .f32⟩
  | .local _ .vmem, ⟨13, _⟩ => ⟨S2048x256, .f32⟩
  | .local _ .vmem, ⟨14, _⟩ => ⟨S2048x256, .f32⟩
  | .local _ .vmem, ⟨15, _⟩ => ⟨S2048x256, .bf16⟩
  | .local _ .vmem, ⟨16, _⟩ => ⟨S2048x256, .bf16⟩
  | .local _ .vmem, ⟨17, _⟩ => ⟨S2048x128, .bf16⟩
  | .local _ .vmem, ⟨18, _⟩ => ⟨S2048x128, .bf16⟩
  | _, _ => ⟨S2x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_6 : Ref sig .tc := ⟨.hbm, 67, rfl⟩
abbrev main_v51 : Ref sig .tc := ⟨.hbm, 68, rfl⟩
abbrev main_v52_0 : Ref sig .tc := ⟨.hbm, 69, rfl⟩
abbrev main_v52_1 : Ref sig .tc := ⟨.hbm, 70, rfl⟩
abbrev main_v52_2 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S2x2048x8x128 : Shape := ⟨4, ![2, 2048, 8, 128]⟩
abbrev S2x2048x8x64 : Shape := ⟨4, ![2, 2048, 8, 64]⟩
abbrev S2x2048x64 : Shape := ⟨3, ![2, 2048, 64]⟩
abbrev S2x2048x1x64 : Shape := ⟨4, ![2, 2048, 1, 64]⟩
abbrev S_ : Shape := ⟨0, ![]⟩
abbrev S2x8x2048x2048 : Shape := ⟨4, ![2, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x8x2048x64 : Shape := ⟨4, ![2, 8, 2048, 64]⟩
abbrev S2x8x2048x128 : Shape := ⟨4, ![2, 8, 2048, 128]⟩
abbrev S2x2048x8x256 : Shape := ⟨4, ![2, 2048, 8, 256]⟩
abbrev S4096x2048 : Shape := ⟨2, ![4096, 2048]⟩
abbrev S4096x1024 : Shape := ⟨2, ![4096, 1024]⟩

abbrev nBuf : Space → Nat
  | .hbm => 108
  | .vmem => 0
  | .smem => 0
  | _ => 0

abbrev bufTy : (tb : Table) → Fin (tcTables nBuf tb) → BufTy
  | .hbm, ⟨0, _⟩ => ⟨S2x2048x8x128, .f32⟩
  | .hbm, ⟨1, _⟩ => ⟨S2x2048x8x64, .f32⟩
  | .hbm, ⟨2, _⟩ => ⟨S2x2048x8x128, .f32⟩
  | .hbm, ⟨3, _⟩ => ⟨S2x2048x64, .f32⟩
  | .hbm, ⟨4, _⟩ => ⟨S2x2048x8x128, .f32⟩
  | .hbm, ⟨5, _⟩ => ⟨S2x2048x8x128, .f32⟩
  | .hbm, ⟨6, _⟩ => ⟨S2x2048x1x64, .f32⟩
  | .hbm, ⟨7, _⟩ => ⟨S2x2048x8x64, .f32⟩
  | .hbm, ⟨8, _⟩ => ⟨S_, .f32⟩
  | .hbm, ⟨9, _⟩ => ⟨S2x2048x8x128, .f32⟩
  | .hbm, ⟨10, _⟩ => ⟨S2x2048x8x128, .f32⟩
  | .hbm, ⟨11, _⟩ => ⟨S_, .f32⟩
  | .hbm, ⟨12, _⟩ => ⟨S2x2048x8x64, .f32⟩
  | .hbm, ⟨13, _⟩ => ⟨S2x2048x8x64, .f32⟩
  | .hbm, ⟨14, _⟩ => ⟨S2x8x2048x2048, .f32⟩
  | .hbm, ⟨15, _⟩ => ⟨S2x8x2048x2048, .f32⟩
  | .hbm, ⟨16, _⟩ => ⟨S2x8x2048x2048, .f32⟩
  | .hbm, ⟨17, _⟩ => ⟨S2048, .i32⟩
  | .hbm, ⟨18, _⟩ => ⟨S1x2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S_, .f32⟩
  | .hbm, ⟨24, _⟩ => ⟨S_, .f32⟩
  | .hbm, ⟨25, _⟩ => ⟨S2x8x2048x2048, .i1⟩
  | .hbm, ⟨26, _⟩ => ⟨S2x8x2048x2048, .f32⟩
  | .hbm, ⟨27, _⟩ => ⟨S2x8x2048x2048, .f32⟩
  | .hbm, ⟨28, _⟩ => ⟨S_, .f32⟩
  | .hbm, ⟨29, _⟩ => ⟨S2x8x2048x2048, .f32⟩
  | .hbm, ⟨30, _⟩ => ⟨S_, .f32⟩
  | .hbm, ⟨31, _⟩ => ⟨S2x8x2048, .f32⟩
  | .hbm, ⟨32, _⟩ => ⟨S2x8x2048x1, .f32⟩
  | .hbm, ⟨33, _⟩ => ⟨S2x8x2048x2048, .f32⟩
  | .hbm, ⟨34, _⟩ => ⟨S2x8x2048x2048, .i1⟩
  | .hbm, ⟨35, _⟩ => ⟨S2x8x2048x2048, .f32⟩
  | .hbm, ⟨36, _⟩ => ⟨S_, .f32⟩
  | .hbm, ⟨37, _⟩ => ⟨S2x8x2048, .f32⟩
  | .hbm, ⟨38, _⟩ => ⟨S_, .f32⟩
  | .hbm, ⟨39, _⟩ => ⟨S2x8x2048, .f32⟩
  | .hbm, ⟨40, _⟩ => ⟨S2x8x2048, .f32⟩
  | .hbm, ⟨41, _⟩ => ⟨S_, .f32⟩
  | .hbm, ⟨42, _⟩ => ⟨S2x8x2048, .f32⟩
  | .hbm, ⟨43, _⟩ => ⟨S2x8x2048, .i1⟩
  | .hbm, ⟨44, _⟩ => ⟨S_, .f32⟩
  | .hbm, ⟨45, _⟩ => ⟨S2x8x2048, .f32⟩
  | .hbm, ⟨46, _⟩ => ⟨S2x8x2048, .i1⟩
  | .hbm, ⟨47, _⟩ => ⟨S_, .f32⟩
  | .hbm, ⟨48, _⟩ => ⟨S2x8x2048, .f32⟩
  | .hbm, ⟨49, _⟩ => ⟨S_, .f32⟩
  | .hbm, ⟨50, _⟩ => ⟨S2x8x2048, .f32⟩
  | .hbm, ⟨51, _⟩ => ⟨S_, .f32⟩
  | .hbm, ⟨52, _⟩ => ⟨S2x8x2048, .f32⟩
  | .hbm, ⟨53, _⟩ => ⟨S2x8x2048, .f32⟩
  | .hbm, ⟨54, _⟩ => ⟨S2x8x2048, .f32⟩
  | .hbm, ⟨55, _⟩ => ⟨S2x8x2048x1, .f32⟩
  | .hbm, ⟨56, _⟩ => ⟨S2x8x2048x2048, .f32⟩
  | .hbm, ⟨57, _⟩ => ⟨S2x8x2048x2048, .f32⟩
  | .hbm, ⟨58, _⟩ => ⟨S2x8x2048x2048, .f32⟩
  | .hbm, ⟨59, _⟩ => ⟨S_, .f32⟩
  | .hbm, ⟨60, _⟩ => ⟨S2x8x2048, .f32⟩
  | .hbm, ⟨61, _⟩ => ⟨S2x8x2048x1, .f32⟩
  | .hbm, ⟨62, _⟩ => ⟨S2x8x2048x2048, .f32⟩
  | .hbm, ⟨63, _⟩ => ⟨S2x8x2048x2048, .f32⟩
  | .hbm, ⟨64, _⟩ => ⟨S2x8x2048x1, .f32⟩
  | .hbm, ⟨65, _⟩ => ⟨S_, .f32⟩
  | .hbm, ⟨66, _⟩ => ⟨S2x8x2048x1, .f32⟩
  | .hbm, ⟨67, _⟩ => ⟨S2x8x2048x1, .f32⟩
  | .hbm, ⟨68, _⟩ => ⟨S2x8x128x2048, .f32⟩
  | .hbm, ⟨69, _⟩ => ⟨S2x2048x8x128, .f32⟩
  | .hbm, ⟨70, _⟩ => ⟨S2x8x128x2048, .f32⟩
  | .hbm, ⟨71, _⟩ => ⟨S2x8x2048x2048, .f32⟩
  | .hbm, ⟨72, _⟩ => ⟨S2x8x128x2048, .f32⟩
  | .hbm, ⟨73, _⟩ => ⟨S2x2048x8x128, .f32⟩
  | .hbm, ⟨74, _⟩ => ⟨S2x8x2048x2048, .f32⟩
  | .hbm, ⟨75, _⟩ => ⟨S2x8x2048x2048, .f32⟩
  | .hbm, ⟨76, _⟩ => ⟨S2x8x2048x2048, .f32⟩
  | .hbm, ⟨77, _⟩ => ⟨S_, .f32⟩
  | .hbm, ⟨78, _⟩ => ⟨S2x8x2048, .f32⟩
  | .hbm, ⟨79, _⟩ => ⟨S2x8x2048x1, .f32⟩
  | .hbm, ⟨80, _⟩ => ⟨S2x8x2048x1, .f32⟩
  | .hbm, ⟨81, _⟩ => ⟨S2x8x2048x2048, .f32⟩
  | .hbm, ⟨82, _⟩ => ⟨S2x8x2048x2048, .f32⟩
  | .hbm, ⟨83, _⟩ => ⟨S_, .f32⟩
  | .hbm, ⟨84, _⟩ => ⟨S2x8x2048, .f32⟩
  | .hbm, ⟨85, _⟩ => ⟨S2x8x2048x2048, .f32⟩
  | .hbm, ⟨86, _⟩ => ⟨S2x8x2048x2048, .f32⟩
  | .hbm, ⟨87, _⟩ => ⟨S2x8x2048x2048, .f32⟩
  | .hbm, ⟨88, _⟩ => ⟨S_, .f32⟩
  | .hbm, ⟨89, _⟩ => ⟨S2x8x2048x2048, .f32⟩
  | .hbm, ⟨90, _⟩ => ⟨S2x8x2048x2048, .f32⟩
  | .hbm, ⟨91, _⟩ => ⟨S2x8x2048x64, .f32⟩
  | .hbm, ⟨92, _⟩ => ⟨S2x2048x8x64, .f32⟩
  | .hbm, ⟨93, _⟩ => ⟨S2x8x2048x64, .f32⟩
  | .hbm, ⟨94, _⟩ => ⟨S2x2048x8x64, .f32⟩
  | .hbm, ⟨95, _⟩ => ⟨S2x8x2048x128, .f32⟩
  | .hbm, ⟨96, _⟩ => ⟨S2x2048x8x128, .f32⟩
  | .hbm, ⟨97, _⟩ => ⟨S2x8x2048x128, .f32⟩
  | .hbm, ⟨98, _⟩ => ⟨S2x2048x8x128, .f32⟩
  | .hbm, ⟨99, _⟩ => ⟨S_, .f32⟩
  | .hbm, ⟨100, _⟩ => ⟨S2x2048x8x64, .f32⟩
  | .hbm, ⟨101, _⟩ => ⟨S2x2048x8x256, .f32⟩
  | .hbm, ⟨102, _⟩ => ⟨S4096x2048, .f32⟩
  | .hbm, ⟨103, _⟩ => ⟨S2x2048x8x256, .f32⟩
  | .hbm, ⟨104, _⟩ => ⟨S2x2048x8x256, .bf16⟩
  | .hbm, ⟨105, _⟩ => ⟨S4096x2048, .bf16⟩
  | .hbm, ⟨106, _⟩ => ⟨S2x2048x8x128, .bf16⟩
  | .hbm, ⟨107, _⟩ => ⟨S4096x1024, .bf16⟩
  | _, _ => ⟨S2x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_call0_v0 : Ref sig .tc := ⟨.hbm, 24, rfl⟩
abbrev main_v15_1 : Ref sig .tc := ⟨.hbm, 25, rfl⟩
abbrev main_call0_v2 : Ref sig .tc := ⟨.hbm, 26, rfl⟩
abbrev main_v15_0 : Ref sig .tc := ⟨.hbm, 27, rfl⟩
abbrev main_call0_cst : Ref sig .tc := ⟨.hbm, 28, rfl⟩
abbrev main_v15_2 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_cst_8 : Ref sig .tc := ⟨.hbm, 49, rfl⟩
abbrev main_v29 : Ref sig .tc := ⟨.hbm, 50, rfl⟩
abbrev main_cst_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_10 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_11 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call1_cst : Ref sig .tc := ⟨.hbm, 88, rfl⟩
abbrev main_call1_v0 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]
-- ==== Kernel2.lean ====
abbrev S4096x7872 : Shape := ⟨2, ![4096, 7872]⟩
abbrev S1024x7872 : Shape := ⟨2, ![1024, 7872]⟩
abbrev S_ : Shape := ⟨0, ![]⟩
abbrev S4096x320 : Shape := ⟨2, ![4096, 320]⟩
abbrev S4096x3072 : Shape := ⟨2, ![4096, 3072]⟩
abbrev S4096x704 : Shape := ⟨2, ![4096, 704]⟩
abbrev S4096x4096 : Shape := ⟨2, ![4096, 4096]⟩
abbrev S4096x8192 : Shape := ⟨2, ![4096, 8192]⟩
abbrev S4096x8x1024 : Shape := ⟨3, ![4096, 8, 1024]⟩
abbrev S8x4096x1024 : Shape := ⟨3, ![8, 4096, 1024]⟩
abbrev S7872x1024 : Shape := ⟨2, ![7872, 1024]⟩
abbrev S320x1024 : Shape := ⟨2, ![320, 1024]⟩
abbrev S3072x1024 : Shape := ⟨2, ![3072, 1024]⟩
abbrev S704x1024 : Shape := ⟨2, ![704, 1024]⟩
abbrev S4096x1024 : Shape := ⟨2, ![4096, 1024]⟩
abbrev S8192x1024 : Shape := ⟨2, ![8192, 1024]⟩
abbrev S8x128 : Shape := ⟨2, ![8, 128]⟩
abbrev S1 : Shape := ⟨1, ![1]⟩
abbrev S2048x1024 : Shape := ⟨2, ![2048, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 23
  | .vmem => 8
  | .smem => 1
  | _ => 0

abbrev bufTy : (tb : Table) → Fin (tcTables nBuf tb) → BufTy
  | .hbm, ⟨0, _⟩ => ⟨S4096x7872, .f32⟩
  | .hbm, ⟨1, _⟩ => ⟨S1024x7872, .f32⟩
  | .hbm, ⟨2, _⟩ => ⟨S4096x7872, .bf16⟩
  | .hbm, ⟨3, _⟩ => ⟨S_, .bf16⟩
  | .hbm, ⟨4, _⟩ => ⟨S4096x320, .bf16⟩
  | .hbm, ⟨5, _⟩ => ⟨S4096x3072, .bf16⟩
  | .hbm, ⟨6, _⟩ => ⟨S4096x704, .bf16⟩
  | .hbm, ⟨7, _⟩ => ⟨S4096x4096, .bf16⟩
  | .hbm, ⟨8, _⟩ => ⟨S4096x8192, .bf16⟩
  | .hbm, ⟨9, _⟩ => ⟨S4096x8x1024, .bf16⟩
  | .hbm, ⟨10, _⟩ => ⟨S8x4096x1024, .bf16⟩
  | .hbm, ⟨11, _⟩ => ⟨S7872x1024, .f32⟩
  | .hbm, ⟨12, _⟩ => ⟨S7872x1024, .bf16⟩
  | .hbm, ⟨13, _⟩ => ⟨S_, .bf16⟩
  | .hbm, ⟨14, _⟩ => ⟨S320x1024, .bf16⟩
  | .hbm, ⟨15, _⟩ => ⟨S3072x1024, .bf16⟩
  | .hbm, ⟨16, _⟩ => ⟨S704x1024, .bf16⟩
  | .hbm, ⟨17, _⟩ => ⟨S4096x1024, .bf16⟩
  | .hbm, ⟨18, _⟩ => ⟨S8192x1024, .bf16⟩
  | .hbm, ⟨19, _⟩ => ⟨S_, .f32⟩
  | .hbm, ⟨20, _⟩ => ⟨S8x128, .f32⟩
  | .hbm, ⟨21, _⟩ => ⟨S_, .i32⟩
  | .hbm, ⟨22, _⟩ => ⟨S2048x1024, .f32⟩
  | .local _ .vmem, ⟨0, _⟩ => ⟨S2x1024x1024, .bf16⟩
  | .local _ .vmem, ⟨1, _⟩ => ⟨S2x1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .smem, ⟨0, _⟩ => ⟨S1, .i32⟩
  | _, _ => ⟨S4096x7872, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_c : Ref sig .tc := ⟨.hbm, 21, rfl⟩
abbrev main_v17 : Ref sig .tc := ⟨.hbm, 22, rfl⟩
abbrev main_v16 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_v16.idx], fun | 0 => main_v16.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![arg1.toNat, v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference2Ideal.lean ====
abbrev S4096x7872 : Shape := ⟨2, ![4096, 7872]⟩
abbrev S1024x7872 : Shape := ⟨2, ![1024, 7872]⟩
abbrev S_ : Shape := ⟨0, ![]⟩
abbrev S4096x1024 : Shape := ⟨2, ![4096, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x7872, .f32⟩
  | .hbm, ⟨1, _⟩ => ⟨S1024x7872, .f32⟩
  | .hbm, ⟨2, _⟩ => ⟨S_, .f32⟩
  | .hbm, ⟨3, _⟩ => ⟨S4096x1024, .f32⟩
  | .hbm, ⟨4, _⟩ => ⟨S4096x7872, .f32⟩
  | .hbm, ⟨5, _⟩ => ⟨S4096x1024, .f32⟩
  | .hbm, ⟨6, _⟩ => ⟨S2048x1024, .f32⟩
  | _, _ => ⟨S4096x7872, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S4096x7872 : Shape := ⟨2, ![4096, 7872]⟩
abbrev S1024x7872 : Shape := ⟨2, ![1024, 7872]⟩
abbrev S_ : Shape := ⟨0, ![]⟩
abbrev S4096x320 : Shape := ⟨2, ![4096, 320]⟩
abbrev S4096x3072 : Shape := ⟨2, ![4096, 3072]⟩
abbrev S4096x704 : Shape := ⟨2, ![4096, 704]⟩
abbrev S4096x4096 : Shape := ⟨2, ![4096, 4096]⟩
abbrev S4096x8192 : Shape := ⟨2, ![4096, 8192]⟩
abbrev S4096x8x1024 : Shape := ⟨3, ![4096, 8, 1024]⟩
abbrev S8x4096x1024 : Shape := ⟨3, ![8, 4096, 1024]⟩
abbrev S7872x1024 : Shape := ⟨2, ![7872, 1024]⟩
abbrev S320x1024 : Shape := ⟨2, ![320, 1024]⟩
abbrev S3072x1024 : Shape := ⟨2, ![3072, 1024]⟩
abbrev S704x1024 : Shape := ⟨2, ![704, 1024]⟩
abbrev S4096x1024 : Shape := ⟨2, ![4096, 1024]⟩
abbrev S8192x1024 : Shape := ⟨2, ![8192, 1024]⟩
abbrev S8x128 : Shape := ⟨2, ![8, 128]⟩
abbrev S1 : Shape := ⟨1, ![1]⟩
abbrev S2048x1024 : Shape := ⟨2, ![2048, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 23
  | .vmem => 8
  | .smem => 1
  | _ => 0

abbrev bufTy : (tb : Table) → Fin (tcTables nBuf tb) → BufTy
  | .hbm, ⟨0, _⟩ => ⟨S4096x7872, .f32⟩
  | .hbm, ⟨1, _⟩ => ⟨S1024x7872, .f32⟩
  | .hbm, ⟨2, _⟩ => ⟨S4096x7872, .bf16⟩
  | .hbm, ⟨3, _⟩ => ⟨S_, .bf16⟩
  | .hbm, ⟨4, _⟩ => ⟨S4096x320, .bf16⟩
  | .hbm, ⟨5, _⟩ => ⟨S4096x3072, .bf16⟩
  | .hbm, ⟨6, _⟩ => ⟨S4096x704, .bf16⟩
  | .hbm, ⟨7, _⟩ => ⟨S4096x4096, .bf16⟩
  | .hbm, ⟨8, _⟩ => ⟨S4096x8192, .bf16⟩
  | .hbm, ⟨9, _⟩ => ⟨S4096x8x1024, .bf16⟩
  | .hbm, ⟨10, _⟩ => ⟨S8x4096x1024, .bf16⟩
  | .hbm, ⟨11, _⟩ => ⟨S7872x1024, .f32⟩
  | .hbm, ⟨12, _⟩ => ⟨S7872x1024, .bf16⟩
  | .hbm, ⟨13, _⟩ => ⟨S_, .bf16⟩
  | .hbm, ⟨14, _⟩ => ⟨S320x1024, .bf16⟩
  | .hbm, ⟨15, _⟩ => ⟨S3072x1024, .bf16⟩
  | .hbm, ⟨16, _⟩ => ⟨S704x1024, .bf16⟩
  | .hbm, ⟨17, _⟩ => ⟨S4096x1024, .bf16⟩
  | .hbm, ⟨18, _⟩ => ⟨S8192x1024, .bf16⟩
  | .hbm, ⟨19, _⟩ => ⟨S_, .f32⟩
  | .hbm, ⟨20, _⟩ => ⟨S8x128, .f32⟩
  | .hbm, ⟨21, _⟩ => ⟨S_, .i32⟩
  | .hbm, ⟨22, _⟩ => ⟨S2048x1024, .f32⟩
  | .local _ .vmem, ⟨0, _⟩ => ⟨S2x1024x1024, .bf16⟩
  | .local _ .vmem, ⟨1, _⟩ => ⟨S2x1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .smem, ⟨0, _⟩ => ⟨S1, .i32⟩
  | _, _ => ⟨S4096x7872, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_c : Ref sig .tc := ⟨.hbm, 21, rfl⟩
abbrev main_v17 : Ref sig .tc := ⟨.hbm, 22, rfl⟩
abbrev main_v16 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_v16.idx], fun | 0 => main_v16.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![arg1.toNat, v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference3Ideal.lean ====
abbrev S4096x7872 : Shape := ⟨2, ![4096, 7872]⟩
abbrev S1024x7872 : Shape := ⟨2, ![1024, 7872]⟩
abbrev S_ : Shape := ⟨0, ![]⟩
abbrev S4096x1024 : Shape := ⟨2, ![4096, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x7872, .f32⟩
  | .hbm, ⟨1, _⟩ => ⟨S1024x7872, .f32⟩
  | .hbm, ⟨2, _⟩ => ⟨S_, .f32⟩
  | .hbm, ⟨3, _⟩ => ⟨S4096x1024, .f32⟩
  | .hbm, ⟨4, _⟩ => ⟨S4096x7872, .f32⟩
  | .hbm, ⟨5, _⟩ => ⟨S4096x1024, .f32⟩
  | .hbm, ⟨6, _⟩ => ⟨S2048x1024, .f32⟩
  | _, _ => ⟨S4096x7872, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32_3 : BitVec 32 := 3#32
  let v8 : BitVec 1 := Scalar.cmpi .eq arg0 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x384 : Shape := ⟨2, ![4096, 384]⟩
abbrev S4096x1536 : Shape := ⟨2, ![4096, 1536]⟩
abbrev S4096x8x192 : Shape := ⟨3, ![4096, 8, 192]⟩
abbrev S_ : Shape := ⟨0, ![]⟩
abbrev S4096x8x256 : Shape := ⟨3, ![4096, 8, 256]⟩
abbrev S4096x2048 : Shape := ⟨2, ![4096, 2048]⟩
abbrev S2048x384 : Shape := ⟨2, ![2048, 384]⟩
abbrev S1024x2048 : Shape := ⟨2, ![1024, 2048]⟩
abbrev S1024x384 : Shape := ⟨2, ![1024, 384]⟩

abbrev nBuf : Space → Nat
  | .hbm => 10
  | .vmem => 6
  | .smem => 0
  | _ => 0

abbrev bufTy : (tb : Table) → Fin (tcTables nBuf tb) → BufTy
  | .hbm, ⟨0, _⟩ => ⟨S4096x384, .f32⟩
  | .hbm, ⟨1, _⟩ => ⟨S4096x1536, .f32⟩
  | .hbm, ⟨2, _⟩ => ⟨S4096x8x192, .f32⟩
  | .hbm, ⟨3, _⟩ => ⟨S_, .i32⟩
  | .hbm, ⟨4, _⟩ => ⟨S_, .f32⟩
  | .hbm, ⟨5, _⟩ => ⟨S4096x8x256, .f32⟩
  | .hbm, ⟨6, _⟩ => ⟨S4096x8x256, .bf16⟩
  | .hbm, ⟨7, _⟩ => ⟨S4096x2048, .bf16⟩
  | .hbm, ⟨8, _⟩ => ⟨S4096x384, .bf16⟩
  | .hbm, ⟨9, _⟩ => ⟨S2048x384, .bf16⟩
  | .local _ .vmem, ⟨0, _⟩ => ⟨S1024x2048, .bf16⟩
  | .local _ .vmem, ⟨1, _⟩ => ⟨S1024x2048, .bf16⟩
  | .local _ .vmem, ⟨2, _⟩ => ⟨S1024x384, .bf16⟩
  | .local _ .vmem, ⟨3, _⟩ => ⟨S1024x384, .bf16⟩
  | .local _ .vmem, ⟨4, _⟩ => ⟨S2048x384, .bf16⟩
  | .local _ .vmem, ⟨5, _⟩ => ⟨S2048x384, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32_3 : BitVec 32 := 3#32
  let v8 : BitVec 1 := Scalar.cmpi .eq arg0 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S4096x384 : Shape := ⟨2, ![4096, 384]⟩
abbrev S4096x1536 : Shape := ⟨2, ![4096, 1536]⟩
abbrev S_ : Shape := ⟨0, ![]⟩
abbrev S384x1536 : Shape := ⟨2, ![384, 1536]⟩
abbrev S1536x384 : Shape := ⟨2, ![1536, 384]⟩
abbrev S8x192x384 : Shape := ⟨3, ![8, 192, 384]⟩
abbrev S8x256x384 : Shape := ⟨3, ![8, 256, 384]⟩
abbrev S2048x384 : Shape := ⟨2, ![2048, 384]⟩

abbrev nBuf : Space → Nat
  | .hbm => 14
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S4096x1536, .f32⟩
  | .hbm, ⟨2, _⟩ => ⟨S_, .f32⟩
  | .hbm, ⟨3, _⟩ => ⟨S384x1536, .f32⟩
  | .hbm, ⟨4, _⟩ => ⟨S4096x1536, .f32⟩
  | .hbm, ⟨5, _⟩ => ⟨S1536x384, .f32⟩
  | .hbm, ⟨6, _⟩ => ⟨S384x1536, .f32⟩
  | .hbm, ⟨7, _⟩ => ⟨S1536x384, .f32⟩
  | .hbm, ⟨8, _⟩ => ⟨S1536x384, .bf16⟩
  | .hbm, ⟨9, _⟩ => ⟨S8x192x384, .bf16⟩
  | .hbm, ⟨10, _⟩ => ⟨S_, .i32⟩
  | .hbm, ⟨11, _⟩ => ⟨S_, .bf16⟩
  | .hbm, ⟨12, _⟩ => ⟨S8x256x384, .bf16⟩
  | .hbm, ⟨13, _⟩ => ⟨S2048x384, .bf16⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel6.lean ====
abbrev S4096x256 : Shape := ⟨2, ![4096, 256]⟩
abbrev S4096x2048 : Shape := ⟨2, ![4096, 2048]⟩
abbrev S2048x256 : Shape := ⟨2, ![2048, 256]⟩
abbrev S1024x2048 : Shape := ⟨2, ![1024, 2048]⟩
abbrev S1024x256 : Shape := ⟨2, ![1024, 256]⟩

abbrev nBuf : Space → Nat
  | .hbm => 5
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S4096x2048, .bf16⟩
  | .hbm, ⟨3, _⟩ => ⟨S4096x256, .bf16⟩
  | .hbm, ⟨4, _⟩ => ⟨S2048x256, .bf16⟩
  | .local _ .vmem, ⟨0, _⟩ => ⟨S1024x2048, .bf16⟩
  | .local _ .vmem, ⟨1, _⟩ => ⟨S1024x2048, .bf16⟩
  | .local _ .vmem, ⟨2, _⟩ => ⟨S1024x256, .bf16⟩
  | .local _ .vmem, ⟨3, _⟩ => ⟨S1024x256, .bf16⟩
  | .local _ .vmem, ⟨4, _⟩ => ⟨S2048x256, .bf16⟩
  | .local _ .vmem, ⟨5, _⟩ => ⟨S2048x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32_3 : BitVec 32 := 3#32
  let v8 : BitVec 1 := Scalar.cmpi .eq arg0 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference6Ideal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S_, .f32⟩
  | .hbm, ⟨3, _⟩ => ⟨S256x2048, .f32⟩
  | .hbm, ⟨4, _⟩ => ⟨S4096x2048, .f32⟩
  | .hbm, ⟨5, _⟩ => ⟨S2048x256, .f32⟩
  | .hbm, ⟨6, _⟩ => ⟨S256x2048, .f32⟩
  | .hbm, ⟨7, _⟩ => ⟨S2048x256, .f32⟩
  | .hbm, ⟨8, _⟩ => ⟨S2048x256, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8x4096x1024 : Shape := ⟨3, ![8, 4096, 1024]⟩
abbrev S4096x1024 : Shape := ⟨2, ![4096, 1024]⟩
abbrev S1024x1024 : Shape := ⟨2, ![1024, 1024]⟩
abbrev S1x4096x1024 : Shape := ⟨3, ![1, 4096, 1024]⟩
abbrev S_ : Shape := ⟨0, ![]⟩
abbrev S512x1024 : Shape := ⟨2, ![512, 1024]⟩
abbrev S3x512x1024 : Shape := ⟨3, ![3, 512, 1024]⟩
abbrev S1x512x1024 : Shape := ⟨3, ![1, 512, 1024]⟩
abbrev S3x4096x1024 : Shape := ⟨3, ![3, 4096, 1024]⟩

abbrev nBuf : Space → Nat
  | .hbm => 35
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1x4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S8x4096x1024, .bf16⟩
  | .hbm, ⟨23, _⟩ => ⟨S4096x1024, .bf16⟩
  | .hbm, ⟨24, _⟩ => ⟨S4096x1024, .bf16⟩
  | .hbm, ⟨25, _⟩ => ⟨S4096x1024, .bf16⟩
  | .hbm, ⟨26, _⟩ => ⟨S1024x1024, .bf16⟩
  | .hbm, ⟨27, _⟩ => ⟨S1024x1024, .bf16⟩
  | .hbm, ⟨28, _⟩ => ⟨S1024x1024, .bf16⟩
  | .hbm, ⟨29, _⟩ => ⟨S8x4096x1024, .bf16⟩
  | .hbm, ⟨30, _⟩ => ⟨S4096x1024, .bf16⟩
  | .hbm, ⟨31, _⟩ => ⟨S4096x1024, .bf16⟩
  | .hbm, ⟨32, _⟩ => ⟨S4096x1024, .bf16⟩
  | .hbm, ⟨33, _⟩ => ⟨S4096x1024, .bf16⟩
  | .hbm, ⟨34, _⟩ => ⟨S3x4096x1024, .bf16⟩
  | .local _ .vmem, ⟨0, _⟩ => ⟨S512x1024, .bf16⟩
  | .local _ .vmem, ⟨1, _⟩ => ⟨S512x1024, .bf16⟩
  | .local _ .vmem, ⟨2, _⟩ => ⟨S3x512x1024, .bf16⟩
  | .local _ .vmem, ⟨3, _⟩ => ⟨S3x512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S3x512x1024, .bf16⟩
  | .local _ .vmem, ⟨14, _⟩ => ⟨S3x512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev main_v14_3 : Ref sig .tc := ⟨.hbm, 32, rfl⟩
abbrev main_v14_4 : Ref sig .tc := ⟨.hbm, 33, rfl⟩
abbrev main_v15 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference7Ideal.lean ====
abbrev S8x4096x1024 : Shape := ⟨3, ![8, 4096, 1024]⟩
abbrev S4096x1024 : Shape := ⟨2, ![4096, 1024]⟩
abbrev S1024x1024 : Shape := ⟨2, ![1024, 1024]⟩
abbrev S1x4096x1024 : Shape := ⟨3, ![1, 4096, 1024]⟩
abbrev S_ : Shape := ⟨0, ![]⟩
abbrev S3x4096x1024 : Shape := ⟨3, ![3, 4096, 1024]⟩

abbrev nBuf : Space → Nat
  | .hbm => 93
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S1x4096x1024, .f32⟩
  | .hbm, ⟨8, _⟩ => ⟨S4096x1024, .f32⟩
  | .hbm, ⟨9, _⟩ => ⟨S1x4096x1024, .f32⟩
  | .hbm, ⟨10, _⟩ => ⟨S4096x1024, .f32⟩
  | .hbm, ⟨11, _⟩ => ⟨S1x4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S1x4096x1024, .f32⟩
  | .hbm, ⟨85, _⟩ => ⟨S1x4096x1024, .f32⟩
  | .hbm, ⟨86, _⟩ => ⟨S1x4096x1024, .f32⟩
  | .hbm, ⟨87, _⟩ => ⟨S3x4096x1024, .f32⟩
  | .hbm, ⟨88, _⟩ => ⟨S3x4096x1024, .bf16⟩
  | .hbm, ⟨89, _⟩ => ⟨S4096x1024, .bf16⟩
  | .hbm, ⟨90, _⟩ => ⟨S4096x1024, .bf16⟩
  | .hbm, ⟨91, _⟩ => ⟨S4096x1024, .bf16⟩
  | .hbm, ⟨92, _⟩ => ⟨S4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_v39_2 : Ref sig .tc := ⟨.hbm, 67, rfl⟩
abbrev main_call1_cst_1 : Ref sig .tc := ⟨.hbm, 68, rfl⟩
abbrev main_call1_v6 : Ref sig .tc := ⟨.hbm, 69, rfl⟩
abbrev main_call1_v7 : Ref sig .tc := ⟨.hbm, 70, rfl⟩
abbrev main_v39_1 : Ref sig .tc := ⟨.hbm, 71, rfl⟩
abbrev main_v39_0 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩

abbrev nD : Nat := 1
abbrev τ : Topo := Topo.v7x

variable {F : FTy → Type} [FloatOps F]
-- ==== Kernel8.lean ====
abbrev S4096x1024 : Shape := ⟨2, ![4096, 1024]⟩
abbrev S8x4096x1024 : Shape := ⟨3, ![8, 4096, 1024]⟩
abbrev S2x1024 : Shape := ⟨2, ![2, 1024]⟩
abbrev S1024 : Shape := ⟨1, ![1024]⟩
abbrev S1024x1024 : Shape := ⟨2, ![1024, 1024]⟩
abbrev S2x1x1024 : Shape := ⟨3, ![2, 1, 1024]⟩
abbrev S1x1024 : Shape := ⟨2, ![1, 1024]⟩
abbrev S1x1 : Shape := ⟨2, ![1, 1]⟩
abbrev S512x1024 : Shape := ⟨2, ![512, 1024]⟩
abbrev S3x512x1024 : Shape := ⟨3, ![3, 512, 1024]⟩
abbrev S1x1x1024 : Shape := ⟨3, ![1, 1, 1024]⟩
abbrev S1x512x1024 : Shape := ⟨3, ![1, 512, 1024]⟩
abbrev S512 : Shape := ⟨1, ![512]⟩
abbrev S512x1 : Shape := ⟨2, ![512, 1]⟩
abbrev S1 : Shape := ⟨1, ![1]⟩

abbrev nBuf : Space → Nat
  | .hbm => 27
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8x4096x1024, .f32⟩
  | .hbm, ⟨3, _⟩ => ⟨S4096x1024, .f32⟩
  | .hbm, ⟨4, _⟩ => ⟨S4096x1024, .f32⟩
  | .hbm, ⟨5, _⟩ => ⟨S2x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S4096x1024, .bf16⟩
  | .hbm, ⟨11, _⟩ => ⟨S4096x1024, .bf16⟩
  | .hbm, ⟨12, _⟩ => ⟨S8x4096x1024, .bf16⟩
  | .hbm, ⟨13, _⟩ => ⟨S2x1x1024, .f32⟩
  | .hbm, ⟨14, _⟩ => ⟨S1x1024, .f32⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S4096x1024, .bf16⟩
  | .hbm, ⟨23, _⟩ => ⟨S4096x1024, .f32⟩
  | .hbm, ⟨24, _⟩ => ⟨S2x1x1024, .f32⟩
  | .hbm, ⟨25, _⟩ => ⟨S1x1024, .f32⟩
  | .hbm, ⟨26, _⟩ => ⟨S1x1, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S3x512x1024, .bf16⟩
  | .local _ .vmem, ⟨5, _⟩ => ⟨S3x512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | .local _ .vmem, ⟨27, _⟩ => ⟨S512x1024, .f32⟩
  | .local _ .vmem, ⟨28, _⟩ => ⟨S1x1x1024, .f32⟩
  | .local _ .vmem, ⟨29, _⟩ => ⟨S1x1x1024, .f32⟩
  | .local _ .vmem, ⟨30, _⟩ => ⟨S1x1024, .f32⟩
  | .local _ .vmem, ⟨31, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_v8_5 : Ref sig .tc := ⟨.hbm, 23, rfl⟩
abbrev main_v8_6 : Ref sig .tc := ⟨.hbm, 24, rfl⟩
abbrev main_v8_7 : Ref sig .tc := ⟨.hbm, 25, rfl⟩
abbrev main_v8_8 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg18_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem18_0 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference8Ideal.lean ====
abbrev S4096x1024 : Shape := ⟨2, ![4096, 1024]⟩
abbrev S8x4096x1024 : Shape := ⟨3, ![8, 4096, 1024]⟩
abbrev S2x1024 : Shape := ⟨2, ![2, 1024]⟩
abbrev S1024 : Shape := ⟨1, ![1024]⟩
abbrev S1024x1024 : Shape := ⟨2, ![1024, 1024]⟩
abbrev S1x4096x1024 : Shape := ⟨3, ![1, 4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2x1x1024 : Shape := ⟨3, ![2, 1, 1024]⟩
abbrev S2x2048x1024 : Shape := ⟨3, ![2, 2048, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8x4096x1024, .f32⟩
  | .hbm, ⟨3, _⟩ => ⟨S4096x1024, .f32⟩
  | .hbm, ⟨4, _⟩ => ⟨S4096x1024, .f32⟩
  | .hbm, ⟨5, _⟩ => ⟨S2x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1x4096x1024, .f32⟩
  | .hbm, ⟨11, _⟩ => ⟨S4096x1024, .f32⟩
  | .hbm, ⟨12, _⟩ => ⟨S1x4096x1024, .f32⟩
  | .hbm, ⟨13, _⟩ => ⟨S4096x1024, .f32⟩
  | .hbm, ⟨14, _⟩ => ⟨S1x4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S2x1x1024, .f32⟩
  | .hbm, ⟨65, _⟩ => ⟨S2x2048x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S_, .f32⟩
  | .hbm, ⟨77, _⟩ => ⟨S4096, .f32⟩
  | .hbm, ⟨78, _⟩ => ⟨S4096, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S4096, .f32⟩
  | .hbm, ⟨87, _⟩ => ⟨S_, .f32⟩
  | .hbm, ⟨88, _⟩ => ⟨S4096, .f32⟩
  | .hbm, ⟨89, _⟩ => ⟨S4096, .f32⟩
  | .hbm, ⟨90, _⟩ => ⟨S4096x1024, .f32⟩
  | .hbm, ⟨91, _⟩ => ⟨S4096x1024, .f32⟩
  | .hbm, ⟨92, _⟩ => ⟨S4096x1024, .bf16⟩
  | .hbm, ⟨93, _⟩ => ⟨S4096x1024, .bf16⟩
  | .hbm, ⟨94, _⟩ => ⟨S4096x1024, .bf16⟩
  | .hbm, ⟨95, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_cst_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_6 : Ref sig .tc := ⟨.hbm, 71, rfl⟩
abbrev main_v46 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_cst_11 : Ref sig .tc := ⟨.hbm, 83, rfl⟩
abbrev main_cst_12 : Ref sig .tc := ⟨.hbm, 84, rfl⟩
abbrev main_v53 : Ref sig .tc := ⟨.hbm, 85, rfl⟩
abbrev main_v54 : Ref sig .tc := ⟨.hbm, 86, rfl⟩
abbrev main_cst_13 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩

abbrev nD : Nat := 1
abbrev τ : Topo := Topo.v7x

variable {F : FTy → Type} [FloatOps F]
-- ==== Proof.Frames.lean ====
/-
  The frames of the two programs and of the reference, and what the idealization names: the generated runs, read at the
  arguments and the semaphores' counters.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Lib.Quiescent

@[expose] public section

noncomputable section

namespace Cert.Flash

open Idealize.ShloMosaic Idealize.ShloMosaic.TcCoe Idealize.SL.Sem

/-- The kernel runs at the machine's floats and leaves its arguments as they were. -/
theorem frame_p : Cert.quiescent_Kernel := fun m ρ _ => Cert.Kernel.Gen.frame m ρ

/-- The idealized kernel runs and leaves its arguments as they were. -/
theorem frame_pi : Cert.quiescent_KernelIdeal := fun m ρ _ => Cert.KernelIdeal.Gen.frame m ρ

/-- The idealized reference runs and leaves its arguments as they were; it has no semaphores. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The idealization names two constants: the mask's −∞ and the logarithm of 2. -/
theorem preserves : Cert.preserves_Kernel_KernelIdeal :=
  ⟨IdealRules.named_const.statement Cert.KernelIdeal.κ "mask" .f32 0xF149F2CA#32 ⊥ rfl,
    IdealRules.named_const.statement Cert.KernelIdeal.κ "ln2" .f32 0x3F317218#32 ((Real.log 2 : ℝ) : EReal) rfl⟩

end Cert.Flash
-- ==== Proof.Tiles.lean ====
/-
  Matrices of real numbers as vectors of extended reals, and what each operation of the attention's backward call
  makes of them: a product, a difference, a power of two, a row's sum, a causal mask.
-/
module

public import proofs.«01_k».proof.Proof.Gen.KernelIdeal
public import Idealize.ShloMosaic.Lib.ValueIdxCore
public import Idealize.ShloMosaic.Lib.WordCmp
public import Idealize.ShloMosaic.Lib.Pipeline.Value
public import Idealize.ShloMosaic.PureOps.Ideal.Laws

@[expose] public section

set_option maxRecDepth 16384

noncomputable section

namespace Cert.Flash

open Idealize.ShloMosaic Idealize.ShloMosaic.ValueIdx Idealize.ShloMosaic.WordCmp Cert.KernelIdeal Cert.KernelIdeal.Gen

/-- The sum of real numbers, read as an extended real, is the sum of the extended reals. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The matrix `f` of real numbers as a vector of extended reals. -/
def mat {m n : ℕ} (f : Fin m → Fin n → ℝ) : (⟨2, ![m, n]⟩ : Shape).Idx → EReal :=
  fun i => ((f (i 0) (i 1) : ℝ) : EReal)

/-- The matrix at a pair of coordinates. -/
theorem mat_ix2 {m n : ℕ} (f : Fin m → Fin n → ℝ) (a : Fin m) (b : Fin n) : mat f (ix2 a b) = ((f a b : ℝ) : EReal) := rfl

/-- A vector that holds real numbers at every pair of coordinates is a matrix. -/
theorem eq_mat {m n : ℕ} (x : (⟨2, ![m, n]⟩ : Shape).Idx → EReal) (f : Fin m → Fin n → ℝ)
    (h : ∀ a b, x (ix2 a b) = ((f a b : ℝ) : EReal)) : x = mat f := by
  funext i
  exact (congrArg x (eq_ix2 i)).trans (h _ _)

/-! ## Sums, differences, products and changes of format -/

section Elementwise
variable {m n : ℕ} {φ : FTy}

/-- The sum of two matrices. -/
theorem addf_mat (f g : Fin m → Fin n → ℝ) :
    (addf (mat f : FVec Ideal ⟨2, ![m, n]⟩ φ) (mat g) : FVec Ideal ⟨2, ![m, n]⟩ φ) = mat fun a b => f a b + g a b :=
  funext fun _ => (EReal.coe_add _ _).symm

/-- The difference of two matrices. -/
theorem subf_mat (f g : Fin m → Fin n → ℝ) :
    (subf (mat f : FVec Ideal ⟨2, ![m, n]⟩ φ) (mat g) : FVec Ideal ⟨2, ![m, n]⟩ φ) = mat fun a b => f a b - g a b :=
  funext fun _ => (EReal.coe_sub _ _).symm

/-- The product of two matrices, entry by entry. -/
theorem mulf_mat (f g : Fin m → Fin n → ℝ) :
    (mulf (mat f : FVec Ideal ⟨2, ![m, n]⟩ φ) (mat g) : FVec Ideal ⟨2, ![m, n]⟩ φ) = mat fun a b => f a b * g a b :=
  funext fun _ => (EReal.coe_mul _ _).symm

/-- Two to the power of each entry. -/
theorem exp2_mat (f : Fin m → Fin n → ℝ) :
    (exp2 (mat f : FVec Ideal ⟨2, ![m, n]⟩ φ) : FVec Ideal ⟨2, ![m, n]⟩ φ) = mat fun a b => (2 : ℝ) ^ f a b :=
  funext fun _ => rfl

/-- A change to a narrower format keeps the entries. -/
theorem truncf_mat {φ' : FTy} (h : φ'.bits < φ.bits) (f : Fin m → Fin n → ℝ) :
    (truncf φ' (mat f : FVec Ideal ⟨2, ![m, n]⟩ φ) h : FVec Ideal ⟨2, ![m, n]⟩ φ') = mat f := rfl

/-- A change to a wider format keeps the entries. -/
theorem extf_mat {φ' : FTy} (h : φ.bits < φ'.bits) (f : Fin m → Fin n → ℝ) :
    (extf φ' (mat f : FVec Ideal ⟨2, ![m, n]⟩ φ) h : FVec Ideal ⟨2, ![m, n]⟩ φ') = mat f := rfl

/-- A cast to the same shape keeps the entries. -/
theorem cast_mat (h : (⟨2, ![m, n]⟩ : Shape).ShapeCasts ⟨2, ![m, n]⟩) (f : Fin m → Fin n → ℝ) :
    (shapeCast ⟨2, ![m, n]⟩ (mat f) h) = mat f := shapeCast_self _ _

end Elementwise

/-- The zero matrix, broadcast from the scalar 0. -/
theorem zero_mat (m n : ℕ) :
    (broadcast ⟨2, ![m, n]⟩ (Scalar.ofBits .f32 0x00000000#32 : Ideal .f32) : FVec Ideal ⟨2, ![m, n]⟩ .f32) = mat fun _ _ => 0 := by
  funext i
  show Ideal.ofBits .f32 0x00000000#32 = _
  rw [Ideal.ofBits_zero_f32]; rfl

/-- The matrix all of whose entries are `log 2`, broadcast from the named constant. -/
theorem ln2_mat (m n : ℕ) :
    (broadcast ⟨2, ![m, n]⟩ (Named.named κ "ln2" 0x3F317218#32 : Ideal .f32) : FVec Ideal ⟨2, ![m, n]⟩ .f32)
      = mat fun _ _ => Real.log 2 := by
  funext i
  exact IdealRules.named_const.ideal_named_scalar κ "ln2" _ _ rfl

/-- The named constant of the mask is minus infinity. -/
theorem mask_bot : (Named.named κ "mask" 0xF149F2CA#32 : Ideal .f32) = (⊥ : EReal) :=
  IdealRules.named_const.ideal_named_scalar κ "mask" _ _ rfl

/-! ## The products of matrices -/

/-- Rows against rows, 256 terms: entry `(r, c)` is the sum of `A r e · B c e`. -/
theorem dot_nt256 (A B : Fin 512 → Fin 256 → ℝ) :
    (matmul (φ₁ := .bf16) (φ₂ := .bf16) dot_S512x256_S512x256_S512x512_1_1_0_0_n_n none (mat A : FVec Ideal S512x256 .bf16) (mat B : FVec Ideal S512x256 .bf16)
      (constant S512x512 .f32 0x00000000#32) : FVec Ideal S512x512 .f32) = mat fun r c => ∑ e, A r e * B c e := by
  refine eq_mat _ _ fun r c => ?_
  refine (Ideal.matmul_constant_zero_apply (φ₁ := .bf16) (φ₂ := .bf16) _ none _ _ _).trans ?_
  rw [← Equiv.sum_comp (contrEquiv1 dot_S512x256_S512x256_S512x512_1_1_0_0_n_n 256 rfl rfl).symm, coe_sum]
  refine Finset.sum_congr rfl fun k _ => ?_
  rw [EReal.coe_mul]; rfl

/-- Rows against rows, 128 terms. -/
theorem dot_nt128 (A B : Fin 512 → Fin 128 → ℝ) :
    (matmul (φ₁ := .bf16) (φ₂ := .bf16) dot_S512x128_S512x128_S512x512_1_1_0_0_n_n none (mat A : FVec Ideal S512x128 .bf16) (mat B : FVec Ideal S512x128 .bf16)
      (constant S512x512 .f32 0x00000000#32) : FVec Ideal S512x512 .f32) = mat fun r c => ∑ e, A r e * B c e := by
  refine eq_mat _ _ fun r c => ?_
  refine (Ideal.matmul_constant_zero_apply (φ₁ := .bf16) (φ₂ := .bf16) _ none _ _ _).trans ?_
  rw [← Equiv.sum_comp (contrEquiv1 dot_S512x128_S512x128_S512x512_1_1_0_0_n_n 128 rfl rfl).symm, coe_sum]
  refine Finset.sum_congr rfl fun k _ => ?_
  rw [EReal.coe_mul]; rfl

/-- Rows against columns, 128 columns: entry `(r, c)` is the sum of `A r e · B e c`. -/
theorem dot_nn128 (A : Fin 512 → Fin 512 → ℝ) (B : Fin 512 → Fin 128 → ℝ) :
    (matmul (φ₁ := .bf16) (φ₂ := .bf16) dot_S512x512_S512x128_S512x128_1_0_0_1_n_n none (mat A : FVec Ideal S512x512 .bf16) (mat B : FVec Ideal S512x128 .bf16)
      (constant S512x128 .f32 0x00000000#32) : FVec Ideal S512x128 .f32) = mat fun r c => ∑ e, A r e * B e c := by
  refine eq_mat _ _ fun r c => ?_
  refine (Ideal.matmul_constant_zero_apply (φ₁ := .bf16) (φ₂ := .bf16) _ none _ _ _).trans ?_
  rw [← Equiv.sum_comp (contrEquiv1 dot_S512x512_S512x128_S512x128_1_0_0_1_n_n 512 rfl rfl).symm, coe_sum]
  refine Finset.sum_congr rfl fun k _ => ?_
  rw [EReal.coe_mul]; rfl

/-- Rows against columns, 256 columns. -/
theorem dot_nn256 (A : Fin 512 → Fin 512 → ℝ) (B : Fin 512 → Fin 256 → ℝ) :
    (matmul (φ₁ := .bf16) (φ₂ := .bf16) dot_S512x512_S512x256_S512x256_1_0_0_1_n_n none (mat A : FVec Ideal S512x512 .bf16) (mat B : FVec Ideal S512x256 .bf16)
      (constant S512x256 .f32 0x00000000#32) : FVec Ideal S512x256 .f32) = mat fun r c => ∑ e, A r e * B e c := by
  refine eq_mat _ _ fun r c => ?_
  refine (Ideal.matmul_constant_zero_apply (φ₁ := .bf16) (φ₂ := .bf16) _ none _ _ _).trans ?_
  rw [← Equiv.sum_comp (contrEquiv1 dot_S512x512_S512x256_S512x256_1_0_0_1_n_n 512 rfl rfl).symm, coe_sum]
  refine Finset.sum_congr rfl fun k _ => ?_
  rw [EReal.coe_mul]; rfl

/-- Columns against columns: entry `(r, c)` is the sum of `A e r · B e c`. -/
theorem dot_tn256 (A : Fin 512 → Fin 512 → ℝ) (B : Fin 512 → Fin 256 → ℝ) :
    (matmul (φ₁ := .bf16) (φ₂ := .bf16) dot_S512x512_S512x256_S512x256_0_0_1_1_n_n none (mat A : FVec Ideal S512x512 .bf16) (mat B : FVec Ideal S512x256 .bf16)
      (constant S512x256 .f32 0x00000000#32) : FVec Ideal S512x256 .f32) = mat fun r c => ∑ e, A e r * B e c := by
  refine eq_mat _ _ fun r c => ?_
  refine (Ideal.matmul_constant_zero_apply (φ₁ := .bf16) (φ₂ := .bf16) _ none _ _ _).trans ?_
  rw [← Equiv.sum_comp (contrEquiv1 dot_S512x512_S512x256_S512x256_0_0_1_1_n_n 512 rfl rfl).symm, coe_sum]
  refine Finset.sum_congr rfl fun k _ => ?_
  rw [EReal.coe_mul]; rfl

/-! ## Rows of the block laid along the lanes -/

/-- The first column of a block, as a row. -/
theorem col_row (A : Fin 512 → Fin 128 → ℝ) :
    (extractStridedSlice (s := S128x512) (α := Ideal .f32) S1x512 ![0, 0] (transpose (s := S512x128) (α := Ideal .f32) S128x512 [1, 0] (mat A : FVec Ideal S512x128 .f32)
      transposes_S512x128_p1_0_S128x512) slices_S128x512_o0_0_S1x512 : FVec Ideal S1x512 .f32) = mat fun _ c => A c 0 := by
  refine eq_mat _ _ fun r c => ?_
  rw [extractStridedSlice_apply _ _ _ _ (ix2 (0 : Fin 128) c) (by
    intro a; match a with
    | ⟨0, _⟩ => show 0 = 0 + r.val; omega
    | ⟨1, _⟩ => show c.val = 0 + c.val; omega)]
  rw [transpose_apply _ _ _ _ (ix2 c (0 : Fin 128)) (by intro b; match b with | ⟨0, _⟩ => rfl | ⟨1, _⟩ => rfl)]
  rfl

/-- The sum of each row of a block, as a row. -/
theorem sum_row (A : Fin 512 → Fin 128 → ℝ) :
    (extractStridedSlice (s := S128x512) (α := Ideal .f32) S1x512 ![0, 0] (transpose (s := S512x128) (α := Ideal .f32) S128x512 [1, 0] (broadcastTo (α := Ideal .f32) S512x128 (shapeCast (α := Ideal .f32) S512x1 (shapeCast (α := Ideal .f32) S512x1
      (multiReduction .add [1] S512 (mat A : FVec Ideal S512x128 .f32) 0x00000000#32 reduces_S512x128_S512 (.inl rfl) rfl : FVec Ideal S512 .f32)
      shapeCasts_S512_S512x1) shapeCasts_S512x1_S512x1) broadcasts_S512x1_S512x128)
      transposes_S512x128_p1_0_S128x512) slices_S128x512_o0_0_S1x512 : FVec Ideal S1x512 .f32) = mat fun _ c => ∑ d, A c d := by
  rw [shapeCast_self]
  have h : (broadcastTo (α := Ideal .f32) S512x128 (shapeCast (α := Ideal .f32) S512x1
      (multiReduction .add [1] S512 (mat A : FVec Ideal S512x128 .f32) 0x00000000#32 reduces_S512x128_S512 (.inl rfl) rfl : FVec Ideal S512 .f32)
      shapeCasts_S512_S512x1) broadcasts_S512x1_S512x128 : FVec Ideal S512x128 .f32) = mat fun r _ => ∑ d, A r d := by
    refine eq_mat _ _ fun r c => ?_
    rw [broadcastTo_apply _ _ _ (ix2 r (0 : Fin 1)) (by intro a; match a with | ⟨0, _⟩ => rfl | ⟨1, _⟩ => rfl)]
    rw [shapeCast_apply _ _ _ (ix1 r) (by rw [Shape.rowMajor_val_two, Shape.rowMajor_val_one]; show r.val = r.val * 1 + 0; omega)]
    refine (Ideal.multiReduction_add_single (φ := .f32) (mat A) _ _ _ rfl _).trans ?_
    rw [coe_sum]
    refine Finset.sum_congr rfl fun k _ => ?_
    show mat A _ = mat A (ix2 r k)
    congr 1
    funext a; match a with | ⟨0, _⟩ => rfl | ⟨1, _⟩ => rfl
  rw [h, col_row]

/-! ## The probabilities of a tile -/

/-- A row repeated along the rows of a tile. -/
theorem row_mat (A : Fin 1 → Fin 512 → ℝ) :
    (broadcastTo (α := Ideal .f32) S512x512 (mat A : FVec Ideal S1x512 .f32) broadcasts_S1x512_S512x512 : FVec Ideal S512x512 .f32)
      = mat fun _ c => A 0 c := by
  refine eq_mat _ _ fun r c => ?_
  rw [broadcastTo_apply _ _ _ (ix2 (0 : Fin 1) c) (by intro a; match a with | ⟨0, _⟩ => rfl | ⟨1, _⟩ => rfl)]
  rfl

/-- The diagonal tile's probabilities: two to the power of the difference where the row isn't after the column, 0 elsewhere. -/
theorem diag_mat (A B : Fin 512 → Fin 512 → ℝ) :
    (exp2 (φ := .f32) (subf (φ := .f32) (select (α := Ideal .f32) (cmpi .sle (iota .tc S512x512 32 [0] iota_S512x512_d0_w32) (iota .tc S512x512 32 [1] iota_S512x512_d1_w32))
      (mat A : FVec Ideal S512x512 .f32) (broadcast S512x512 (Named.named κ "mask" 0xF149F2CA#32 : Ideal .f32))) (mat B)) : FVec Ideal S512x512 .f32)
      = mat fun r c => if r ≤ c then (2 : ℝ) ^ (A r c - B r c) else 0 := by
  refine eq_mat _ _ fun r c => ?_
  have hc : cmpi .sle (iota .tc S512x512 32 [0] iota_S512x512_d0_w32) (iota .tc S512x512 32 [1] iota_S512x512_d1_w32) (ix2 r c)
      = if r ≤ c then 1#1 else 0#1 := by
    show IntOp.cmpi .sle (iota .tc S512x512 32 [0] iota_S512x512_d0_w32 (ix2 r c)) (iota .tc S512x512 32 [1] iota_S512x512_d1_w32 (ix2 r c)) = _
    rw [iota_single_apply, iota_single_apply]
    exact (cmpi_sle_ofNat (by show r.val < _; omega) (by show c.val < _; omega)).trans (by
      show BitVec.ofBool (decide (r.val ≤ c.val)) = _
      by_cases h : r ≤ c
      · rw [if_pos h, decide_eq_true (Fin.le_def.1 h)]; rfl
      · rw [if_neg h, decide_eq_false (fun h' => h (Fin.le_def.2 h'))]; rfl)
  show Ideal.exp2 ((if cmpi .sle (iota .tc S512x512 32 [0] iota_S512x512_d0_w32) (iota .tc S512x512 32 [1] iota_S512x512_d1_w32) (ix2 r c) = 1#1
    then _ else _) - _) = _
  rw [hc]
  by_cases h : r ≤ c
  · simp only [h, if_true]
    rw [mat_ix2, mat_ix2, ← EReal.coe_sub]; rfl
  · simp only [h, if_false]
    rw [broadcast_apply, mask_bot, mat_ix2]
    simp

end Cert.Flash
-- ==== Proof.BlockSpec.lean ====
/-
  What one point of the grid computes: the attention's backward pass for one head of one batch entry. The 2048
  positions are cut into four tiles of 512; the functions here are over all positions at once, and the lemmas give
  them tile by tile.
-/
module

public import proofs.«01_k».proof.Proof.Tiles
public import Idealize.ShloMosaic.Lib.Pipeline.ReadBack

@[expose] public section

set_option maxRecDepth 16384

noncomputable section

namespace Cert.Flash

open Idealize.ShloMosaic Idealize.ShloMosaic.ValueIdx Cert.KernelIdeal Cert.KernelIdeal.Gen

/-- Position `r` of tile `k`. -/
def blk (k : Fin 4) (r : Fin 512) : Fin 2048 := ⟨512 * k.val + r.val, by omega⟩

/-- The tiles and the positions in them are all the positions. -/
def tileEquiv : Fin 4 × Fin 512 ≃ Fin 2048 where
  toFun x := blk x.1 x.2
  invFun i := (⟨i.val / 512, by omega⟩, ⟨i.val % 512, by omega⟩)
  left_inv x := by
    obtain ⟨k, r⟩ := x
    refine Prod.ext (Fin.ext ?_) (Fin.ext ?_)
    · show (512 * k.val + r.val) / 512 = k.val; omega
    · show (512 * k.val + r.val) % 512 = r.val; omega
  right_inv i := Fin.ext (by show 512 * (i.val / 512) + i.val % 512 = i.val; omega)

/-- Every position lies in a tile. -/
theorem exists_blk (i : Fin 2048) : ∃ k r, i = blk k r :=
  ⟨(tileEquiv.symm i).1, (tileEquiv.symm i).2, (tileEquiv.right_inv i).symm⟩

/-- A sum over all positions, tile by tile. -/
theorem sum_tiles (f : Fin 2048 → ℝ) :
    ∑ i, f i = ∑ r, f (blk 0 r) + ∑ r, f (blk 1 r) + ∑ r, f (blk 2 r) + ∑ r, f (blk 3 r) := by
  rw [← Equiv.sum_comp tileEquiv f, Fintype.sum_prod_type, Fin.sum_univ_four]; rfl

section
variable (Q K : Fin 2048 → Fin 256 → ℝ) (V O D : Fin 2048 → Fin 128 → ℝ) (L : Fin 2048 → Fin 128 → ℝ)

/-- The probability that query `i` gives to key `j`, from the scores and the saved logarithm of the row's sum. -/
def prob (j i : Fin 2048) : ℝ := if j ≤ i then (2 : ℝ) ^ (∑ e, K j e * Q i e - L i 0) else 0

/-- The gradient of the score of query `i` against key `j`. -/
def dz (j i : Fin 2048) : ℝ := prob Q K L j i * (∑ d, V j d * D i d - ∑ d, D i d * O i d)

/-- The gradient of the queries. -/
def gradQ (i : Fin 2048) (e : Fin 256) : ℝ := ∑ j, dz Q K V O D L j i * K j e

/-- The gradient of the keys. -/
def gradK (j : Fin 2048) (e : Fin 256) : ℝ := (∑ i, dz Q K V O D L j i * Q i e) * Real.log 2

/-- The gradient of the values. -/
def gradV (j : Fin 2048) (d : Fin 128) : ℝ := ∑ i, prob Q K L j i * D i d

/-- Below the diagonal of tiles nothing is masked. -/
theorem prob_lt {k k' : Fin 4} (h : k < k') (r c : Fin 512) :
    prob Q K L (blk k r) (blk k' c) = (2 : ℝ) ^ (∑ e, K (blk k r) e * Q (blk k' c) e - L (blk k' c) 0) :=
  if_pos (Fin.le_def.2 (by have := Fin.lt_def.1 h; show 512 * k.val + r.val ≤ 512 * k'.val + c.val; omega))

/-- On the diagonal the mask compares the positions within the tile. -/
theorem prob_eq (k : Fin 4) (r c : Fin 512) :
    prob Q K L (blk k r) (blk k c) = if r ≤ c then (2 : ℝ) ^ (∑ e, K (blk k r) e * Q (blk k c) e - L (blk k c) 0) else 0 := by
  have h : blk k r ≤ blk k c ↔ r ≤ c := by
    rw [Fin.le_def, Fin.le_def]; show 512 * k.val + r.val ≤ 512 * k.val + c.val ↔ _; omega
  unfold prob
  by_cases h' : r ≤ c
  · rw [if_pos (h.2 h'), if_pos h']
  · rw [if_neg (fun x => h' (h.1 x)), if_neg h']

/-- Above the diagonal of tiles everything is masked. -/
theorem prob_gt {k k' : Fin 4} (h : k' < k) (r c : Fin 512) : prob Q K L (blk k r) (blk k' c) = 0 :=
  if_neg (fun x => by
    have := Fin.lt_def.1 h; have := Fin.le_def.1 x
    have : 512 * k.val + r.val ≤ 512 * k'.val + c.val := this
    omega)

end

/-! ## Loads and stores of tiles -/

/-- The load of tile `k`'s rows, at format bf16. -/
theorem ld_bf16 {n o : ℕ} (k : Fin 4) (ho : o = 512 * k.val) (X : Fin 2048 → Fin n → ℝ)
    (inb : ∀ a, (![o, 0] : Fin 2 → ℕ) a + (![512, n] : Fin 2 → ℕ) a ≤ (⟨2, ![2048, n]⟩ : Shape).size a) :
    (View.ld (Val := Elt Ideal) (e' := .bf16) (mat X) (Rect.unit (s := ⟨2, ![2048, n]⟩) ![o, 0] ![512, n] inb))
      = mat fun r e => X (blk k r) e := by
  subst ho
  refine eq_mat _ _ fun r e => ?_
  show mat X _ = _
  refine congrArg (mat X) (?_ : _ = ix2 (blk k r) e)
  funext a; match a with
  | ⟨0, _⟩ => exact Fin.ext (by show 512 * k.val + 1 * r.val = 512 * k.val + r.val; omega)
  | ⟨1, _⟩ => exact Fin.ext (by show 0 + 1 * e.val = e.val; omega)

/-- The load of tile `k`'s rows, at format f32. -/
theorem ld_f32 {n o : ℕ} (k : Fin 4) (ho : o = 512 * k.val) (X : Fin 2048 → Fin n → ℝ)
    (inb : ∀ a, (![o, 0] : Fin 2 → ℕ) a + (![512, n] : Fin 2 → ℕ) a ≤ (⟨2, ![2048, n]⟩ : Shape).size a) :
    (View.ld (Val := Elt Ideal) (e' := .f32) (mat X) (Rect.unit (s := ⟨2, ![2048, n]⟩) ![o, 0] ![512, n] inb))
      = mat fun r e => X (blk k r) e := ld_bf16 k ho X inb

/-- The contents after a store of tile `k`, at a position of that tile. -/
theorem canon_hit {n o : ℕ} {e : EltTy} [∀ e, Nonempty (Elt Ideal e)] (k : Fin 4) (ho : o = 512 * k.val)
    (inb : ∀ a, (![o, 0] : Fin 2 → ℕ) a + (![512, n] : Fin 2 → ℕ) a ≤ (⟨2, ![2048, n]⟩ : Shape).size a)
    (w : (⟨2, ![512, n]⟩ : Shape).Idx → Elt Ideal e) (l : List (View.Piece (Elt Ideal) ⟨2, ![2048, n]⟩ e)) (r : Fin 512) (d : Fin n) :
    View.canon (⟨Rect.unit (s := ⟨2, ![2048, n]⟩) ![o, 0] ![512, n] inb, w⟩ :: l) (ix2 (blk k r) d) = w (ix2 r d) := by
  subst ho
  have h : (Rect.unit (s := ⟨2, ![2048, n]⟩) ![512 * k.val, 0] ![512, n] inb).emb (ix2 r d : (⟨2, ![512, n]⟩ : Shape).Idx) = ix2 (blk k r) d := by
    funext a; match a with
    | ⟨0, _⟩ => exact Fin.ext (by show 512 * k.val + 1 * r.val = 512 * k.val + r.val; omega)
    | ⟨1, _⟩ => exact Fin.ext (by show 0 + 1 * d.val = d.val; omega)
  rw [← h]
  exact View.canon_cons_emb _ _ _ _

/-- The contents after a store of tile `k`, at a position of another tile. -/
theorem canon_miss {n o : ℕ} {e : EltTy} [∀ e, Nonempty (Elt Ideal e)] (k k' : Fin 4) (ho : o = 512 * k.val) (hk : k ≠ k')
    (inb : ∀ a, (![o, 0] : Fin 2 → ℕ) a + (![512, n] : Fin 2 → ℕ) a ≤ (⟨2, ![2048, n]⟩ : Shape).size a)
    (w : (⟨2, ![512, n]⟩ : Shape).Idx → Elt Ideal e) (l : List (View.Piece (Elt Ideal) ⟨2, ![2048, n]⟩ e)) (r : Fin 512) (d : Fin n) :
    View.canon (⟨Rect.unit (s := ⟨2, ![2048, n]⟩) ![o, 0] ![512, n] inb, w⟩ :: l) (ix2 (blk k' r) d) = View.canon l (ix2 (blk k' r) d) := by
  subst ho
  refine View.canon_cons_of_not_mem _ _ fun h => ?_
  have h0 := (Rect.mem_set_unit (inb := inb)).1 h (0 : Fin 2)
  have h1 : 512 * k.val ≤ 512 * k'.val + r.val := h0.1
  have h2 : 512 * k'.val + r.val < 512 * k.val + 512 := h0.2
  exact hk (Fin.ext (by omega))

end Cert.Flash
-- ==== Proof.Softmax.lean ====
/-
  The mathematics of one head over the real numbers: causal softmax, its independence of the number subtracted from a
  row's scores, and the gradient of the scores in the two forms that the kernel and the reference compute.
-/
module

public import proofs.«01_k».proof.Proof.BlockSpec

@[expose] public section

noncomputable section

namespace Cert.Flash

variable (s dp : Fin 2048 → Fin 2048 → ℝ) (M : Fin 2048 → ℝ)

/-- The exponential of the score of query `i` against key `j`, less the row's number; 0 for the keys after the query. -/
def ex (i j : Fin 2048) : ℝ := if j ≤ i then Real.exp (s i j - M i) else 0

/-- The sum of a row's exponentials. -/
def tot (i : Fin 2048) : ℝ := ∑ j, ex s M i j

/-- Causal softmax. -/
def soft (i j : Fin 2048) : ℝ := ex s 0 i j / tot s 0 i

/-- The gradient of the scores, from the gradient `dp` of the probabilities. -/
def dScore (i j : Fin 2048) : ℝ := soft s i j * (dp i j - ∑ j', soft s i j' * dp i j')

theorem ex_nonneg (i j : Fin 2048) : 0 ≤ ex s M i j := by
  unfold ex; split
  · exact (Real.exp_pos _).le
  · exact le_rfl

/-- A row's sum is positive: the query's own key is in it. -/
theorem tot_pos (i : Fin 2048) : 0 < tot s M i :=
  Finset.sum_pos' (fun j _ => ex_nonneg s M i j) ⟨i, Finset.mem_univ _, by
    unfold ex; rw [if_pos le_rfl]; exact Real.exp_pos _⟩

theorem ex_shift (i j : Fin 2048) : ex s M i j = ex s 0 i j * Real.exp (-M i) := by
  unfold ex; split
  · rw [← Real.exp_add]; congr 1; show s i j - M i = s i j - 0 + -M i; ring
  · rw [zero_mul]

theorem tot_shift (i : Fin 2048) : tot s M i = tot s 0 i * Real.exp (-M i) := by
  unfold tot; rw [Finset.sum_mul]; exact Finset.sum_congr rfl fun j _ => ex_shift s M i j

/-- The probabilities don't depend on the number subtracted from a row's scores. -/
theorem ex_div_tot (i j : Fin 2048) : ex s M i j / tot s M i = soft s i j := by
  rw [ex_shift, tot_shift, soft, mul_div_mul_right _ _ (Real.exp_pos _).ne']

theorem soft_gt (i j : Fin 2048) (h : ¬ j ≤ i) : soft s i j = 0 := by
  unfold soft ex; rw [if_neg h, zero_div]

/-- The kernel's probabilities, powers of 2 of scores in base 2 less the saved logarithm, are the softmax. -/
theorem prob_eq_soft (Q K : Fin 2048 → Fin 256 → ℝ) (L : Fin 2048 → Fin 128 → ℝ) (i j : Fin 2048)
    (hs : ∑ e, K j e * Q i e = s i j / Real.log 2) (hL : L i 0 = (M i + Real.log (tot s M i)) / Real.log 2) :
    prob Q K L j i = soft s i j := by
  rw [← ex_div_tot s M]
  have h2 : Real.log 2 ≠ 0 := (Real.log_pos (by norm_num)).ne'
  unfold prob ex
  by_cases h : j ≤ i
  · rw [if_pos h, if_pos h, hs, hL, Real.rpow_def_of_pos (by norm_num),
      show Real.log 2 * (s i j / Real.log 2 - (M i + Real.log (tot s M i)) / Real.log 2) = s i j - M i - Real.log (tot s M i) by
        field_simp; ring,
      Real.exp_sub, Real.exp_log (tot_pos s M i)]
  · rw [if_neg h, if_neg h, zero_div]

/-- The kernel's gradient of the scores: the row's correction is the sum of output times cotangent. -/
theorem dz_eq (Q K : Fin 2048 → Fin 256 → ℝ) (V O D L : Fin 2048 → Fin 128 → ℝ) (i j : Fin 2048)
    (hp : ∀ j, prob Q K L j i = soft s i j) (hO : ∀ d, O i d = ∑ j, V j d * soft s i j)
    (hdp : ∀ j, dp i j = ∑ d, D i d * V j d) : dz Q K V O D L j i = dScore s dp i j := by
  unfold dz dScore
  rw [hp j, hdp j]
  have h1 : ∑ d, V j d * D i d = ∑ d, D i d * V j d := Finset.sum_congr rfl fun d _ => mul_comm _ _
  have h2 : ∑ d, D i d * O i d = ∑ j', soft s i j' * dp i j' := by
    simp only [hO, hdp, Finset.mul_sum]
    rw [Finset.sum_comm]
    exact Finset.sum_congr rfl fun j' _ => Finset.sum_congr rfl fun d _ => by ring
  rw [h1, h2]

/-- The reference's gradient of the scores, as the derivative of the quotient gives it. -/
theorem dScore_eq (i j : Fin 2048) (h : j ≤ i) :
    (dp i j / tot s M i + -∑ j', dp i j' * (1 / (tot s M i * tot s M i)) * ex s M i j') * ex s M i j = dScore s dp i j := by
  have ht := (tot_pos s M i).ne'
  unfold dScore
  simp only [← ex_div_tot s M]
  have h2 : ∑ j', dp i j' * (1 / (tot s M i * tot s M i)) * ex s M i j' = (∑ j', ex s M i j' / tot s M i * dp i j') / tot s M i := by
    rw [Finset.sum_div]; refine Finset.sum_congr rfl fun j' _ => ?_; field_simp
  rw [h2]; field_simp; ring

theorem dScore_gt (i j : Fin 2048) (h : ¬ j ≤ i) : dScore s dp i j = 0 := by
  unfold dScore; rw [soft_gt s i j h, zero_mul]

end Cert.Flash
-- ==== Proof.Arrays.lean ====
/-
  The program's arguments as arrays of real numbers, the scores and the gradient of the probabilities they give, and the
  row facts about extended reals that the two programs' softmax needs.
-/
module

public import proofs.«01_k».proof.Proof.Softmax

@[expose] public section

noncomputable section

namespace Cert.Flash

open Idealize.ShloMosaic

/-- The array of four axes whose entries are these real numbers. -/
def arr4 {a b c d : Nat} (f : Fin a → Fin b → Fin c → Fin d → ℝ) : (⟨4, ![a, b, c, d]⟩ : Shape).Idx → EReal :=
  fun i => ((f (i 0) (i 1) (i 2) (i 3) : ℝ) : EReal)

/-- The array of three axes whose entries are these real numbers. -/
def arr3 {a b c : Nat} (f : Fin a → Fin b → Fin c → ℝ) : (⟨3, ![a, b, c]⟩ : Shape).Idx → EReal :=
  fun i => ((f (i 0) (i 1) (i 2) : ℝ) : EReal)

/-- The number that the single-precision word of the scores' scale denotes, 1 over the root of 192 rounded. -/
def scale : ℝ := (Ideal.ofBits .f32 0x3D93CD3A#32).toReal

theorem ofBits_scale : Ideal.ofBits .f32 0x3D93CD3A#32 = ((scale : ℝ) : EReal) := by
  unfold scale
  have h : ∃ r : ℝ, Ideal.ofBits .f32 0x3D93CD3A#32 = (r : EReal) := by
    simp [Ideal.ofBits, Ideal.ieee, -EReal.coe_mul]
  obtain ⟨r, hr⟩ := h
  rw [hr, EReal.toReal_coe]

theorem ofBits_negInf : Ideal.ofBits .f32 0xFF800000#32 = ⊥ := by simp [Ideal.ofBits, Ideal.ieee]

theorem ofBits_two : Ideal.ofBits .f32 0x40000000#32 = ((2 : ℝ) : EReal) := by
  simp [Ideal.ofBits, Ideal.ieee, -EReal.coe_mul]; norm_num

/-- The attention's arguments: queries and keys in their two parts, values, and the cotangent of the output. -/
structure Args where
  qn : Fin 2 → Fin 2048 → Fin 8 → Fin 128 → ℝ
  qp : Fin 2 → Fin 2048 → Fin 8 → Fin 64 → ℝ
  kn : Fin 2 → Fin 2048 → Fin 8 → Fin 128 → ℝ
  kp : Fin 2 → Fin 2048 → Fin 64 → ℝ
  v : Fin 2 → Fin 2048 → Fin 8 → Fin 128 → ℝ
  g : Fin 2 → Fin 2048 → Fin 8 → Fin 128 → ℝ

variable (a : Args) (b : Fin 2) (h : Fin 8)

/-- The scaled score of query `i` against key `j` in one head. -/
def Args.score (i j : Fin 2048) : ℝ := (∑ d, a.qn b i h d * a.kn b j h d + ∑ r, a.qp b i h r * a.kp b j r) * scale

/-- The gradient of the probabilities in one head: cotangent times values. -/
def Args.dp (i j : Fin 2048) : ℝ := ∑ d, a.g b i h d * a.v b j h d

/-- The scores with the keys after the query at minus infinity. -/
def masked (s : Fin 2048 → Fin 2048 → ℝ) (i j : Fin 2048) : EReal := if j ≤ i then (s i j : EReal) else ⊥

/-- The largest of a row's masked scores. -/
def rowMax (s : Fin 2048 → Fin 2048 → ℝ) (i : Fin 2048) : ℝ := (Finset.univ.sup (masked s i)).toReal

/-- The largest masked score is a number: the query's own key is in the row. -/
theorem sup_masked (s : Fin 2048 → Fin 2048 → ℝ) (i : Fin 2048) : Finset.univ.sup (masked s i) = ((rowMax s i : ℝ) : EReal) := by
  obtain ⟨j, _, hj⟩ := Finset.exists_mem_eq_sup (Finset.univ : Finset (Fin 2048)) ⟨i, Finset.mem_univ _⟩ (masked s i)
  have ht : Finset.univ.sup (masked s i) ≠ ⊤ := by
    rw [hj]; unfold masked; split
    · exact EReal.coe_ne_top _
    · exact bot_ne_top
  have hb : Finset.univ.sup (masked s i) ≠ ⊥ := by
    have h1 : ((s i i : ℝ) : EReal) ≤ Finset.univ.sup (masked s i) := by
      have h2 := Finset.le_sup (f := masked s i) (Finset.mem_univ i)
      unfold masked at h2; rw [if_pos le_rfl] at h2; exact h2
    exact fun h0 => by rw [h0] at h1; exact absurd h1 (not_le.mpr (EReal.bot_lt_coe _))
  exact (EReal.coe_toReal ht hb).symm

/-- The exponential of a masked score less the row's number. -/
theorem exp_masked (s : Fin 2048 → Fin 2048 → ℝ) (M : Fin 2048 → ℝ) (i j : Fin 2048) :
    Ideal.exp (masked s i j - ((M i : ℝ) : EReal)) = ((ex s M i j : ℝ) : EReal) := by
  unfold masked ex
  split
  · rw [← EReal.coe_sub, Ideal.exp_coe]
  · rw [EReal.bot_sub, Ideal.exp_bot, EReal.coe_zero]

/-- A quotient of numbers at the extended reals. -/
theorem div_real (x y : ℝ) (h : y ≠ 0) : Ideal.div (x : EReal) (y : EReal) = ((x / y : ℝ) : EReal) := by
  rw [Ideal.div_coe h, ← EReal.coe_mul, mul_one_div]

/-- The comparison of two positions below 2048, as a bit. -/
theorem select_le {α : Type} (i j : Fin 2048) (x y : α) :
    Scalar.select (IntOp.cmpi .sle (BitVec.ofNat 32 j.val) (BitVec.ofNat 32 i.val)) x y = if j ≤ i then x else y := by
  have h1 := j.isLt
  have h2 := i.isLt
  rw [WordCmp.cmpi_sle_ofNat (by omega) (by omega)]
  by_cases hji : j ≤ i
  · rw [if_pos hji, decide_eq_true (show j.val ≤ i.val from hji)]; rfl
  · rw [if_neg hji, decide_eq_false (show ¬ j.val ≤ i.val from hji)]; rfl

end Cert.Flash
-- ==== Proof.Concat.lean ====
/-
  The host's joins along the last axis, read at an index: a head's content part, position part and padding, and a head's
  key and value.
-/
module

public import proofs.«01_k».proof.Proof.Arrays

@[expose] public section

noncomputable section

namespace Cert.Flash

open Idealize.ShloMosaic Idealize.ShloMosaic.ValueIdx

/-- An array of a head's content part (128 numbers), its position part (64) and its padding (64), at an index. -/
theorem concat3_apply {α : Type} (x : (⟨4, ![2, 2048, 8, 128]⟩ : Shape).Idx → α) (y z : (⟨4, ![2, 2048, 8, 64]⟩ : Shape).Idx → α)
    (hc : Shape.Concatenates [(⟨4, ![2, 2048, 8, 128]⟩ : Shape), ⟨4, ![2, 2048, 8, 64]⟩, ⟨4, ![2, 2048, 8, 64]⟩] ⟨4, ![2, 2048, 8, 256]⟩ 3)
    (b : Fin 2) (t : Fin 2048) (h : Fin 8) (e : Fin 256) :
    concatenate (⟨4, ![2, 2048, 8, 256]⟩ : Shape) 3 [⟨_, x⟩, ⟨_, y⟩, ⟨_, z⟩] hc (ix4 b t h e)
      = if h1 : e.val < 128 then x (ix4 b t h ⟨e.val, h1⟩)
        else if h2 : e.val < 192 then y (ix4 b t h ⟨e.val - 128, by omega⟩)
        else z (ix4 b t h ⟨e.val - 192, by omega⟩) := by
  have he := e.isLt
  have hb : ∀ {n : ℕ} (e' : Fin n) (q : Fin 4), q ≠ 3 → ((ix4 b t h e' : (⟨4, ![2, 2048, 8, n]⟩ : Shape).Idx) q).val
      = ((ix4 b t h e : (⟨4, ![2, 2048, 8, 256]⟩ : Shape).Idx) q).val := fun e' q hq =>
    match q with
    | ⟨0, _⟩ => rfl
    | ⟨1, _⟩ => rfl
    | ⟨2, _⟩ => rfl
    | ⟨3, _⟩ => absurd rfl hq
  split
  · next h1 =>
    exact concatenate_apply_piece (t := ⟨4, ![2, 2048, 8, 256]⟩) 3
        [⟨⟨4, ![2, 2048, 8, 128]⟩, x⟩, ⟨⟨4, ![2, 2048, 8, 64]⟩, y⟩, ⟨⟨4, ![2, 2048, 8, 64]⟩, z⟩]
        hc (ix4 b t h e) 0 (by show 0 < 3; omega) _ x rfl rfl 0 (by rfl) (ix4 b t h ⟨e.val, h1⟩) (fun q hq => hb _ q hq) (Nat.zero_add _)
  · split
    · next h1 h2 =>
      exact concatenate_apply_piece (t := ⟨4, ![2, 2048, 8, 256]⟩) 3
        [⟨⟨4, ![2, 2048, 8, 128]⟩, x⟩, ⟨⟨4, ![2, 2048, 8, 64]⟩, y⟩, ⟨⟨4, ![2, 2048, 8, 64]⟩, z⟩]
        hc (ix4 b t h e) 1 (by show 1 < 3; omega) _ y rfl rfl 128 (by rfl) (ix4 b t h ⟨e.val - 128, by omega⟩) (fun q hq => hb _ q hq)
        (show 128 + (e.val - 128) = e.val by omega)
    · next h1 h2 =>
      exact concatenate_apply_piece (t := ⟨4, ![2, 2048, 8, 256]⟩) 3
        [⟨⟨4, ![2, 2048, 8, 128]⟩, x⟩, ⟨⟨4, ![2, 2048, 8, 64]⟩, y⟩, ⟨⟨4, ![2, 2048, 8, 64]⟩, z⟩]
        hc (ix4 b t h e) 2 (by show 2 < 3; omega) _ z rfl rfl 192 (by rfl) (ix4 b t h ⟨e.val - 192, by omega⟩) (fun q hq => hb _ q hq)
        (show 192 + (e.val - 192) = e.val by omega)

/-- An array of a head's key and value, at an index of the value. -/
theorem concat2_apply {α : Type} (x y : (⟨4, ![2, 2048, 8, 128]⟩ : Shape).Idx → α)
    (hc : Shape.Concatenates [(⟨4, ![2, 2048, 8, 128]⟩ : Shape), ⟨4, ![2, 2048, 8, 128]⟩] ⟨4, ![2, 2048, 8, 256]⟩ 3)
    (b : Fin 2) (t : Fin 2048) (h : Fin 8) (d : Fin 128) :
    concatenate (⟨4, ![2, 2048, 8, 256]⟩ : Shape) 3 [⟨_, x⟩, ⟨_, y⟩] hc (ix4 b t h ⟨128 + d.val, by omega⟩) = y (ix4 b t h d) := by
  refine concatenate_apply_piece (t := ⟨4, ![2, 2048, 8, 256]⟩) 3 [⟨⟨4, ![2, 2048, 8, 128]⟩, x⟩, ⟨⟨4, ![2, 2048, 8, 128]⟩, y⟩] hc
    (ix4 b t h ⟨128 + d.val, by omega⟩) 1 (by show 1 < 2; omega) _ y rfl rfl 128 (by rfl) (ix4 b t h d) (fun q hq => ?_) rfl
  match q with
  | ⟨0, _⟩ => rfl
  | ⟨1, _⟩ => rfl
  | ⟨2, _⟩ => rfl
  | ⟨3, _⟩ => exact absurd rfl hq

/-- A head's content part, position part and padding, over the real numbers. -/
def parts (x : Fin 128 → ℝ) (y : Fin 64 → ℝ) (e : Fin 256) : ℝ :=
  if h1 : e.val < 128 then x ⟨e.val, h1⟩ else if h2 : e.val < 192 then y ⟨e.val - 128, by omega⟩ else 0

/-- The joined array of a content part, a position part and zeros. -/
theorem concat3_real (x : (⟨4, ![2, 2048, 8, 128]⟩ : Shape).Idx → EReal) (y z : (⟨4, ![2, 2048, 8, 64]⟩ : Shape).Idx → EReal)
    (hc : Shape.Concatenates [(⟨4, ![2, 2048, 8, 128]⟩ : Shape), ⟨4, ![2, 2048, 8, 64]⟩, ⟨4, ![2, 2048, 8, 64]⟩] ⟨4, ![2, 2048, 8, 256]⟩ 3)
    (b : Fin 2) (t : Fin 2048) (h : Fin 8) (e : Fin 256) (f : Fin 128 → ℝ) (g : Fin 64 → ℝ)
    (hx : ∀ d, x (ix4 b t h d) = ((f d : ℝ) : EReal)) (hy : ∀ r, y (ix4 b t h r) = ((g r : ℝ) : EReal)) (hz : ∀ i, z i = 0) :
    concatenate (⟨4, ![2, 2048, 8, 256]⟩ : Shape) 3 [⟨_, x⟩, ⟨_, y⟩, ⟨_, z⟩] hc (ix4 b t h e) = ((parts f g e : ℝ) : EReal) := by
  rw [concat3_apply]
  unfold parts
  split
  · exact hx _
  · split
    · exact hy _
    · exact (hz _).trans EReal.coe_zero.symm

/-- A sum over a head's numbers is the sum over its content part and the sum over its position part. -/
theorem sum_parts (x x' : Fin 128 → ℝ) (y y' : Fin 64 → ℝ) :
    ∑ e, parts x y e * parts x' y' e = ∑ d, x d * x' d + ∑ r, y r * y' r := by
  rw [Fin.sum_univ_add (a := 128) (b := 128) (fun e => parts x y e * parts x' y' e),
    Fin.sum_univ_add (a := 64) (b := 64) fun e => parts x y (Fin.natAdd 128 e) * parts x' y' (Fin.natAdd 128 e)]
  have h1 : ∀ d : Fin 128, ∀ (x : Fin 128 → ℝ) (y : Fin 64 → ℝ), parts x y (Fin.castAdd 128 d) = x d := fun d x y => by
    unfold parts; rw [dif_pos (show (Fin.castAdd 128 d).val < 128 from d.isLt)]; rfl
  have h2 : ∀ r : Fin 64, ∀ (x : Fin 128 → ℝ) (y : Fin 64 → ℝ), parts x y (Fin.natAdd 128 (Fin.castAdd 64 r)) = y r := fun r x y => by
    have hr := r.isLt
    have hv : (Fin.natAdd 128 (Fin.castAdd 64 r)).val = 128 + r.val := rfl
    unfold parts; rw [dif_neg (by omega), dif_pos (by omega)]
    congr 1; exact Fin.ext (by show (Fin.natAdd 128 (Fin.castAdd 64 r)).val - 128 = r.val; omega)
  have h3 : ∀ r : Fin 64, ∀ (x : Fin 128 → ℝ) (y : Fin 64 → ℝ), parts x y (Fin.natAdd 128 (Fin.natAdd 64 r)) = 0 := fun r x y => by
    have hv : (Fin.natAdd 128 (Fin.natAdd 64 r)).val = 128 + (64 + r.val) := rfl
    unfold parts; rw [dif_neg (by omega), dif_neg (by omega)]
  simp only [h1, h2, h3, mul_zero, Finset.sum_const_zero, add_zero]

/-- A weighted sum of joined parts is the join of the weighted sums. -/
theorem sum_mul_parts (w : Fin 2048 → ℝ) (x : Fin 2048 → Fin 128 → ℝ) (y : Fin 2048 → Fin 64 → ℝ) (e : Fin 256) :
    parts (fun d => ∑ j, w j * x j d) (fun r => ∑ j, w j * y j r) e = ∑ j, w j * parts (x j) (y j) e := by
  unfold parts
  split
  · rfl
  · split
    · rfl
    · simp

end Cert.Flash
-- ==== Proof.HostTerms.lean ====
/-
  The host code before the kernel call as functions of the program's arguments: the joined queries and keys, the masked
  scores, the softmax, the saved output and the saved logarithm; and that these are the arrays the call finds.
-/
module

public import proofs.«01_k».proof.Proof.Concat
public import proofs.«01_k».proof.Proof.Gen.KernelIdeal.Value
public import Idealize.ShloMosaic.Lib.StableHlo.RunRead

@[expose] public section

set_option maxRecDepth 16384

noncomputable section

namespace Cert.Flash

open Idealize.ShloMosaic Idealize.ShloMosaic.ValueIdx Idealize.ShloMosaic.TcCoe Cert.KernelIdeal Cert.KernelIdeal.Gen

/-- The logarithm of 2 on the host. -/
def hLog2 : FVec Ideal S_ .f32 := Host.log (constant S_ .f32 0x40000000#32)

/-- The padding. -/
def hZero : FVec Ideal S2x2048x8x64 .f32 := broadcastInDim S2x2048x8x64 ![] bcast_S_S2x2048x8x64 (constant S_ .f32 0x00000000#32)

/-- The joined queries, scaled for powers of 2. -/
def hQ (x0 : FVec Ideal S2x2048x8x128 .f32) (x1 : FVec Ideal S2x2048x8x64 .f32) : FVec Ideal S2x2048x8x256 .f32 :=
  mulf (concatenate S2x2048x8x256 3 [⟨S2x2048x8x128, x0⟩, ⟨S2x2048x8x64, x1⟩, ⟨S2x2048x8x64, hZero⟩]
      concatenates_S2x2048x8x128_S2x2048x8x64_S2x2048x8x64_S2x2048x8x256_d3)
    (broadcastInDim S2x2048x8x256 ![] bcast_S_S2x2048x8x256 (Host.divf (constant S_ .f32 0x3D93CD3A#32) hLog2))

/-- The joined keys. -/
def hK (x2 : FVec Ideal S2x2048x8x128 .f32) (x3 : FVec Ideal S2x2048x64 .f32) : FVec Ideal S2x2048x8x256 .f32 :=
  concatenate S2x2048x8x256 3 [⟨S2x2048x8x128, x2⟩,
      ⟨S2x2048x8x64, broadcastInDim S2x2048x8x64 ![0, 1, 2, 3] bcast_S2x2048x1x64_S2x2048x8x64_0_1_2_3
        (broadcastInDim S2x2048x1x64 ![0, 1, 3] bcast_S2x2048x64_S2x2048x1x64_0_1_3 x3)⟩, ⟨S2x2048x8x64, hZero⟩]
    concatenates_S2x2048x8x128_S2x2048x8x64_S2x2048x8x64_S2x2048x8x256_d3

/-- Keys' content part and values, joined. -/
def hKV (x2 x4 : FVec Ideal S2x2048x8x128 .f32) : FVec Ideal S2x2048x8x256 .f32 :=
  concatenate S2x2048x8x256 3 [⟨S2x2048x8x128, x2⟩, ⟨S2x2048x8x128, x4⟩] concatenates_S2x2048x8x128_S2x2048x8x128_S2x2048x8x256_d3

/-- The scaled scores. -/
def hScore (x0 : FVec Ideal S2x2048x8x128 .f32) (x1 : FVec Ideal S2x2048x8x64 .f32) (x2 : FVec Ideal S2x2048x8x128 .f32)
    (x3 : FVec Ideal S2x2048x64 .f32) : FVec Ideal S2x8x2048x2048 .f32 :=
  mulf (addf (Host.dotGeneral dot_S2x2048x8x128_S2x2048x8x128_S2x8x2048x2048_3_3_1_1_02_02 none x0 x2)
      (transpose S2x8x2048x2048 [0, 3, 2, 1] (Host.dotGeneral dot_S2x2048x64_S2x2048x8x64_S2x2048x2048x8_2_3_1_12_0_0 none x3 x1)
        transposes_S2x2048x2048x8_S2x8x2048x2048_0_3_2_1))
    (broadcastInDim S2x8x2048x2048 ![] bcast_S_S2x8x2048x2048 (constant S_ .f32 0x3D93CD3A#32))

/-- The causal mask: key position not after query position. -/
def hMask : IVec S2048x2048 1 :=
  cmpi .sle
    (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

/-- The masked scores. -/
def hMasked (s : FVec Ideal S2x8x2048x2048 .f32) : FVec Ideal S2x8x2048x2048 .f32 :=
  select (broadcastInDim S2x8x2048x2048 ![2, 3] bcast_S2048x2048_S2x8x2048x2048_2_3 hMask) s
    (broadcastInDim S2x8x2048x2048 ![] bcast_S_S2x8x2048x2048 (constant S_ .f32 0xFF800000#32))

/-- The row maximum, as a column. -/
def hMax (s : FVec Ideal S2x8x2048x2048 .f32) : FVec Ideal S2x8x2048x1 .f32 :=
  broadcastInDim S2x8x2048x1 ![0, 1, 2] bcast_S2x8x2048_S2x8x2048x1_0_1_2
    (Host.reduce FloatOps.maximumf s (constant S_ .f32 0xFF800000#32) reducesTo_S2x8x2048x2048_S2x8x2048_d3 h_S_)

/-- The exponentials of the masked scores less their row's maximum. -/
def hExp (s : FVec Ideal S2x8x2048x2048 .f32) : FVec Ideal S2x8x2048x2048 .f32 :=
  Host.exp (subf s (broadcastInDim S2x8x2048x2048 ![0, 1, 2, 3] bcast_S2x8x2048x1_S2x8x2048x2048_0_1_2_3 (hMax s)))

/-- The rows' sums, as a column. -/
def hSum (e : FVec Ideal S2x8x2048x2048 .f32) : FVec Ideal S2x8x2048x1 .f32 :=
  broadcastInDim S2x8x2048x1 ![0, 1, 2] bcast_S2x8x2048_S2x8x2048x1_0_1_2
    (Host.reduceAdd e (constant S_ .f32 0x00000000#32) reducesTo_S2x8x2048x2048_S2x8x2048_d3 h_S_)

/-- The probabilities. -/
def hProb (e : FVec Ideal S2x8x2048x2048 .f32) : FVec Ideal S2x8x2048x2048 .f32 :=
  Host.divf e (broadcastInDim S2x8x2048x2048 ![0, 1, 2, 3] bcast_S2x8x2048x1_S2x8x2048x2048_0_1_2_3 (hSum e))

/-- The attention's output. -/
def hOut (v : FVec Ideal S2x2048x8x128 .f32) (p : FVec Ideal S2x8x2048x2048 .f32) : FVec Ideal S2x2048x8x128 .f32 :=
  transpose S2x2048x8x128 [0, 3, 1, 2] (Host.dotGeneral dot_S2x2048x8x128_S2x8x2048x2048_S2x8x128x2048_1_3_3_2_02_01 none v p)
    transposes_S2x8x128x2048_S2x2048x8x128_0_3_1_2

/-- The logarithm in base 2 of the rows' sums, from the row maxima `mx` and the sums `l`, in every one of 128 columns. -/
def hLse (mx l : FVec Ideal S2x8x2048x1 .f32) : FVec Ideal S2x2048x8x128 .f32 :=
  broadcastInDim S2x2048x8x128 ![0, 1, 2, 3] bcast_S2x2048x8x1_S2x2048x8x128_0_1_2_3
    (transpose S2x2048x8x1 [0, 2, 1, 3]
      (Host.divf (addf mx (Host.log l)) (broadcastInDim S2x8x2048x1 ![] bcast_S_S2x8x2048x1 hLog2))
      transposes_S2x8x2048x1_S2x2048x8x1_0_2_1_3)

/-- The array of the masked scores. -/
def hS (x0 : FVec Ideal S2x2048x8x128 .f32) (x1 : FVec Ideal S2x2048x8x64 .f32) (x2 : FVec Ideal S2x2048x8x128 .f32)
    (x3 : FVec Ideal S2x2048x64 .f32) : FVec Ideal S2x8x2048x2048 .f32 := hMasked (hScore x0 x1 x2 x3)

variable (m : (ℓ : Loc nD τ sig) → Buf (Elt Ideal) ℓ) (c : Dev nD)

/-- The queries that the call finds. -/
theorem V_q : V m c main_v41
    = shapeCast S4096x2048 (truncf .bf16 (hQ (m ((c : Thread nD τ).loc main_arg0)) (m ((c : Thread nD τ).loc main_arg1))) bitsLt_bf16_f32)
        shapeCasts_S2x2048x8x256_S4096x2048 := by
  unfold V
  after_reads_simp
  rfl

/-- The keys that the call finds. -/
theorem V_k : V m c main_v43
    = shapeCast S4096x2048 (truncf .bf16 (hK (m ((c : Thread nD τ).loc main_arg2)) (m ((c : Thread nD τ).loc main_arg3))) bitsLt_bf16_f32)
        shapeCasts_S2x2048x8x256_S4096x2048 := by
  unfold V
  after_reads_simp
  rfl

/-- The joined keys and values that the call finds. -/
theorem V_kv : V m c main_v45
    = shapeCast S4096x2048 (truncf .bf16 (hKV (m ((c : Thread nD τ).loc main_arg2)) (m ((c : Thread nD τ).loc main_arg4))) bitsLt_bf16_f32)
        shapeCasts_S2x2048x8x256_S4096x2048 := by
  unfold V
  after_reads_simp
  rfl

/-- The cotangent that the call finds. -/
theorem V_do : V m c main_v49
    = shapeCast S4096x1024 (truncf .bf16 (m ((c : Thread nD τ).loc main_arg5) : FVec Ideal S2x2048x8x128 .f32) bitsLt_bf16_f32 : FVec Ideal S2x2048x8x128 .bf16)
        shapeCasts_S2x2048x8x128_S4096x1024 := by
  unfold V
  after_reads_simp
  rfl

set_option maxHeartbeats 1000000 in
/-- The saved output that the call finds. -/
theorem V_o : V m c main_v47
    = shapeCast S4096x1024 (truncf .bf16 (hOut (m ((c : Thread nD τ).loc main_arg4))
        (hProb (hExp (hS (m ((c : Thread nD τ).loc main_arg0)) (m ((c : Thread nD τ).loc main_arg1)) (m ((c : Thread nD τ).loc main_arg2)) (m ((c : Thread nD τ).loc main_arg3))))))
        bitsLt_bf16_f32) shapeCasts_S2x2048x8x128_S4096x1024 := by
  unfold V
  after_reads_simp
  simp -implicitDefEqProofs only [StableHlo.TRef.toBuf, StableHlo.TRef.ofBuf, cast_cast, cast_eq]
  rfl

set_option maxHeartbeats 1000000 in
/-- The saved logarithm that the call finds. -/
theorem V_lse : V m c main_v50
    = shapeCast S4096x1024 (hLse
        (hMax (hS (m ((c : Thread nD τ).loc main_arg0)) (m ((c : Thread nD τ).loc main_arg1)) (m ((c : Thread nD τ).loc main_arg2)) (m ((c : Thread nD τ).loc main_arg3))))
        (hSum (hExp (hS (m ((c : Thread nD τ).loc main_arg0)) (m ((c : Thread nD τ).loc main_arg1)) (m ((c : Thread nD τ).loc main_arg2)) (m ((c : Thread nD τ).loc main_arg3))))))
        shapeCasts_S2x2048x8x128_S4096x1024 := by
  unfold V
  after_reads_simp
  simp -implicitDefEqProofs only [StableHlo.TRef.toBuf, StableHlo.TRef.ofBuf, cast_cast, cast_eq]
  rfl

end Cert.Flash
-- ==== Proof.RefSoftmax.lean ====
/-
  The reference's forward pass at real arguments: scores, mask, row maximum, exponentials, their sums, probabilities.
-/
module

public import proofs.«01_k».proof.Proof.Arrays
public import proofs.«01_k».proof.Proof.Gen.ReferenceIdeal.Read

@[expose] public section

noncomputable section

namespace Cert.Flash

open Idealize.ShloMosaic Cert.ReferenceIdeal Cert.ReferenceIdeal.Gen Cert.ReferenceIdeal.Read

variable (a : Args)

/-- The scaled queries, content part. -/
theorem ref3 (i : S2x2048x8x128.Idx) : val_main_v3 (F := Ideal) (arr4 a.qn) i = ((a.qn (i 0) (i 1) (i 2) (i 3) * scale : ℝ) : EReal) := by
  rw [val_main_v3_apply, val_main_v2_apply, val_main_cst_apply, Ideal.ofBits_def, ofBits_scale, EReal.coe_mul]; rfl

/-- The scaled queries, position part. -/
theorem ref5 (i : S2x2048x8x64.Idx) : val_main_v5 (F := Ideal) (arr4 a.qp) i = ((a.qp (i 0) (i 1) (i 2) (i 3) * scale : ℝ) : EReal) := by
  rw [val_main_v5_apply, val_main_v4_apply, val_main_cst_0_apply, Ideal.ofBits_def, ofBits_scale, EReal.coe_mul]; rfl

/-- The keys' position part, the same for every head. -/
theorem ref1 (i : S2x2048x8x64.Idx) : val_main_v1 (F := Ideal) (arr3 a.kp) i = ((a.kp (i 0) (i 1) (i 3) : ℝ) : EReal) := by
  rw [val_main_v1_apply, val_main_v0_apply]; rfl

/-- The scores. -/
theorem ref8 (i : S2x8x2048x2048.Idx) :
    val_main_v8 (F := Ideal) (arr4 a.qn) (arr4 a.qp) (arr4 a.kn) (arr3 a.kp) i = ((a.score (i 0) (i 1) (i 2) (i 3) : ℝ) : EReal) := by
  have e6 : val_main_v6 (F := Ideal) (arr4 a.qn) (arr4 a.kn) i
      = ((∑ d, a.qn (i 0) (i 2) (i 1) d * scale * a.kn (i 0) (i 3) (i 1) d : ℝ) : EReal) := by
    rw [val_main_v6_apply, coe_sum]
    refine Finset.sum_congr rfl fun k _ => ?_
    rw [ref3, EReal.coe_mul]; rfl
  have e7 : val_main_v7 (F := Ideal) (arr4 a.qp) (arr3 a.kp) i
      = ((∑ r, a.qp (i 0) (i 2) (i 1) r * scale * a.kp (i 0) (i 3) r : ℝ) : EReal) := by
    rw [val_main_v7_apply, coe_sum]
    refine Finset.sum_congr rfl fun k _ => ?_
    rw [ref5, ref1, EReal.coe_mul]; rfl
  rw [val_main_v8_apply, e6, e7, Ideal.addf_def, ← EReal.coe_add]
  congr 1
  unfold Args.score
  rw [add_mul, Finset.sum_mul, Finset.sum_mul]
  congr 1
  · exact Finset.sum_congr rfl fun d _ => by ring
  · exact Finset.sum_congr rfl fun d _ => by ring

/-- A choice by the causal mask. -/
theorem ref_mask (i : S2x8x2048x2048.Idx) (x y : EReal) :
    Scalar.select (val_main_v15_1 (F := Ideal) i) x y = if (i 3 : Fin 2048) ≤ (i 2 : Fin 2048) then x else y := by
  rw [val_main_v15_1_apply, val_main_v14_apply, val_main_v12_apply, val_main_v13_apply, val_main_v10_apply, val_main_v11_apply,
    val_main_v9_apply, val_main_v9_apply]
  exact select_le (i 2) (i 3) x y

/-- The masked scores. -/
theorem ref15 (i : S2x8x2048x2048.Idx) :
    val_main_v15_0 (F := Ideal) (arr4 a.qn) (arr4 a.qp) (arr4 a.kn) (arr3 a.kp) i = masked (a.score (i 0) (i 1)) (i 2) (i 3) := by
  rw [val_main_v15_0_apply, ref_mask, ref8, val_main_call0_v2_apply, val_main_call0_v0_apply, val_main_cst_1_apply, Ideal.ofBits_def,
    ofBits_negInf]
  rfl

/-- The row maximum. -/
theorem ref16 (i : S2x8x2048.Idx) :
    val_main_v16 (F := Ideal) (arr4 a.qn) (arr4 a.qp) (arr4 a.kn) (arr3 a.kp) i = ((rowMax (a.score (i 0) (i 1)) (i 2) : ℝ) : EReal) := by
  have hr : Shape.Reduces S2x8x2048x2048 [3] S2x8x2048 := by decide
  refine Eq.trans ?_ (sup_masked (a.score (i 0) (i 1)) (i 2))
  unfold val_main_v16
  rw [Host.reduce_eq_fold_single FloatOps.maximumf _ _ reducesTo_S2x8x2048x2048_S2x8x2048_d3 hr h_S_, val_main_cst_2_apply, Ideal.ofBits_def,
    ofBits_negInf]
  have hf : (val_main_v15_0 (F := Ideal) (arr4 a.qn) (arr4 a.qp) (arr4 a.kn) (arr3 a.kp) ∘ hr.lift i)
      = masked (a.score (i 0) (i 1)) (i 2) := by
    funext k
    exact (ref15 a (hr.lift i k)).trans rfl
  rw [hf]
  rfl

/-- The row maximum, as the softmax subtracts it. -/
theorem ref34 (i : S2x8x2048x2048.Idx) :
    val_main_v34 (F := Ideal) (arr4 a.qn) (arr4 a.qp) (arr4 a.kn) (arr3 a.kp) i = ((rowMax (a.score (i 0) (i 1)) (i 2) : ℝ) : EReal) := by
  rw [val_main_v34_apply, val_main_v33_apply, val_main_v23_apply, ref16, val_main_v22_apply, val_main_cst_4_apply, Ideal.ofBits_def,
    ofBits_negInf]
  exact max_eq_right bot_le

/-- The exponentials. -/
theorem ref36 (i : S2x8x2048x2048.Idx) :
    val_main_v36 (F := Ideal) (arr4 a.qn) (arr4 a.qp) (arr4 a.kn) (arr3 a.kp) i
      = ((ex (a.score (i 0) (i 1)) (rowMax (a.score (i 0) (i 1))) (i 2) (i 3) : ℝ) : EReal) := by
  rw [val_main_v36_apply, val_main_v35_apply, ref15, ref34, Ideal.hostUnary_exp_def, Ideal.subf_def]
  exact exp_masked _ _ _ _

/-- A row's sum of exponentials. -/
theorem ref38 (i : S2x8x2048x1.Idx) :
    val_main_v38 (F := Ideal) (arr4 a.qn) (arr4 a.qp) (arr4 a.kn) (arr3 a.kp) i
      = ((tot (a.score (i 0) (i 1)) (rowMax (a.score (i 0) (i 1))) (i 2) : ℝ) : EReal) := by
  rw [val_main_v38_apply, val_main_v37_apply, val_main_cst_10_apply, Ideal.ofBits_def, Ideal.ofBits_zero_f32, zero_add]
  unfold tot
  rw [coe_sum]
  refine Finset.sum_congr rfl fun k _ => ?_
  exact ref36 a _

/-- The probabilities. -/
theorem ref40 (i : S2x8x2048x2048.Idx) :
    val_main_v40 (F := Ideal) (arr4 a.qn) (arr4 a.qp) (arr4 a.kn) (arr3 a.kp) i = ((soft (a.score (i 0) (i 1)) (i 2) (i 3) : ℝ) : EReal) := by
  rw [val_main_v40_apply, ref36, val_main_v39_apply, ref38, Ideal.hostDivf_def]
  refine (div_real _ _ (tot_pos _ _ _).ne').trans (congrArg _ ?_)
  exact ex_div_tot _ _ _ _

end Cert.Flash
-- ==== Proof.HostScores.lean ====
/-
  The host's scores at real arguments: the product of the content parts, the product of the position parts, their sum
  times the scale, and the mask.
-/
module

public import proofs.«01_k».proof.Proof.HostTerms
public import proofs.«01_k».proof.Proof.RefSoftmax

@[expose] public section

noncomputable section

namespace Cert.Flash

open Idealize.ShloMosaic Idealize.ShloMosaic.ValueIdx Cert.KernelIdeal Cert.KernelIdeal.Gen

/-- The product of the position parts of keys and queries, keys first. -/
abbrev dotPe := dot_S2x2048x64_S2x2048x8x64_S2x2048x2048x8_2_3_1_12_0_0

theorem pe_lhs (b : Fin 2) (j i : Fin 2048) (h : Fin 8) (q : dotPe.contr.Idx) (k : Fin 64) (hk : (q ⟨0, by decide⟩).val = k.val) :
    dotPe.lhsIdx (ix4 b j i h) q = ix3 b j k := by
  funext x
  refine Fin.ext ?_
  match x with
  | ⟨0, _⟩ =>
    show (dotPe.lhsIdx (ix4 b j i h) q 0).val = b.val
    unfold DotDims.lhsIdx
    rw [dif_pos (show (0 : Fin S2x2048x64.rank) ∈ dotPe.lhsBatch by decide)]
    rfl
  | ⟨1, _⟩ =>
    show (dotPe.lhsIdx (ix4 b j i h) q 1).val = j.val
    unfold DotDims.lhsIdx
    rw [dif_neg (show ¬(1 : Fin S2x2048x64.rank) ∈ dotPe.lhsBatch by decide),
      dif_pos (show (1 : Fin S2x2048x64.rank) ∈ dotPe.lhsNonContracting by decide)]
    rfl
  | ⟨2, _⟩ => exact (dotPe.lhsIdx_val_of_single rfl (ix4 b j i h) q).trans hk

theorem pe_rhs (b : Fin 2) (j i : Fin 2048) (h : Fin 8) (q : dotPe.contr.Idx) (k : Fin 64) (hk : (q ⟨0, by decide⟩).val = k.val) :
    dotPe.rhsIdx (ix4 b j i h) q = ix4 b i h k := by
  funext x
  refine Fin.ext ?_
  match x with
  | ⟨0, _⟩ =>
    show (dotPe.rhsIdx (ix4 b j i h) q 0).val = b.val
    unfold DotDims.rhsIdx
    rw [dif_pos (show (0 : Fin S2x2048x8x64.rank) ∈ dotPe.rhsBatch by decide)]
    rfl
  | ⟨1, _⟩ =>
    show (dotPe.rhsIdx (ix4 b j i h) q 1).val = i.val
    unfold DotDims.rhsIdx
    rw [dif_neg (show ¬(1 : Fin S2x2048x8x64.rank) ∈ dotPe.rhsBatch by decide),
      dif_pos (show (1 : Fin S2x2048x8x64.rank) ∈ dotPe.rhsNonContracting by decide)]
    rfl
  | ⟨2, _⟩ =>
    show (dotPe.rhsIdx (ix4 b j i h) q 2).val = h.val
    unfold DotDims.rhsIdx
    rw [dif_neg (show ¬(2 : Fin S2x2048x8x64.rank) ∈ dotPe.rhsBatch by decide),
      dif_pos (show (2 : Fin S2x2048x8x64.rank) ∈ dotPe.rhsNonContracting by decide)]
    rfl
  | ⟨3, _⟩ => exact (dotPe.rhsIdx_val_of_single rfl (ix4 b j i h) q).trans hk

/-- The product of the position parts, at an index. -/
theorem dotPe_apply (x : FVec Ideal S2x2048x64 .f32) (y : FVec Ideal S2x2048x8x64 .f32) (b : Fin 2) (j i : Fin 2048) (h : Fin 8) :
    Host.dotGeneral dotPe none x y (ix4 b j i h) = ∑ k : Fin 64, x (ix3 b j k) * y (ix4 b i h k) := by
  simp only [Host.dotGeneral]
  rw [Ideal.dotGeneral_apply, ← Equiv.sum_comp (contrEquiv1 dotPe 64 rfl rfl).symm]
  refine Finset.sum_congr rfl fun k _ => ?_
  have hk := contrEquiv1_symm_val dotPe 64 rfl rfl k
  rw [pe_lhs b j i h _ k hk, pe_rhs b j i h _ k hk]

/-- The product of the content parts of queries and keys. -/
abbrev dotNope := dot_S2x2048x8x128_S2x2048x8x128_S2x8x2048x2048_3_3_1_1_02_02

theorem nope_lhs (b : Fin 2) (h : Fin 8) (i j : Fin 2048) (q : dotNope.contr.Idx) (k : Fin 128) (hk : (q ⟨0, by decide⟩).val = k.val) :
    dotNope.lhsIdx (ix4 b h i j) q = ix4 b i h k := by
  funext x
  refine Fin.ext ?_
  match x with
  | ⟨0, _⟩ =>
    show (dotNope.lhsIdx (ix4 b h i j) q 0).val = b.val
    unfold DotDims.lhsIdx
    rw [dif_pos (show (0 : Fin S2x2048x8x128.rank) ∈ dotNope.lhsBatch by decide)]
    rfl
  | ⟨1, _⟩ =>
    show (dotNope.lhsIdx (ix4 b h i j) q 1).val = i.val
    unfold DotDims.lhsIdx
    rw [dif_neg (show ¬(1 : Fin S2x2048x8x128.rank) ∈ dotNope.lhsBatch by decide),
      dif_pos (show (1 : Fin S2x2048x8x128.rank) ∈ dotNope.lhsNonContracting by decide)]
    rfl
  | ⟨2, _⟩ =>
    show (dotNope.lhsIdx (ix4 b h i j) q 2).val = h.val
    unfold DotDims.lhsIdx
    rw [dif_pos (show (2 : Fin S2x2048x8x128.rank) ∈ dotNope.lhsBatch by decide)]
    rfl
  | ⟨3, _⟩ => exact (dotNope.lhsIdx_val_of_single rfl (ix4 b h i j) q).trans hk

theorem nope_rhs (b : Fin 2) (h : Fin 8) (i j : Fin 2048) (q : dotNope.contr.Idx) (k : Fin 128) (hk : (q ⟨0, by decide⟩).val = k.val) :
    dotNope.rhsIdx (ix4 b h i j) q = ix4 b j h k := by
  funext x
  refine Fin.ext ?_
  match x with
  | ⟨0, _⟩ =>
    show (dotNope.rhsIdx (ix4 b h i j) q 0).val = b.val
    unfold DotDims.rhsIdx
    rw [dif_pos (show (0 : Fin S2x2048x8x128.rank) ∈ dotNope.rhsBatch by decide)]
    rfl
  | ⟨1, _⟩ =>
    show (dotNope.rhsIdx (ix4 b h i j) q 1).val = j.val
    unfold DotDims.rhsIdx
    rw [dif_neg (show ¬(1 : Fin S2x2048x8x128.rank) ∈ dotNope.rhsBatch by decide),
      dif_pos (show (1 : Fin S2x2048x8x128.rank) ∈ dotNope.rhsNonContracting by decide)]
    rfl
  | ⟨2, _⟩ =>
    show (dotNope.rhsIdx (ix4 b h i j) q 2).val = h.val
    unfold DotDims.rhsIdx
    rw [dif_pos (show (2 : Fin S2x2048x8x128.rank) ∈ dotNope.rhsBatch by decide)]
    rfl
  | ⟨3, _⟩ => exact (dotNope.rhsIdx_val_of_single rfl (ix4 b h i j) q).trans hk

/-- The product of the content parts, at an index. -/
theorem dotNope_apply (x y : FVec Ideal S2x2048x8x128 .f32) (b : Fin 2) (h : Fin 8) (i j : Fin 2048) :
    Host.dotGeneral dotNope none x y (ix4 b h i j) = ∑ k : Fin 128, x (ix4 b i h k) * y (ix4 b j h k) := by
  simp only [Host.dotGeneral]
  rw [Ideal.dotGeneral_apply, ← Equiv.sum_comp (contrEquiv1 dotNope 128 rfl rfl).symm]
  refine Finset.sum_congr rfl fun k _ => ?_
  have hk := contrEquiv1_symm_val dotNope 128 rfl rfl k
  rw [nope_lhs b h i j _ k hk, nope_rhs b h i j _ k hk]

variable (a : Args)

/-- The scaled scores at an index. -/
theorem hScore_apply (b : Fin 2) (h : Fin 8) (i j : Fin 2048) :
    hScore (arr4 a.qn) (arr4 a.qp) (arr4 a.kn) (arr3 a.kp) (ix4 b h i j) = ((a.score b h i j : ℝ) : EReal) := by
  have hp (x : FVec Ideal S2x2048x64 .f32) (y : FVec Ideal S2x2048x8x64 .f32) : transpose S2x8x2048x2048 [0, 3, 2, 1] (Host.dotGeneral dotPe none x y)
      transposes_S2x2048x2048x8_S2x8x2048x2048_0_3_2_1 (ix4 b h i j)
      = Host.dotGeneral dotPe none x y (ix4 b j i h) := by
    exact transpose_apply [0, 3, 2, 1] _ transposes_S2x2048x2048x8_S2x8x2048x2048_0_3_2_1 (ix4 b h i j) (ix4 b j i h) (fun x => match x with
      | ⟨0, _⟩ => rfl
      | ⟨1, _⟩ => rfl
      | ⟨2, _⟩ => rfl
      | ⟨3, _⟩ => rfl)
  have hc : broadcastInDim S2x8x2048x2048 ![] bcast_S_S2x8x2048x2048 (constant (F := Ideal) S_ .f32 0x3D93CD3A#32) (ix4 b h i j) = ((scale : ℝ) : EReal) :=
    (broadcastInDim_apply _ bcast_S_S2x8x2048x2048 _ (ix4 b h i j) (fun x => x.elim0) (fun x => x.elim0)).trans ofBits_scale
  unfold hScore
  refine (ValueIdx.mulf_apply _ _ _).trans ?_
  rw [ValueIdx.addf_apply]
  rw [hp, hc, dotPe_apply, dotNope_apply]
  unfold Args.score
  rw [EReal.coe_mul, EReal.coe_add, coe_sum, coe_sum]
  congr 2
  refine Finset.sum_congr rfl fun k _ => ?_
  rw [mul_comm (a.qp b i h k), EReal.coe_mul]
  rfl

/-- The masked scores at an index. -/
theorem hS_apply (b : Fin 2) (h : Fin 8) (i j : Fin 2048) :
    hS (arr4 a.qn) (arr4 a.qp) (arr4 a.kn) (arr3 a.kp) (ix4 b h i j) = masked (a.score b h) i j := by
  have hm : broadcastInDim S2x8x2048x2048 ![2, 3] bcast_S2048x2048_S2x8x2048x2048_2_3 hMask (ix4 b h i j)
      = IntOp.cmpi .sle (BitVec.ofNat 32 j.val) (BitVec.ofNat 32 i.val) := by
    refine (broadcastInDim_apply _ bcast_S2048x2048_S2x8x2048x2048_2_3 hMask (ix4 b h i j) (ix2 i j) (fun x => match x with
      | ⟨0, _⟩ => by show i.val = if (2048 : Nat) = 1 then 0 else i.val; rw [if_neg (by decide)]
      | ⟨1, _⟩ => by show j.val = if (2048 : Nat) = 1 then 0 else j.val; rw [if_neg (by decide)])).trans ?_
    exact congrArg₂ (IntOp.cmpi .sle) (Cert.ReferenceIdeal.Read.val_main_v12_apply (F := Ideal) (ix2 i j) |>.trans
      ((Cert.ReferenceIdeal.Read.val_main_v10_apply (F := Ideal) _).trans rfl))
      (Cert.ReferenceIdeal.Read.val_main_v13_apply (F := Ideal) (ix2 i j) |>.trans
      ((Cert.ReferenceIdeal.Read.val_main_v11_apply (F := Ideal) _).trans rfl))
  have hc : broadcastInDim S2x8x2048x2048 ![] bcast_S_S2x8x2048x2048 (constant (F := Ideal) S_ .f32 0xFF800000#32) (ix4 b h i j) = ⊥ :=
    (broadcastInDim_apply _ bcast_S_S2x8x2048x2048 _ (ix4 b h i j) (fun x => x.elim0) (fun x => x.elim0)).trans ofBits_negInf
  unfold hS hMasked
  show Scalar.select (broadcastInDim S2x8x2048x2048 ![2, 3] bcast_S2048x2048_S2x8x2048x2048_2_3 hMask (ix4 b h i j)) (hScore _ _ _ _ (ix4 b h i j)) _ = _
  rw [hm, hc, select_le, hScore_apply]
  rfl

/-- The kernel's host code and the reference compute the same masked scores. -/
theorem hS_eq : hS (arr4 a.qn) (arr4 a.qp) (arr4 a.kn) (arr3 a.kp)
    = Cert.ReferenceIdeal.Read.val_main_v15_0 (F := Ideal) (arr4 a.qn) (arr4 a.qp) (arr4 a.kn) (arr3 a.kp) := by
  funext i
  rw [eq_ix4 i]
  exact (hS_apply a (i 0) (i 1) (i 2) (i 3)).trans (ref15 a (ix4 (i 0) (i 1) (i 2) (i 3))).symm

end Cert.Flash
-- ==== Proof.RefGrad.lean ====
/-
  The reference's backward pass at real arguments: the gradient of the scores and the three gradients of a head.
-/
module

public import proofs.«01_k».proof.Proof.RefSoftmax

@[expose] public section

noncomputable section

namespace Cert.Flash

open Idealize.ShloMosaic Cert.ReferenceIdeal Cert.ReferenceIdeal.Gen Cert.ReferenceIdeal.Read

variable (a : Args)

theorem ofBits_one : Ideal.ofBits .f32 0x3F800000#32 = ((1 : ℝ) : EReal) := by
  simp [Ideal.ofBits, Ideal.ieee, -EReal.coe_mul]; norm_num

/-- The gradient of the probabilities. -/
theorem ref47 (i : S2x8x2048x2048.Idx) :
    val_main_v47 (F := Ideal) (arr4 a.v) (arr4 a.g) i = ((a.dp (i 0) (i 1) (i 2) (i 3) : ℝ) : EReal) := by
  unfold Args.dp
  rw [val_main_v47_apply, coe_sum]
  refine Finset.sum_congr rfl fun k _ => ?_
  rw [val_main_v46_apply, EReal.coe_mul]; rfl

/-- One over the square of a row's sum. -/
theorem ref50 (i : S2x8x2048x2048.Idx) :
    val_main_v50 (F := Ideal) (arr4 a.qn) (arr4 a.qp) (arr4 a.kn) (arr3 a.kp) i
      = ((1 / (tot (a.score (i 0) (i 1)) (rowMax (a.score (i 0) (i 1))) (i 2) * tot (a.score (i 0) (i 1)) (rowMax (a.score (i 0) (i 1))) (i 2)) : ℝ) : EReal) := by
  rw [val_main_v50_apply, val_main_v43_apply, val_main_v42_apply, val_main_cst_11_apply, val_main_v41_apply, ref38, Ideal.ofBits_def,
    ofBits_one, Ideal.hostDivf_def, Ideal.mulf_def, ← EReal.coe_mul]
  exact div_real _ _ (mul_pos (tot_pos _ _ _) (tot_pos _ _ _)).ne'

/-- One row's number of the column of corrections, in the array without the column's axis. -/
theorem ref_col (i : S2x8x2048x1.Idx) : (idx_main_v54 i : S2x8x2048.Idx) = idx_main_v38 i := by
  have h0 : (i 0).val < 2 := (i 0).isLt
  have h1 : (i 1).val < 8 := (i 1).isLt
  have h2 : (i 2).val < 2048 := (i 2).isLt
  have h3 : (i 3).val < 1 := (i 3).isLt
  funext k
  refine Fin.ext ?_
  match k with
  | ⟨0, _⟩ => show ((((i 0).val * 8 + (i 1).val) * 2048 + (i 2).val) * 1 + (i 3).val) / 16384 = (i 0).val; omega
  | ⟨1, _⟩ => show ((((i 0).val * 8 + (i 1).val) * 2048 + (i 2).val) * 1 + (i 3).val) / 2048 % 8 = (i 1).val; omega
  | ⟨2, _⟩ => show ((((i 0).val * 8 + (i 1).val) * 2048 + (i 2).val) * 1 + (i 3).val) % 2048 = (i 2).val; omega

/-- The sum that corrects a row's gradient, before its sign. -/
def Args.corr (b : Fin 2) (h : Fin 8) (i : Fin 2048) : ℝ :=
  ∑ j, a.dp b h i j * (1 / (tot (a.score b h) (rowMax (a.score b h)) i * tot (a.score b h) (rowMax (a.score b h)) i))
    * ex (a.score b h) (rowMax (a.score b h)) i j

/-- A row's sum, at the column. -/
theorem ref54 (i : S2x8x2048x1.Idx) :
    val_main_v54 (F := Ideal) (arr4 a.qn) (arr4 a.qp) (arr4 a.kn) (arr3 a.kp) (arr4 a.v) (arr4 a.g) i
      = ((a.corr (i 0) (i 1) (i 2) : ℝ) : EReal) := by
  rw [val_main_v54_apply, ref_col, val_main_v53_apply, val_main_cst_12_apply, Ideal.ofBits_def, Ideal.ofBits_zero_f32, zero_add]
  unfold Args.corr
  rw [coe_sum]
  refine Finset.sum_congr rfl fun k _ => ?_
  rw [val_main_v52_apply, val_main_v51_apply, ref36, ref47, ref50, Ideal.mulf_def, Ideal.mulf_def, EReal.coe_mul, EReal.coe_mul]
  rfl

/-- A row's correction. -/
theorem ref59 (i : S2x8x2048x2048.Idx) :
    val_main_v59 (F := Ideal) (arr4 a.qn) (arr4 a.qp) (arr4 a.kn) (arr3 a.kp) (arr4 a.v) (arr4 a.g) i
      = ((-a.corr (i 0) (i 1) (i 2) : ℝ) : EReal) := by
  rw [val_main_v59_apply, val_main_v58_apply, val_main_cst_13_apply, Ideal.ofBits_def, Ideal.ofBits_zero_f32, zero_add, Fin.sum_univ_one,
    val_main_v55_apply, ref54, EReal.coe_neg]
  rfl

/-- The gradient of the probabilities over a row's sum. -/
theorem ref57 (i : S2x8x2048x2048.Idx) :
    val_main_v57 (F := Ideal) (arr4 a.qn) (arr4 a.qp) (arr4 a.kn) (arr3 a.kp) (arr4 a.v) (arr4 a.g) i
      = ((a.dp (i 0) (i 1) (i 2) (i 3) / tot (a.score (i 0) (i 1)) (rowMax (a.score (i 0) (i 1))) (i 2) : ℝ) : EReal) := by
  rw [val_main_v57_apply, ref47, val_main_v56_apply, ref38, Ideal.hostDivf_def]
  exact div_real _ _ (tot_pos _ _ _).ne'

/-- The gradient of the scores. -/
theorem ref62 (i : S2x8x2048x2048.Idx) :
    val_main_v62 (F := Ideal) (arr4 a.qn) (arr4 a.qp) (arr4 a.kn) (arr3 a.kp) (arr4 a.v) (arr4 a.g) i
      = ((dScore (a.score (i 0) (i 1)) (a.dp (i 0) (i 1)) (i 2) (i 3) : ℝ) : EReal) := by
  rw [val_main_v62_apply, ref_mask, val_main_call1_v0_apply, val_main_call1_cst_apply, Ideal.ofBits_def, Ideal.ofBits_zero_f32]
  by_cases hji : (i 3 : Fin 2048) ≤ (i 2 : Fin 2048)
  · rw [if_pos hji, val_main_v61_apply, val_main_v60_apply, ref57, ref59, ref36, Ideal.mulf_def, Ideal.addf_def,
      ← EReal.coe_add, ← EReal.coe_mul]
    exact congrArg (fun r : ℝ => (r : EReal))
      (dScore_eq (a.score (i 0) (i 1)) (a.dp (i 0) (i 1)) (rowMax (a.score (i 0) (i 1))) (i 2) (i 3) hji)
  · rw [if_neg hji]
    exact EReal.coe_zero.symm.trans (congrArg (fun r : ℝ => (r : EReal))
      (dScore_gt (a.score (i 0) (i 1)) (a.dp (i 0) (i 1)) (i 2) (i 3) hji).symm)

/-- The gradient of the queries' content part, before the scale. -/
theorem ref70 (i : S2x2048x8x128.Idx) :
    val_main_v70 (F := Ideal) (arr4 a.qn) (arr4 a.qp) (arr4 a.kn) (arr3 a.kp) (arr4 a.v) (arr4 a.g) i
      = ((∑ j, dScore (a.score (i 0) (i 2)) (a.dp (i 0) (i 2)) (i 1) j * a.kn (i 0) j (i 2) (i 3) : ℝ) : EReal) := by
  rw [val_main_v70_apply, val_main_v69_apply, coe_sum]
  refine Finset.sum_congr rfl fun k _ => ?_
  rw [ref62, EReal.coe_mul]; rfl

/-- The gradient of the queries' position part, before the scale. -/
theorem ref66 (i : S2x2048x8x64.Idx) :
    val_main_v66 (F := Ideal) (arr4 a.qn) (arr4 a.qp) (arr4 a.kn) (arr3 a.kp) (arr4 a.v) (arr4 a.g) i
      = ((∑ j, dScore (a.score (i 0) (i 2)) (a.dp (i 0) (i 2)) (i 1) j * a.kp (i 0) j (i 3) : ℝ) : EReal) := by
  rw [val_main_v66_apply, val_main_v65_apply, coe_sum]
  refine Finset.sum_congr rfl fun k _ => ?_
  rw [ref62, ref1, EReal.coe_mul]; rfl

/-- The gradient of the keys' content part. -/
theorem ref68 (i : S2x2048x8x128.Idx) :
    val_main_v68 (F := Ideal) (arr4 a.qn) (arr4 a.qp) (arr4 a.kn) (arr3 a.kp) (arr4 a.v) (arr4 a.g) i
      = ((∑ q, dScore (a.score (i 0) (i 2)) (a.dp (i 0) (i 2)) q (i 1) * (a.qn (i 0) q (i 2) (i 3) * scale) : ℝ) : EReal) := by
  rw [val_main_v68_apply, val_main_v67_apply, coe_sum]
  refine Finset.sum_congr rfl fun k _ => ?_
  rw [ref62, ref3, EReal.coe_mul]; rfl

/-- The gradient of the keys' position part, per head. -/
theorem ref64 (i : S2x2048x8x64.Idx) :
    val_main_v64 (F := Ideal) (arr4 a.qn) (arr4 a.qp) (arr4 a.kn) (arr3 a.kp) (arr4 a.v) (arr4 a.g) i
      = ((∑ q, dScore (a.score (i 0) (i 2)) (a.dp (i 0) (i 2)) q (i 1) * (a.qp (i 0) q (i 2) (i 3) * scale) : ℝ) : EReal) := by
  rw [val_main_v64_apply, val_main_v63_apply, coe_sum]
  refine Finset.sum_congr rfl fun k _ => ?_
  rw [ref62, ref5, EReal.coe_mul]; rfl

/-- The gradient of the values. -/
theorem ref49 (i : S2x2048x8x128.Idx) :
    val_main_v49 (F := Ideal) (arr4 a.qn) (arr4 a.qp) (arr4 a.kn) (arr3 a.kp) (arr4 a.g) i
      = ((∑ q, a.g (i 0) q (i 2) (i 3) * soft (a.score (i 0) (i 2)) q (i 1) : ℝ) : EReal) := by
  rw [val_main_v49_apply, val_main_v48_apply, coe_sum]
  refine Finset.sum_congr rfl fun k _ => ?_
  rw [val_main_v46_apply, ref40, EReal.coe_mul]; rfl

end Cert.Flash
-- ==== Proof.RefOut.lean ====
/-
  The reference's three results at real arguments: the gradients of queries, keys and values, a head's block of columns
  after another, a sequence's rows after another.
-/
module

public import proofs.«01_k».proof.Proof.RefGrad
public import proofs.«01_k».proof.Proof.Concat

@[expose] public section

noncomputable section

namespace Cert.Flash

open Idealize.ShloMosaic Idealize.ShloMosaic.ValueIdx Cert.ReferenceIdeal Cert.ReferenceIdeal.Gen Cert.ReferenceIdeal.Read

variable (a : Args)

/-- The gradient of a query's numbers (of the scaled queries: content part, position part, padding). -/
def Args.dq (b : Fin 2) (h : Fin 8) (i : Fin 2048) (e : Fin 256) : ℝ :=
  ∑ j, dScore (a.score b h) (a.dp b h) i j * parts (a.kn b j h) (a.kp b j) e

/-- The gradient of a key's numbers, per head. -/
def Args.dk (b : Fin 2) (h : Fin 8) (j : Fin 2048) (e : Fin 256) : ℝ :=
  ∑ i, dScore (a.score b h) (a.dp b h) i j * (parts (a.qn b i h) (a.qp b i h) e * scale)

/-- The gradient of a value's numbers. -/
def Args.dv (b : Fin 2) (h : Fin 8) (j : Fin 2048) (d : Fin 128) : ℝ := ∑ i, soft (a.score b h) i j * a.g b i h d

theorem ref71 (i : S2x2048x8x64.Idx) : val_main_v71 (F := Ideal) i = 0 := by
  rw [val_main_v71_apply, val_main_cst_14_apply, Ideal.ofBits_def, Ideal.ofBits_zero_f32]

theorem parts_mul (x : Fin 128 → ℝ) (y : Fin 64 → ℝ) (s : ℝ) (e : Fin 256) :
    parts (fun d => x d * s) (fun r => y r * s) e = parts x y e * s := by
  unfold parts; split
  · rfl
  · split
    · rfl
    · rw [zero_mul]

/-- Row `r`, column `k` of a result is batch `b`, position `t`, head `h`, number `e`. -/
theorem wide_index (b : Fin 2) (t : Fin 2048) (h : Fin 8) (e : Fin 256) (r : Fin 4096) (k : Fin 2048)
    (hr : r.val = b.val * 2048 + t.val) (hk : k.val = h.val * 256 + e.val) : idx_main_v73 (ix2 r k) = ix4 b t h e := by
  have h0 := b.isLt
  have h1 := t.isLt
  have h2 := h.isLt
  have h3 := e.isLt
  funext q
  refine Fin.ext ?_
  match q with
  | ⟨0, _⟩ => show (r.val * 2048 + k.val) / 4194304 = b.val; omega
  | ⟨1, _⟩ => show (r.val * 2048 + k.val) / 2048 % 2048 = t.val; omega
  | ⟨2, _⟩ => show (r.val * 2048 + k.val) / 256 % 8 = h.val; omega
  | ⟨3, _⟩ => show (r.val * 2048 + k.val) % 256 = e.val; omega

theorem narrow_index (b : Fin 2) (t : Fin 2048) (h : Fin 8) (d : Fin 128) (r : Fin 4096) (k : Fin 1024)
    (hr : r.val = b.val * 2048 + t.val) (hk : k.val = h.val * 128 + d.val) : idx_main_v78 (ix2 r k) = ix4 b t h d := by
  have h0 := b.isLt
  have h1 := t.isLt
  have h2 := h.isLt
  have h3 := d.isLt
  funext q
  refine Fin.ext ?_
  match q with
  | ⟨0, _⟩ => show (r.val * 1024 + k.val) / 2097152 = b.val; omega
  | ⟨1, _⟩ => show (r.val * 1024 + k.val) / 1024 % 2048 = t.val; omega
  | ⟨2, _⟩ => show (r.val * 1024 + k.val) / 128 % 8 = h.val; omega
  | ⟨3, _⟩ => show (r.val * 1024 + k.val) % 128 = d.val; omega

/-- The first result: the queries' gradient. -/
theorem ref73 (b : Fin 2) (t : Fin 2048) (h : Fin 8) (e : Fin 256) (r : Fin 4096) (k : Fin 2048)
    (hr : r.val = b.val * 2048 + t.val) (hk : k.val = h.val * 256 + e.val) :
    val_main_v73 (F := Ideal) (arr4 a.qn) (arr4 a.qp) (arr4 a.kn) (arr3 a.kp) (arr4 a.v) (arr4 a.g) (ix2 r k) = ((a.dq b h t e : ℝ) : EReal) := by
  rw [val_main_v73_apply, wide_index b t h e r k hr hk]
  unfold val_main_v72 Args.dq
  rw [← sum_mul_parts (fun j => dScore (a.score b h) (a.dp b h) t j) (fun j => a.kn b j h) (fun j => a.kp b j) e]
  exact concat3_real _ _ _ _ b t h e _ _ (fun d => ref70 a (ix4 b t h d)) (fun r => ref66 a (ix4 b t h r)) ref71

/-- The second result: the keys' gradient. -/
theorem ref76 (b : Fin 2) (t : Fin 2048) (h : Fin 8) (e : Fin 256) (r : Fin 4096) (k : Fin 2048)
    (hr : r.val = b.val * 2048 + t.val) (hk : k.val = h.val * 256 + e.val) :
    val_main_v76 (F := Ideal) (arr4 a.qn) (arr4 a.qp) (arr4 a.kn) (arr3 a.kp) (arr4 a.v) (arr4 a.g) (ix2 r k) = ((a.dk b h t e : ℝ) : EReal) := by
  rw [val_main_v76_apply, val_main_v75_apply]
  refine (congrArg (fun i => val_main_v74 (F := Ideal) (arr4 a.qn) (arr4 a.qp) (arr4 a.kn) (arr3 a.kp) (arr4 a.v) (arr4 a.g) i)
    (wide_index b t h e r k hr hk)).trans ?_
  unfold Args.dk
  simp only [← parts_mul]
  rw [← sum_mul_parts (fun i => dScore (a.score b h) (a.dp b h) i t) (fun i d => a.qn b i h d * scale) (fun i r => a.qp b i h r * scale) e]
  exact concat3_real _ _ _ _ b t h e _ _ (fun d => ref68 a (ix4 b t h d)) (fun r => ref64 a (ix4 b t h r)) ref71

/-- The third result: the values' gradient. -/
theorem ref78 (b : Fin 2) (t : Fin 2048) (h : Fin 8) (d : Fin 128) (r : Fin 4096) (k : Fin 1024)
    (hr : r.val = b.val * 2048 + t.val) (hk : k.val = h.val * 128 + d.val) :
    val_main_v78 (F := Ideal) (arr4 a.qn) (arr4 a.qp) (arr4 a.kn) (arr3 a.kp) (arr4 a.g) (ix2 r k) = ((a.dv b h t d : ℝ) : EReal) := by
  rw [val_main_v78_apply, narrow_index b t h d r k hr hk, val_main_v77_apply]
  refine (ref49 a (ix4 b t h d)).trans (congrArg (fun x : ℝ => (x : EReal)) ?_)
  exact Finset.sum_congr rfl fun i _ => mul_comm _ _

end Cert.Flash
-- ==== Proof.HostValues.lean ====
/-
  What the host hands to the call, at real arguments: queries and keys in 256 numbers a head, values, the attention's
  output and the rows' log-sum-exp.
-/
module

public import proofs.«01_k».proof.Proof.HostScores
public import proofs.«01_k».proof.Proof.RefOut

@[expose] public section

noncomputable section

namespace Cert.Flash

open Idealize.ShloMosaic Idealize.ShloMosaic.ValueIdx Cert.KernelIdeal Cert.KernelIdeal.Gen

/-- The logarithm of 2 that the host computes. -/
theorem hLog2_apply (i : S_.Idx) : hLog2 i = ((Real.log 2 : ℝ) : EReal) := by
  show Ideal.log (Ideal.ofBits .f32 0x40000000#32) = _
  rw [ofBits_two, Ideal.log_coe, if_neg (by norm_num)]

theorem log_two_pos : 0 < Real.log 2 := Real.log_pos (by norm_num)

theorem hZero_apply (i : S2x2048x8x64.Idx) : hZero i = 0 :=
  (broadcastInDim_apply _ bcast_S_S2x2048x8x64 _ i (fun x => x.elim0) (fun x => x.elim0)).trans Ideal.ofBits_zero_f32

variable (a : Args)

/-- A query's numbers as the call gets them. -/
def Args.q2 (b : Fin 2) (h : Fin 8) (i : Fin 2048) (e : Fin 256) : ℝ := parts (a.qn b i h) (a.qp b i h) e * (scale / Real.log 2)

/-- A key's numbers as the call gets them. -/
def Args.k2 (b : Fin 2) (h : Fin 8) (j : Fin 2048) (e : Fin 256) : ℝ := parts (a.kn b j h) (a.kp b j) e

/-- The attention's output. -/
def Args.out (b : Fin 2) (h : Fin 8) (i : Fin 2048) (d : Fin 128) : ℝ := ∑ j, a.v b j h d * soft (a.score b h) i j

/-- The rows' log-sum-exp, to base 2. -/
def Args.lse2 (b : Fin 2) (h : Fin 8) (i : Fin 2048) : ℝ :=
  (rowMax (a.score b h) i + Real.log (tot (a.score b h) (rowMax (a.score b h)) i)) / Real.log 2

theorem hQ_apply (b : Fin 2) (t : Fin 2048) (h : Fin 8) (e : Fin 256) :
    hQ (arr4 a.qn) (arr4 a.qp) (ix4 b t h e) = ((a.q2 b h t e : ℝ) : EReal) := by
  have hc : broadcastInDim S2x2048x8x256 ![] bcast_S_S2x2048x8x256 (Host.divf (constant (F := Ideal) S_ .f32 0x3D93CD3A#32) hLog2) (ix4 b t h e)
      = ((scale / Real.log 2 : ℝ) : EReal) := by
    refine (broadcastInDim_apply _ bcast_S_S2x2048x8x256 _ (ix4 b t h e) (fun x => x.elim0) (fun x => x.elim0)).trans ?_
    show Ideal.div (Ideal.ofBits .f32 0x3D93CD3A#32) (hLog2 _) = _
    rw [ofBits_scale, hLog2_apply, div_real _ _ log_two_pos.ne']
  unfold hQ
  rw [ValueIdx.mulf_apply, hc]
  unfold Args.q2
  rw [EReal.coe_mul]
  congr 1
  exact concat3_real _ _ _ _ b t h e _ _ (fun d => rfl) (fun r => rfl) hZero_apply

theorem hK_apply (b : Fin 2) (t : Fin 2048) (h : Fin 8) (e : Fin 256) :
    hK (arr4 a.kn) (arr3 a.kp) (ix4 b t h e) = ((a.k2 b h t e : ℝ) : EReal) := by
  unfold hK Args.k2
  exact concat3_real _ _ _ _ b t h e _ _ (fun d => rfl) (fun r => ref1 a (ix4 b t h r)) hZero_apply

theorem hKV_apply (b : Fin 2) (t : Fin 2048) (h : Fin 8) (d : Fin 128) :
    hKV (arr4 a.kn) (arr4 a.v) (ix4 b t h ⟨128 + d.val, by omega⟩) = ((a.v b t h d : ℝ) : EReal) := by
  unfold hKV
  exact concat2_apply _ _ _ b t h d

/-- The masked scores. -/
abbrev Args.s : FVec Ideal S2x8x2048x2048 .f32 := hS (arr4 a.qn) (arr4 a.qp) (arr4 a.kn) (arr3 a.kp)

theorem hMax_apply (b : Fin 2) (h : Fin 8) (i : Fin 2048) (z : Fin 1) :
    hMax a.s (ix4 b h i z) = ((rowMax (a.score b h) i : ℝ) : EReal) := by
  unfold hMax Args.s
  rw [hS_eq]
  refine (broadcastInDim_apply _ bcast_S2x8x2048_S2x8x2048x1_0_1_2 _ (ix4 b h i z) (ix3 b h i) (fun x => match x with
    | ⟨0, _⟩ => by show b.val = if (2 : Nat) = 1 then 0 else b.val; rw [if_neg (by decide)]
    | ⟨1, _⟩ => by show h.val = if (8 : Nat) = 1 then 0 else h.val; rw [if_neg (by decide)]
    | ⟨2, _⟩ => by show i.val = if (2048 : Nat) = 1 then 0 else i.val; rw [if_neg (by decide)])).trans ?_
  exact ref16 a (ix3 b h i)

/-- A column laid along the keys. -/
theorem column_apply (x : FVec Ideal S2x8x2048x1 .f32) (b : Fin 2) (h : Fin 8) (i j : Fin 2048) :
    broadcastInDim S2x8x2048x2048 ![0, 1, 2, 3] bcast_S2x8x2048x1_S2x8x2048x2048_0_1_2_3 x (ix4 b h i j) = x (ix4 b h i 0) :=
  broadcastInDim_apply _ bcast_S2x8x2048x1_S2x8x2048x2048_0_1_2_3 x (ix4 b h i j) (ix4 b h i 0) (fun x => match x with
    | ⟨0, _⟩ => by show b.val = if (2 : Nat) = 1 then 0 else b.val; rw [if_neg (by decide)]
    | ⟨1, _⟩ => by show h.val = if (8 : Nat) = 1 then 0 else h.val; rw [if_neg (by decide)]
    | ⟨2, _⟩ => by show i.val = if (2048 : Nat) = 1 then 0 else i.val; rw [if_neg (by decide)]
    | ⟨3, _⟩ => rfl)

theorem hExp_apply (b : Fin 2) (h : Fin 8) (i j : Fin 2048) :
    hExp a.s (ix4 b h i j) = ((ex (a.score b h) (rowMax (a.score b h)) i j : ℝ) : EReal) := by
  unfold hExp
  show Ideal.exp (a.s (ix4 b h i j) - broadcastInDim S2x8x2048x2048 ![0, 1, 2, 3] bcast_S2x8x2048x1_S2x8x2048x2048_0_1_2_3 (hMax a.s) (ix4 b h i j)) = _
  rw [column_apply, hMax_apply]
  refine (congrArg (fun x => Ideal.exp (x - ((rowMax (a.score b h) i : ℝ) : EReal))) (hS_apply a b h i j)).trans ?_
  exact exp_masked _ _ _ _

/-- The kernel's host code and the reference compute the same exponentials. -/
theorem hExp_eq : hExp a.s = Cert.ReferenceIdeal.Read.val_main_v36 (F := Ideal) (arr4 a.qn) (arr4 a.qp) (arr4 a.kn) (arr3 a.kp) := by
  funext i
  rw [eq_ix4 i]
  exact (hExp_apply a (i 0) (i 1) (i 2) (i 3)).trans (ref36 a (ix4 (i 0) (i 1) (i 2) (i 3))).symm

theorem hSum_apply (b : Fin 2) (h : Fin 8) (i : Fin 2048) (z : Fin 1) :
    hSum (hExp a.s) (ix4 b h i z) = ((tot (a.score b h) (rowMax (a.score b h)) i : ℝ) : EReal) := by
  rw [hExp_eq]
  exact ref38 a (ix4 b h i z)

theorem hProb_apply (b : Fin 2) (h : Fin 8) (i j : Fin 2048) :
    hProb (hExp a.s) (ix4 b h i j) = ((soft (a.score b h) i j : ℝ) : EReal) := by
  unfold hProb
  show Ideal.div (hExp a.s (ix4 b h i j)) (broadcastInDim S2x8x2048x2048 ![0, 1, 2, 3] bcast_S2x8x2048x1_S2x8x2048x2048_0_1_2_3 (hSum (hExp a.s)) (ix4 b h i j)) = _
  rw [column_apply, hSum_apply, hExp_apply]
  refine (div_real _ _ (tot_pos _ _ _).ne').trans (congrArg (fun r : ℝ => (r : EReal)) ?_)
  exact ex_div_tot _ _ _ _

/-- The product of values and probabilities. -/
abbrev dotOut := dot_S2x2048x8x128_S2x8x2048x2048_S2x8x128x2048_1_3_3_2_02_01

theorem out_lhs (b : Fin 2) (h : Fin 8) (d : Fin 128) (i : Fin 2048) (q : dotOut.contr.Idx) (k : Fin 2048) (hk : (q ⟨0, by decide⟩).val = k.val) :
    dotOut.lhsIdx (ix4 b h d i) q = ix4 b k h d := by
  funext x
  refine Fin.ext ?_
  match x with
  | ⟨0, _⟩ =>
    show (dotOut.lhsIdx (ix4 b h d i) q 0).val = b.val
    unfold DotDims.lhsIdx
    rw [dif_pos (show (0 : Fin S2x2048x8x128.rank) ∈ dotOut.lhsBatch by decide)]
    rfl
  | ⟨1, _⟩ => exact (dotOut.lhsIdx_val_of_single rfl (ix4 b h d i) q).trans hk
  | ⟨2, _⟩ =>
    show (dotOut.lhsIdx (ix4 b h d i) q 2).val = h.val
    unfold DotDims.lhsIdx
    rw [dif_pos (show (2 : Fin S2x2048x8x128.rank) ∈ dotOut.lhsBatch by decide)]
    rfl
  | ⟨3, _⟩ =>
    show (dotOut.lhsIdx (ix4 b h d i) q 3).val = d.val
    unfold DotDims.lhsIdx
    rw [dif_neg (show ¬(3 : Fin S2x2048x8x128.rank) ∈ dotOut.lhsBatch by decide),
      dif_pos (show (3 : Fin S2x2048x8x128.rank) ∈ dotOut.lhsNonContracting by decide)]
    rfl

theorem out_rhs (b : Fin 2) (h : Fin 8) (d : Fin 128) (i : Fin 2048) (q : dotOut.contr.Idx) (k : Fin 2048) (hk : (q ⟨0, by decide⟩).val = k.val) :
    dotOut.rhsIdx (ix4 b h d i) q = ix4 b h i k := by
  funext x
  refine Fin.ext ?_
  match x with
  | ⟨0, _⟩ =>
    show (dotOut.rhsIdx (ix4 b h d i) q 0).val = b.val
    unfold DotDims.rhsIdx
    rw [dif_pos (show (0 : Fin S2x8x2048x2048.rank) ∈ dotOut.rhsBatch by decide)]
    rfl
  | ⟨1, _⟩ =>
    show (dotOut.rhsIdx (ix4 b h d i) q 1).val = h.val
    unfold DotDims.rhsIdx
    rw [dif_pos (show (1 : Fin S2x8x2048x2048.rank) ∈ dotOut.rhsBatch by decide)]
    rfl
  | ⟨2, _⟩ =>
    show (dotOut.rhsIdx (ix4 b h d i) q 2).val = i.val
    unfold DotDims.rhsIdx
    rw [dif_neg (show ¬(2 : Fin S2x8x2048x2048.rank) ∈ dotOut.rhsBatch by decide),
      dif_pos (show (2 : Fin S2x8x2048x2048.rank) ∈ dotOut.rhsNonContracting by decide)]
    rfl
  | ⟨3, _⟩ => exact (dotOut.rhsIdx_val_of_single rfl (ix4 b h d i) q).trans hk

theorem dotOut_apply (x : FVec Ideal S2x2048x8x128 .f32) (y : FVec Ideal S2x8x2048x2048 .f32) (b : Fin 2) (h : Fin 8) (d : Fin 128) (i : Fin 2048) :
    Host.dotGeneral dotOut none x y (ix4 b h d i) = ∑ k : Fin 2048, x (ix4 b k h d) * y (ix4 b h i k) := by
  simp only [Host.dotGeneral]
  rw [Ideal.dotGeneral_apply, ← Equiv.sum_comp (contrEquiv1 dotOut 2048 rfl rfl).symm]
  refine Finset.sum_congr rfl fun k _ => ?_
  have hk := contrEquiv1_symm_val dotOut 2048 rfl rfl k
  rw [out_lhs b h d i _ k hk, out_rhs b h d i _ k hk]

theorem hOut_sum (x : FVec Ideal S2x2048x8x128 .f32) (y : FVec Ideal S2x8x2048x2048 .f32) (b : Fin 2) (t : Fin 2048) (h : Fin 8) (d : Fin 128) :
    hOut x y (ix4 b t h d) = ∑ k : Fin 2048, x (ix4 b k h d) * y (ix4 b h t k) := by
  unfold hOut
  refine (transpose_apply [0, 3, 1, 2] _ _ (ix4 b t h d) (ix4 b h d t) (fun x => match x with
    | ⟨0, _⟩ => rfl
    | ⟨1, _⟩ => rfl
    | ⟨2, _⟩ => rfl
    | ⟨3, _⟩ => rfl)).trans ?_
  exact dotOut_apply x y b h d t

theorem hOut_apply (b : Fin 2) (t : Fin 2048) (h : Fin 8) (d : Fin 128) :
    hOut (arr4 a.v) (hProb (hExp a.s)) (ix4 b t h d) = ((a.out b h t d : ℝ) : EReal) := by
  rw [hOut_sum]
  unfold Args.out
  rw [coe_sum]
  refine Finset.sum_congr rfl fun k _ => ?_
  rw [EReal.coe_mul, hProb_apply]
  rfl

theorem hLse_read (mx l : FVec Ideal S2x8x2048x1 .f32) (b : Fin 2) (t : Fin 2048) (h : Fin 8) (k : Fin 128) :
    hLse mx l (ix4 b t h k) = Ideal.div (mx (ix4 b h t 0) + Ideal.log (l (ix4 b h t 0))) ((Real.log 2 : ℝ) : EReal) := by
  have hc : broadcastInDim S2x8x2048x1 ![] bcast_S_S2x8x2048x1 hLog2 (ix4 b h t 0) = ((Real.log 2 : ℝ) : EReal) :=
    (broadcastInDim_apply _ bcast_S_S2x8x2048x1 _ (ix4 b h t 0) (fun x => x.elim0) (fun x => x.elim0)).trans (hLog2_apply _)
  unfold hLse
  generalize broadcastInDim S2x8x2048x1 ![] bcast_S_S2x8x2048x1 hLog2 = y at hc ⊢
  refine (broadcastInDim_apply _ bcast_S2x2048x8x1_S2x2048x8x128_0_1_2_3 _ (ix4 b t h k) (ix4 b t h 0) (fun x => match x with
    | ⟨0, _⟩ => by show b.val = if (2 : Nat) = 1 then 0 else b.val; rw [if_neg (by decide)]
    | ⟨1, _⟩ => by show t.val = if (2048 : Nat) = 1 then 0 else t.val; rw [if_neg (by decide)]
    | ⟨2, _⟩ => by show h.val = if (8 : Nat) = 1 then 0 else h.val; rw [if_neg (by decide)]
    | ⟨3, _⟩ => rfl)).trans ?_
  refine (transpose_apply [0, 2, 1, 3] _ _ (ix4 b t h 0) (ix4 b h t 0) (fun x => match x with
    | ⟨0, _⟩ => rfl
    | ⟨1, _⟩ => rfl
    | ⟨2, _⟩ => rfl
    | ⟨3, _⟩ => rfl)).trans ?_
  rw [← hc]
  rfl

theorem hLse_apply (b : Fin 2) (t : Fin 2048) (h : Fin 8) (k : Fin 128) :
    hLse (hMax a.s) (hSum (hExp a.s)) (ix4 b t h k) = ((a.lse2 b h t : ℝ) : EReal) := by
  unfold Args.lse2
  rw [hLse_read, hMax_apply, hSum_apply, Ideal.log_coe, if_neg (not_le.mpr (tot_pos _ _ _)), ← EReal.coe_add, div_real _ _ log_two_pos.ne']

end Cert.Flash
-- ==== Proof.Inputs.lean ====
/-
  The call's input blocks at real arguments: at the grid point of batch `b` and head `h` each block is that batch and
  head's slice of what the host prepared.
-/
module

public import proofs.«01_k».proof.Proof.HostValues
public import Idealize.ShloMosaic.Lib.Pipeline.ValueKit

@[expose] public section

noncomputable section

namespace Cert.Flash

open Idealize.ShloMosaic hiding ix2 ix3 ix4
open Idealize.ShloMosaic.ValueIdx Idealize.ShloMosaic.TcCoe Cert.KernelIdeal Cert.KernelIdeal.Gen

/-- An array of 2 sequences, 2048 positions, 8 heads and 256 numbers, laid as a matrix. -/
theorem wide_cast {α : Type} (x : S2x2048x8x256.Idx → α) (b : Fin 2) (t : Fin 2048) (h : Fin 8) (e : Fin 256) (r : Fin 4096) (k : Fin 2048)
    (hr : r.val = b.val * 2048 + t.val) (hk : k.val = h.val * 256 + e.val) :
    shapeCast S4096x2048 x shapeCasts_S2x2048x8x256_S4096x2048 (ix2 r k) = x (ix4 b t h e) :=
  shapeCast_apply x shapeCasts_S2x2048x8x256_S4096x2048 (ix2 r k) (ix4 b t h e) (by
    rw [Shape.rowMajor_val_four, Shape.rowMajor_val_two]
    show ((b.val * 2048 + t.val) * 8 + h.val) * 256 + e.val = r.val * 2048 + k.val
    omega)

theorem narrow_cast {α : Type} (x : S2x2048x8x128.Idx → α) (b : Fin 2) (t : Fin 2048) (h : Fin 8) (d : Fin 128) (r : Fin 4096) (k : Fin 1024)
    (hr : r.val = b.val * 2048 + t.val) (hk : k.val = h.val * 128 + d.val) :
    shapeCast S4096x1024 x shapeCasts_S2x2048x8x128_S4096x1024 (ix2 r k) = x (ix4 b t h d) :=
  shapeCast_apply x shapeCasts_S2x2048x8x128_S4096x1024 (ix2 r k) (ix4 b t h d) (by
    rw [Shape.rowMajor_val_four, Shape.rowMajor_val_two]
    show ((b.val * 2048 + t.val) * 8 + h.val) * 128 + d.val = r.val * 1024 + k.val
    omega)

/-- Batch and head of a grid point. -/
abbrev bOf (t : Fin cfg0.N) : Fin 2 := grid0.coords t 0
abbrev hOf (t : Fin cfg0.N) : Fin 8 := grid0.coords t 1

/-- Which block each window takes at a grid point. -/
theorem index_eq : (∀ t, win0_0.index t = ![(bOf t).val, (hOf t).val]) ∧ (∀ t, win0_1.index t = ![(bOf t).val, (hOf t).val])
    ∧ (∀ t, win0_2.index t = ![(bOf t).val, 2 * (hOf t).val + 1]) ∧ (∀ t, win0_3.index t = ![(bOf t).val, (hOf t).val])
    ∧ (∀ t, win0_4.index t = ![(bOf t).val, (hOf t).val]) ∧ (∀ t, win0_5.index t = ![(bOf t).val, (hOf t).val])
    ∧ (∀ t, win0_7.index t = ![(bOf t).val, (hOf t).val]) ∧ (∀ t, win0_8.index t = ![(bOf t).val, (hOf t).val])
    ∧ (∀ t, win0_9.index t = ![(bOf t).val, (hOf t).val]) := by
  decide +kernel

theorem row_lt (b : Fin 2) (x : Fin 2048) : b.val * 2048 + x.val < 4096 := by omega
theorem wide_lt (h : Fin 8) (y : Fin 256) : h.val * 256 + y.val < 2048 := by omega
theorem narrow_lt (h : Fin 8) (y : Fin 128) : h.val * 128 + y.val < 1024 := by omega
theorem odd_lt (h : Fin 8) (y : Fin 128) : h.val * 256 + (128 + y.val) < 2048 := by omega

/-- The memory holds the real arguments on a device. -/
structure Holds (m : (ℓ : Loc nD τ sig) → Buf (Elt Ideal) ℓ) (c : Dev nD) (a : Args) : Prop where
  h0 : m ((c : Thread nD τ).loc main_arg0) = (arr4 a.qn : FVec Ideal S2x2048x8x128 .f32)
  h1 : m ((c : Thread nD τ).loc main_arg1) = (arr4 a.qp : FVec Ideal S2x2048x8x64 .f32)
  h2 : m ((c : Thread nD τ).loc main_arg2) = (arr4 a.kn : FVec Ideal S2x2048x8x128 .f32)
  h3 : m ((c : Thread nD τ).loc main_arg3) = (arr3 a.kp : FVec Ideal S2x2048x64 .f32)
  h4 : m ((c : Thread nD τ).loc main_arg4) = (arr4 a.v : FVec Ideal S2x2048x8x128 .f32)
  h5 : m ((c : Thread nD τ).loc main_arg5) = (arr4 a.g : FVec Ideal S2x2048x8x128 .f32)

variable (m : (ℓ : Loc nD τ sig) → Buf (Elt Ideal) ℓ) (c : Dev nD) (a : Args)

theorem block0 (hm : Holds m c a) (t : Fin cfg0.N) : (iblk m c 0 t : S2048x256.Idx → EReal) = mat (a.q2 (bOf t) (hOf t)) := by
  refine eq_mat _ _ fun x y => ?_
  have hi : ((cfg0.win 0).blk t).view.emb (ix2 x y) = ix2 ⟨(bOf t).val * 2048 + x.val, row_lt _ x⟩ ⟨(hOf t).val * 256 + y.val, wide_lt _ y⟩ := by
    blk_ext [index_eq.1 t]
  show V m c main_v41 (((cfg0.win 0).blk t).view.emb (ix2 x y)) = _
  rw [hi, V_q, hm.h0, hm.h1]
  exact (wide_cast _ (bOf t) x (hOf t) y _ _ rfl rfl).trans (hQ_apply a _ _ _ _)

theorem block1 (hm : Holds m c a) (t : Fin cfg0.N) : (iblk m c 1 t : S2048x256.Idx → EReal) = mat (a.k2 (bOf t) (hOf t)) := by
  refine eq_mat _ _ fun x y => ?_
  have hi : ((cfg0.win 1).blk t).view.emb (ix2 x y) = ix2 ⟨(bOf t).val * 2048 + x.val, row_lt _ x⟩ ⟨(hOf t).val * 256 + y.val, wide_lt _ y⟩ := by
    blk_ext [index_eq.2.1 t]
  show V m c main_v43 (((cfg0.win 1).blk t).view.emb (ix2 x y)) = _
  rw [hi, V_k, hm.h2, hm.h3]
  exact (wide_cast _ (bOf t) x (hOf t) y _ _ rfl rfl).trans (hK_apply a _ _ _ _)

theorem block2 (hm : Holds m c a) (t : Fin cfg0.N) : (iblk m c 2 t : S2048x128.Idx → EReal) = mat (fun x d => a.v (bOf t) x (hOf t) d) := by
  refine eq_mat _ _ fun x y => ?_
  have hi : ((cfg0.win 2).blk t).view.emb (ix2 x y) = ix2 ⟨(bOf t).val * 2048 + x.val, row_lt _ x⟩ ⟨(hOf t).val * 256 + (128 + y.val), odd_lt _ y⟩ := by
    blk_ext [index_eq.2.2.1 t]
    show (2 * (hOf t).val + 1) * 128 + y.val = (hOf t).val * 256 + (128 + y.val)
    omega
  show V m c main_v45 (((cfg0.win 2).blk t).view.emb (ix2 x y)) = _
  rw [hi, V_kv, hm.h2, hm.h4]
  exact (wide_cast _ (bOf t) x (hOf t) ⟨128 + y.val, by omega⟩ _ _ rfl rfl).trans (hKV_apply a _ _ _ _)

theorem block3 (hm : Holds m c a) (t : Fin cfg0.N) : (iblk m c 3 t : S2048x128.Idx → EReal) = mat (a.out (bOf t) (hOf t)) := by
  refine eq_mat _ _ fun x y => ?_
  have hi : ((cfg0.win 3).blk t).view.emb (ix2 x y) = ix2 ⟨(bOf t).val * 2048 + x.val, row_lt _ x⟩ ⟨(hOf t).val * 128 + y.val, narrow_lt _ y⟩ := by
    blk_ext [index_eq.2.2.2.1 t]
  show V m c main_v47 (((cfg0.win 3).blk t).view.emb (ix2 x y)) = _
  rw [hi, V_o, hm.h0, hm.h1, hm.h2, hm.h3, hm.h4]
  exact (narrow_cast _ (bOf t) x (hOf t) y _ _ rfl rfl).trans (hOut_apply a _ _ _ _)

theorem block4 (hm : Holds m c a) (t : Fin cfg0.N) : (iblk m c 4 t : S2048x128.Idx → EReal) = mat (fun x d => a.g (bOf t) x (hOf t) d) := by
  refine eq_mat _ _ fun x y => ?_
  have hi : ((cfg0.win 4).blk t).view.emb (ix2 x y) = ix2 ⟨(bOf t).val * 2048 + x.val, row_lt _ x⟩ ⟨(hOf t).val * 128 + y.val, narrow_lt _ y⟩ := by
    blk_ext [index_eq.2.2.2.2.1 t]
  show V m c main_v49 (((cfg0.win 4).blk t).view.emb (ix2 x y)) = _
  rw [hi, V_do, hm.h5]
  exact (narrow_cast _ (bOf t) x (hOf t) y _ _ rfl rfl).trans rfl

theorem block5 (hm : Holds m c a) (t : Fin cfg0.N) : (iblk m c 5 t : S2048x128.Idx → EReal) = mat (fun x _ => a.lse2 (bOf t) (hOf t) x) := by
  refine eq_mat _ _ fun x y => ?_
  have hi : ((cfg0.win 5).blk t).view.emb (ix2 x y) = ix2 ⟨(bOf t).val * 2048 + x.val, row_lt _ x⟩ ⟨(hOf t).val * 128 + y.val, narrow_lt _ y⟩ := by
    blk_ext [index_eq.2.2.2.2.2.1 t]
  show V m c main_v50 (((cfg0.win 5).blk t).view.emb (ix2 x y)) = _
  rw [hi, V_lse, hm.h0, hm.h1, hm.h2, hm.h3]
  exact (narrow_cast _ (bOf t) x (hOf t) y _ _ rfl rfl).trans (hLse_apply a _ _ _ _)

end Cert.Flash
-- ==== Proof.Equation.lean ====
/-
  The equation: a block's gradients, from the arrays that the host prepares, are the reference's gradients.
-/
module

public import proofs.«01_k».proof.Proof.HostValues

@[expose] public section

noncomputable section

namespace Cert.Flash

variable (a : Args) (b : Fin 2) (h : Fin 8)

/-- The probabilities that a block computes from the log-sum-exp are the softmax of the scores. -/
theorem prob_args (i j : Fin 2048) : prob (a.q2 b h) (a.k2 b h) (fun x _ => a.lse2 b h x) j i = soft (a.score b h) i j := by
  refine prob_eq_soft (a.score b h) (rowMax (a.score b h)) _ _ _ i j ?_ rfl
  unfold Args.q2 Args.k2 Args.score
  have e : ∀ x, parts (a.kn b j h) (a.kp b j) x * (parts (a.qn b i h) (a.qp b i h) x * (scale / Real.log 2))
      = parts (a.qn b i h) (a.qp b i h) x * parts (a.kn b j h) (a.kp b j) x * (scale / Real.log 2) := fun x => by ring
  simp only [e]
  rw [← Finset.sum_mul, sum_parts, mul_div_assoc]

/-- The scores' gradient. -/
theorem dz_args (i j : Fin 2048) :
    dz (a.q2 b h) (a.k2 b h) (fun x d => a.v b x h d) (a.out b h) (fun x d => a.g b x h d) (fun x _ => a.lse2 b h x) j i
      = dScore (a.score b h) (a.dp b h) i j := by
  refine dz_eq (a.score b h) (a.dp b h) _ _ _ _ _ _ i j (fun k => prob_args a b h i k) (fun d => rfl) (fun k => rfl)

/-- The queries' gradient. -/
theorem gradQ_args : gradQ (a.q2 b h) (a.k2 b h) (fun x d => a.v b x h d) (a.out b h) (fun x d => a.g b x h d) (fun x _ => a.lse2 b h x) = a.dq b h := by
  funext i e
  unfold gradQ Args.dq
  exact Finset.sum_congr rfl fun j _ => by rw [dz_args]; rfl

/-- The keys' gradient. -/
theorem gradK_args : gradK (a.q2 b h) (a.k2 b h) (fun x d => a.v b x h d) (a.out b h) (fun x d => a.g b x h d) (fun x _ => a.lse2 b h x) = a.dk b h := by
  funext j e
  unfold gradK Args.dk
  rw [Finset.sum_mul]
  refine Finset.sum_congr rfl fun i _ => ?_
  rw [dz_args]
  unfold Args.q2
  have := log_two_pos.ne'
  field_simp

/-- The values' gradient. -/
theorem gradV_args : gradV (a.q2 b h) (a.k2 b h) (fun x d => a.g b x h d) (fun x _ => a.lse2 b h x) = a.dv b h := by
  funext j d
  unfold gradV Args.dv
  exact Finset.sum_congr rfl fun i _ => by rw [prob_args]

end Cert.Flash
-- ==== Proof.BlockRows.lean ====
/-
  The rows of the gradients' body: the log-sum's first column and the sums of output times cotangent, laid along the lanes.
-/
module

public import proofs.«01_k».proof.Proof.BlockSpec
public import proofs.«01_k».proof.Proof.Gen.KernelIdeal.Skeleton

@[expose] public section

namespace Cert.Flash

open Idealize.ShloMosaic Idealize.ShloMosaic.ValueIdx Idealize.ShloMosaic.TcCoe Cert.KernelIdeal Cert.KernelIdeal.Gen

/-- The log-sums of a tile's queries, as a row. -/
theorem row6_mat (X : Fin 512 → Fin 128 → ℝ) : k0_pay6 (F := Ideal) (mat X) = mat fun _ c => X c 0 := by
  unfold k0_pay6
  simp only [cast_mat]
  exact col_row X

/-- The log-sums of a tile's queries, as a row. -/
theorem row8_mat (X : Fin 512 → Fin 128 → ℝ) : k0_pay8 (F := Ideal) (mat X) = mat fun _ c => X c 0 := by
  unfold k0_pay8
  simp only [cast_mat]
  exact col_row X

/-- The log-sums of a tile's queries, as a row. -/
theorem row12_mat (X : Fin 512 → Fin 128 → ℝ) : k0_pay12 (F := Ideal) (mat X) = mat fun _ c => X c 0 := by
  unfold k0_pay12
  simp only [cast_mat]
  exact col_row X

/-- The log-sums of a tile's queries, as a row. -/
theorem row14_mat (X : Fin 512 → Fin 128 → ℝ) : k0_pay14 (F := Ideal) (mat X) = mat fun _ c => X c 0 := by
  unfold k0_pay14
  simp only [cast_mat]
  exact col_row X

/-- The sums of output times cotangent of a tile's queries, as a row. -/
theorem row5_mat (X Y : Fin 512 → Fin 128 → ℝ) : k0_pay5 (F := Ideal) (mat X) (mat Y) = mat fun _ c => ∑ d, X c d * Y c d := by
  unfold k0_pay5
  simp only [cast_mat, extf_mat, mulf_mat]
  exact sum_row _

/-- The sums of output times cotangent of a tile's queries, as a row. -/
theorem row7_mat (X Y : Fin 512 → Fin 128 → ℝ) : k0_pay7 (F := Ideal) (mat X) (mat Y) = mat fun _ c => ∑ d, X c d * Y c d := by
  unfold k0_pay7
  simp only [cast_mat, extf_mat, mulf_mat]
  exact sum_row _

/-- The sums of output times cotangent of a tile's queries, as a row. -/
theorem row13_mat (X Y : Fin 512 → Fin 128 → ℝ) : k0_pay13 (F := Ideal) (mat X) (mat Y) = mat fun _ c => ∑ d, X c d * Y c d := by
  unfold k0_pay13
  simp only [cast_mat, extf_mat, mulf_mat]
  exact sum_row _

/-- The sums of output times cotangent of a tile's queries, as a row. -/
theorem row11_mat (X Y : Fin 512 → Fin 128 → ℝ) : k0_pay11 (F := Ideal) (mat X) (mat Y) = mat fun _ c => ∑ d, X c d * Y c d := by
  unfold k0_pay11
  simp only [mulf_mat]
  exact sum_row _

/-- The probabilities of a tile on the diagonal, from its scores. -/
theorem diag22_mat (A : Fin 1 → Fin 512 → ℝ) (S : Fin 512 → Fin 512 → ℝ) :
    k0_pay22 (F := Ideal) (mat A) (mat S) = mat fun r c => if r ≤ c then (2 : ℝ) ^ (S r c - A 0 c) else 0 := by
  unfold k0_pay22
  simp only [row_mat]
  exact diag_mat _ _

/-- The probabilities of a tile on the diagonal, from its keys and queries. -/
theorem diag51_mat (A : Fin 1 → Fin 512 → ℝ) (K Q : Fin 512 → Fin 256 → ℝ) :
    k0_pay51 (F := Ideal) (mat A) (mat K) (mat Q)  = mat fun r c => if r ≤ c then (2 : ℝ) ^ ((∑ e, K r e * Q c e) - A 0 c) else 0 := by
  unfold k0_pay51 k0_pay46 k0_pay49
  simp only [cast_mat, dot_nt256, row_mat]
  exact diag_mat _ _

/-- The probabilities of a tile on the diagonal, from its keys and queries. -/
theorem diag95_mat (A : Fin 1 → Fin 512 → ℝ) (K Q : Fin 512 → Fin 256 → ℝ) :
    k0_pay95 (F := Ideal) (mat A) (mat K) (mat Q)  = mat fun r c => if r ≤ c then (2 : ℝ) ^ ((∑ e, K r e * Q c e) - A 0 c) else 0 := by
  unfold k0_pay95 k0_pay90 k0_pay93
  simp only [cast_mat, dot_nt256, row_mat]
  exact diag_mat _ _

/-- The probabilities of a tile on the diagonal, from its keys and queries. -/
theorem diag78_mat (A : Fin 1 → Fin 512 → ℝ) (K Q : Fin 512 → Fin 256 → ℝ) :
    k0_pay78 (F := Ideal) (mat A) (mat K) (mat Q) (constant S512x512 .f32 0x00000000#32) = mat fun r c => if r ≤ c then (2 : ℝ) ^ ((∑ e, K r e * Q c e) - A 0 c) else 0 := by
  unfold k0_pay78
  simp only [cast_mat, dot_nt256, row_mat]
  exact diag_mat _ _

end Cert.Flash
-- ==== Proof.BlockQ.lean ====
/-
  The block of the queries' gradient that one point of the grid leaves, as the gradient of BlockSpec: the stores of the body tile by
  tile, each tile's value opened down to sums of real numbers.
-/
module

public import proofs.«01_k».proof.Proof.BlockRows
public import proofs.«01_k».proof.Proof.Gen.KernelIdeal.Frame

@[expose] public section

set_option maxRecDepth 16384

noncomputable section

namespace Cert.Flash

open Idealize.ShloMosaic Idealize.ShloMosaic.ValueIdx Idealize.ShloMosaic.TcCoe Cert.KernelIdeal Cert.KernelIdeal.Gen

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S8x128 .f32) (harg8 : arg8.IsWhole) (arg9 : Memref sig .tc .vmem S2048x256 .f32) (harg9 : arg9.IsWhole) (arg10 : Memref sig .tc .vmem S2048x256 .bf16) (harg10 : arg10.IsWhole) (arg11 : Memref sig .tc .vmem S2048x128 .bf16) (harg11 : arg11.IsWhole)
    (Q K : Fin 2048 → Fin 256 → ℝ) (V O D : Fin 2048 → Fin 128 → ℝ) (L : Fin 2048 → Fin 128 → ℝ) (x6 : Vec Ideal S8x128 .f32)

/-- The block of the queries' gradient that a point of the grid leaves: it's added up in the output window itself. -/
theorem out7_eq : out0_A_7 c i arg2 harg2 arg3 harg3 arg4 harg4 arg5 harg5 arg6 harg6 arg7 harg7 arg8 harg8 arg9 harg9 arg10 harg10 arg11 harg11 (mat Q) (mat K) (mat V) (mat O) (mat D) (mat L) x6 = mat (gradQ Q K V O D L) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 (mat Q) (mat K) (mat V) (mat O) (mat D) (mat L) x6)]
  unfold kernelRun0_A
  dsimp only
  sl_unfold_words
  simp only [View.readAt_eq_ld, harg2.read_unread, harg3.read_unread, harg4.read_unread, harg5.read_unread, harg6.read_unread, harg7.read_unread,
    ld_bf16 (n := 128) 0 (o := 0) rfl, ld_bf16 (n := 256) 0 (o := 0) rfl, ld_bf16 (n := 128) 1 (o := 512) rfl, ld_bf16 (n := 256) 1 (o := 512) rfl,
      ld_bf16 (n := 128) 2 (o := 1024) rfl, ld_bf16 (n := 256) 2 (o := 1024) rfl, ld_bf16 (n := 128) 3 (o := 1536) rfl,
      ld_bf16 (n := 256) 3 (o := 1536) rfl, ld_f32 (n := 128) 0 (o := 0) rfl, ld_f32 (n := 128) 1 (o := 512) rfl, ld_f32 (n := 128) 2 (o := 1024) rfl,
      ld_f32 (n := 128) 3 (o := 1536) rfl]
  refine eq_mat _ _ fun a b => ?_
  obtain ⟨k, r, rfl⟩ := exists_blk a
  have hk : k = 0 ∨ k = 1 ∨ k = 2 ∨ k = 3 := by omega
  rcases hk with rfl | rfl | rfl | rfl
  · simp only [canon_hit (n := 256) (e := .f32) 0 (o := 0) rfl, canon_miss (n := 256) (e := .f32) 1 0 (o := 512) rfl (by decide),
      canon_miss (n := 256) (e := .f32) 2 0 (o := 1024) rfl (by decide), canon_miss (n := 256) (e := .f32) 3 0 (o := 1536) rfl (by decide)]
    try simp (disch := decide) only [View.readCov_cons_toLoadRect, View.readCov_skip]
    simp only [k0_pay1, k0_pay2, k0_pay3, k0_pay4, k0_pay9, k0_pay10, k0_pay15, k0_pay16, k0_pay17, k0_pay18, k0_pay19, k0_pay20, k0_pay21, k0_pay23,
      k0_pay24, k0_pay25, k0_pay26, k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48, k0_pay49, k0_pay50, k0_pay52,
      k0_pay53, k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay79, k0_pay80, k0_pay81,
      k0_pay82, k0_pay83, k0_pay84, k0_pay85, k0_pay86, k0_pay87, k0_pay88, k0_pay89, k0_pay90, k0_pay91, k0_pay92, k0_pay93, k0_pay94, k0_pay96,
      row6_mat, row8_mat, row12_mat, row14_mat, row5_mat, row7_mat, row13_mat, row11_mat, diag22_mat, diag51_mat, diag78_mat, diag95_mat,
      addf_mat, subf_mat, mulf_mat, exp2_mat, truncf_mat, extf_mat, cast_mat, zero_mat, ln2_mat, dot_nt256, dot_nt128, dot_nn128, dot_nn256, dot_tn256, row_mat, mat_ix2]
    simp only [gradQ, sum_tiles, dz, prob_eq]
    simp (disch := decide) only [prob_lt, prob_gt]
    simp only [zero_mul, Finset.sum_const_zero, add_zero, zero_add]
  · simp only [canon_hit (n := 256) (e := .f32) 1 (o := 512) rfl, canon_miss (n := 256) (e := .f32) 0 1 (o := 0) rfl (by decide),
      canon_miss (n := 256) (e := .f32) 2 1 (o := 1024) rfl (by decide), canon_miss (n := 256) (e := .f32) 3 1 (o := 1536) rfl (by decide)]
    simp (disch := decide) only [View.readCov_cons_toLoadRect, View.readCov_skip]
    simp only [k0_pay1, k0_pay2, k0_pay3, k0_pay4, k0_pay9, k0_pay10, k0_pay15, k0_pay16, k0_pay17, k0_pay18, k0_pay19, k0_pay20, k0_pay21, k0_pay23,
      k0_pay24, k0_pay25, k0_pay26, k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48, k0_pay49, k0_pay50, k0_pay52,
      k0_pay53, k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay79, k0_pay80, k0_pay81,
      k0_pay82, k0_pay83, k0_pay84, k0_pay85, k0_pay86, k0_pay87, k0_pay88, k0_pay89, k0_pay90, k0_pay91, k0_pay92, k0_pay93, k0_pay94, k0_pay96,
      row6_mat, row8_mat, row12_mat, row14_mat, row5_mat, row7_mat, row13_mat, row11_mat, diag22_mat, diag51_mat, diag78_mat, diag95_mat,
      addf_mat, subf_mat, mulf_mat, exp2_mat, truncf_mat, extf_mat, cast_mat, zero_mat, ln2_mat, dot_nt256, dot_nt128, dot_nn128, dot_nn256, dot_tn256, row_mat, mat_ix2]
    simp only [gradQ, sum_tiles, dz, prob_eq]
    simp (disch := decide) only [prob_lt, prob_gt]
    simp only [zero_mul, Finset.sum_const_zero, add_zero, zero_add]
  · simp only [canon_hit (n := 256) (e := .f32) 2 (o := 1024) rfl, canon_miss (n := 256) (e := .f32) 0 2 (o := 0) rfl (by decide),
      canon_miss (n := 256) (e := .f32) 1 2 (o := 512) rfl (by decide), canon_miss (n := 256) (e := .f32) 3 2 (o := 1536) rfl (by decide)]
    simp (disch := decide) only [View.readCov_cons_toLoadRect, View.readCov_skip]
    simp only [k0_pay1, k0_pay2, k0_pay3, k0_pay4, k0_pay9, k0_pay10, k0_pay15, k0_pay16, k0_pay17, k0_pay18, k0_pay19, k0_pay20, k0_pay21, k0_pay23,
      k0_pay24, k0_pay25, k0_pay26, k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48, k0_pay49, k0_pay50, k0_pay52,
      k0_pay53, k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay79, k0_pay80, k0_pay81,
      k0_pay82, k0_pay83, k0_pay84, k0_pay85, k0_pay86, k0_pay87, k0_pay88, k0_pay89, k0_pay90, k0_pay91, k0_pay92, k0_pay93, k0_pay94, k0_pay96,
      row6_mat, row8_mat, row12_mat, row14_mat, row5_mat, row7_mat, row13_mat, row11_mat, diag22_mat, diag51_mat, diag78_mat, diag95_mat,
      addf_mat, subf_mat, mulf_mat, exp2_mat, truncf_mat, extf_mat, cast_mat, zero_mat, ln2_mat, dot_nt256, dot_nt128, dot_nn128, dot_nn256, dot_tn256, row_mat, mat_ix2]
    simp only [gradQ, sum_tiles, dz, prob_eq]
    simp (disch := decide) only [prob_lt, prob_gt]
    simp only [zero_mul, Finset.sum_const_zero, add_zero, zero_add]
  · simp only [canon_hit (n := 256) (e := .f32) 3 (o := 1536) rfl, canon_miss (n := 256) (e := .f32) 0 3 (o := 0) rfl (by decide),
      canon_miss (n := 256) (e := .f32) 1 3 (o := 512) rfl (by decide), canon_miss (n := 256) (e := .f32) 2 3 (o := 1024) rfl (by decide)]
    simp (disch := decide) only [View.readCov_cons_toLoadRect, View.readCov_skip]
    simp only [k0_pay1, k0_pay2, k0_pay3, k0_pay4, k0_pay9, k0_pay10, k0_pay15, k0_pay16, k0_pay17, k0_pay18, k0_pay19, k0_pay20, k0_pay21, k0_pay23,
      k0_pay24, k0_pay25, k0_pay26, k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48, k0_pay49, k0_pay50, k0_pay52,
      k0_pay53, k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay79, k0_pay80, k0_pay81,
      k0_pay82, k0_pay83, k0_pay84, k0_pay85, k0_pay86, k0_pay87, k0_pay88, k0_pay89, k0_pay90, k0_pay91, k0_pay92, k0_pay93, k0_pay94, k0_pay96,
      row6_mat, row8_mat, row12_mat, row14_mat, row5_mat, row7_mat, row13_mat, row11_mat, diag22_mat, diag51_mat, diag78_mat, diag95_mat,
      addf_mat, subf_mat, mulf_mat, exp2_mat, truncf_mat, extf_mat, cast_mat, zero_mat, ln2_mat, dot_nt256, dot_nt128, dot_nn128, dot_nn256, dot_tn256, row_mat, mat_ix2]
    simp only [gradQ, sum_tiles, dz, prob_eq]
    simp (disch := decide) only [prob_lt, prob_gt]
    try simp only [zero_mul, Finset.sum_const_zero, add_zero, zero_add]

end Cert.Flash
-- ==== Proof.BlockK.lean ====
/-
  The block of the keys' gradient that one point of the grid leaves, as the gradient of BlockSpec: the stores of the body tile by
  tile, each tile's value opened down to sums of real numbers.
-/
module

public import proofs.«01_k».proof.Proof.BlockRows
public import proofs.«01_k».proof.Proof.Gen.KernelIdeal.Frame

@[expose] public section

set_option maxRecDepth 16384

noncomputable section

namespace Cert.Flash

open Idealize.ShloMosaic Idealize.ShloMosaic.ValueIdx Idealize.ShloMosaic.TcCoe Cert.KernelIdeal Cert.KernelIdeal.Gen

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S8x128 .f32) (harg8 : arg8.IsWhole) (arg9 : Memref sig .tc .vmem S2048x256 .f32) (harg9 : arg9.IsWhole) (arg10 : Memref sig .tc .vmem S2048x256 .bf16) (harg10 : arg10.IsWhole) (arg11 : Memref sig .tc .vmem S2048x128 .bf16) (harg11 : arg11.IsWhole)
    (Q K : Fin 2048 → Fin 256 → ℝ) (V O D : Fin 2048 → Fin 128 → ℝ) (L : Fin 2048 → Fin 128 → ℝ) (x6 : Vec Ideal S8x128 .f32)

/-- The block of the keys' gradient that a point of the grid leaves. -/
theorem out8_eq : out0_A_8 c i arg2 harg2 arg3 harg3 arg4 harg4 arg5 harg5 arg6 harg6 arg7 harg7 arg8 harg8 arg9 harg9 arg10 harg10 arg11 harg11 (mat Q) (mat K) (mat V) (mat O) (mat D) (mat L) x6 = mat (gradK Q K V O D L) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 (mat Q) (mat K) (mat V) (mat O) (mat D) (mat L) x6)]
  unfold kernelRun0_A
  dsimp only
  sl_unfold_words
  simp only [View.readAt_eq_ld, harg2.read_unread, harg3.read_unread, harg4.read_unread, harg5.read_unread, harg6.read_unread, harg7.read_unread,
    ld_bf16 (n := 128) 0 (o := 0) rfl, ld_bf16 (n := 256) 0 (o := 0) rfl, ld_bf16 (n := 128) 1 (o := 512) rfl, ld_bf16 (n := 256) 1 (o := 512) rfl,
      ld_bf16 (n := 128) 2 (o := 1024) rfl, ld_bf16 (n := 256) 2 (o := 1024) rfl, ld_bf16 (n := 128) 3 (o := 1536) rfl,
      ld_bf16 (n := 256) 3 (o := 1536) rfl, ld_f32 (n := 128) 0 (o := 0) rfl, ld_f32 (n := 128) 1 (o := 512) rfl, ld_f32 (n := 128) 2 (o := 1024) rfl,
      ld_f32 (n := 128) 3 (o := 1536) rfl]
  refine eq_mat _ _ fun a b => ?_
  obtain ⟨k, r, rfl⟩ := exists_blk a
  have hk : k = 0 ∨ k = 1 ∨ k = 2 ∨ k = 3 := by omega
  rcases hk with rfl | rfl | rfl | rfl
  · simp only [canon_hit (n := 256) (e := .bf16) 0 (o := 0) rfl, canon_miss (n := 256) (e := .bf16) 1 0 (o := 512) rfl (by decide),
      canon_miss (n := 256) (e := .bf16) 2 0 (o := 1024) rfl (by decide), canon_miss (n := 256) (e := .bf16) 3 0 (o := 1536) rfl (by decide)]
    simp only [k0_pay1, k0_pay2, k0_pay3, k0_pay4, k0_pay9, k0_pay10, k0_pay15, k0_pay16, k0_pay17, k0_pay18, k0_pay19, k0_pay20, k0_pay21, k0_pay23,
      k0_pay24, k0_pay25, k0_pay26, k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48, k0_pay49, k0_pay50, k0_pay52,
      k0_pay53, k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay79, k0_pay80, k0_pay81,
      k0_pay82, k0_pay83, k0_pay84, k0_pay85, k0_pay86, k0_pay87, k0_pay88, k0_pay89, k0_pay90, k0_pay91, k0_pay92, k0_pay93, k0_pay94, k0_pay96,
      row6_mat, row8_mat, row12_mat, row14_mat, row5_mat, row7_mat, row13_mat, row11_mat, diag22_mat, diag51_mat, diag78_mat, diag95_mat,
      addf_mat, subf_mat, mulf_mat, exp2_mat, truncf_mat, extf_mat, cast_mat, zero_mat, ln2_mat, dot_nt256, dot_nt128, dot_nn128, dot_nn256, dot_tn256, row_mat, mat_ix2]
    simp only [gradK, sum_tiles, dz, prob_eq]
    simp (disch := decide) only [prob_lt, prob_gt]
    simp only [zero_mul, Finset.sum_const_zero, add_zero, zero_add]
  · simp only [canon_hit (n := 256) (e := .bf16) 1 (o := 512) rfl, canon_miss (n := 256) (e := .bf16) 0 1 (o := 0) rfl (by decide),
      canon_miss (n := 256) (e := .bf16) 2 1 (o := 1024) rfl (by decide), canon_miss (n := 256) (e := .bf16) 3 1 (o := 1536) rfl (by decide)]
    simp only [k0_pay1, k0_pay2, k0_pay3, k0_pay4, k0_pay9, k0_pay10, k0_pay15, k0_pay16, k0_pay17, k0_pay18, k0_pay19, k0_pay20, k0_pay21, k0_pay23,
      k0_pay24, k0_pay25, k0_pay26, k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48, k0_pay49, k0_pay50, k0_pay52,
      k0_pay53, k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay79, k0_pay80, k0_pay81,
      k0_pay82, k0_pay83, k0_pay84, k0_pay85, k0_pay86, k0_pay87, k0_pay88, k0_pay89, k0_pay90, k0_pay91, k0_pay92, k0_pay93, k0_pay94, k0_pay96,
      row6_mat, row8_mat, row12_mat, row14_mat, row5_mat, row7_mat, row13_mat, row11_mat, diag22_mat, diag51_mat, diag78_mat, diag95_mat,
      addf_mat, subf_mat, mulf_mat, exp2_mat, truncf_mat, extf_mat, cast_mat, zero_mat, ln2_mat, dot_nt256, dot_nt128, dot_nn128, dot_nn256, dot_tn256, row_mat, mat_ix2]
    simp only [gradK, sum_tiles, dz, prob_eq]
    simp (disch := decide) only [prob_lt, prob_gt]
    simp only [zero_mul, Finset.sum_const_zero, add_zero, zero_add]
  · simp only [canon_hit (n := 256) (e := .bf16) 2 (o := 1024) rfl, canon_miss (n := 256) (e := .bf16) 0 2 (o := 0) rfl (by decide),
      canon_miss (n := 256) (e := .bf16) 1 2 (o := 512) rfl (by decide), canon_miss (n := 256) (e := .bf16) 3 2 (o := 1536) rfl (by decide)]
    simp only [k0_pay1, k0_pay2, k0_pay3, k0_pay4, k0_pay9, k0_pay10, k0_pay15, k0_pay16, k0_pay17, k0_pay18, k0_pay19, k0_pay20, k0_pay21, k0_pay23,
      k0_pay24, k0_pay25, k0_pay26, k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48, k0_pay49, k0_pay50, k0_pay52,
      k0_pay53, k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay79, k0_pay80, k0_pay81,
      k0_pay82, k0_pay83, k0_pay84, k0_pay85, k0_pay86, k0_pay87, k0_pay88, k0_pay89, k0_pay90, k0_pay91, k0_pay92, k0_pay93, k0_pay94, k0_pay96,
      row6_mat, row8_mat, row12_mat, row14_mat, row5_mat, row7_mat, row13_mat, row11_mat, diag22_mat, diag51_mat, diag78_mat, diag95_mat,
      addf_mat, subf_mat, mulf_mat, exp2_mat, truncf_mat, extf_mat, cast_mat, zero_mat, ln2_mat, dot_nt256, dot_nt128, dot_nn128, dot_nn256, dot_tn256, row_mat, mat_ix2]
    simp only [gradK, sum_tiles, dz, prob_eq]
    simp (disch := decide) only [prob_lt, prob_gt]
    simp only [zero_mul, Finset.sum_const_zero, add_zero, zero_add]
  · simp only [canon_hit (n := 256) (e := .bf16) 3 (o := 1536) rfl, canon_miss (n := 256) (e := .bf16) 0 3 (o := 0) rfl (by decide),
      canon_miss (n := 256) (e := .bf16) 1 3 (o := 512) rfl (by decide), canon_miss (n := 256) (e := .bf16) 2 3 (o := 1024) rfl (by decide)]
    simp only [k0_pay1, k0_pay2, k0_pay3, k0_pay4, k0_pay9, k0_pay10, k0_pay15, k0_pay16, k0_pay17, k0_pay18, k0_pay19, k0_pay20, k0_pay21, k0_pay23,
      k0_pay24, k0_pay25, k0_pay26, k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48, k0_pay49, k0_pay50, k0_pay52,
      k0_pay53, k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay79, k0_pay80, k0_pay81,
      k0_pay82, k0_pay83, k0_pay84, k0_pay85, k0_pay86, k0_pay87, k0_pay88, k0_pay89, k0_pay90, k0_pay91, k0_pay92, k0_pay93, k0_pay94, k0_pay96,
      row6_mat, row8_mat, row12_mat, row14_mat, row5_mat, row7_mat, row13_mat, row11_mat, diag22_mat, diag51_mat, diag78_mat, diag95_mat,
      addf_mat, subf_mat, mulf_mat, exp2_mat, truncf_mat, extf_mat, cast_mat, zero_mat, ln2_mat, dot_nt256, dot_nt128, dot_nn128, dot_nn256, dot_tn256, row_mat, mat_ix2]
    simp only [gradK, sum_tiles, dz, prob_eq]
    simp (disch := decide) only [prob_lt, prob_gt]
    simp only [zero_mul, Finset.sum_const_zero, add_zero, zero_add]

end Cert.Flash
-- ==== Proof.BlockV.lean ====
/-
  The block of the values' gradient that one point of the grid leaves, as the gradient of BlockSpec: the stores of the body tile by
  tile, each tile's value opened down to sums of real numbers.
-/
module

public import proofs.«01_k».proof.Proof.BlockRows
public import proofs.«01_k».proof.Proof.Gen.KernelIdeal.Frame

@[expose] public section

set_option maxRecDepth 16384

noncomputable section

namespace Cert.Flash

open Idealize.ShloMosaic Idealize.ShloMosaic.ValueIdx Idealize.ShloMosaic.TcCoe Cert.KernelIdeal Cert.KernelIdeal.Gen

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S8x128 .f32) (harg8 : arg8.IsWhole) (arg9 : Memref sig .tc .vmem S2048x256 .f32) (harg9 : arg9.IsWhole) (arg10 : Memref sig .tc .vmem S2048x256 .bf16) (harg10 : arg10.IsWhole) (arg11 : Memref sig .tc .vmem S2048x128 .bf16) (harg11 : arg11.IsWhole)
    (Q K : Fin 2048 → Fin 256 → ℝ) (V O D : Fin 2048 → Fin 128 → ℝ) (L : Fin 2048 → Fin 128 → ℝ) (x6 : Vec Ideal S8x128 .f32)

/-- The block of the values' gradient that a point of the grid leaves. -/
theorem out9_eq : out0_A_9 c i arg2 harg2 arg3 harg3 arg4 harg4 arg5 harg5 arg6 harg6 arg7 harg7 arg8 harg8 arg9 harg9 arg10 harg10 arg11 harg11 (mat Q) (mat K) (mat V) (mat O) (mat D) (mat L) x6 = mat (gradV Q K D L) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 (mat Q) (mat K) (mat V) (mat O) (mat D) (mat L) x6)]
  unfold kernelRun0_A
  dsimp only
  sl_unfold_words
  simp only [View.readAt_eq_ld, harg2.read_unread, harg3.read_unread, harg4.read_unread, harg5.read_unread, harg6.read_unread, harg7.read_unread,
    ld_bf16 (n := 128) 0 (o := 0) rfl, ld_bf16 (n := 256) 0 (o := 0) rfl, ld_bf16 (n := 128) 1 (o := 512) rfl, ld_bf16 (n := 256) 1 (o := 512) rfl,
      ld_bf16 (n := 128) 2 (o := 1024) rfl, ld_bf16 (n := 256) 2 (o := 1024) rfl, ld_bf16 (n := 128) 3 (o := 1536) rfl,
      ld_bf16 (n := 256) 3 (o := 1536) rfl, ld_f32 (n := 128) 0 (o := 0) rfl, ld_f32 (n := 128) 1 (o := 512) rfl, ld_f32 (n := 128) 2 (o := 1024) rfl,
      ld_f32 (n := 128) 3 (o := 1536) rfl]
  refine eq_mat _ _ fun a b => ?_
  obtain ⟨k, r, rfl⟩ := exists_blk a
  have hk : k = 0 ∨ k = 1 ∨ k = 2 ∨ k = 3 := by omega
  rcases hk with rfl | rfl | rfl | rfl
  · simp only [canon_hit (n := 128) (e := .bf16) 0 (o := 0) rfl, canon_miss (n := 128) (e := .bf16) 1 0 (o := 512) rfl (by decide),
      canon_miss (n := 128) (e := .bf16) 2 0 (o := 1024) rfl (by decide), canon_miss (n := 128) (e := .bf16) 3 0 (o := 1536) rfl (by decide)]
    simp only [k0_pay1, k0_pay2, k0_pay3, k0_pay4, k0_pay9, k0_pay10, k0_pay15, k0_pay16, k0_pay17, k0_pay18, k0_pay19, k0_pay20, k0_pay21, k0_pay23,
      k0_pay24, k0_pay25, k0_pay26, k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48, k0_pay49, k0_pay50, k0_pay52,
      k0_pay53, k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay79, k0_pay80, k0_pay81,
      k0_pay82, k0_pay83, k0_pay84, k0_pay85, k0_pay86, k0_pay87, k0_pay88, k0_pay89, k0_pay90, k0_pay91, k0_pay92, k0_pay93, k0_pay94, k0_pay96,
      row6_mat, row8_mat, row12_mat, row14_mat, row5_mat, row7_mat, row13_mat, row11_mat, diag22_mat, diag51_mat, diag78_mat, diag95_mat,
      addf_mat, subf_mat, mulf_mat, exp2_mat, truncf_mat, extf_mat, cast_mat, zero_mat, ln2_mat, dot_nt256, dot_nt128, dot_nn128, dot_nn256, dot_tn256, row_mat, mat_ix2]
    simp only [gradV, sum_tiles, dz, prob_eq]
    simp (disch := decide) only [prob_lt, prob_gt]
    simp only [zero_mul, Finset.sum_const_zero, add_zero, zero_add]
  · simp only [canon_hit (n := 128) (e := .bf16) 1 (o := 512) rfl, canon_miss (n := 128) (e := .bf16) 0 1 (o := 0) rfl (by decide),
      canon_miss (n := 128) (e := .bf16) 2 1 (o := 1024) rfl (by decide), canon_miss (n := 128) (e := .bf16) 3 1 (o := 1536) rfl (by decide)]
    simp only [k0_pay1, k0_pay2, k0_pay3, k0_pay4, k0_pay9, k0_pay10, k0_pay15, k0_pay16, k0_pay17, k0_pay18, k0_pay19, k0_pay20, k0_pay21, k0_pay23,
      k0_pay24, k0_pay25, k0_pay26, k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48, k0_pay49, k0_pay50, k0_pay52,
      k0_pay53, k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay79, k0_pay80, k0_pay81,
      k0_pay82, k0_pay83, k0_pay84, k0_pay85, k0_pay86, k0_pay87, k0_pay88, k0_pay89, k0_pay90, k0_pay91, k0_pay92, k0_pay93, k0_pay94, k0_pay96,
      row6_mat, row8_mat, row12_mat, row14_mat, row5_mat, row7_mat, row13_mat, row11_mat, diag22_mat, diag51_mat, diag78_mat, diag95_mat,
      addf_mat, subf_mat, mulf_mat, exp2_mat, truncf_mat, extf_mat, cast_mat, zero_mat, ln2_mat, dot_nt256, dot_nt128, dot_nn128, dot_nn256, dot_tn256, row_mat, mat_ix2]
    simp only [gradV, sum_tiles, dz, prob_eq]
    simp (disch := decide) only [prob_lt, prob_gt]
    simp only [zero_mul, Finset.sum_const_zero, add_zero, zero_add]
  · simp only [canon_hit (n := 128) (e := .bf16) 2 (o := 1024) rfl, canon_miss (n := 128) (e := .bf16) 0 2 (o := 0) rfl (by decide),
      canon_miss (n := 128) (e := .bf16) 1 2 (o := 512) rfl (by decide), canon_miss (n := 128) (e := .bf16) 3 2 (o := 1536) rfl (by decide)]
    simp only [k0_pay1, k0_pay2, k0_pay3, k0_pay4, k0_pay9, k0_pay10, k0_pay15, k0_pay16, k0_pay17, k0_pay18, k0_pay19, k0_pay20, k0_pay21, k0_pay23,
      k0_pay24, k0_pay25, k0_pay26, k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48, k0_pay49, k0_pay50, k0_pay52,
      k0_pay53, k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay79, k0_pay80, k0_pay81,
      k0_pay82, k0_pay83, k0_pay84, k0_pay85, k0_pay86, k0_pay87, k0_pay88, k0_pay89, k0_pay90, k0_pay91, k0_pay92, k0_pay93, k0_pay94, k0_pay96,
      row6_mat, row8_mat, row12_mat, row14_mat, row5_mat, row7_mat, row13_mat, row11_mat, diag22_mat, diag51_mat, diag78_mat, diag95_mat,
      addf_mat, subf_mat, mulf_mat, exp2_mat, truncf_mat, extf_mat, cast_mat, zero_mat, ln2_mat, dot_nt256, dot_nt128, dot_nn128, dot_nn256, dot_tn256, row_mat, mat_ix2]
    simp only [gradV, sum_tiles, dz, prob_eq]
    simp (disch := decide) only [prob_lt, prob_gt]
    simp only [zero_mul, Finset.sum_const_zero, add_zero, zero_add]
  · simp only [canon_hit (n := 128) (e := .bf16) 3 (o := 1536) rfl, canon_miss (n := 128) (e := .bf16) 0 3 (o := 0) rfl (by decide),
      canon_miss (n := 128) (e := .bf16) 1 3 (o := 512) rfl (by decide), canon_miss (n := 128) (e := .bf16) 2 3 (o := 1024) rfl (by decide)]
    simp only [k0_pay1, k0_pay2, k0_pay3, k0_pay4, k0_pay9, k0_pay10, k0_pay15, k0_pay16, k0_pay17, k0_pay18, k0_pay19, k0_pay20, k0_pay21, k0_pay23,
      k0_pay24, k0_pay25, k0_pay26, k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48, k0_pay49, k0_pay50, k0_pay52,
      k0_pay53, k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay79, k0_pay80, k0_pay81,
      k0_pay82, k0_pay83, k0_pay84, k0_pay85, k0_pay86, k0_pay87, k0_pay88, k0_pay89, k0_pay90, k0_pay91, k0_pay92, k0_pay93, k0_pay94, k0_pay96,
      row6_mat, row8_mat, row12_mat, row14_mat, row5_mat, row7_mat, row13_mat, row11_mat, diag22_mat, diag51_mat, diag78_mat, diag95_mat,
      addf_mat, subf_mat, mulf_mat, exp2_mat, truncf_mat, extf_mat, cast_mat, zero_mat, ln2_mat, dot_nt256, dot_nt128, dot_nn128, dot_nn256, dot_tn256, row_mat, mat_ix2]
    simp only [gradV, sum_tiles, dz, prob_eq]
    simp (disch := decide) only [prob_lt, prob_gt]
    simp only [zero_mul, Finset.sum_const_zero, add_zero, zero_add]

end Cert.Flash
-- ==== Proof.Outputs.lean ====
/-
  The call's three result arrays at real arguments: each grid point writes one batch and head's block of gradients, the
  blocks cover the arrays, and what they hold is what the reference computes.
-/
module

public import proofs.«01_k».proof.Proof.Inputs
public import proofs.«01_k».proof.Proof.Equation
public import proofs.«01_k».proof.Proof.BlockQ
public import proofs.«01_k».proof.Proof.BlockK
public import proofs.«01_k».proof.Proof.BlockV

@[expose] public section

noncomputable section

namespace Cert.Flash

open Idealize.ShloMosaic hiding ix2 ix3 ix4
open Idealize.ShloMosaic.ValueIdx Idealize.ShloMosaic.TcCoe Cert.KernelIdeal Cert.KernelIdeal.Gen

variable (m : (ℓ : Loc nD τ sig) → Buf (Elt Ideal) ℓ) (c : Dev nD) (a : Args) (hm : Holds m c a) (t : Fin cfg0.N)
include hm

/-- What a grid point leaves in the queries' gradient block. -/
theorem left7 : ((outsAt0 m c t).1 : S2048x256.Idx → EReal) = mat (a.dq (bOf t) (hOf t)) := by
  have h0 := block0 m c a hm t
  have h1 := block1 m c a hm t
  have h2 := block2 m c a hm t
  have h3 := block3 m c a hm t
  have h4 := block4 m c a hm t
  have h5 := block5 m c a hm t
  unfold outsAt0
  dsimp only
  generalize iblk m c 0 t = x0 at h0 ⊢
  generalize iblk m c 1 t = x1 at h1 ⊢
  generalize iblk m c 2 t = x2 at h2 ⊢
  generalize iblk m c 3 t = x3 at h3 ⊢
  generalize iblk m c 4 t = x4 at h4 ⊢
  generalize iblk m c 5 t = x5 at h5 ⊢
  subst h0 h1 h2 h3 h4 h5
  exact (out7_eq ..).trans (congrArg mat (gradQ_args a _ _))

/-- What a grid point leaves in the keys' gradient block. -/
theorem left8 : ((outsAt0 m c t).2.1 : S2048x256.Idx → EReal) = mat (a.dk (bOf t) (hOf t)) := by
  have h0 := block0 m c a hm t
  have h1 := block1 m c a hm t
  have h2 := block2 m c a hm t
  have h3 := block3 m c a hm t
  have h4 := block4 m c a hm t
  have h5 := block5 m c a hm t
  unfold outsAt0
  dsimp only
  generalize iblk m c 0 t = x0 at h0 ⊢
  generalize iblk m c 1 t = x1 at h1 ⊢
  generalize iblk m c 2 t = x2 at h2 ⊢
  generalize iblk m c 3 t = x3 at h3 ⊢
  generalize iblk m c 4 t = x4 at h4 ⊢
  generalize iblk m c 5 t = x5 at h5 ⊢
  subst h0 h1 h2 h3 h4 h5
  exact (out8_eq ..).trans (congrArg mat (gradK_args a _ _))

/-- What a grid point leaves in the values' gradient block. -/
theorem left9 : ((outsAt0 m c t).2.2 : S2048x128.Idx → EReal) = mat (a.dv (bOf t) (hOf t)) := by
  have h0 := block0 m c a hm t
  have h1 := block1 m c a hm t
  have h2 := block2 m c a hm t
  have h3 := block3 m c a hm t
  have h4 := block4 m c a hm t
  have h5 := block5 m c a hm t
  unfold outsAt0
  dsimp only
  generalize iblk m c 0 t = x0 at h0 ⊢
  generalize iblk m c 1 t = x1 at h1 ⊢
  generalize iblk m c 2 t = x2 at h2 ⊢
  generalize iblk m c 3 t = x3 at h3 ⊢
  generalize iblk m c 4 t = x4 at h4 ⊢
  generalize iblk m c 5 t = x5 at h5 ⊢
  subst h0 h1 h2 h3 h4 h5
  exact (out9_eq ..).trans (congrArg mat (gradV_args a _ _))

omit t in
/-- The queries' gradient array after the call. -/
theorem array7 : ((dats m 0 c).arrAt 7 cfg0.N : S4096x2048.Idx → EReal)
    = Cert.ReferenceIdeal.Read.val_main_v73 (F := Ideal) (arr4 a.qn) (arr4 a.qp) (arr4 a.kn) (arr3 a.kp) (arr4 a.v) (arr4 a.g) := by
  refine (dats m 0 c).arrAt_eq_of_covers 7 _ (by decide +kernel) fun t hf y => ?_
  have hi : ((cfg0.win 7).blk t).view.emb y = ix2 ⟨(bOf t).val * 2048 + (y 0).val, row_lt _ (y 0)⟩ ⟨(hOf t).val * 256 + (y 1).val, wide_lt _ (y 1)⟩ := by
    blk_ext [index_eq.2.2.2.2.2.2.1 t]
  rw [hi]
  refine Eq.trans ?_ (ref73 a (bOf t) (y 0) (hOf t) (y 1) _ _ rfl rfl).symm
  rw [after0_7]
  exact (congrFun (left7 m c a hm t) y).trans rfl

omit t in
/-- The keys' gradient array after the call. -/
theorem array8 : ((dats m 0 c).arrAt 8 cfg0.N : S4096x2048.Idx → EReal)
    = Cert.ReferenceIdeal.Read.val_main_v76 (F := Ideal) (arr4 a.qn) (arr4 a.qp) (arr4 a.kn) (arr3 a.kp) (arr4 a.v) (arr4 a.g) := by
  refine (dats m 0 c).arrAt_eq_of_covers 8 _ (by decide +kernel) fun t hf y => ?_
  have hi : ((cfg0.win 8).blk t).view.emb y = ix2 ⟨(bOf t).val * 2048 + (y 0).val, row_lt _ (y 0)⟩ ⟨(hOf t).val * 256 + (y 1).val, wide_lt _ (y 1)⟩ := by
    blk_ext [index_eq.2.2.2.2.2.2.2.1 t]
  rw [hi]
  refine Eq.trans ?_ (ref76 a (bOf t) (y 0) (hOf t) (y 1) _ _ rfl rfl).symm
  rw [after0_8]
  exact (congrFun (left8 m c a hm t) y).trans rfl

omit t in
/-- The values' gradient array after the call. -/
theorem array9 : ((dats m 0 c).arrAt 9 cfg0.N : S4096x1024.Idx → EReal)
    = Cert.ReferenceIdeal.Read.val_main_v78 (F := Ideal) (arr4 a.qn) (arr4 a.qp) (arr4 a.kn) (arr3 a.kp) (arr4 a.g) := by
  refine (dats m 0 c).arrAt_eq_of_covers 9 _ (by decide +kernel) fun t hf y => ?_
  have hi : ((cfg0.win 9).blk t).view.emb y = ix2 ⟨(bOf t).val * 2048 + (y 0).val, row_lt _ (y 0)⟩ ⟨(hOf t).val * 128 + (y 1).val, narrow_lt _ (y 1)⟩ := by
    blk_ext [index_eq.2.2.2.2.2.2.2.2 t]
  rw [hi]
  refine Eq.trans ?_ (ref78 a (bOf t) (y 0) (hOf t) (y 1) _ _ rfl rfl).symm
  rw [after0_9]
  exact (congrFun (left9 m c a hm t) y).trans rfl

end Cert.Flash
-- ==== Proof.Finite.lean ====
/-
  The precondition: numbers whose absolute value is below infinity are real numbers, so the arguments are arrays of
  real numbers.
-/
module

public import proofs.«01_k».proof.Defs
public import proofs.«01_k».proof.Proof.Gen.Pre_finite
public import proofs.«01_k».proof.Proof.Inputs

@[expose] public section

noncomputable section

namespace Cert.Flash

open Idealize.ShloMosaic hiding ix2 ix3 ix4
open Idealize.ShloMosaic.ValueIdx Idealize.ShloMosaic.TcCoe

theorem ofBits_inf : Ideal.ofBits .f32 0x7F800000#32 = ⊤ := by simp [Ideal.ofBits, Ideal.ieee]

/-- A number whose absolute value is below infinity is real. -/
theorem real_of_lt (x : EReal) (h : Ideal.cmp .olt (max x (-x)) ⊤ = 1#1) : ∃ r : ℝ, x = (r : EReal) := by
  induction x with
  | bot => exact absurd h (by simp [Ideal.cmp])
  | top => exact absurd h (by simp [Ideal.cmp])
  | coe r => exact ⟨r, rfl⟩

/-- Where the comparison holds everywhere, every entry is real. -/
theorem reals {s : Shape} (x : FVec Ideal s .f32) (hb : (⟨0, ![]⟩ : Shape).BroadcastsInDim s (![] : Fin 0 → Fin s.rank))
    (h : cmpf .olt (Host.absf x) (broadcastInDim s ![] hb (constant (F := Ideal) ⟨0, ![]⟩ .f32 0x7F800000#32)) = fun _ => 1#1) :
    ∀ i, ∃ r : ℝ, x i = (r : EReal) := by
  intro i
  refine real_of_lt (x i) ?_
  have h' := congrFun h i
  rw [← ofBits_inf]
  exact h'

theorem exists_arr4 {n k l d : Nat} (x : (⟨4, ![n, k, l, d]⟩ : Shape).Idx → EReal) (h : ∀ i, ∃ r : ℝ, x i = (r : EReal)) :
    ∃ f : Fin n → Fin k → Fin l → Fin d → ℝ, x = arr4 f := by
  choose g hg using h
  refine ⟨fun p q r s => g (ix4 p q r s), ?_⟩
  funext i
  rw [hg i]
  exact congrArg (fun j => ((g j : ℝ) : EReal)) (ValueIdx.eq_ix4 i)

theorem exists_arr3 {n k d : Nat} (x : (⟨3, ![n, k, d]⟩ : Shape).Idx → EReal) (h : ∀ i, ∃ r : ℝ, x i = (r : EReal)) :
    ∃ f : Fin n → Fin k → Fin d → ℝ, x = arr3 f := by
  choose g hg using h
  refine ⟨fun p q r => g (ix3 p q r), ?_⟩
  funext i
  rw [hg i]
  exact congrArg (fun j => ((g j : ℝ) : EReal)) (ValueIdx.eq_ix3 i)

open Cert.KernelIdeal in
/-- The precondition makes the arguments arrays of real numbers. -/
theorem holds_of_pre (m : (ℓ : Loc nD τ sig) → Buf (Elt Ideal) ℓ) (hpre : Cert.Pre_KernelIdeal_finite (hPre_finite := Cert.Pre_finite.Gen.facts) m) (c : Dev nD) :
    ∃ a : Args, Holds m c a := by
  obtain ⟨h0, h1, h2, h3, h4, h5⟩ := hpre c
  obtain ⟨f0, e0⟩ := exists_arr4 (n := 2) (k := 2048) (l := 8) (d := 128) _ (reals _ _ h0)
  obtain ⟨f1, e1⟩ := exists_arr4 (n := 2) (k := 2048) (l := 8) (d := 64) _ (reals _ _ h1)
  obtain ⟨f2, e2⟩ := exists_arr4 (n := 2) (k := 2048) (l := 8) (d := 128) _ (reals _ _ h2)
  obtain ⟨f3, e3⟩ := exists_arr3 (n := 2) (k := 2048) (d := 64) _ (reals _ _ h3)
  obtain ⟨f4, e4⟩ := exists_arr4 (n := 2) (k := 2048) (l := 8) (d := 128) _ (reals _ _ h4)
  obtain ⟨f5, e5⟩ := exists_arr4 (n := 2) (k := 2048) (l := 8) (d := 128) _ (reals _ _ h5)
  exact ⟨⟨f0, f1, f2, f3, f4, f5⟩, ⟨e0, e1, e2, e3, e4, e5⟩⟩

end Cert.Flash
-- ==== Proof.Algebraic.lean ====
/-
  The value claim: over the real numbers the kernel and the reference leave the same three gradients.
-/
module

public import proofs.«01_k».proof.Proof.Outputs
public import proofs.«01_k».proof.Proof.Finite
public import proofs.«01_k».proof.Proof.Gen.KernelIdeal.Value
public import proofs.«01_k».proof.Proof.Gen.ReferenceIdeal.Run

@[expose] public section

noncomputable section

namespace Cert.Flash

open Idealize.ShloMosaic Idealize.ShloMosaic.TcCoe Idealize.SL.Sem

theorem congr5 {A0 A1 A2 A3 A4 B : Type} (f : A0 → A1 → A2 → A3 → A4 → B) {x0 y0 : A0} {x1 y1 : A1} {x2 y2 : A2} {x3 y3 : A3} {x4 y4 : A4}
    (e0 : x0 = y0) (e1 : x1 = y1) (e2 : x2 = y2) (e3 : x3 = y3) (e4 : x4 = y4) : f x0 x1 x2 x3 x4 = f y0 y1 y2 y3 y4 := by
  subst e0 e1 e2 e3 e4; rfl

theorem congr6 {A0 A1 A2 A3 A4 A5 B : Type} (f : A0 → A1 → A2 → A3 → A4 → A5 → B) {x0 y0 : A0} {x1 y1 : A1} {x2 y2 : A2} {x3 y3 : A3} {x4 y4 : A4}
    {x5 y5 : A5} (e0 : x0 = y0) (e1 : x1 = y1) (e2 : x2 = y2) (e3 : x3 = y3) (e4 : x4 = y4) (e5 : x5 = y5) :
    f x0 x1 x2 x3 x4 x5 = f y0 y1 y2 y3 y4 y5 := by
  subst e0 e1 e2 e3 e4 e5; rfl

/-- The kernel's gradients of queries, keys and values are the reference's. -/
theorem algebraic : Cert.algebraic_KernelIdeal_ReferenceIdeal_pre_finite (hPre_finite := Cert.Pre_finite.Gen.facts) := by
  intro m g m' g' hpre hagree
  refine ⟨fun c => (Cert.KernelIdeal.Gen.dats m 0 c).arrAt 7 Cert.KernelIdeal.cfg0.N, fun c => (Cert.KernelIdeal.Gen.dats m 0 c).arrAt 8 Cert.KernelIdeal.cfg0.N,
    fun c => (Cert.KernelIdeal.Gen.dats m 0 c).arrAt 9 Cert.KernelIdeal.cfg0.N, Cert.KernelIdeal.Value.run_blocks m g, ?_⟩
  refine (θ_run Cert.ReferenceIdeal.defs _ _).mono (fun r h c => ?_) (Cert.ReferenceIdeal.Value.run (F := Ideal) m' g')
  obtain ⟨h73, h76, h78, hargs⟩ := h c
  obtain ⟨a0, a1, a2, a3, a4, a5⟩ := hagree c
  obtain ⟨a, ha⟩ := holds_of_pre m hpre c
  refine ⟨h73.trans ?_, h76.trans ?_, h78.trans ?_, hargs⟩
  · refine Eq.trans ?_ (array7 m c a ha).symm
    exact (Cert.ReferenceIdeal.Read.val_main_v73_eq m' c).trans
      (congr6 _ (a0.trans ha.h0) (a1.trans ha.h1) (a2.trans ha.h2) (a3.trans ha.h3) (a4.trans ha.h4) (a5.trans ha.h5))
  · refine Eq.trans ?_ (array8 m c a ha).symm
    exact (Cert.ReferenceIdeal.Read.val_main_v76_eq m' c).trans
      (congr6 _ (a0.trans ha.h0) (a1.trans ha.h1) (a2.trans ha.h2) (a3.trans ha.h3) (a4.trans ha.h4) (a5.trans ha.h5))
  · refine Eq.trans ?_ (array9 m c a ha).symm
    exact (Cert.ReferenceIdeal.Read.val_main_v78_eq m' c).trans
      (congr5 _ (a0.trans ha.h0) (a1.trans ha.h1) (a2.trans ha.h2) (a3.trans ha.h3) (a5.trans ha.h5))

end Cert.Flash
-- ==== Proof.Blocks.lean ====
/-
  A sum over rows taken block by block: the order in which the kernels' accumulators add up a product.
-/
module

public import Idealize.ShloMosaic.Lib.ValueIdxCore
public import Idealize.ShloMosaic.PureOps.Ideal.Laws

@[expose] public section

noncomputable section

namespace Cert.Blocks

/-- The offset at which a block starts, plus a place in it, is below the total. -/
theorem place_lt {p n q : ℕ} (t : Fin p) (r : Fin n) (h : p * n = q) : t.val * n + r.val < q := by
  have h1 : t.val * n + r.val < (t.val + 1) * n := by rw [Nat.add_mul, Nat.one_mul]; exact Nat.add_lt_add_left r.isLt _
  exact h1.trans_le ((Nat.mul_le_mul_right n t.isLt).trans h.le)

/-- A sum over `p` blocks of `n` terms. -/
theorem sum_blocks {M : Type} [AddCommMonoid M] {p n q : ℕ} (h : p * n = q) (f : Fin q → M) :
    ∑ k, f k = ∑ t : Fin p, ∑ r : Fin n, f ⟨t.val * n + r.val, place_lt t r h⟩ := by
  subst h
  rw [← finProdFinEquiv.sum_comp, Fintype.sum_prod_type]
  refine Finset.sum_congr rfl fun t _ => Finset.sum_congr rfl fun r _ => congrArg f (Fin.ext ?_)
  show r.val + n * t.val = t.val * n + r.val
  rw [Nat.mul_comm, Nat.add_comm]

/-- A sum over four blocks of 1024 terms, added first to last. -/
theorem sum_four (f : Fin 4096 → EReal) (g : Fin 4 → EReal) (hg : ∀ t, g t = ∑ r : Fin 1024, f ⟨t.val * 1024 + r.val, place_lt t r rfl⟩) :
    g 0 + g 1 + g 2 + g 3 = ∑ k, f k := by
  rw [sum_blocks (show 4 * 1024 = 4096 from rfl), ← Fin.sum_univ_four]
  exact Finset.sum_congr rfl fun t _ => hg t

end Cert.Blocks
-- ==== Proof.Segments.lean ====
/-
  The host's joined segments: the columns of the incoming gradient and the rows of the weights, in the same new order with
  the same padding. A product over the joined axis is the product over the original one.
-/
module

public import proofs.«01_k».proof.Proof.Blocks
public import Idealize.ShloMosaic.Lib.Pipeline.Value
public import Idealize.ShloMosaic.Lib.ValueIdx

@[expose] public section

noncomputable section

namespace Cert.Segments

open Idealize.ShloMosaic
open Idealize.ShloMosaic.ValueIdx

/-- A sum over two parts of an axis. -/
theorem sum_split {a b n : ℕ} (h : a + b = n) (f : Fin n → EReal) :
    ∑ k, f k = (∑ q : Fin a, f ⟨q.val, by omega⟩) + ∑ q : Fin b, f ⟨a + q.val, by omega⟩ := by
  subst h
  exact Fin.sum_univ_add f

/-- A sum over the joined axis is the sum over the original one, when the parts agree and the padding is zero. -/
theorem sum_segments (f : Fin 8192 → EReal) (g : Fin 7872 → EReal) (h0 : ∀ q : Fin 3072, f ⟨q.val, by omega⟩ = g ⟨4800 + q.val, by omega⟩)
    (h1 : ∀ q : Fin 704, f ⟨3072 + q.val, by omega⟩ = g ⟨4096 + q.val, by omega⟩) (h2 : ∀ q : Fin 320, f ⟨3776 + q.val, by omega⟩ = 0)
    (h3 : ∀ q : Fin 4096, f ⟨4096 + q.val, by omega⟩ = g ⟨q.val, by omega⟩) : ∑ k, f k = ∑ k, g k := by
  have ef : ∑ k, f k = (((∑ q : Fin 3072, f ⟨q.val, by omega⟩) + ∑ q : Fin 704, f ⟨3072 + q.val, by omega⟩) + ∑ q : Fin 320, f ⟨3776 + q.val, by omega⟩)
      + ∑ q : Fin 4096, f ⟨4096 + q.val, by omega⟩ := by
    rw [sum_split (show 4096 + 4096 = 8192 from rfl) f, sum_split (show 3776 + 320 = 4096 from rfl), sum_split (show 3072 + 704 = 3776 from rfl)]
  have eg : ∑ k, g k = (∑ q : Fin 4096, g ⟨q.val, by omega⟩) + ((∑ q : Fin 704, g ⟨4096 + q.val, by omega⟩) + ∑ q : Fin 3072, g ⟨4800 + q.val, by omega⟩) := by
    rw [sum_split (show 4096 + 3776 = 7872 from rfl) g, sum_split (show 704 + 3072 = 3776 from rfl)]
    refine congrArg _ (congrArg _ (Finset.sum_congr rfl fun q _ => congrArg g (Fin.ext ?_)))
    show 4096 + (704 + q.val) = 4800 + q.val
    omega
  rw [ef, eg, Finset.sum_congr rfl fun q _ => h0 q, Finset.sum_congr rfl fun q _ => h1 q, Finset.sum_congr rfl fun q _ => h3 q,
    Finset.sum_eq_zero fun q _ => h2 q, add_zero, add_comm, add_comm (∑ q : Fin 3072, g ⟨4800 + q.val, by omega⟩)]

/-- A sum over four pairs of blocks of 1024 terms, added first to last. -/
theorem sum_pairs (f : Fin 8192 → EReal) (g : Fin 4 → EReal)
    (hg : ∀ k : Fin 4, g k = (∑ r : Fin 1024, f ⟨(k.val * 2) * 1024 + r.val, by omega⟩) + ∑ r : Fin 1024, f ⟨(k.val * 2 + 1) * 1024 + r.val, by omega⟩) :
    g 0 + g 1 + g 2 + g 3 = ∑ k, f k := by
  rw [Blocks.sum_blocks (show 8 * 1024 = 8192 from rfl), Fin.sum_univ_eight, hg 0, hg 1, hg 2, hg 3]
  simp only [← add_assoc]
  rfl

section

variable {α : Type} (x : (⟨2, ![4096, 3072]⟩ : Shape).Idx → α) (y : (⟨2, ![4096, 704]⟩ : Shape).Idx → α) (z : (⟨2, ![4096, 320]⟩ : Shape).Idx → α) (w : (⟨2, ![4096, 4096]⟩ : Shape).Idx → α)
    (hc : Shape.Concatenates [(⟨2, ![4096, 3072]⟩ : Shape), (⟨2, ![4096, 704]⟩ : Shape), (⟨2, ![4096, 320]⟩ : Shape), (⟨2, ![4096, 4096]⟩ : Shape)] ⟨2, ![4096, 8192]⟩ 1)

/-- Part 1 of the joined columns. -/
theorem cols_1 (a : Fin 4096) (q : Fin 3072) :
    concatenate (⟨2, ![4096, 8192]⟩ : Shape) 1 [⟨⟨2, ![4096, 3072]⟩, x⟩, ⟨⟨2, ![4096, 704]⟩, y⟩, ⟨⟨2, ![4096, 320]⟩, z⟩, ⟨⟨2, ![4096, 4096]⟩, w⟩] hc (ix2 a ⟨q.val, by omega⟩) = x (ix2 a q) :=
  concatenate_apply_piece (t := ⟨2, ![4096, 8192]⟩) 1 [⟨⟨2, ![4096, 3072]⟩, x⟩, ⟨⟨2, ![4096, 704]⟩, y⟩, ⟨⟨2, ![4096, 320]⟩, z⟩, ⟨⟨2, ![4096, 4096]⟩, w⟩] hc (ix2 a ⟨q.val, by omega⟩) 0 (by show 0 < 4; omega) _ x rfl rfl 0 (by rfl) (ix2 a q)
    (fun u hu => by
    match u with
    | ⟨0, _⟩ => rfl
    | ⟨1, _⟩ => exact absurd rfl hu
    ) (Nat.zero_add _)

/-- Part 2 of the joined columns. -/
theorem cols_2 (a : Fin 4096) (q : Fin 704) :
    concatenate (⟨2, ![4096, 8192]⟩ : Shape) 1 [⟨⟨2, ![4096, 3072]⟩, x⟩, ⟨⟨2, ![4096, 704]⟩, y⟩, ⟨⟨2, ![4096, 320]⟩, z⟩, ⟨⟨2, ![4096, 4096]⟩, w⟩] hc (ix2 a ⟨3072 + q.val, by omega⟩) = y (ix2 a q) :=
  concatenate_apply_piece (t := ⟨2, ![4096, 8192]⟩) 1 [⟨⟨2, ![4096, 3072]⟩, x⟩, ⟨⟨2, ![4096, 704]⟩, y⟩, ⟨⟨2, ![4096, 320]⟩, z⟩, ⟨⟨2, ![4096, 4096]⟩, w⟩] hc (ix2 a ⟨3072 + q.val, by omega⟩) 1 (by show 1 < 4; omega) _ y rfl rfl 3072 (by rfl) (ix2 a q)
    (fun u hu => by
    match u with
    | ⟨0, _⟩ => rfl
    | ⟨1, _⟩ => exact absurd rfl hu
    ) rfl

/-- Part 3 of the joined columns. -/
theorem cols_3 (a : Fin 4096) (q : Fin 320) :
    concatenate (⟨2, ![4096, 8192]⟩ : Shape) 1 [⟨⟨2, ![4096, 3072]⟩, x⟩, ⟨⟨2, ![4096, 704]⟩, y⟩, ⟨⟨2, ![4096, 320]⟩, z⟩, ⟨⟨2, ![4096, 4096]⟩, w⟩] hc (ix2 a ⟨3776 + q.val, by omega⟩) = z (ix2 a q) :=
  concatenate_apply_piece (t := ⟨2, ![4096, 8192]⟩) 1 [⟨⟨2, ![4096, 3072]⟩, x⟩, ⟨⟨2, ![4096, 704]⟩, y⟩, ⟨⟨2, ![4096, 320]⟩, z⟩, ⟨⟨2, ![4096, 4096]⟩, w⟩] hc (ix2 a ⟨3776 + q.val, by omega⟩) 2 (by show 2 < 4; omega) _ z rfl rfl 3776 (by rfl) (ix2 a q)
    (fun u hu => by
    match u with
    | ⟨0, _⟩ => rfl
    | ⟨1, _⟩ => exact absurd rfl hu
    ) rfl

/-- Part 4 of the joined columns. -/
theorem cols_4 (a : Fin 4096) (q : Fin 4096) :
    concatenate (⟨2, ![4096, 8192]⟩ : Shape) 1 [⟨⟨2, ![4096, 3072]⟩, x⟩, ⟨⟨2, ![4096, 704]⟩, y⟩, ⟨⟨2, ![4096, 320]⟩, z⟩, ⟨⟨2, ![4096, 4096]⟩, w⟩] hc (ix2 a ⟨4096 + q.val, by omega⟩) = w (ix2 a q) :=
  concatenate_apply_piece (t := ⟨2, ![4096, 8192]⟩) 1 [⟨⟨2, ![4096, 3072]⟩, x⟩, ⟨⟨2, ![4096, 704]⟩, y⟩, ⟨⟨2, ![4096, 320]⟩, z⟩, ⟨⟨2, ![4096, 4096]⟩, w⟩] hc (ix2 a ⟨4096 + q.val, by omega⟩) 3 (by show 3 < 4; omega) _ w rfl rfl 4096 (by rfl) (ix2 a q)
    (fun u hu => by
    match u with
    | ⟨0, _⟩ => rfl
    | ⟨1, _⟩ => exact absurd rfl hu
    ) rfl

end

section

variable {α : Type} (x : (⟨2, ![3072, 1024]⟩ : Shape).Idx → α) (y : (⟨2, ![704, 1024]⟩ : Shape).Idx → α) (z : (⟨2, ![320, 1024]⟩ : Shape).Idx → α) (w : (⟨2, ![4096, 1024]⟩ : Shape).Idx → α)
    (hc : Shape.Concatenates [(⟨2, ![3072, 1024]⟩ : Shape), (⟨2, ![704, 1024]⟩ : Shape), (⟨2, ![320, 1024]⟩ : Shape), (⟨2, ![4096, 1024]⟩ : Shape)] ⟨2, ![8192, 1024]⟩ 0)

/-- Part 1 of the joined rows. -/
theorem rows_1 (a : Fin 1024) (q : Fin 3072) :
    concatenate (⟨2, ![8192, 1024]⟩ : Shape) 0 [⟨⟨2, ![3072, 1024]⟩, x⟩, ⟨⟨2, ![704, 1024]⟩, y⟩, ⟨⟨2, ![320, 1024]⟩, z⟩, ⟨⟨2, ![4096, 1024]⟩, w⟩] hc (ix2 ⟨q.val, by omega⟩ a) = x (ix2 q a) :=
  concatenate_apply_piece (t := ⟨2, ![8192, 1024]⟩) 0 [⟨⟨2, ![3072, 1024]⟩, x⟩, ⟨⟨2, ![704, 1024]⟩, y⟩, ⟨⟨2, ![320, 1024]⟩, z⟩, ⟨⟨2, ![4096, 1024]⟩, w⟩] hc (ix2 ⟨q.val, by omega⟩ a) 0 (by show 0 < 4; omega) _ x rfl rfl 0 (by rfl) (ix2 q a)
    (fun u hu => by
    match u with
    | ⟨0, _⟩ => exact absurd rfl hu
    | ⟨1, _⟩ => rfl
    ) (Nat.zero_add _)

/-- Part 2 of the joined rows. -/
theorem rows_2 (a : Fin 1024) (q : Fin 704) :
    concatenate (⟨2, ![8192, 1024]⟩ : Shape) 0 [⟨⟨2, ![3072, 1024]⟩, x⟩, ⟨⟨2, ![704, 1024]⟩, y⟩, ⟨⟨2, ![320, 1024]⟩, z⟩, ⟨⟨2, ![4096, 1024]⟩, w⟩] hc (ix2 ⟨3072 + q.val, by omega⟩ a) = y (ix2 q a) :=
  concatenate_apply_piece (t := ⟨2, ![8192, 1024]⟩) 0 [⟨⟨2, ![3072, 1024]⟩, x⟩, ⟨⟨2, ![704, 1024]⟩, y⟩, ⟨⟨2, ![320, 1024]⟩, z⟩, ⟨⟨2, ![4096, 1024]⟩, w⟩] hc (ix2 ⟨3072 + q.val, by omega⟩ a) 1 (by show 1 < 4; omega) _ y rfl rfl 3072 (by rfl) (ix2 q a)
    (fun u hu => by
    match u with
    | ⟨0, _⟩ => exact absurd rfl hu
    | ⟨1, _⟩ => rfl
    ) rfl

/-- Part 3 of the joined rows. -/
theorem rows_3 (a : Fin 1024) (q : Fin 320) :
    concatenate (⟨2, ![8192, 1024]⟩ : Shape) 0 [⟨⟨2, ![3072, 1024]⟩, x⟩, ⟨⟨2, ![704, 1024]⟩, y⟩, ⟨⟨2, ![320, 1024]⟩, z⟩, ⟨⟨2, ![4096, 1024]⟩, w⟩] hc (ix2 ⟨3776 + q.val, by omega⟩ a) = z (ix2 q a) :=
  concatenate_apply_piece (t := ⟨2, ![8192, 1024]⟩) 0 [⟨⟨2, ![3072, 1024]⟩, x⟩, ⟨⟨2, ![704, 1024]⟩, y⟩, ⟨⟨2, ![320, 1024]⟩, z⟩, ⟨⟨2, ![4096, 1024]⟩, w⟩] hc (ix2 ⟨3776 + q.val, by omega⟩ a) 2 (by show 2 < 4; omega) _ z rfl rfl 3776 (by rfl) (ix2 q a)
    (fun u hu => by
    match u with
    | ⟨0, _⟩ => exact absurd rfl hu
    | ⟨1, _⟩ => rfl
    ) rfl

/-- Part 4 of the joined rows. -/
theorem rows_4 (a : Fin 1024) (q : Fin 4096) :
    concatenate (⟨2, ![8192, 1024]⟩ : Shape) 0 [⟨⟨2, ![3072, 1024]⟩, x⟩, ⟨⟨2, ![704, 1024]⟩, y⟩, ⟨⟨2, ![320, 1024]⟩, z⟩, ⟨⟨2, ![4096, 1024]⟩, w⟩] hc (ix2 ⟨4096 + q.val, by omega⟩ a) = w (ix2 q a) :=
  concatenate_apply_piece (t := ⟨2, ![8192, 1024]⟩) 0 [⟨⟨2, ![3072, 1024]⟩, x⟩, ⟨⟨2, ![704, 1024]⟩, y⟩, ⟨⟨2, ![320, 1024]⟩, z⟩, ⟨⟨2, ![4096, 1024]⟩, w⟩] hc (ix2 ⟨4096 + q.val, by omega⟩ a) 3 (by show 3 < 4; omega) _ w rfl rfl 4096 (by rfl) (ix2 q a)
    (fun u hu => by
    match u with
    | ⟨0, _⟩ => exact absurd rfl hu
    | ⟨1, _⟩ => rfl
    ) rfl

end

end Cert.Segments
-- ==== Proof.Tile2.lean ====
/-
  The gradient of the block's input, the first half of the batch: the prefetched table, the call's blocks, the
  products that a grid point forms from them.
-/
module

public import proofs.«01_k».proof.Proof.Segments
public import proofs.«01_k».proof.Proof.Gen.Kernel2.Frame
public import proofs.«01_k».proof.Proof.Gen.Kernel2Ideal.Frame
public import Idealize.ShloMosaic.Lib.Pipeline.ValueKit
public import Idealize.ShloMosaic.Lib.StableHlo.RunRead

@[expose] public section

set_option maxRecDepth 16384

noncomputable section

namespace Cert.Input2.Machine

open Idealize.ShloMosaic hiding ix2 ix3 ix4
open Idealize.ShloMosaic.ValueIdx Idealize.ShloMosaic.TcCoe Idealize.SL.Sem Cert.Kernel2 Cert.Kernel2.Gen

/-- The prefetched table: the half of the batch. -/
def table : pre0.Contents (Elt Bits) := fun | 0 => fun _ => (0#32 : BitVec 32)

variable (m : (ℓ : Loc nD τ sig) → Buf (Elt Bits) ℓ) (c : Dev nD)

theorem V_table : V m c main_v16 = (broadcastInDim S1 ![] bcast_S_S1 (constantI S_ 32 0#32) : IVec S1 32) := by
  unfold V
  after_reads_simp

theorem tbl_eq : tbl m = table := by
  funext j
  match j with
  | 0 => exact (V_table m 0).trans rfl

theorem ok_table : ok0 table := by decide +kernel

/-- The blocks that the table names lie in their array. -/
theorem ok : Ok m := by
  show ok0 (tbl m)
  rw [tbl_eq]
  exact ok_table

end Cert.Input2.Machine

namespace Cert.Input2

open Idealize.ShloMosaic hiding ix2 ix3 ix4
open Idealize.ShloMosaic.ValueIdx Idealize.ShloMosaic.TcCoe Idealize.SL.Sem Cert.Kernel2Ideal Cert.Kernel2Ideal.Gen

/-- The prefetched table: the half of the batch. -/
def table : pre0.Contents (Elt Ideal) := fun | 0 => fun _ => (0#32 : BitVec 32)

variable (m : (ℓ : Loc nD τ sig) → Buf (Elt Ideal) ℓ) (c : Dev nD)

theorem V_table : V m c main_v16 = (broadcastInDim S1 ![] bcast_S_S1 (constantI S_ 32 0#32) : IVec S1 32) := by
  unfold V
  after_reads_simp

theorem tbl_eq : tbl m = table := by
  funext j
  match j with
  | 0 => exact (V_table m 0).trans rfl

theorem ok_table : ok0 table := by decide +kernel

/-- The blocks that the table names lie in their array. -/
theorem ok : Ok m := by
  show ok0 (tbl m)
  rw [tbl_eq]
  exact ok_table

theorem index0_table : ∀ t : Fin grid0.N, cc0_transform_0 inb_S1_S1_0 numel1_S1 table (grid0.coords t) = ![t.val % 4, t.val / 4, 0] := by
  decide +kernel

theorem index1_table : ∀ t : Fin grid0.N, cc0_transform_1 (grid0.coords t) = ![t.val % 4, 0] := by
  decide +kernel

theorem index3_table : ∀ t : Fin grid0.N, cc0_transform_3 (grid0.coords t) = ![t.val / 4, 0] := by
  decide +kernel

section Steps

variable {F : FTy → Type} [FloatOps F]

/-- The first 1024 columns of a block of the gradient. -/
def seg0 (x : Vec F S2x1024x1024 .bf16) : Vec F S1x1024x1024 .bf16 :=
  View.ld x (Rect.unit (s := S2x1024x1024) ![0, 0, 0] S1x1024x1024.size inb_S2x1024x1024_S1x1024x1024_0_0_0)
/-- The next 1024. -/
def seg1 (x : Vec F S2x1024x1024 .bf16) : Vec F S1x1024x1024 .bf16 :=
  View.ld x (Rect.unit (s := S2x1024x1024) ![1, 0, 0] S1x1024x1024.size inb_S2x1024x1024_S1x1024x1024_1_0_0)
/-- The first 1024 rows of a block of the weights. -/
def half0 (y : Vec F S2048x1024 .bf16) : Vec F S1024x1024 .bf16 :=
  View.ld y (Rect.unit (s := S2048x1024) ![0, 0] S1024x1024.size inb_S2048x1024_S1024x1024_0_0)
/-- The next 1024. -/
def half1 (y : Vec F S2048x1024 .bf16) : Vec F S1024x1024 .bf16 :=
  View.ld y (Rect.unit (s := S2048x1024) ![1024, 0] S1024x1024.size inb_S2048x1024_S1024x1024_1024_0)

theorem zeros : (![0, 0] : Fin 2 → ℕ) = fun _ => 0 := funext fun a => by fin_cases a <;> rfl

variable (c : Dev nD) (i : grid0.Coords) (arg3 : Memref sig .tc .vmem S2x1024x1024 .bf16) (h3 : arg3.IsWhole)
    (arg4 : Memref sig .tc .vmem S2048x1024 .bf16) (h4 : arg4.IsWhole) (arg5 : Memref sig .tc .vmem S8x128 .f32) (h5 : arg5.IsWhole)
    (arg6 : Memref sig .tc .vmem S1024x1024 .f32) (h6 : arg6.IsWhole) (arg7 : Memref sig .tc .vmem S1024x1024 .f32) (h7 : arg7.IsWhole)
    (x : Vec F S2x1024x1024 .bf16) (y : Vec F S2048x1024 .bf16) (z : Vec F S8x128 .f32) (xt : TbBuf0 (F := F) c tbM0_0) (s : Vec F S1024x1024 .f32)

/-- The first point of a tile leaves the product of its blocks in the accumulator. -/
theorem first (hc0 hc1 hc2) : sout0_A_0 c i arg3 h3 arg4 h4 arg5 h5 arg6 h6 arg7 h7 hc0 hc1 hc2 x y z xt = k0_pay1 (seg0 x) (half0 y) (seg1 x) (half1 y) := by
  unfold sout0_A_0
  rw [View.read_writes_eq_canon _ _ _ (scover0_A_0 c i arg3 h3 arg4 h4 arg5 h5 arg6 h6 arg7 h7 hc0 hc1 hc2 x y z xt)]
  unfold kernelRun0_A
  dsimp only
  rw [View.canon_unit_zero zeros]
  simp only [View.readAt_eq_ld, h3.read_unread, h4.read_unread]
  rfl

/-- A middle point adds the product of its blocks to the accumulator. -/
theorem middle (hc0 hc1 hc2) : sout0_B_0 c i arg3 h3 arg4 h4 arg5 h5 arg6 h6 arg7 h7 hc0 hc1 hc2 x y z xt s = k0_pay2 s (seg0 x) (half0 y) (seg1 x) (half1 y) := by
  unfold sout0_B_0
  rw [View.read_writes_eq_canon _ _ _ (scover0_B_0 c i arg3 h3 arg4 h4 arg5 h5 arg6 h6 arg7 h7 hc0 hc1 hc2 x y z xt s)]
  unfold kernelRun0_B
  dsimp only
  rw [View.canon_unit_zero zeros]
  simp only [View.readAt_eq_ld, h3.read_unread, h4.read_unread, h7.read_unread, View.ld_unit_zero (S := S1024x1024) zeros]
  rfl

/-- The last point leaves the sum in the result's block. -/
theorem last (hc0 hc1 hc2) : out0_C_3 c i arg3 h3 arg4 h4 arg5 h5 arg6 h6 arg7 h7 hc0 hc1 hc2 x y z xt s = k0_pay3 s (seg0 x) (half0 y) (seg1 x) (half1 y) := by
  unfold out0_C_3
  rw [View.read_writes_eq_canon _ _ _ (cover0_C_3 c i arg3 h3 arg4 h4 arg5 h5 arg6 h6 arg7 h7 hc0 hc1 hc2 x y z xt s)]
  unfold kernelRun0_C
  dsimp only
  rw [View.canon_unit_zero zeros]
  simp only [View.readAt_eq_ld, h3.read_unread, h4.read_unread, h7.read_unread, View.ld_unit_zero (S := S1024x1024) zeros]
  rfl
end Steps

/-- The product that a grid point forms, twice. -/
abbrev dot := dot_S1024x1024_S1024x1024_S1024x1024_1_0_0_1_n_n

theorem lhs_eq (a b : Fin 1024) (q : dot.contr.Idx) (k : Fin 1024) (hk : (q ⟨0, by decide⟩).val = k.val) :
    dot.lhsIdx (ix2 a b) q = ix2 a k := by
  funext x
  refine Fin.ext ?_
  match x with
  | ⟨1, _⟩ => exact (dot.lhsIdx_val_of_single rfl (ix2 a b) q).trans hk
  | ⟨0, _⟩ =>
    show (dot.lhsIdx (ix2 a b) q 0).val = a.val
    unfold DotDims.lhsIdx
    rw [dif_neg (show ¬(0 : Fin S1024x1024.rank) ∈ dot.lhsBatch by decide), dif_pos (show (0 : Fin S1024x1024.rank) ∈ dot.lhsNonContracting by decide)]
    rfl

theorem rhs_eq (a b : Fin 1024) (q : dot.contr.Idx) (k : Fin 1024) (hk : (q ⟨0, by decide⟩).val = k.val) :
    dot.rhsIdx (ix2 a b) q = ix2 k b := by
  funext x
  refine Fin.ext ?_
  match x with
  | ⟨0, _⟩ => exact (dot.rhsIdx_val_of_single rfl (ix2 a b) q).trans hk
  | ⟨1, _⟩ =>
    show (dot.rhsIdx (ix2 a b) q 1).val = b.val
    unfold DotDims.rhsIdx
    rw [dif_neg (show ¬(1 : Fin S1024x1024.rank) ∈ dot.rhsBatch by decide), dif_pos (show (1 : Fin S1024x1024.rank) ∈ dot.rhsNonContracting by decide)]
    rfl

section Sums

variable (u : Vec Ideal S1x1024x1024 .bf16) (v : Vec Ideal S1024x1024 .bf16) (x : Vec Ideal S2x1024x1024 .bf16) (y : Vec Ideal S2048x1024 .bf16)
    (s : Vec Ideal S1024x1024 .f32) (a b : Fin 1024)

/-- One of the two products, at an index. -/
theorem product_apply : (matmul dot none (shapeCast S1024x1024 u shapeCasts_S1x1024x1024_S1024x1024 : FVec Ideal S1024x1024 .bf16)
      (shapeCast S1024x1024 v shapeCasts_S1024x1024_S1024x1024 : FVec Ideal S1024x1024 .bf16) (constant S1024x1024 .f32 0x00000000#32 : FVec Ideal S1024x1024 .f32)
      : S1024x1024.Idx → EReal) (ix2 a b) = ∑ r : Fin 1024, (u (ix3 0 a r) : EReal) * v (ix2 r b) := by
  rw [shapeCast_self v]
  refine (Ideal.matmul_constant_zero_apply (φ₁ := .bf16) (φ₂ := .bf16) _ none _ _ _).trans ?_
  rw [← Equiv.sum_comp (contrEquiv1 dot 1024 rfl rfl).symm]
  refine Finset.sum_congr rfl fun k _ => ?_
  have hk := contrEquiv1_symm_val dot 1024 rfl rfl k
  rw [lhs_eq a b _ k hk, rhs_eq a b _ k hk]
  refine congrArg (· * (v (ix2 k b) : EReal)) (shapeCast_apply _ _ _ (ix3 0 a k) ?_)
  rw [Shape.rowMajor_val_three, Shape.rowMajor_val_two]
  show (0 * 1024 + a.val) * 1024 + k.val = a.val * 1024 + k.val
  omega

/-- The products that a grid point adds to an entry. -/
def pair (x : S2x1024x1024.Idx → EReal) (y : S2048x1024.Idx → EReal) (a b : Fin 1024) : EReal :=
  (∑ r : Fin 1024, x (ix3 0 a r) * y (ix2 ⟨r.val, by omega⟩ b)) + ∑ r : Fin 1024, x (ix3 1 a r) * y (ix2 ⟨1024 + r.val, by omega⟩ b)

theorem seg0_apply (r : Fin 1024) : seg0 x (ix3 0 a r) = x (ix3 0 a r) :=
  View.ld_unit_apply_of x _ _ _ _ _ fun z => match z with
    | ⟨0, _⟩ => rfl
    | ⟨1, _⟩ => by show a.val = 0 + a.val; omega
    | ⟨2, _⟩ => by show r.val = 0 + r.val; omega

theorem seg1_apply (r : Fin 1024) : seg1 x (ix3 0 a r) = x (ix3 1 a r) :=
  View.ld_unit_apply_of x _ _ _ _ _ fun z => match z with
    | ⟨0, _⟩ => rfl
    | ⟨1, _⟩ => by show a.val = 0 + a.val; omega
    | ⟨2, _⟩ => by show r.val = 0 + r.val; omega

theorem half0_apply (r : Fin 1024) : half0 y (ix2 r b) = y (ix2 ⟨r.val, by omega⟩ b) :=
  View.ld_unit_apply_of y _ _ _ _ _ fun z => match z with
    | ⟨0, _⟩ => by show r.val = 0 + r.val; omega
    | ⟨1, _⟩ => by show b.val = 0 + b.val; omega

theorem half1_apply (r : Fin 1024) : half1 y (ix2 r b) = y (ix2 ⟨1024 + r.val, by omega⟩ b) :=
  View.ld_unit_apply_of y _ _ _ _ _ fun z => match z with
    | ⟨0, _⟩ => rfl
    | ⟨1, _⟩ => by show b.val = 0 + b.val; omega

theorem pay1_apply : (k0_pay1 (seg0 x) (half0 y) (seg1 x) (half1 y) : S1024x1024.Idx → EReal) (ix2 a b) = pair x y a b := by
  unfold k0_pay1
  refine (congrFun (shapeCast_self _ _) (ix2 a b)).trans ?_
  refine congrArg₂ (· + ·) ((product_apply _ _ a b).trans ?_) ((product_apply _ _ a b).trans ?_)
  · exact Finset.sum_congr rfl fun r _ => congrArg₂ (· * ·) (seg0_apply x a r) (half0_apply y b r)
  · exact Finset.sum_congr rfl fun r _ => congrArg₂ (· * ·) (seg1_apply x a r) (half1_apply y b r)

theorem pay2_apply : (k0_pay2 s (seg0 x) (half0 y) (seg1 x) (half1 y) : S1024x1024.Idx → EReal) (ix2 a b) = s (ix2 a b) + pair x y a b := by
  refine Eq.trans ?_ (congrArg (s (ix2 a b) + ·) (pay1_apply x y a b))
  unfold k0_pay2 k0_pay1
  simp only [shapeCast_self]
  rfl

theorem pay3_apply : (k0_pay3 s (seg0 x) (half0 y) (seg1 x) (half1 y) : S1024x1024.Idx → EReal) (ix2 a b) = s (ix2 a b) + pair x y a b := by
  refine Eq.trans ?_ (congrArg (s (ix2 a b) + ·) (pay1_apply x y a b))
  unfold k0_pay3 k0_pay1
  simp only [shapeCast_self]
  rfl

end Sums

variable (hO : Ok m)

theorem index0 (t : Fin (cfgM m hO).N) : ((cfgM m hO).win 0).index t = ![t.val % 4, t.val / 4, 0] := by
  show cc0_transform_0 inb_S1_S1_0 numel1_S1 (tbl m) (grid0.coords t) = _
  rw [tbl_eq]
  exact index0_table t

theorem index1 (t : Fin (cfgM m hO).N) : ((cfgM m hO).win 1).index t = ![t.val % 4, 0] := index1_table t

/-- The gradient's segments, as the call receives them. -/
def segs : S8x4096x1024.Idx → EReal := V m c main_v7

/-- The weights, as the call receives them. -/
def wt : S8192x1024.Idx → EReal := V m c main_v14

/-- A grid point's block of the segments. -/
def lblk (t : Fin (cfgM m hO).N) : S2x1024x1024.Idx → EReal := iblk m hO c 0 t

/-- A grid point's block of the weights. -/
def rblk (t : Fin (cfgM m hO).N) : S2048x1024.Idx → EReal := iblk m hO c 1 t

theorem lblk_seg (t : Fin (cfgM m hO).N) (s : Fin 2) (a r : Fin 1024) (h1 : t.val % 4 * 2 + s.val < 8) (h2 : t.val / 4 * 1024 + a.val < 4096) :
    lblk m c hO t (ix3 s a r) = segs m c (ix3 ⟨t.val % 4 * 2 + s.val, h1⟩ ⟨t.val / 4 * 1024 + a.val, h2⟩ r) := by
  have hi : (((cfgM m hO).win 0).blk t).view.emb (ix3 s a r) = ix3 ⟨t.val % 4 * 2 + s.val, h1⟩ ⟨t.val / 4 * 1024 + a.val, h2⟩ r := by
    blk_ext [index0 m hO t]
  show V m c main_v7 ((((cfgM m hO).win 0).blk t).view.emb (ix3 s a r)) = _
  rw [hi]
  rfl

theorem rblk_apply (t : Fin (cfgM m hO).N) (r : Fin 2048) (b : Fin 1024) (h : t.val % 4 * 2048 + r.val < 8192) :
    rblk m c hO t (ix2 r b) = wt m c (ix2 ⟨t.val % 4 * 2048 + r.val, h⟩ b) := by
  have hi : (((cfgM m hO).win 1).blk t).view.emb (ix2 r b) = ix2 ⟨t.val % 4 * 2048 + r.val, h⟩ b := by
    blk_ext [index1 m hO t]
  show V m c main_v14 ((((cfgM m hO).win 1).blk t).view.emb (ix2 r b)) = _
  rw [hi]
  rfl

/-- An entry's products, one for each of the 8192 joined columns. -/
def term (w : Fin 4096) (b : Fin 1024) (q : Fin 8192) : EReal :=
  segs m c (ix3 ⟨q.val / 1024, by omega⟩ w ⟨q.val % 1024, by omega⟩) * wt m c (ix2 q b)

theorem term_eq (t : Fin (cfgM m hO).N) (s : Fin 2) (a b r : Fin 1024) (w : Fin 4096) (hw : w.val = t.val / 4 * 1024 + a.val) (x : Fin 2048)
    (hx : x.val = s.val * 1024 + r.val) (q : Fin 8192) (hq : q.val = (t.val % 4 * 2 + s.val) * 1024 + r.val) :
    lblk m c hO t (ix3 s a r) * rblk m c hO t (ix2 x b) = term m c w b q := by
  rw [lblk_seg m c hO t s a r (by omega) (by omega), rblk_apply m c hO t x b (by omega)]
  refine congrArg₂ (· * ·) (congrArg _ ?_) (congrArg _ ?_)
  · refine congr (congrArg₂ ix3 (Fin.ext ?_) (Fin.ext ?_)) (Fin.ext ?_)
    · show t.val % 4 * 2 + s.val = q.val / 1024
      omega
    · exact hw.symm
    · show r.val = q.val % 1024
      omega
  · refine congrArg₂ ix2 (Fin.ext ?_) rfl
    show t.val % 4 * 2048 + x.val = q.val
    omega

/-- The products of one grid point: two blocks of 1024. -/
def step (w : Fin 4096) (b : Fin 1024) (k : Fin 4) : EReal :=
  (∑ r : Fin 1024, term m c w b ⟨(k.val * 2) * 1024 + r.val, by omega⟩) + ∑ r : Fin 1024, term m c w b ⟨(k.val * 2 + 1) * 1024 + r.val, by omega⟩

theorem step_eq (k : Fin 4) (t : Fin (cfgM m hO).N) (hk : t.val % 4 = k.val) (a b : Fin 1024) (w : Fin 4096) (hw : w.val = t.val / 4 * 1024 + a.val) :
    pair (lblk m c hO t) (rblk m c hO t) a b = step m c w b k := by
  refine congrArg₂ (· + ·) (Finset.sum_congr rfl fun r _ => ?_) (Finset.sum_congr rfl fun r _ => ?_)
  · exact term_eq m c hO t 0 a b r w hw _ (by show r.val = 0 * 1024 + r.val; omega) _ (by show k.val * 2 * 1024 + r.val = (t.val % 4 * 2 + 0) * 1024 + r.val; omega)
  · exact term_eq m c hO t 1 a b r w hw _ (by show 1024 + r.val = 1 * 1024 + r.val; omega) _
      (by show (k.val * 2 + 1) * 1024 + r.val = (t.val % 4 * 2 + 1) * 1024 + r.val; omega)

end Cert.Input2
-- ==== Proof.Input2.lean ====
/-
  The gradient of the block's input, the first half of the batch: the accumulator's four steps, and the array that the
  call leaves.
-/
module

public import proofs.«01_k».proof.Proof.Tile2

@[expose] public section

set_option maxRecDepth 16384

noncomputable section

namespace Cert.Input2

open Idealize.ShloMosaic hiding ix2 ix3 ix4
open Idealize.ShloMosaic.ValueIdx Idealize.ShloMosaic.TcCoe Idealize.SL.Sem Cert.Kernel2Ideal Cert.Kernel2Ideal.Gen

section Points

variable {F : FTy → Type} [FloatOps F] (m : (ℓ : Loc nD τ sig) → Buf (Elt F) ℓ) (c : Dev nD) (hO : Ok m)

/-- A grid point's block of the segments. -/
def segBlock (t : Fin (cfgM m hO).N) : Vec F S2x1024x1024 .bf16 := iblk m hO c 0 t

/-- A grid point's block of the weights. -/
def weightBlock (t : Fin (cfgM m hO).N) : Vec F S2048x1024 .bf16 := iblk m hO c 1 t

/-- The accumulator after a grid point. -/
def acc (n : ℕ) (hn : n < (cfgM m hO).N) : Vec F S1024x1024 .f32 := (outsAt0 m hO c n hn).2

/-- The result's block after a grid point. -/
def out (n : ℕ) (hn : n < (cfgM m hO).N) : Vec F S1024x1024 .f32 := (outsAt0 m hO c n hn).1

/-- What the first point of a tile leaves in the accumulator. -/
theorem at_first (t : Fin (cfgM m hO).N) (h0 : t.val % 4 = 0) (h1 : ¬(1 ≤ t.val % 4 ∧ t.val % 4 ≤ 2)) (h2 : ¬t.val % 4 = 3) :
    acc m c hO t.val t.isLt = k0_pay1 (seg0 (segBlock m c hO t)) (half0 (weightBlock m c hO t)) (seg1 (segBlock m c hO t)) (half1 (weightBlock m c hO t)) := by
  unfold acc
  rw [outsAt0_A m hO c t h0 h1 h2]
  dsimp only
  have e0 := first (F := F) c (grid0.coords t) (ms0_0 m hO t) (hs0_0 m hO t) (ms0_1 m hO t) (hs0_1 m hO t) (ms0_2 m hO t) (hs0_2 m hO t) (ms0_3 m hO t) (hs0_3 m hO t) scM0_0
    (Memref.isWhole_whole _)
  have e1 := e0 (iblk m hO c 0 t) (iblk m hO c 1 t)
  have e2 := e1 (iblk m hO c 2 t) (tbl m 0)
  have e4 := e2 ((hcond0_0 t).mpr h0) (fun h => h1 ((hcond0_1 t).mp h)) (fun h => h2 ((hcond0_2 t).mp h))
  exact e4

/-- What a middle point leaves there. -/
theorem at_middle (t : Fin (cfgM m hO).N) (h0 : ¬t.val % 4 = 0) (h1 : (1 ≤ t.val % 4 ∧ t.val % 4 ≤ 2)) (h2 : ¬t.val % 4 = 3)
    (hp : t.val - 1 < (cfgM m hO).N) :
    acc m c hO t.val t.isLt = k0_pay2 (acc m c hO (t.val - 1) hp) (seg0 (segBlock m c hO t)) (half0 (weightBlock m c hO t)) (seg1 (segBlock m c hO t)) (half1 (weightBlock m c hO t)) := by
  unfold acc
  rw [outsAt0_B m hO c t h0 h1 h2]
  dsimp only
  have e0 := middle (F := F) c (grid0.coords t) (ms0_0 m hO t) (hs0_0 m hO t) (ms0_1 m hO t) (hs0_1 m hO t) (ms0_2 m hO t) (hs0_2 m hO t) (ms0_3 m hO t) (hs0_3 m hO t) scM0_0
    (Memref.isWhole_whole _)
  have e1 := e0 (iblk m hO c 0 t) (iblk m hO c 1 t)
  have e2 := e1 (iblk m hO c 2 t) (tbl m 0)
  have e3 := e2 (outsAt0 m hO c (t.val - 1) hp).2
  have e4 := e3 (fun h => h0 ((hcond0_0 t).mp h)) ((hcond0_1 t).mpr h1) (fun h => h2 ((hcond0_2 t).mp h))
  exact e4

/-- What the last point leaves in the result's block. -/
theorem at_last (t : Fin (cfgM m hO).N) (h0 : ¬t.val % 4 = 0) (h1 : ¬(1 ≤ t.val % 4 ∧ t.val % 4 ≤ 2)) (h2 : t.val % 4 = 3)
    (hp : t.val - 1 < (cfgM m hO).N) :
    out m c hO t.val t.isLt = k0_pay3 (acc m c hO (t.val - 1) hp) (seg0 (segBlock m c hO t)) (half0 (weightBlock m c hO t)) (seg1 (segBlock m c hO t)) (half1 (weightBlock m c hO t)) := by
  unfold out
  rw [outsAt0_C m hO c t h0 h1 h2]
  dsimp only
  have e0 := last (F := F) c (grid0.coords t) (ms0_0 m hO t) (hs0_0 m hO t) (ms0_1 m hO t) (hs0_1 m hO t) (ms0_2 m hO t) (hs0_2 m hO t) (ms0_3 m hO t) (hs0_3 m hO t) scM0_0
    (Memref.isWhole_whole _)
  have e1 := e0 (iblk m hO c 0 t) (iblk m hO c 1 t)
  have e2 := e1 (iblk m hO c 2 t) (tbl m 0)
  have e3 := e2 (outsAt0 m hO c (t.val - 1) hp).2
  have e4 := e3 (fun h => h0 ((hcond0_0 t).mp h)) (fun h => h1 ((hcond0_1 t).mp h)) ((hcond0_2 t).mpr h2)
  exact e4

theorem index3 (t : Fin (cfgM m hO).N) : ((cfgM m hO).win 3).index t = ![t.val / 4, 0] := index3_table t

/-- The array after the call, when the tiles' last points cover it and each leaves its block of an array. -/
theorem array_of_blocks (hcov : ((cfgM m hO).win 3).Covers) (R : Vec F S2048x1024 .f32)
    (hR : ∀ t : Fin (cfgM m hO).N, t.val % 4 = 3 → ∀ (h : t.val < 8) (a b : Fin 1024), out m c hO t.val t.isLt (ix2 a b) = R (ix2 ⟨t.val / 4 * 1024 + a.val, by omega⟩ b)) :
    ((dats m hO 0 c).arrAt 3 (cfgM m hO).N : Vec F S2048x1024 .f32) = R := by
  refine (dats m hO 0 c).arrAt_eq_of_covers 3 _ hcov fun t hf (y : S1024x1024.Idx) => ?_
  have h8 : t.val < 8 := lt_of_lt_of_eq t.isLt N_0
  have hi : (((cfgM m hO).win 3).blk t).view.emb y = ix2 ⟨t.val / 4 * 1024 + (y 0).val, by have h : (y 0).val < 1024 := (y 0).isLt; omega⟩ (y 1) := by
    blk_ext [index3 m hO t]
  rw [hi, after0_3]
  refine Eq.trans ?_ (hR t ((flush0_3 _ t).mp hf) h8 (y 0) (y 1))
  exact congrArg (out m c hO t.val t.isLt) (ValueIdx.eq_ix2 (n0 := 1024) (n1 := 1024) y)

end Points

theorem covers_table : ((cfg0 (F := Ideal) ⟨table, ok_table⟩).win 3).Covers := by decide +kernel

variable (m : (ℓ : Loc nD τ sig) → Buf (Elt Ideal) ℓ) (c : Dev nD) (hO : Ok m)

section Chain

variable (n : ℕ) (h : n % 4 = 0) (a b : Fin 1024) (w : Fin 4096) (hw : w.val = n / 4 * 1024 + a.val)
include h hw

theorem acc0 (hn : n < (cfgM m hO).N) : (acc m c hO n hn : S1024x1024.Idx → EReal) (ix2 a b) = step m c w b 0 := by
  refine (congrFun (at_first m c hO ⟨n, hn⟩ h (by dsimp only; omega) (by dsimp only; omega)) (ix2 a b)).trans ?_
  exact (pay1_apply _ _ a b).trans (step_eq m c hO 0 ⟨n, hn⟩ h a b w hw)

theorem acc1 (hn : n + 1 < (cfgM m hO).N) : (acc m c hO (n + 1) hn : S1024x1024.Idx → EReal) (ix2 a b) = step m c w b 0 + step m c w b 1 := by
  refine (congrFun (at_middle m c hO ⟨n + 1, hn⟩ (by dsimp only; omega) (by dsimp only; omega) (by dsimp only; omega) (by dsimp only; omega)) (ix2 a b)).trans ?_
  exact (pay2_apply _ _ _ a b).trans (congrArg₂ (· + ·) (acc0 m c hO n h a b w hw (by omega))
    (step_eq m c hO 1 ⟨n + 1, hn⟩ (by show (n + 1) % 4 = 1; omega) a b w (by dsimp only; omega)))

theorem acc2 (hn : n + 2 < (cfgM m hO).N) :
    (acc m c hO (n + 2) hn : S1024x1024.Idx → EReal) (ix2 a b) = step m c w b 0 + step m c w b 1 + step m c w b 2 := by
  refine (congrFun (at_middle m c hO ⟨n + 2, hn⟩ (by dsimp only; omega) (by dsimp only; omega) (by dsimp only; omega) (by dsimp only; omega)) (ix2 a b)).trans ?_
  exact (pay2_apply _ _ _ a b).trans (congrArg₂ (· + ·) (acc1 m c hO n h a b w hw (by omega))
    (step_eq m c hO 2 ⟨n + 2, hn⟩ (by show (n + 2) % 4 = 2; omega) a b w (by dsimp only; omega)))

theorem out3 (hn : n + 3 < (cfgM m hO).N) :
    (out m c hO (n + 3) hn : S1024x1024.Idx → EReal) (ix2 a b) = step m c w b 0 + step m c w b 1 + step m c w b 2 + step m c w b 3 := by
  refine (congrFun (at_last m c hO ⟨n + 3, hn⟩ (by dsimp only; omega) (by dsimp only; omega) (by dsimp only; omega) (by dsimp only; omega)) (ix2 a b)).trans ?_
  exact (pay3_apply _ _ _ a b).trans (congrArg₂ (· + ·) (acc2 m c hO n h a b w hw (by omega))
    (step_eq m c hO 3 ⟨n + 3, hn⟩ (by show (n + 3) % 4 = 3; omega) a b w (by dsimp only; omega)))

end Chain

/-- The tiles' last points write every block of the result. -/
theorem covers : ((cfgM m hO).win 3).Covers := by
  have h : adm m hO = ⟨table, ok_table⟩ := Subtype.ext (tbl_eq m)
  show ((cfg0 (adm m hO)).win 3).Covers
  rw [h]
  exact covers_table

/-- The result's block at the last point of a tile: the product over all 8192 joined columns. -/
theorem out_eq (n : ℕ) (hn : n < (cfgM m hO).N) (h3 : n % 4 = 3) (a b : Fin 1024) (w : Fin 4096) (hw : w.val = n / 4 * 1024 + a.val) :
    (out m c hO n hn : S1024x1024.Idx → EReal) (ix2 a b) = ∑ q, term m c w b q := by
  obtain ⟨n', rfl⟩ : ∃ n', n = n' + 3 := ⟨n - 3, by omega⟩
  exact (out3 m c hO n' (by omega) a b w (by omega) hn).trans (Segments.sum_pairs (term m c w b) (step m c w b) fun k => rfl)

/-- The array after the call. -/
theorem array (R : S2048x1024.Idx → EReal) (hR : ∀ (a : Fin 2048) b, R (ix2 a b) = ∑ q, term m c ⟨a.val, by omega⟩ b q) :
    ((dats m hO 0 c).arrAt 3 (cfgM m hO).N : Vec Ideal S2048x1024 .f32) = R := by
  refine array_of_blocks m c hO (covers m hO) R fun t h3 ht a b => ?_
  refine (out_eq m c hO t.val t.isLt h3 a b ⟨(t.val / 4 * 1024 + a.val), by omega⟩ (by dsimp only <;> omega)).trans (hR ⟨t.val / 4 * 1024 + a.val, by omega⟩ b).symm

end Cert.Input2
-- ==== Proof.Claims2.lean ====
/-
  The gradient of the block's input, the first half of the batch: the claims. The programs run and leave their arguments as
  they were, and over the real numbers the kernel leaves the reference's gradient.
-/
module

public import proofs.«01_k».proof.Defs
public import proofs.«01_k».proof.Proof.Input2
public import proofs.«01_k».proof.Proof.Gen.Reference2Ideal.Read
public import Idealize.ShloMosaic.Lib.Quiescent

@[expose] public section

set_option maxRecDepth 16384

noncomputable section

namespace Cert.Input2

open Idealize.ShloMosaic hiding ix2 ix3 ix4
open Idealize.ShloMosaic.ValueIdx Idealize.ShloMosaic.TcCoe Idealize.SL.Sem Cert.Kernel2Ideal Cert.Kernel2Ideal.Gen

/-- The kernel runs at the machine's floats and leaves its arguments as they were. -/
theorem frame_p : Cert.quiescent_Kernel2 := fun m ρ _ => Cert.Kernel2.Gen.frame m ρ (Machine.ok m)

/-- The idealized kernel runs and leaves its arguments as they were. -/
theorem frame_pi : Cert.quiescent_Kernel2Ideal := fun m ρ _ => Cert.Kernel2Ideal.Gen.frame m ρ (ok m)

/-- The idealized reference runs and leaves its arguments as they were; it has no semaphores. -/
theorem frame_ri : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The idealization names no constant. -/
theorem preserves : Cert.preserves_Kernel2_Kernel2Ideal := trivial

section Host

variable (x : FVec Ideal S4096x7872 .f32) (y : FVec Ideal S1024x7872 .f32)

/-- The gradient's columns in the call's order, narrowed. -/
def joinedColumns : FVec Ideal S4096x8192 .bf16 :=
  concatenate S4096x8192 1 [⟨S4096x3072, (extractStridedSlice S4096x3072 ![0, 4800] (truncf .bf16 x bitsLt_bf16_f32 : FVec Ideal S4096x7872 .bf16) slices_S4096x7872_S4096x3072_0_4800 : FVec Ideal S4096x3072 .bf16)⟩,
    ⟨S4096x704, (extractStridedSlice S4096x704 ![0, 4096] (truncf .bf16 x bitsLt_bf16_f32 : FVec Ideal S4096x7872 .bf16) slices_S4096x7872_S4096x704_0_4096 : FVec Ideal S4096x704 .bf16)⟩,
    ⟨S4096x320, (broadcastInDim S4096x320 ![] bcast_S_S4096x320 (constant S_ .bf16 0x0000#16 : FVec Ideal S_ .bf16) : FVec Ideal S4096x320 .bf16)⟩,
    ⟨S4096x4096, (extractStridedSlice S4096x4096 ![0, 0] (truncf .bf16 x bitsLt_bf16_f32 : FVec Ideal S4096x7872 .bf16) slices_S4096x7872_S4096x4096_0_0 : FVec Ideal S4096x4096 .bf16)⟩]
    concatenates_S4096x3072_S4096x704_S4096x320_S4096x4096_S4096x8192_d1

/-- The weights, transposed and narrowed. -/
def turned : FVec Ideal S7872x1024 .bf16 := truncf .bf16 (transpose S7872x1024 [1, 0] y transposes_S1024x7872_S7872x1024_1_0 : FVec Ideal S7872x1024 .f32) bitsLt_bf16_f32

/-- Their rows in the call's order. -/
def joinedRows : FVec Ideal S8192x1024 .bf16 :=
  concatenate S8192x1024 0 [⟨S3072x1024, (extractStridedSlice S3072x1024 ![4800, 0] (turned y) slices_S7872x1024_S3072x1024_4800_0 : FVec Ideal S3072x1024 .bf16)⟩,
    ⟨S704x1024, (extractStridedSlice S704x1024 ![4096, 0] (turned y) slices_S7872x1024_S704x1024_4096_0 : FVec Ideal S704x1024 .bf16)⟩,
    ⟨S320x1024, (broadcastInDim S320x1024 ![] bcast_S_S320x1024 (constant S_ .bf16 0x0000#16 : FVec Ideal S_ .bf16) : FVec Ideal S320x1024 .bf16)⟩,
    ⟨S4096x1024, (extractStridedSlice S4096x1024 ![0, 0] (turned y) slices_S7872x1024_S4096x1024_0_0 : FVec Ideal S4096x1024 .bf16)⟩]
    concatenates_S3072x1024_S704x1024_S320x1024_S4096x1024_S8192x1024_d0

theorem turned_apply (q : Fin 7872) (b : Fin 1024) : (turned y (ix2 q b) : EReal) = y (ix2 b q) := by
  unfold turned
  rw [truncf_apply]
  exact transpose_apply [1, 0] _ transposes_S1024x7872_S7872x1024_1_0 (ix2 q b) (ix2 b q) (fun z => match z with
    | ⟨0, _⟩ => rfl
    | ⟨1, _⟩ => rfl)

theorem zero_bf16 : Ideal.ofBits .bf16 0x0000#16 = 0 := by simp [Ideal.ofBits, Ideal.ieee]

theorem columns_1 (a : Fin 4096) (q : Fin 3072) : (joinedColumns x (ix2 a ⟨q.val, by omega⟩) : EReal) = x (ix2 a ⟨4800 + q.val, by omega⟩) := by
  unfold joinedColumns
  refine (Segments.cols_1 _ _ _ _ _ a q).trans (extractStridedSlice_apply _ _ _ _ (ix2 a ⟨4800 + q.val, by omega⟩) fun z => ?_)
  match z with
  | ⟨0, _⟩ => show a.val = 0 + a.val; omega
  | ⟨1, _⟩ => rfl

theorem columns_2 (a : Fin 4096) (q : Fin 704) : (joinedColumns x (ix2 a ⟨3072 + q.val, by omega⟩) : EReal) = x (ix2 a ⟨4096 + q.val, by omega⟩) := by
  unfold joinedColumns
  refine (Segments.cols_2 _ _ _ _ _ a q).trans (extractStridedSlice_apply _ _ _ _ (ix2 a ⟨4096 + q.val, by omega⟩) fun z => ?_)
  match z with
  | ⟨0, _⟩ => show a.val = 0 + a.val; omega
  | ⟨1, _⟩ => rfl

theorem columns_3 (a : Fin 4096) (q : Fin 320) : (joinedColumns x (ix2 a ⟨3776 + q.val, by omega⟩) : EReal) = 0 := by
  unfold joinedColumns
  exact (Segments.cols_3 _ _ _ _ _ a q).trans ((broadcastInDim_apply _ _ _ _ (fun z => z.elim0) fun z => z.elim0).trans zero_bf16)

theorem columns_4 (a : Fin 4096) (q : Fin 4096) : (joinedColumns x (ix2 a ⟨4096 + q.val, by omega⟩) : EReal) = x (ix2 a ⟨q.val, by omega⟩) := by
  unfold joinedColumns
  refine (Segments.cols_4 _ _ _ _ _ a q).trans (extractStridedSlice_apply _ _ _ _ (ix2 a ⟨q.val, by omega⟩) fun z => ?_)
  match z with
  | ⟨0, _⟩ => show a.val = 0 + a.val; omega
  | ⟨1, _⟩ => show q.val = 0 + q.val; omega

theorem rows_1 (b : Fin 1024) (q : Fin 3072) : (joinedRows y (ix2 ⟨q.val, by omega⟩ b) : EReal) = y (ix2 b ⟨4800 + q.val, by omega⟩) := by
  unfold joinedRows
  refine (Segments.rows_1 _ _ _ _ _ b q).trans ((extractStridedSlice_apply _ _ _ _ (ix2 ⟨4800 + q.val, by omega⟩ b) fun z => ?_).trans (turned_apply y _ b))
  match z with
  | ⟨0, _⟩ => rfl
  | ⟨1, _⟩ => show b.val = 0 + b.val; omega

theorem rows_2 (b : Fin 1024) (q : Fin 704) : (joinedRows y (ix2 ⟨3072 + q.val, by omega⟩ b) : EReal) = y (ix2 b ⟨4096 + q.val, by omega⟩) := by
  unfold joinedRows
  refine (Segments.rows_2 _ _ _ _ _ b q).trans ((extractStridedSlice_apply _ _ _ _ (ix2 ⟨4096 + q.val, by omega⟩ b) fun z => ?_).trans (turned_apply y _ b))
  match z with
  | ⟨0, _⟩ => rfl
  | ⟨1, _⟩ => show b.val = 0 + b.val; omega

theorem rows_4 (b : Fin 1024) (q : Fin 4096) : (joinedRows y (ix2 ⟨4096 + q.val, by omega⟩ b) : EReal) = y (ix2 b ⟨q.val, by omega⟩) := by
  unfold joinedRows
  refine (Segments.rows_4 _ _ _ _ _ b q).trans ((extractStridedSlice_apply _ _ _ _ (ix2 ⟨q.val, by omega⟩ b) fun z => ?_).trans (turned_apply y _ b))
  match z with
  | ⟨0, _⟩ => show q.val = 0 + q.val; omega
  | ⟨1, _⟩ => show b.val = 0 + b.val; omega

/-- The product over the joined axis is the product over the original one: the padding's columns are zero. -/
theorem sum_joined (a : Fin 4096) (b : Fin 1024) :
    (∑ q : Fin 8192, (joinedColumns x (ix2 a q) : EReal) * joinedRows y (ix2 q b)) = ∑ p : Fin 7872, (x (ix2 a p) : EReal) * y (ix2 b p) :=
  Segments.sum_segments (fun q => (joinedColumns x (ix2 a q) : EReal) * joinedRows y (ix2 q b)) (fun p => (x (ix2 a p) : EReal) * y (ix2 b p))
    (fun q => congrArg₂ (· * ·) (columns_1 x a q) (rows_1 y b q)) (fun q => congrArg₂ (· * ·) (columns_2 x a q) (rows_2 y b q))
    (fun q => (congrArg (· * (joinedRows y (ix2 ⟨3776 + q.val, by omega⟩ b) : EReal)) (columns_3 x a q)).trans (zero_mul _))
    (fun q => congrArg₂ (· * ·) (columns_4 x a q) (rows_4 y b q))

end Host

variable (m : (ℓ : Loc nD τ sig) → Buf (Elt Ideal) ℓ) (c : Dev nD)

theorem V_segs : segs m c = (transpose S8x4096x1024 [1, 0, 2] (shapeCast S4096x8x1024 (joinedColumns (m ((c : Thread nD τ).loc main_arg0))) shapeCasts_S4096x8192_S4096x8x1024
    : FVec Ideal S4096x8x1024 .bf16) transposes_S4096x8x1024_S8x4096x1024_1_0_2 : FVec Ideal S8x4096x1024 .bf16) := by
  unfold segs V joinedColumns
  after_reads_simp
  rfl

theorem V_wt : wt m c = joinedRows (m ((c : Thread nD τ).loc main_arg1)) := by
  unfold wt V joinedRows turned
  after_reads_simp
  rfl

theorem segs_apply (x : FVec Ideal S4096x7872 .f32) (hx : m ((c : Thread nD τ).loc main_arg0) = x) (a : Fin 4096) (q : Fin 8192) :
    segs m c (ix3 ⟨q.val / 1024, by omega⟩ a ⟨q.val % 1024, by omega⟩) = joinedColumns x (ix2 a q) := by
  subst hx
  refine (congrFun (V_segs m c) _).trans ?_
  refine (transpose_apply [1, 0, 2] _ _ _ (ix3 a ⟨q.val / 1024, by omega⟩ ⟨q.val % 1024, by omega⟩) (fun z => match z with
    | ⟨0, _⟩ => rfl
    | ⟨1, _⟩ => rfl
    | ⟨2, _⟩ => rfl)).trans ?_
  refine shapeCast_apply _ _ _ (ix2 a q) ?_
  rw [Shape.rowMajor_val_three, Shape.rowMajor_val_two]
  show a.val * 8192 + q.val = (a.val * 8 + q.val / 1024) * 1024 + q.val % 1024
  omega

theorem wt_apply (y : FVec Ideal S1024x7872 .f32) (hy : m ((c : Thread nD τ).loc main_arg1) = y) (i : S8192x1024.Idx) : wt m c i = joinedRows y i := by
  subst hy
  exact congrFun (V_wt m c) i

open Cert.Reference2Ideal.Read in
/-- The reference's gradient at an index. -/
theorem reference_apply (x : S4096x7872.Idx → EReal) (y : S1024x7872.Idx → EReal) (a : Fin 2048) (b : Fin 1024) :
    val_main_v3 (F := Ideal) x y (ix2 a b) = ∑ k : Fin 7872, x (ix2 ⟨a.val, by omega⟩ k) * y (ix2 b k) := by
  show (val_main_v3 (F := Ideal) x y (ix2 a b) : EReal) = _
  rw [val_main_v3_apply, val_main_v2_apply]
  refine Finset.sum_congr rfl fun k _ => ?_
  refine congrArg₂ (· * ·) (congrArg _ (funext fun z => ?_)) (congrArg _ (funext fun z => ?_))
  · match z with
    | ⟨0, _⟩ => exact Fin.ext rfl
    | ⟨1, _⟩ => rfl
  · match z with
    | ⟨0, _⟩ => rfl
    | ⟨1, _⟩ => rfl

/-- The array after the call is the reference's gradient. -/
theorem result (x : S4096x7872.Idx → EReal) (y : S1024x7872.Idx → EReal) (hx : m ((c : Thread nD τ).loc main_arg0) = x)
    (hy : m ((c : Thread nD τ).loc main_arg1) = y) :
    ((dats m (ok m) 0 c).arrAt 3 (cfgM m (ok m)).N : Vec Ideal S2048x1024 .f32) = Cert.Reference2Ideal.Read.val_main_v3 (F := Ideal) x y := by
  refine array m c (ok m) _ fun a b => (reference_apply x y a b).trans ((sum_joined x y _ b).symm.trans (Finset.sum_congr rfl fun q _ => ?_))
  exact congrArg₂ (· * ·) (segs_apply m c x hx _ q).symm (wt_apply m c y hy _).symm

/-- The kernel's gradient is the reference's. -/
theorem algebraic : Cert.algebraic_Kernel2Ideal_Reference2Ideal := by
  intro m g m' g' _ hagree
  refine ⟨fun c => (dats m (ok m) 0 c).arrAt 3 (cfgM m (ok m)).N, ?_, ?_⟩
  · exact (θ_run defs _ _).mono (fun r h c => ⟨(h c).1 3, ((h c).2 main_arg0 (by decide : main_arg0 ∈ Pipeline.restRefs sig spec0)).trans (V_main_arg0 m c),
      ((h c).2 main_arg1 (by decide : main_arg1 ∈ Pipeline.restRefs sig spec0)).trans (V_main_arg1 m c)⟩) (run_main m g (ok m))
  refine (θ_run Cert.Reference2Ideal.defs _ _).mono (fun r h c => ?_) (Cert.Reference2Ideal.Value.run (F := Ideal) m' g')
  obtain ⟨hv, hargs⟩ := h c
  obtain ⟨a0, a1⟩ := hagree c
  exact ⟨hv.trans ((Cert.Reference2Ideal.Read.val_main_v3_eq _ _).trans (result m c _ _ a0.symm a1.symm).symm), hargs⟩

end Cert.Input2
-- ==== Proof.Tile3.lean ====
/-
  The gradient of the block's input, the second half of the batch: the prefetched table, the call's blocks, the
  products that a grid point forms from them.
-/
module

public import proofs.«01_k».proof.Proof.Segments
public import proofs.«01_k».proof.Proof.Gen.Kernel3.Frame
public import proofs.«01_k».proof.Proof.Gen.Kernel3Ideal.Frame
public import Idealize.ShloMosaic.Lib.Pipeline.ValueKit
public import Idealize.ShloMosaic.Lib.StableHlo.RunRead

@[expose] public section

set_option maxRecDepth 16384

noncomputable section

namespace Cert.Input3.Machine

open Idealize.ShloMosaic hiding ix2 ix3 ix4
open Idealize.ShloMosaic.ValueIdx Idealize.ShloMosaic.TcCoe Idealize.SL.Sem Cert.Kernel3 Cert.Kernel3.Gen

/-- The prefetched table: the half of the batch. -/
def table : pre0.Contents (Elt Bits) := fun | 0 => fun _ => (1#32 : BitVec 32)

variable (m : (ℓ : Loc nD τ sig) → Buf (Elt Bits) ℓ) (c : Dev nD)

theorem V_table : V m c main_v16 = (broadcastInDim S1 ![] bcast_S_S1 (constantI S_ 32 1#32) : IVec S1 32) := by
  unfold V
  after_reads_simp

theorem tbl_eq : tbl m = table := by
  funext j
  match j with
  | 0 => exact (V_table m 0).trans rfl

theorem ok_table : ok0 table := by decide +kernel

/-- The blocks that the table names lie in their array. -/
theorem ok : Ok m := by
  show ok0 (tbl m)
  rw [tbl_eq]
  exact ok_table

end Cert.Input3.Machine

namespace Cert.Input3

open Idealize.ShloMosaic hiding ix2 ix3 ix4
open Idealize.ShloMosaic.ValueIdx Idealize.ShloMosaic.TcCoe Idealize.SL.Sem Cert.Kernel3Ideal Cert.Kernel3Ideal.Gen

/-- The prefetched table: the half of the batch. -/
def table : pre0.Contents (Elt Ideal) := fun | 0 => fun _ => (1#32 : BitVec 32)

variable (m : (ℓ : Loc nD τ sig) → Buf (Elt Ideal) ℓ) (c : Dev nD)

theorem V_table : V m c main_v16 = (broadcastInDim S1 ![] bcast_S_S1 (constantI S_ 32 1#32) : IVec S1 32) := by
  unfold V
  after_reads_simp

theorem tbl_eq : tbl m = table := by
  funext j
  match j with
  | 0 => exact (V_table m 0).trans rfl

theorem ok_table : ok0 table := by decide +kernel

/-- The blocks that the table names lie in their array. -/
theorem ok : Ok m := by
  show ok0 (tbl m)
  rw [tbl_eq]
  exact ok_table

theorem index0_table : ∀ t : Fin grid0.N, cc0_transform_0 inb_S1_S1_0 numel1_S1 table (grid0.coords t) = ![t.val % 4, 2 + t.val / 4, 0] := by
  decide +kernel

theorem index1_table : ∀ t : Fin grid0.N, cc0_transform_1 (grid0.coords t) = ![t.val % 4, 0] := by
  decide +kernel

theorem index3_table : ∀ t : Fin grid0.N, cc0_transform_3 (grid0.coords t) = ![t.val / 4, 0] := by
  decide +kernel

section Steps

variable {F : FTy → Type} [FloatOps F]

/-- The first 1024 columns of a block of the gradient. -/
def seg0 (x : Vec F S2x1024x1024 .bf16) : Vec F S1x1024x1024 .bf16 :=
  View.ld x (Rect.unit (s := S2x1024x1024) ![0, 0, 0] S1x1024x1024.size inb_S2x1024x1024_S1x1024x1024_0_0_0)
/-- The next 1024. -/
def seg1 (x : Vec F S2x1024x1024 .bf16) : Vec F S1x1024x1024 .bf16 :=
  View.ld x (Rect.unit (s := S2x1024x1024) ![1, 0, 0] S1x1024x1024.size inb_S2x1024x1024_S1x1024x1024_1_0_0)
/-- The first 1024 rows of a block of the weights. -/
def half0 (y : Vec F S2048x1024 .bf16) : Vec F S1024x1024 .bf16 :=
  View.ld y (Rect.unit (s := S2048x1024) ![0, 0] S1024x1024.size inb_S2048x1024_S1024x1024_0_0)
/-- The next 1024. -/
def half1 (y : Vec F S2048x1024 .bf16) : Vec F S1024x1024 .bf16 :=
  View.ld y (Rect.unit (s := S2048x1024) ![1024, 0] S1024x1024.size inb_S2048x1024_S1024x1024_1024_0)

theorem zeros : (![0, 0] : Fin 2 → ℕ) = fun _ => 0 := funext fun a => by fin_cases a <;> rfl

variable (c : Dev nD) (i : grid0.Coords) (arg3 : Memref sig .tc .vmem S2x1024x1024 .bf16) (h3 : arg3.IsWhole)
    (arg4 : Memref sig .tc .vmem S2048x1024 .bf16) (h4 : arg4.IsWhole) (arg5 : Memref sig .tc .vmem S8x128 .f32) (h5 : arg5.IsWhole)
    (arg6 : Memref sig .tc .vmem S1024x1024 .f32) (h6 : arg6.IsWhole) (arg7 : Memref sig .tc .vmem S1024x1024 .f32) (h7 : arg7.IsWhole)
    (x : Vec F S2x1024x1024 .bf16) (y : Vec F S2048x1024 .bf16) (z : Vec F S8x128 .f32) (xt : TbBuf0 (F := F) c tbM0_0) (s : Vec F S1024x1024 .f32)

/-- The first point of a tile leaves the product of its blocks in the accumulator. -/
theorem first (hc0 hc1 hc2) : sout0_A_0 c i arg3 h3 arg4 h4 arg5 h5 arg6 h6 arg7 h7 hc0 hc1 hc2 x y z xt = k0_pay1 (seg0 x) (half0 y) (seg1 x) (half1 y) := by
  unfold sout0_A_0
  rw [View.read_writes_eq_canon _ _ _ (scover0_A_0 c i arg3 h3 arg4 h4 arg5 h5 arg6 h6 arg7 h7 hc0 hc1 hc2 x y z xt)]
  unfold kernelRun0_A
  dsimp only
  rw [View.canon_unit_zero zeros]
  simp only [View.readAt_eq_ld, h3.read_unread, h4.read_unread]
  rfl

/-- A middle point adds the product of its blocks to the accumulator. -/
theorem middle (hc0 hc1 hc2) : sout0_B_0 c i arg3 h3 arg4 h4 arg5 h5 arg6 h6 arg7 h7 hc0 hc1 hc2 x y z xt s = k0_pay2 s (seg0 x) (half0 y) (seg1 x) (half1 y) := by
  unfold sout0_B_0
  rw [View.read_writes_eq_canon _ _ _ (scover0_B_0 c i arg3 h3 arg4 h4 arg5 h5 arg6 h6 arg7 h7 hc0 hc1 hc2 x y z xt s)]
  unfold kernelRun0_B
  dsimp only
  rw [View.canon_unit_zero zeros]
  simp only [View.readAt_eq_ld, h3.read_unread, h4.read_unread, h7.read_unread, View.ld_unit_zero (S := S1024x1024) zeros]
  rfl

/-- The last point leaves the sum in the result's block. -/
theorem last (hc0 hc1 hc2) : out0_C_3 c i arg3 h3 arg4 h4 arg5 h5 arg6 h6 arg7 h7 hc0 hc1 hc2 x y z xt s = k0_pay3 s (seg0 x) (half0 y) (seg1 x) (half1 y) := by
  unfold out0_C_3
  rw [View.read_writes_eq_canon _ _ _ (cover0_C_3 c i arg3 h3 arg4 h4 arg5 h5 arg6 h6 arg7 h7 hc0 hc1 hc2 x y z xt s)]
  unfold kernelRun0_C
  dsimp only
  rw [View.canon_unit_zero zeros]
  simp only [View.readAt_eq_ld, h3.read_unread, h4.read_unread, h7.read_unread, View.ld_unit_zero (S := S1024x1024) zeros]
  rfl
end Steps

/-- The product that a grid point forms, twice. -/
abbrev dot := dot_S1024x1024_S1024x1024_S1024x1024_1_0_0_1_n_n

theorem lhs_eq (a b : Fin 1024) (q : dot.contr.Idx) (k : Fin 1024) (hk : (q ⟨0, by decide⟩).val = k.val) :
    dot.lhsIdx (ix2 a b) q = ix2 a k := by
  funext x
  refine Fin.ext ?_
  match x with
  | ⟨1, _⟩ => exact (dot.lhsIdx_val_of_single rfl (ix2 a b) q).trans hk
  | ⟨0, _⟩ =>
    show (dot.lhsIdx (ix2 a b) q 0).val = a.val
    unfold DotDims.lhsIdx
    rw [dif_neg (show ¬(0 : Fin S1024x1024.rank) ∈ dot.lhsBatch by decide), dif_pos (show (0 : Fin S1024x1024.rank) ∈ dot.lhsNonContracting by decide)]
    rfl

theorem rhs_eq (a b : Fin 1024) (q : dot.contr.Idx) (k : Fin 1024) (hk : (q ⟨0, by decide⟩).val = k.val) :
    dot.rhsIdx (ix2 a b) q = ix2 k b := by
  funext x
  refine Fin.ext ?_
  match x with
  | ⟨0, _⟩ => exact (dot.rhsIdx_val_of_single rfl (ix2 a b) q).trans hk
  | ⟨1, _⟩ =>
    show (dot.rhsIdx (ix2 a b) q 1).val = b.val
    unfold DotDims.rhsIdx
    rw [dif_neg (show ¬(1 : Fin S1024x1024.rank) ∈ dot.rhsBatch by decide), dif_pos (show (1 : Fin S1024x1024.rank) ∈ dot.rhsNonContracting by decide)]
    rfl

section Sums

variable (u : Vec Ideal S1x1024x1024 .bf16) (v : Vec Ideal S1024x1024 .bf16) (x : Vec Ideal S2x1024x1024 .bf16) (y : Vec Ideal S2048x1024 .bf16)
    (s : Vec Ideal S1024x1024 .f32) (a b : Fin 1024)

/-- One of the two products, at an index. -/
theorem product_apply : (matmul dot none (shapeCast S1024x1024 u shapeCasts_S1x1024x1024_S1024x1024 : FVec Ideal S1024x1024 .bf16)
      (shapeCast S1024x1024 v shapeCasts_S1024x1024_S1024x1024 : FVec Ideal S1024x1024 .bf16) (constant S1024x1024 .f32 0x00000000#32 : FVec Ideal S1024x1024 .f32)
      : S1024x1024.Idx → EReal) (ix2 a b) = ∑ r : Fin 1024, (u (ix3 0 a r) : EReal) * v (ix2 r b) := by
  rw [shapeCast_self v]
  refine (Ideal.matmul_constant_zero_apply (φ₁ := .bf16) (φ₂ := .bf16) _ none _ _ _).trans ?_
  rw [← Equiv.sum_comp (contrEquiv1 dot 1024 rfl rfl).symm]
  refine Finset.sum_congr rfl fun k _ => ?_
  have hk := contrEquiv1_symm_val dot 1024 rfl rfl k
  rw [lhs_eq a b _ k hk, rhs_eq a b _ k hk]
  refine congrArg (· * (v (ix2 k b) : EReal)) (shapeCast_apply _ _ _ (ix3 0 a k) ?_)
  rw [Shape.rowMajor_val_three, Shape.rowMajor_val_two]
  show (0 * 1024 + a.val) * 1024 + k.val = a.val * 1024 + k.val
  omega

/-- The products that a grid point adds to an entry. -/
def pair (x : S2x1024x1024.Idx → EReal) (y : S2048x1024.Idx → EReal) (a b : Fin 1024) : EReal :=
  (∑ r : Fin 1024, x (ix3 0 a r) * y (ix2 ⟨r.val, by omega⟩ b)) + ∑ r : Fin 1024, x (ix3 1 a r) * y (ix2 ⟨1024 + r.val, by omega⟩ b)

theorem seg0_apply (r : Fin 1024) : seg0 x (ix3 0 a r) = x (ix3 0 a r) :=
  View.ld_unit_apply_of x _ _ _ _ _ fun z => match z with
    | ⟨0, _⟩ => rfl
    | ⟨1, _⟩ => by show a.val = 0 + a.val; omega
    | ⟨2, _⟩ => by show r.val = 0 + r.val; omega

theorem seg1_apply (r : Fin 1024) : seg1 x (ix3 0 a r) = x (ix3 1 a r) :=
  View.ld_unit_apply_of x _ _ _ _ _ fun z => match z with
    | ⟨0, _⟩ => rfl
    | ⟨1, _⟩ => by show a.val = 0 + a.val; omega
    | ⟨2, _⟩ => by show r.val = 0 + r.val; omega

theorem half0_apply (r : Fin 1024) : half0 y (ix2 r b) = y (ix2 ⟨r.val, by omega⟩ b) :=
  View.ld_unit_apply_of y _ _ _ _ _ fun z => match z with
    | ⟨0, _⟩ => by show r.val = 0 + r.val; omega
    | ⟨1, _⟩ => by show b.val = 0 + b.val; omega

theorem half1_apply (r : Fin 1024) : half1 y (ix2 r b) = y (ix2 ⟨1024 + r.val, by omega⟩ b) :=
  View.ld_unit_apply_of y _ _ _ _ _ fun z => match z with
    | ⟨0, _⟩ => rfl
    | ⟨1, _⟩ => by show b.val = 0 + b.val; omega

theorem pay1_apply : (k0_pay1 (seg0 x) (half0 y) (seg1 x) (half1 y) : S1024x1024.Idx → EReal) (ix2 a b) = pair x y a b := by
  unfold k0_pay1
  refine (congrFun (shapeCast_self _ _) (ix2 a b)).trans ?_
  refine congrArg₂ (· + ·) ((product_apply _ _ a b).trans ?_) ((product_apply _ _ a b).trans ?_)
  · exact Finset.sum_congr rfl fun r _ => congrArg₂ (· * ·) (seg0_apply x a r) (half0_apply y b r)
  · exact Finset.sum_congr rfl fun r _ => congrArg₂ (· * ·) (seg1_apply x a r) (half1_apply y b r)

theorem pay2_apply : (k0_pay2 s (seg0 x) (half0 y) (seg1 x) (half1 y) : S1024x1024.Idx → EReal) (ix2 a b) = s (ix2 a b) + pair x y a b := by
  refine Eq.trans ?_ (congrArg (s (ix2 a b) + ·) (pay1_apply x y a b))
  unfold k0_pay2 k0_pay1
  simp only [shapeCast_self]
  rfl

theorem pay3_apply : (k0_pay3 s (seg0 x) (half0 y) (seg1 x) (half1 y) : S1024x1024.Idx → EReal) (ix2 a b) = s (ix2 a b) + pair x y a b := by
  refine Eq.trans ?_ (congrArg (s (ix2 a b) + ·) (pay1_apply x y a b))
  unfold k0_pay3 k0_pay1
  simp only [shapeCast_self]
  rfl

end Sums

variable (hO : Ok m)

theorem index0 (t : Fin (cfgM m hO).N) : ((cfgM m hO).win 0).index t = ![t.val % 4, 2 + t.val / 4, 0] := by
  show cc0_transform_0 inb_S1_S1_0 numel1_S1 (tbl m) (grid0.coords t) = _
  rw [tbl_eq]
  exact index0_table t

theorem index1 (t : Fin (cfgM m hO).N) : ((cfgM m hO).win 1).index t = ![t.val % 4, 0] := index1_table t

/-- The gradient's segments, as the call receives them. -/
def segs : S8x4096x1024.Idx → EReal := V m c main_v7

/-- The weights, as the call receives them. -/
def wt : S8192x1024.Idx → EReal := V m c main_v14

/-- A grid point's block of the segments. -/
def lblk (t : Fin (cfgM m hO).N) : S2x1024x1024.Idx → EReal := iblk m hO c 0 t

/-- A grid point's block of the weights. -/
def rblk (t : Fin (cfgM m hO).N) : S2048x1024.Idx → EReal := iblk m hO c 1 t

theorem lblk_seg (t : Fin (cfgM m hO).N) (s : Fin 2) (a r : Fin 1024) (h1 : t.val % 4 * 2 + s.val < 8) (h2 : (2 + t.val / 4) * 1024 + a.val < 4096) :
    lblk m c hO t (ix3 s a r) = segs m c (ix3 ⟨t.val % 4 * 2 + s.val, h1⟩ ⟨(2 + t.val / 4) * 1024 + a.val, h2⟩ r) := by
  have hi : (((cfgM m hO).win 0).blk t).view.emb (ix3 s a r) = ix3 ⟨t.val % 4 * 2 + s.val, h1⟩ ⟨(2 + t.val / 4) * 1024 + a.val, h2⟩ r := by
    blk_ext [index0 m hO t]
  show V m c main_v7 ((((cfgM m hO).win 0).blk t).view.emb (ix3 s a r)) = _
  rw [hi]
  rfl

theorem rblk_apply (t : Fin (cfgM m hO).N) (r : Fin 2048) (b : Fin 1024) (h : t.val % 4 * 2048 + r.val < 8192) :
    rblk m c hO t (ix2 r b) = wt m c (ix2 ⟨t.val % 4 * 2048 + r.val, h⟩ b) := by
  have hi : (((cfgM m hO).win 1).blk t).view.emb (ix2 r b) = ix2 ⟨t.val % 4 * 2048 + r.val, h⟩ b := by
    blk_ext [index1 m hO t]
  show V m c main_v14 ((((cfgM m hO).win 1).blk t).view.emb (ix2 r b)) = _
  rw [hi]
  rfl

/-- An entry's products, one for each of the 8192 joined columns. -/
def term (w : Fin 4096) (b : Fin 1024) (q : Fin 8192) : EReal :=
  segs m c (ix3 ⟨q.val / 1024, by omega⟩ w ⟨q.val % 1024, by omega⟩) * wt m c (ix2 q b)

theorem term_eq (t : Fin (cfgM m hO).N) (s : Fin 2) (a b r : Fin 1024) (w : Fin 4096) (hw : w.val = (2 + t.val / 4) * 1024 + a.val) (x : Fin 2048)
    (hx : x.val = s.val * 1024 + r.val) (q : Fin 8192) (hq : q.val = (t.val % 4 * 2 + s.val) * 1024 + r.val) :
    lblk m c hO t (ix3 s a r) * rblk m c hO t (ix2 x b) = term m c w b q := by
  rw [lblk_seg m c hO t s a r (by omega) (by omega), rblk_apply m c hO t x b (by omega)]
  refine congrArg₂ (· * ·) (congrArg _ ?_) (congrArg _ ?_)
  · refine congr (congrArg₂ ix3 (Fin.ext ?_) (Fin.ext ?_)) (Fin.ext ?_)
    · show t.val % 4 * 2 + s.val = q.val / 1024
      omega
    · exact hw.symm
    · show r.val = q.val % 1024
      omega
  · refine congrArg₂ ix2 (Fin.ext ?_) rfl
    show t.val % 4 * 2048 + x.val = q.val
    omega

/-- The products of one grid point: two blocks of 1024. -/
def step (w : Fin 4096) (b : Fin 1024) (k : Fin 4) : EReal :=
  (∑ r : Fin 1024, term m c w b ⟨(k.val * 2) * 1024 + r.val, by omega⟩) + ∑ r : Fin 1024, term m c w b ⟨(k.val * 2 + 1) * 1024 + r.val, by omega⟩

theorem step_eq (k : Fin 4) (t : Fin (cfgM m hO).N) (hk : t.val % 4 = k.val) (a b : Fin 1024) (w : Fin 4096) (hw : w.val = (2 + t.val / 4) * 1024 + a.val) :
    pair (lblk m c hO t) (rblk m c hO t) a b = step m c w b k := by
  refine congrArg₂ (· + ·) (Finset.sum_congr rfl fun r _ => ?_) (Finset.sum_congr rfl fun r _ => ?_)
  · exact term_eq m c hO t 0 a b r w hw _ (by show r.val = 0 * 1024 + r.val; omega) _ (by show k.val * 2 * 1024 + r.val = (t.val % 4 * 2 + 0) * 1024 + r.val; omega)
  · exact term_eq m c hO t 1 a b r w hw _ (by show 1024 + r.val = 1 * 1024 + r.val; omega) _
      (by show (k.val * 2 + 1) * 1024 + r.val = (t.val % 4 * 2 + 1) * 1024 + r.val; omega)

end Cert.Input3
-- ==== Proof.Input3.lean ====
/-
  The gradient of the block's input, the second half of the batch: the accumulator's four steps, and the array that the
  call leaves.
-/
module

public import proofs.«01_k».proof.Proof.Tile3

@[expose] public section

set_option maxRecDepth 16384

noncomputable section

namespace Cert.Input3

open Idealize.ShloMosaic hiding ix2 ix3 ix4
open Idealize.ShloMosaic.ValueIdx Idealize.ShloMosaic.TcCoe Idealize.SL.Sem Cert.Kernel3Ideal Cert.Kernel3Ideal.Gen

section Points

variable {F : FTy → Type} [FloatOps F] (m : (ℓ : Loc nD τ sig) → Buf (Elt F) ℓ) (c : Dev nD) (hO : Ok m)

/-- A grid point's block of the segments. -/
def segBlock (t : Fin (cfgM m hO).N) : Vec F S2x1024x1024 .bf16 := iblk m hO c 0 t

/-- A grid point's block of the weights. -/
def weightBlock (t : Fin (cfgM m hO).N) : Vec F S2048x1024 .bf16 := iblk m hO c 1 t

/-- The accumulator after a grid point. -/
def acc (n : ℕ) (hn : n < (cfgM m hO).N) : Vec F S1024x1024 .f32 := (outsAt0 m hO c n hn).2

/-- The result's block after a grid point. -/
def out (n : ℕ) (hn : n < (cfgM m hO).N) : Vec F S1024x1024 .f32 := (outsAt0 m hO c n hn).1

/-- What the first point of a tile leaves in the accumulator. -/
theorem at_first (t : Fin (cfgM m hO).N) (h0 : t.val % 4 = 0) (h1 : ¬(1 ≤ t.val % 4 ∧ t.val % 4 ≤ 2)) (h2 : ¬t.val % 4 = 3) :
    acc m c hO t.val t.isLt = k0_pay1 (seg0 (segBlock m c hO t)) (half0 (weightBlock m c hO t)) (seg1 (segBlock m c hO t)) (half1 (weightBlock m c hO t)) := by
  unfold acc
  rw [outsAt0_A m hO c t h0 h1 h2]
  dsimp only
  have e0 := first (F := F) c (grid0.coords t) (ms0_0 m hO t) (hs0_0 m hO t) (ms0_1 m hO t) (hs0_1 m hO t) (ms0_2 m hO t) (hs0_2 m hO t) (ms0_3 m hO t) (hs0_3 m hO t) scM0_0
    (Memref.isWhole_whole _)
  have e1 := e0 (iblk m hO c 0 t) (iblk m hO c 1 t)
  have e2 := e1 (iblk m hO c 2 t) (tbl m 0)
  have e4 := e2 ((hcond0_0 t).mpr h0) (fun h => h1 ((hcond0_1 t).mp h)) (fun h => h2 ((hcond0_2 t).mp h))
  exact e4

/-- What a middle point leaves there. -/
theorem at_middle (t : Fin (cfgM m hO).N) (h0 : ¬t.val % 4 = 0) (h1 : (1 ≤ t.val % 4 ∧ t.val % 4 ≤ 2)) (h2 : ¬t.val % 4 = 3)
    (hp : t.val - 1 < (cfgM m hO).N) :
    acc m c hO t.val t.isLt = k0_pay2 (acc m c hO (t.val - 1) hp) (seg0 (segBlock m c hO t)) (half0 (weightBlock m c hO t)) (seg1 (segBlock m c hO t)) (half1 (weightBlock m c hO t)) := by
  unfold acc
  rw [outsAt0_B m hO c t h0 h1 h2]
  dsimp only
  have e0 := middle (F := F) c (grid0.coords t) (ms0_0 m hO t) (hs0_0 m hO t) (ms0_1 m hO t) (hs0_1 m hO t) (ms0_2 m hO t) (hs0_2 m hO t) (ms0_3 m hO t) (hs0_3 m hO t) scM0_0
    (Memref.isWhole_whole _)
  have e1 := e0 (iblk m hO c 0 t) (iblk m hO c 1 t)
  have e2 := e1 (iblk m hO c 2 t) (tbl m 0)
  have e3 := e2 (outsAt0 m hO c (t.val - 1) hp).2
  have e4 := e3 (fun h => h0 ((hcond0_0 t).mp h)) ((hcond0_1 t).mpr h1) (fun h => h2 ((hcond0_2 t).mp h))
  exact e4

/-- What the last point leaves in the result's block. -/
theorem at_last (t : Fin (cfgM m hO).N) (h0 : ¬t.val % 4 = 0) (h1 : ¬(1 ≤ t.val % 4 ∧ t.val % 4 ≤ 2)) (h2 : t.val % 4 = 3)
    (hp : t.val - 1 < (cfgM m hO).N) :
    out m c hO t.val t.isLt = k0_pay3 (acc m c hO (t.val - 1) hp) (seg0 (segBlock m c hO t)) (half0 (weightBlock m c hO t)) (seg1 (segBlock m c hO t)) (half1 (weightBlock m c hO t)) := by
  unfold out
  rw [outsAt0_C m hO c t h0 h1 h2]
  dsimp only
  have e0 := last (F := F) c (grid0.coords t) (ms0_0 m hO t) (hs0_0 m hO t) (ms0_1 m hO t) (hs0_1 m hO t) (ms0_2 m hO t) (hs0_2 m hO t) (ms0_3 m hO t) (hs0_3 m hO t) scM0_0
    (Memref.isWhole_whole _)
  have e1 := e0 (iblk m hO c 0 t) (iblk m hO c 1 t)
  have e2 := e1 (iblk m hO c 2 t) (tbl m 0)
  have e3 := e2 (outsAt0 m hO c (t.val - 1) hp).2
  have e4 := e3 (fun h => h0 ((hcond0_0 t).mp h)) (fun h => h1 ((hcond0_1 t).mp h)) ((hcond0_2 t).mpr h2)
  exact e4

theorem index3 (t : Fin (cfgM m hO).N) : ((cfgM m hO).win 3).index t = ![t.val / 4, 0] := index3_table t

/-- The array after the call, when the tiles' last points cover it and each leaves its block of an array. -/
theorem array_of_blocks (hcov : ((cfgM m hO).win 3).Covers) (R : Vec F S2048x1024 .f32)
    (hR : ∀ t : Fin (cfgM m hO).N, t.val % 4 = 3 → ∀ (h : t.val < 8) (a b : Fin 1024), out m c hO t.val t.isLt (ix2 a b) = R (ix2 ⟨t.val / 4 * 1024 + a.val, by omega⟩ b)) :
    ((dats m hO 0 c).arrAt 3 (cfgM m hO).N : Vec F S2048x1024 .f32) = R := by
  refine (dats m hO 0 c).arrAt_eq_of_covers 3 _ hcov fun t hf (y : S1024x1024.Idx) => ?_
  have h8 : t.val < 8 := lt_of_lt_of_eq t.isLt N_0
  have hi : (((cfgM m hO).win 3).blk t).view.emb y = ix2 ⟨t.val / 4 * 1024 + (y 0).val, by have h : (y 0).val < 1024 := (y 0).isLt; omega⟩ (y 1) := by
    blk_ext [index3 m hO t]
  rw [hi, after0_3]
  refine Eq.trans ?_ (hR t ((flush0_3 _ t).mp hf) h8 (y 0) (y 1))
  exact congrArg (out m c hO t.val t.isLt) (ValueIdx.eq_ix2 (n0 := 1024) (n1 := 1024) y)

end Points

theorem covers_table : ((cfg0 (F := Ideal) ⟨table, ok_table⟩).win 3).Covers := by decide +kernel

variable (m : (ℓ : Loc nD τ sig) → Buf (Elt Ideal) ℓ) (c : Dev nD) (hO : Ok m)

section Chain

variable (n : ℕ) (h : n % 4 = 0) (a b : Fin 1024) (w : Fin 4096) (hw : w.val = (2 + n / 4) * 1024 + a.val)
include h hw

theorem acc0 (hn : n < (cfgM m hO).N) : (acc m c hO n hn : S1024x1024.Idx → EReal) (ix2 a b) = step m c w b 0 := by
  refine (congrFun (at_first m c hO ⟨n, hn⟩ h (by dsimp only; omega) (by dsimp only; omega)) (ix2 a b)).trans ?_
  exact (pay1_apply _ _ a b).trans (step_eq m c hO 0 ⟨n, hn⟩ h a b w hw)

theorem acc1 (hn : n + 1 < (cfgM m hO).N) : (acc m c hO (n + 1) hn : S1024x1024.Idx → EReal) (ix2 a b) = step m c w b 0 + step m c w b 1 := by
  refine (congrFun (at_middle m c hO ⟨n + 1, hn⟩ (by dsimp only; omega) (by dsimp only; omega) (by dsimp only; omega) (by dsimp only; omega)) (ix2 a b)).trans ?_
  exact (pay2_apply _ _ _ a b).trans (congrArg₂ (· + ·) (acc0 m c hO n h a b w hw (by omega))
    (step_eq m c hO 1 ⟨n + 1, hn⟩ (by show (n + 1) % 4 = 1; omega) a b w (by dsimp only; omega)))

theorem acc2 (hn : n + 2 < (cfgM m hO).N) :
    (acc m c hO (n + 2) hn : S1024x1024.Idx → EReal) (ix2 a b) = step m c w b 0 + step m c w b 1 + step m c w b 2 := by
  refine (congrFun (at_middle m c hO ⟨n + 2, hn⟩ (by dsimp only; omega) (by dsimp only; omega) (by dsimp only; omega) (by dsimp only; omega)) (ix2 a b)).trans ?_
  exact (pay2_apply _ _ _ a b).trans (congrArg₂ (· + ·) (acc1 m c hO n h a b w hw (by omega))
    (step_eq m c hO 2 ⟨n + 2, hn⟩ (by show (n + 2) % 4 = 2; omega) a b w (by dsimp only; omega)))

theorem out3 (hn : n + 3 < (cfgM m hO).N) :
    (out m c hO (n + 3) hn : S1024x1024.Idx → EReal) (ix2 a b) = step m c w b 0 + step m c w b 1 + step m c w b 2 + step m c w b 3 := by
  refine (congrFun (at_last m c hO ⟨n + 3, hn⟩ (by dsimp only; omega) (by dsimp only; omega) (by dsimp only; omega) (by dsimp only; omega)) (ix2 a b)).trans ?_
  exact (pay3_apply _ _ _ a b).trans (congrArg₂ (· + ·) (acc2 m c hO n h a b w hw (by omega))
    (step_eq m c hO 3 ⟨n + 3, hn⟩ (by show (n + 3) % 4 = 3; omega) a b w (by dsimp only; omega)))

end Chain

/-- The tiles' last points write every block of the result. -/
theorem covers : ((cfgM m hO).win 3).Covers := by
  have h : adm m hO = ⟨table, ok_table⟩ := Subtype.ext (tbl_eq m)
  show ((cfg0 (adm m hO)).win 3).Covers
  rw [h]
  exact covers_table

/-- The result's block at the last point of a tile: the product over all 8192 joined columns. -/
theorem out_eq (n : ℕ) (hn : n < (cfgM m hO).N) (h3 : n % 4 = 3) (a b : Fin 1024) (w : Fin 4096) (hw : w.val = (2 + n / 4) * 1024 + a.val) :
    (out m c hO n hn : S1024x1024.Idx → EReal) (ix2 a b) = ∑ q, term m c w b q := by
  obtain ⟨n', rfl⟩ : ∃ n', n = n' + 3 := ⟨n - 3, by omega⟩
  exact (out3 m c hO n' (by omega) a b w (by omega) hn).trans (Segments.sum_pairs (term m c w b) (step m c w b) fun k => rfl)

/-- The array after the call. -/
theorem array (R : S2048x1024.Idx → EReal) (hR : ∀ (a : Fin 2048) b, R (ix2 a b) = ∑ q, term m c ⟨2048 + a.val, by omega⟩ b q) :
    ((dats m hO 0 c).arrAt 3 (cfgM m hO).N : Vec Ideal S2048x1024 .f32) = R := by
  refine array_of_blocks m c hO (covers m hO) R fun t h3 ht a b => ?_
  refine (out_eq m c hO t.val t.isLt h3 a b ⟨2048 + (t.val / 4 * 1024 + a.val), by omega⟩ (by dsimp only <;> omega)).trans (hR ⟨t.val / 4 * 1024 + a.val, by omega⟩ b).symm

end Cert.Input3
-- ==== Proof.Claims3.lean ====
/-
  The gradient of the block's input, the second half of the batch: the claims. The programs run and leave their arguments as
  they were, and over the real numbers the kernel leaves the reference's gradient.
-/
module

public import proofs.«01_k».proof.Defs
public import proofs.«01_k».proof.Proof.Input3
public import proofs.«01_k».proof.Proof.Gen.Reference3Ideal.Read
public import Idealize.ShloMosaic.Lib.Quiescent

@[expose] public section

set_option maxRecDepth 16384

noncomputable section

namespace Cert.Input3

open Idealize.ShloMosaic hiding ix2 ix3 ix4
open Idealize.ShloMosaic.ValueIdx Idealize.ShloMosaic.TcCoe Idealize.SL.Sem Cert.Kernel3Ideal Cert.Kernel3Ideal.Gen

/-- The kernel runs at the machine's floats and leaves its arguments as they were. -/
theorem frame_p : Cert.quiescent_Kernel3 := fun m ρ _ => Cert.Kernel3.Gen.frame m ρ (Machine.ok m)

/-- The idealized kernel runs and leaves its arguments as they were. -/
theorem frame_pi : Cert.quiescent_Kernel3Ideal := fun m ρ _ => Cert.Kernel3Ideal.Gen.frame m ρ (ok m)

/-- The idealized reference runs and leaves its arguments as they were; it has no semaphores. -/
theorem frame_ri : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The idealization names no constant. -/
theorem preserves : Cert.preserves_Kernel3_Kernel3Ideal := trivial

section Host

variable (x : FVec Ideal S4096x7872 .f32) (y : FVec Ideal S1024x7872 .f32)

/-- The gradient's columns in the call's order, narrowed. -/
def joinedColumns : FVec Ideal S4096x8192 .bf16 :=
  concatenate S4096x8192 1 [⟨S4096x3072, (extractStridedSlice S4096x3072 ![0, 4800] (truncf .bf16 x bitsLt_bf16_f32 : FVec Ideal S4096x7872 .bf16) slices_S4096x7872_S4096x3072_0_4800 : FVec Ideal S4096x3072 .bf16)⟩,
    ⟨S4096x704, (extractStridedSlice S4096x704 ![0, 4096] (truncf .bf16 x bitsLt_bf16_f32 : FVec Ideal S4096x7872 .bf16) slices_S4096x7872_S4096x704_0_4096 : FVec Ideal S4096x704 .bf16)⟩,
    ⟨S4096x320, (broadcastInDim S4096x320 ![] bcast_S_S4096x320 (constant S_ .bf16 0x0000#16 : FVec Ideal S_ .bf16) : FVec Ideal S4096x320 .bf16)⟩,
    ⟨S4096x4096, (extractStridedSlice S4096x4096 ![0, 0] (truncf .bf16 x bitsLt_bf16_f32 : FVec Ideal S4096x7872 .bf16) slices_S4096x7872_S4096x4096_0_0 : FVec Ideal S4096x4096 .bf16)⟩]
    concatenates_S4096x3072_S4096x704_S4096x320_S4096x4096_S4096x8192_d1

/-- The weights, transposed and narrowed. -/
def turned : FVec Ideal S7872x1024 .bf16 := truncf .bf16 (transpose S7872x1024 [1, 0] y transposes_S1024x7872_S7872x1024_1_0 : FVec Ideal S7872x1024 .f32) bitsLt_bf16_f32

/-- Their rows in the call's order. -/
def joinedRows : FVec Ideal S8192x1024 .bf16 :=
  concatenate S8192x1024 0 [⟨S3072x1024, (extractStridedSlice S3072x1024 ![4800, 0] (turned y) slices_S7872x1024_S3072x1024_4800_0 : FVec Ideal S3072x1024 .bf16)⟩,
    ⟨S704x1024, (extractStridedSlice S704x1024 ![4096, 0] (turned y) slices_S7872x1024_S704x1024_4096_0 : FVec Ideal S704x1024 .bf16)⟩,
    ⟨S320x1024, (broadcastInDim S320x1024 ![] bcast_S_S320x1024 (constant S_ .bf16 0x0000#16 : FVec Ideal S_ .bf16) : FVec Ideal S320x1024 .bf16)⟩,
    ⟨S4096x1024, (extractStridedSlice S4096x1024 ![0, 0] (turned y) slices_S7872x1024_S4096x1024_0_0 : FVec Ideal S4096x1024 .bf16)⟩]
    concatenates_S3072x1024_S704x1024_S320x1024_S4096x1024_S8192x1024_d0

theorem turned_apply (q : Fin 7872) (b : Fin 1024) : (turned y (ix2 q b) : EReal) = y (ix2 b q) := by
  unfold turned
  rw [truncf_apply]
  exact transpose_apply [1, 0] _ transposes_S1024x7872_S7872x1024_1_0 (ix2 q b) (ix2 b q) (fun z => match z with
    | ⟨0, _⟩ => rfl
    | ⟨1, _⟩ => rfl)

theorem zero_bf16 : Ideal.ofBits .bf16 0x0000#16 = 0 := by simp [Ideal.ofBits, Ideal.ieee]

theorem columns_1 (a : Fin 4096) (q : Fin 3072) : (joinedColumns x (ix2 a ⟨q.val, by omega⟩) : EReal) = x (ix2 a ⟨4800 + q.val, by omega⟩) := by
  unfold joinedColumns
  refine (Segments.cols_1 _ _ _ _ _ a q).trans (extractStridedSlice_apply _ _ _ _ (ix2 a ⟨4800 + q.val, by omega⟩) fun z => ?_)
  match z with
  | ⟨0, _⟩ => show a.val = 0 + a.val; omega
  | ⟨1, _⟩ => rfl

theorem columns_2 (a : Fin 4096) (q : Fin 704) : (joinedColumns x (ix2 a ⟨3072 + q.val, by omega⟩) : EReal) = x (ix2 a ⟨4096 + q.val, by omega⟩) := by
  unfold joinedColumns
  refine (Segments.cols_2 _ _ _ _ _ a q).trans (extractStridedSlice_apply _ _ _ _ (ix2 a ⟨4096 + q.val, by omega⟩) fun z => ?_)
  match z with
  | ⟨0, _⟩ => show a.val = 0 + a.val; omega
  | ⟨1, _⟩ => rfl

theorem columns_3 (a : Fin 4096) (q : Fin 320) : (joinedColumns x (ix2 a ⟨3776 + q.val, by omega⟩) : EReal) = 0 := by
  unfold joinedColumns
  exact (Segments.cols_3 _ _ _ _ _ a q).trans ((broadcastInDim_apply _ _ _ _ (fun z => z.elim0) fun z => z.elim0).trans zero_bf16)

theorem columns_4 (a : Fin 4096) (q : Fin 4096) : (joinedColumns x (ix2 a ⟨4096 + q.val, by omega⟩) : EReal) = x (ix2 a ⟨q.val, by omega⟩) := by
  unfold joinedColumns
  refine (Segments.cols_4 _ _ _ _ _ a q).trans (extractStridedSlice_apply _ _ _ _ (ix2 a ⟨q.val, by omega⟩) fun z => ?_)
  match z with
  | ⟨0, _⟩ => show a.val = 0 + a.val; omega
  | ⟨1, _⟩ => show q.val = 0 + q.val; omega

theorem rows_1 (b : Fin 1024) (q : Fin 3072) : (joinedRows y (ix2 ⟨q.val, by omega⟩ b) : EReal) = y (ix2 b ⟨4800 + q.val, by omega⟩) := by
  unfold joinedRows
  refine (Segments.rows_1 _ _ _ _ _ b q).trans ((extractStridedSlice_apply _ _ _ _ (ix2 ⟨4800 + q.val, by omega⟩ b) fun z => ?_).trans (turned_apply y _ b))
  match z with
  | ⟨0, _⟩ => rfl
  | ⟨1, _⟩ => show b.val = 0 + b.val; omega

theorem rows_2 (b : Fin 1024) (q : Fin 704) : (joinedRows y (ix2 ⟨3072 + q.val, by omega⟩ b) : EReal) = y (ix2 b ⟨4096 + q.val, by omega⟩) := by
  unfold joinedRows
  refine (Segments.rows_2 _ _ _ _ _ b q).trans ((extractStridedSlice_apply _ _ _ _ (ix2 ⟨4096 + q.val, by omega⟩ b) fun z => ?_).trans (turned_apply y _ b))
  match z with
  | ⟨0, _⟩ => rfl
  | ⟨1, _⟩ => show b.val = 0 + b.val; omega

theorem rows_4 (b : Fin 1024) (q : Fin 4096) : (joinedRows y (ix2 ⟨4096 + q.val, by omega⟩ b) : EReal) = y (ix2 b ⟨q.val, by omega⟩) := by
  unfold joinedRows
  refine (Segments.rows_4 _ _ _ _ _ b q).trans ((extractStridedSlice_apply _ _ _ _ (ix2 ⟨q.val, by omega⟩ b) fun z => ?_).trans (turned_apply y _ b))
  match z with
  | ⟨0, _⟩ => show q.val = 0 + q.val; omega
  | ⟨1, _⟩ => show b.val = 0 + b.val; omega

/-- The product over the joined axis is the product over the original one: the padding's columns are zero. -/
theorem sum_joined (a : Fin 4096) (b : Fin 1024) :
    (∑ q : Fin 8192, (joinedColumns x (ix2 a q) : EReal) * joinedRows y (ix2 q b)) = ∑ p : Fin 7872, (x (ix2 a p) : EReal) * y (ix2 b p) :=
  Segments.sum_segments (fun q => (joinedColumns x (ix2 a q) : EReal) * joinedRows y (ix2 q b)) (fun p => (x (ix2 a p) : EReal) * y (ix2 b p))
    (fun q => congrArg₂ (· * ·) (columns_1 x a q) (rows_1 y b q)) (fun q => congrArg₂ (· * ·) (columns_2 x a q) (rows_2 y b q))
    (fun q => (congrArg (· * (joinedRows y (ix2 ⟨3776 + q.val, by omega⟩ b) : EReal)) (columns_3 x a q)).trans (zero_mul _))
    (fun q => congrArg₂ (· * ·) (columns_4 x a q) (rows_4 y b q))

end Host

variable (m : (ℓ : Loc nD τ sig) → Buf (Elt Ideal) ℓ) (c : Dev nD)

theorem V_segs : segs m c = (transpose S8x4096x1024 [1, 0, 2] (shapeCast S4096x8x1024 (joinedColumns (m ((c : Thread nD τ).loc main_arg0))) shapeCasts_S4096x8192_S4096x8x1024
    : FVec Ideal S4096x8x1024 .bf16) transposes_S4096x8x1024_S8x4096x1024_1_0_2 : FVec Ideal S8x4096x1024 .bf16) := by
  unfold segs V joinedColumns
  after_reads_simp
  rfl

theorem V_wt : wt m c = joinedRows (m ((c : Thread nD τ).loc main_arg1)) := by
  unfold wt V joinedRows turned
  after_reads_simp
  rfl

theorem segs_apply (x : FVec Ideal S4096x7872 .f32) (hx : m ((c : Thread nD τ).loc main_arg0) = x) (a : Fin 4096) (q : Fin 8192) :
    segs m c (ix3 ⟨q.val / 1024, by omega⟩ a ⟨q.val % 1024, by omega⟩) = joinedColumns x (ix2 a q) := by
  subst hx
  refine (congrFun (V_segs m c) _).trans ?_
  refine (transpose_apply [1, 0, 2] _ _ _ (ix3 a ⟨q.val / 1024, by omega⟩ ⟨q.val % 1024, by omega⟩) (fun z => match z with
    | ⟨0, _⟩ => rfl
    | ⟨1, _⟩ => rfl
    | ⟨2, _⟩ => rfl)).trans ?_
  refine shapeCast_apply _ _ _ (ix2 a q) ?_
  rw [Shape.rowMajor_val_three, Shape.rowMajor_val_two]
  show a.val * 8192 + q.val = (a.val * 8 + q.val / 1024) * 1024 + q.val % 1024
  omega

theorem wt_apply (y : FVec Ideal S1024x7872 .f32) (hy : m ((c : Thread nD τ).loc main_arg1) = y) (i : S8192x1024.Idx) : wt m c i = joinedRows y i := by
  subst hy
  exact congrFun (V_wt m c) i

open Cert.Reference3Ideal.Read in
/-- The reference's gradient at an index. -/
theorem reference_apply (x : S4096x7872.Idx → EReal) (y : S1024x7872.Idx → EReal) (a : Fin 2048) (b : Fin 1024) :
    val_main_v3 (F := Ideal) x y (ix2 a b) = ∑ k : Fin 7872, x (ix2 ⟨2048 + a.val, by omega⟩ k) * y (ix2 b k) := by
  show (val_main_v3 (F := Ideal) x y (ix2 a b) : EReal) = _
  rw [val_main_v3_apply, val_main_v2_apply]
  refine Finset.sum_congr rfl fun k _ => ?_
  refine congrArg₂ (· * ·) (congrArg _ (funext fun z => ?_)) (congrArg _ (funext fun z => ?_))
  · match z with
    | ⟨0, _⟩ => exact Fin.ext rfl
    | ⟨1, _⟩ => rfl
  · match z with
    | ⟨0, _⟩ => rfl
    | ⟨1, _⟩ => rfl

/-- The array after the call is the reference's gradient. -/
theorem result (x : S4096x7872.Idx → EReal) (y : S1024x7872.Idx → EReal) (hx : m ((c : Thread nD τ).loc main_arg0) = x)
    (hy : m ((c : Thread nD τ).loc main_arg1) = y) :
    ((dats m (ok m) 0 c).arrAt 3 (cfgM m (ok m)).N : Vec Ideal S2048x1024 .f32) = Cert.Reference3Ideal.Read.val_main_v3 (F := Ideal) x y := by
  refine array m c (ok m) _ fun a b => (reference_apply x y a b).trans ((sum_joined x y _ b).symm.trans (Finset.sum_congr rfl fun q _ => ?_))
  exact congrArg₂ (· * ·) (segs_apply m c x hx _ q).symm (wt_apply m c y hy _).symm

/-- The kernel's gradient is the reference's. -/
theorem algebraic : Cert.algebraic_Kernel3Ideal_Reference3Ideal := by
  intro m g m' g' _ hagree
  refine ⟨fun c => (dats m (ok m) 0 c).arrAt 3 (cfgM m (ok m)).N, ?_, ?_⟩
  · exact (θ_run defs _ _).mono (fun r h c => ⟨(h c).1 3, ((h c).2 main_arg0 (by decide : main_arg0 ∈ Pipeline.restRefs sig spec0)).trans (V_main_arg0 m c),
      ((h c).2 main_arg1 (by decide : main_arg1 ∈ Pipeline.restRefs sig spec0)).trans (V_main_arg1 m c)⟩) (run_main m g (ok m))
  refine (θ_run Cert.Reference3Ideal.defs _ _).mono (fun r h c => ?_) (Cert.Reference3Ideal.Value.run (F := Ideal) m' g')
  obtain ⟨hv, hargs⟩ := h c
  obtain ⟨a0, a1⟩ := hagree c
  exact ⟨hv.trans ((Cert.Reference3Ideal.Read.val_main_v3_eq _ _).trans (result m c _ _ a0.symm a1.symm).symm), hargs⟩

end Cert.Input3
-- ==== Proof.Weight4.lean ====
/-
  The gradient of a square weight: block by block, the accumulator's four steps, and the array that the call leaves.
-/
module

public import proofs.«01_k».proof.Proof.Blocks
public import proofs.«01_k».proof.Proof.Gen.Kernel4Ideal.Frame
public import Idealize.ShloMosaic.Lib.Pipeline.ValueKit
public import Idealize.ShloMosaic.Lib.StableHlo.RunRead

@[expose] public section

set_option maxRecDepth 16384

noncomputable section

namespace Cert.Weight4

open Idealize.ShloMosaic hiding ix2 ix3 ix4
open Idealize.ShloMosaic.ValueIdx Idealize.ShloMosaic.TcCoe Idealize.SL.Sem Cert.Kernel4Ideal Cert.Kernel4Ideal.Gen

theorem zeros : (![0, 0] : Fin 2 → ℕ) = fun _ => 0 := funext fun a => by fin_cases a <;> rfl

section Steps

variable {F : FTy → Type} [FloatOps F]
variable (c : Dev nD) (i : grid0.Coords) (arg1 : Memref sig .tc .vmem S1024x1024 .bf16) (h1 : arg1.IsWhole)
    (arg2 : Memref sig .tc .vmem S1024x1024 .bf16) (h2 : arg2.IsWhole) (arg3 : Memref sig .tc .vmem S1024x1024 .bf16) (h3 : arg3.IsWhole)
    (arg4 : Memref sig .tc .vmem S1024x1024 .f32) (h4 : arg4.IsWhole)
    (x : Vec F S1024x1024 .bf16) (y : Vec F S1024x1024 .bf16) (s : Vec F S1024x1024 .f32)

/-- The first point leaves the product of its blocks in the accumulator. -/
theorem first (hc0 hc1 hc2) : sout0_A_0 c i arg1 h1 arg2 h2 arg3 h3 arg4 h4 hc0 hc1 hc2 x y = k0_pay1 x y := by
  unfold sout0_A_0
  rw [View.read_writes_eq_canon _ _ _ (scover0_A_0 c i arg1 h1 arg2 h2 arg3 h3 arg4 h4 hc0 hc1 hc2 x y)]
  unfold kernelRun0_A
  dsimp only
  rw [View.canon_unit_zero zeros]
  simp only [View.readAt_eq_ld, h1.read_unread, h2.read_unread, View.ld_unit_zero (S := S1024x1024) zeros, View.ld_unit_zero (S := S1024x1024) zeros]

/-- A middle point adds the product of its blocks to the accumulator. -/
theorem middle (hc0 hc1 hc2) : sout0_B_0 c i arg1 h1 arg2 h2 arg3 h3 arg4 h4 hc0 hc1 hc2 x y s = k0_pay2 s x y := by
  unfold sout0_B_0
  rw [View.read_writes_eq_canon _ _ _ (scover0_B_0 c i arg1 h1 arg2 h2 arg3 h3 arg4 h4 hc0 hc1 hc2 x y s)]
  unfold kernelRun0_B
  dsimp only
  rw [View.canon_unit_zero zeros]
  simp only [View.readAt_eq_ld, h1.read_unread, h2.read_unread, h4.read_unread, View.ld_unit_zero (S := S1024x1024) zeros,
    View.ld_unit_zero (S := S1024x1024) zeros, View.ld_unit_zero (S := S1024x1024) zeros]

/-- The last point leaves the sum, narrowed, in the result's block. -/
theorem last (hc0 hc1 hc2) : out0_C_2 c i arg1 h1 arg2 h2 arg3 h3 arg4 h4 hc0 hc1 hc2 x y s = k0_pay3 s x y := by
  unfold out0_C_2
  rw [View.read_writes_eq_canon _ _ _ (cover0_C_2 c i arg1 h1 arg2 h2 arg3 h3 arg4 h4 hc0 hc1 hc2 x y s)]
  unfold kernelRun0_C
  dsimp only
  rw [View.canon_unit_zero zeros]
  simp only [View.readAt_eq_ld, h1.read_unread, h2.read_unread, h4.read_unread, View.ld_unit_zero (S := S1024x1024) zeros,
    View.ld_unit_zero (S := S1024x1024) zeros, View.ld_unit_zero (S := S1024x1024) zeros]

end Steps

/-- The product that a grid point forms. -/
abbrev dot := dot_S1024x1024_S1024x1024_S1024x1024_0_0_1_1_n_n

theorem lhs_eq (a : Fin 1024) (b : Fin 1024) (q : dot.contr.Idx) (k : Fin 1024) (hk : (q ⟨0, by decide⟩).val = k.val) :
    dot.lhsIdx (ix2 a b) q = ix2 k a := by
  funext x
  refine Fin.ext ?_
  match x with
  | ⟨0, _⟩ => exact (dot.lhsIdx_val_of_single rfl (ix2 a b) q).trans hk
  | ⟨1, _⟩ =>
    show (dot.lhsIdx (ix2 a b) q 1).val = a.val
    unfold DotDims.lhsIdx
    rw [dif_neg (show ¬(1 : Fin S1024x1024.rank) ∈ dot.lhsBatch by decide), dif_pos (show (1 : Fin S1024x1024.rank) ∈ dot.lhsNonContracting by decide)]
    rfl

theorem rhs_eq (a : Fin 1024) (b : Fin 1024) (q : dot.contr.Idx) (k : Fin 1024) (hk : (q ⟨0, by decide⟩).val = k.val) :
    dot.rhsIdx (ix2 a b) q = ix2 k b := by
  funext x
  refine Fin.ext ?_
  match x with
  | ⟨0, _⟩ => exact (dot.rhsIdx_val_of_single rfl (ix2 a b) q).trans hk
  | ⟨1, _⟩ =>
    show (dot.rhsIdx (ix2 a b) q 1).val = b.val
    unfold DotDims.rhsIdx
    rw [dif_neg (show ¬(1 : Fin S1024x1024.rank) ∈ dot.rhsBatch by decide), dif_pos (show (1 : Fin S1024x1024.rank) ∈ dot.rhsNonContracting by decide)]
    rfl

section Sums

variable (x : Vec Ideal S1024x1024 .bf16) (y : Vec Ideal S1024x1024 .bf16) (s : Vec Ideal S1024x1024 .f32) (a : Fin 1024) (b : Fin 1024)

theorem pay1_apply : (k0_pay1 x y : S1024x1024.Idx → EReal) (ix2 a b) = ∑ r : Fin 1024, x (ix2 r a) * y (ix2 r b) := by
  unfold k0_pay1
  simp only [shapeCast_self]
  refine (Ideal.matmul_constant_zero_apply (φ₁ := .bf16) (φ₂ := .bf16) _ none _ _ _).trans ?_
  rw [← Equiv.sum_comp (contrEquiv1 dot 1024 rfl rfl).symm]
  refine Finset.sum_congr rfl fun k _ => ?_
  have hk := contrEquiv1_symm_val dot 1024 rfl rfl k
  rw [lhs_eq a b _ k hk, rhs_eq a b _ k hk]

theorem pay2_apply : (k0_pay2 s x y : S1024x1024.Idx → EReal) (ix2 a b) = s (ix2 a b) + ∑ r : Fin 1024, x (ix2 r a) * y (ix2 r b) := by
  refine Eq.trans ?_ (congrArg (s (ix2 a b) + ·) (pay1_apply x y a b))
  unfold k0_pay2 k0_pay1
  simp only [shapeCast_self]
  rfl

theorem pay3_apply : (k0_pay3 s x y : S1024x1024.Idx → EReal) (ix2 a b) = s (ix2 a b) + ∑ r : Fin 1024, x (ix2 r a) * y (ix2 r b) := by
  refine Eq.trans ?_ (pay2_apply x y s a b)
  unfold k0_pay3 k0_pay2
  simp only [shapeCast_self]
  rfl

end Sums

variable (m : (ℓ : Loc nD τ sig) → Buf (Elt Ideal) ℓ) (c : Dev nD)

theorem index_eq : (∀ t, win0_0.index t = ![t.val, 0]) ∧ (∀ t, win0_1.index t = ![t.val, 0]) ∧ (∀ t, win0_2.index t = ![0, 0]) := by
  decide +kernel

/-- The left factor, as the call receives it. -/
def left : (⟨2, ![4096, 1024]⟩ : Shape).Idx → EReal := V m c main_v0

/-- The right factor, as the call receives it. -/
def right : (⟨2, ![4096, 1024]⟩ : Shape).Idx → EReal := V m c main_v1

/-- A grid point's block of the left factor. -/
def lblk (t : Fin cfg0.N) : S1024x1024.Idx → EReal := iblk m c 0 t

/-- A grid point's block of the right factor. -/
def rblk (t : Fin cfg0.N) : S1024x1024.Idx → EReal := iblk m c 1 t

/-- It is 1024 of the factor's rows. -/
theorem lblk_apply (t : Fin cfg0.N) (r : Fin 1024) (a : Fin 1024) (h : t.val * 1024 + r.val < 4096) :
    lblk m c t (ix2 r a) = left m c (ix2 ⟨t.val * 1024 + r.val, h⟩ a) := by
  have hi : ((cfg0.win 0).blk t).view.emb (ix2 r a) = ix2 ⟨t.val * 1024 + r.val, h⟩ a := by
    blk_ext [index_eq.1 t]
  show V m c main_v0 (((cfg0.win 0).blk t).view.emb (ix2 r a)) = _
  rw [hi]
  rfl

/-- It is the same rows of the right factor. -/
theorem rblk_apply (t : Fin cfg0.N) (r : Fin 1024) (b : Fin 1024) (h : t.val * 1024 + r.val < 4096) :
    rblk m c t (ix2 r b) = right m c (ix2 ⟨t.val * 1024 + r.val, h⟩ b) := by
  have hi : ((cfg0.win 1).blk t).view.emb (ix2 r b) = ix2 ⟨t.val * 1024 + r.val, h⟩ b := by
    blk_ext [index_eq.2.1 t]
  show V m c main_v1 (((cfg0.win 1).blk t).view.emb (ix2 r b)) = _
  rw [hi]
  rfl

/-- The products that a grid point adds to an entry. -/
def step (t : Fin 4) (a : Fin 1024) (b : Fin 1024) : EReal :=
  ∑ r : Fin 1024, left m c (ix2 ⟨t.val * 1024 + r.val, Blocks.place_lt t r rfl⟩ a) * right m c (ix2 ⟨t.val * 1024 + r.val, Blocks.place_lt t r rfl⟩ b)

theorem step_eq (n : Fin 4) (t : Fin cfg0.N) (hn : t.val = n.val) (a : Fin 1024) (b : Fin 1024) :
    ∑ r : Fin 1024, lblk m c t (ix2 r a) * rblk m c t (ix2 r b) = step m c n a b := by
  refine Finset.sum_congr rfl fun r _ => ?_
  have h : t.val * 1024 + r.val < 4096 := by omega
  rw [lblk_apply m c t r a h, rblk_apply m c t r b h]
  simp only [hn]

theorem acc0 (h : 0 < cfg0.N) (a : Fin 1024) (b : Fin 1024) : ((outsAt0 m c 0 h).2 : S1024x1024.Idx → EReal) (ix2 a b) = step m c 0 a b := by
  rw [outsAt0_A m c ⟨0, h⟩ rfl (by dsimp only; omega) (by dsimp only; omega)]
  dsimp only
  rw [first]
  exact (pay1_apply _ _ a b).trans (step_eq m c 0 _ rfl a b)

theorem acc1 (h : 1 < cfg0.N) (a : Fin 1024) (b : Fin 1024) : ((outsAt0 m c 1 h).2 : S1024x1024.Idx → EReal) (ix2 a b) = step m c 0 a b + step m c 1 a b := by
  rw [outsAt0_B m c ⟨1, h⟩ (by dsimp only; omega) (by dsimp only; omega) (by dsimp only; omega)]
  dsimp only
  rw [middle]
  exact (pay2_apply _ _ _ a b).trans (congrArg₂ (· + ·) (acc0 m c _ a b) (step_eq m c 1 _ rfl a b))

theorem acc2 (h : 2 < cfg0.N) (a : Fin 1024) (b : Fin 1024) :
    ((outsAt0 m c 2 h).2 : S1024x1024.Idx → EReal) (ix2 a b) = step m c 0 a b + step m c 1 a b + step m c 2 a b := by
  rw [outsAt0_B m c ⟨2, h⟩ (by dsimp only; omega) (by dsimp only; omega) (by dsimp only; omega)]
  dsimp only
  rw [middle]
  exact (pay2_apply _ _ _ a b).trans (congrArg₂ (· + ·) (acc1 m c _ a b) (step_eq m c 2 _ rfl a b))

theorem out3 (h : 3 < cfg0.N) (a : Fin 1024) (b : Fin 1024) :
    ((outsAt0 m c 3 h).1 : S1024x1024.Idx → EReal) (ix2 a b) = step m c 0 a b + step m c 1 a b + step m c 2 a b + step m c 3 a b := by
  rw [outsAt0_C m c ⟨3, h⟩ (by dsimp only; omega) (by dsimp only; omega) rfl]
  dsimp only
  rw [last]
  exact (pay3_apply _ _ _ a b).trans (congrArg₂ (· + ·) (acc2 m c _ a b) (step_eq m c 3 _ rfl a b))

/-- The result's block after the last point: the product of the two whole arrays, over all 4096 rows. -/
theorem out_eq (R : S1024x1024.Idx → EReal) (hR : ∀ a b, R (ix2 a b) = ∑ k : Fin 4096, left m c (ix2 k a) * right m c (ix2 k b))
    (n : ℕ) (hn : n < cfg0.N) (h3 : n % 4 = 3) (y : S1024x1024.Idx) : ((outsAt0 m c n hn).1 : S1024x1024.Idx → EReal) y = R y := by
  have h4 : cfg0.N = 4 := N_0
  obtain rfl : n = 3 := by omega
  obtain ⟨a, b, rfl⟩ : ∃ a b, y = ix2 a b := ⟨y 0, y 1, ValueIdx.eq_ix2 y⟩
  rw [hR]
  refine (out3 m c hn a b).trans ?_
  exact Blocks.sum_four (fun k => left m c (ix2 k a) * right m c (ix2 k b)) (fun t => step m c t a b) (fun t => rfl)

/-- The array after the call. -/
theorem array (R : S1024x1024.Idx → EReal) (hR : ∀ a b, R (ix2 a b) = ∑ k : Fin 4096, left m c (ix2 k a) * right m c (ix2 k b)) :
    ((dats m 0 c).arrAt 2 cfg0.N : S1024x1024.Idx → EReal) = R := by
  refine (dats m 0 c).arrAt_eq_of_covers 2 _ (by decide +kernel) fun t hf y => ?_
  have hi : ((cfg0.win 2).blk t).view.emb y = ix2 (y 0) (y 1) := by
    blk_ext [index_eq.2.2 t]
  rw [hi, after0_2]
  exact (out_eq m c R hR t.val t.isLt ((flush0_2 t).mp hf) y).trans (congrArg R (ValueIdx.eq_ix2 (n0 := 1024) (n1 := 1024) y))

end Cert.Weight4
-- ==== Proof.Claims4.lean ====
/-
  The gradient of a square weight: the claims. The programs run and leave their arguments as they were, and over the
  real numbers the kernel leaves the reference's gradient.
-/
module

public import proofs.«01_k».proof.Defs
public import proofs.«01_k».proof.Proof.Weight4
public import proofs.«01_k».proof.Proof.Gen.Kernel4.Frame
public import proofs.«01_k».proof.Proof.Gen.Kernel4Ideal.Value
public import proofs.«01_k».proof.Proof.Gen.Reference4Ideal.Read
public import Idealize.ShloMosaic.Lib.Quiescent

@[expose] public section

set_option maxRecDepth 16384

noncomputable section

namespace Cert.Weight4

open Idealize.ShloMosaic hiding ix2 ix3 ix4
open Idealize.ShloMosaic.ValueIdx Idealize.ShloMosaic.TcCoe Idealize.SL.Sem Cert.Kernel4Ideal Cert.Kernel4Ideal.Gen

/-- The kernel runs at the machine's floats and leaves its arguments as they were. -/
theorem frame_p : Cert.quiescent_Kernel4 := fun m ρ _ => Cert.Kernel4.Gen.frame m ρ

/-- The idealized kernel runs and leaves its arguments as they were. -/
theorem frame_pi : Cert.quiescent_Kernel4Ideal := fun m ρ _ => Cert.Kernel4Ideal.Gen.frame m ρ

/-- The idealized reference runs and leaves its arguments as they were; it has no semaphores. -/
theorem frame_ri : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The idealization names no constant. -/
theorem preserves : Cert.preserves_Kernel4_Kernel4Ideal := trivial

variable (m : (ℓ : Loc nD τ sig) → Buf (Elt Ideal) ℓ) (c : Dev nD)

theorem V_left : left m c = (truncf .bf16 (m ((c : Thread nD τ).loc main_arg0) : FVec Ideal S4096x1024 .f32) bitsLt_bf16_f32 : FVec Ideal S4096x1024 .bf16) := by
  unfold left V
  after_reads_simp

theorem V_right : right m c = (truncf .bf16 (m ((c : Thread nD τ).loc main_arg1) : FVec Ideal S4096x1024 .f32) bitsLt_bf16_f32 : FVec Ideal S4096x1024 .bf16) := by
  unfold right V
  after_reads_simp

theorem left_apply (x : S4096x1024.Idx → EReal) (hx : m ((c : Thread nD τ).loc main_arg0) = x) (i : S4096x1024.Idx) : left m c i = x i := by
  subst hx
  exact (congrFun (V_left m c) i).trans rfl

theorem right_apply (y : S4096x1024.Idx → EReal) (hy : m ((c : Thread nD τ).loc main_arg1) = y) (i : S4096x1024.Idx) : right m c i = y i := by
  subst hy
  exact (congrFun (V_right m c) i).trans rfl

open Cert.Reference4Ideal.Read in
/-- The reference's gradient at an index. -/
theorem reference_apply (x : S4096x1024.Idx → EReal) (y : S4096x1024.Idx → EReal) (a : Fin 1024) (b : Fin 1024) :
    val_main_v4 (F := Ideal) x y (ix2 a b) = ∑ k : Fin 4096, x (ix2 k a) * y (ix2 k b) := by
  show (val_main_v3 (F := Ideal) x y (ix2 a b) : EReal) = _
  rw [val_main_v3_apply, val_main_v2_apply]
  refine Finset.sum_congr rfl fun k _ => ?_
  rw [mul_comm]
  refine congrArg₂ (· * ·) (congrArg _ (funext fun z => ?_)) (congrArg _ (funext fun z => ?_))
  · match z with
    | ⟨0, _⟩ => rfl
    | ⟨1, _⟩ => rfl
  · match z with
    | ⟨0, _⟩ => rfl
    | ⟨1, _⟩ => rfl

/-- The array after the call is the reference's gradient. -/
theorem result (x : S4096x1024.Idx → EReal) (y : S4096x1024.Idx → EReal) (hx : m ((c : Thread nD τ).loc main_arg0) = x)
    (hy : m ((c : Thread nD τ).loc main_arg1) = y) :
    ((dats m 0 c).arrAt 2 cfg0.N : S1024x1024.Idx → EReal) = Cert.Reference4Ideal.Read.val_main_v4 (F := Ideal) x y := by
  refine array m c _ fun a b => (reference_apply x y a b).trans (Finset.sum_congr rfl fun k _ => ?_)
  exact congrArg₂ (· * ·) (left_apply m c _ hx _).symm (right_apply m c _ hy _).symm

/-- The kernel's gradient is the reference's. -/
theorem algebraic : Cert.algebraic_Kernel4Ideal_Reference4Ideal := by
  intro m g m' g' _ hagree
  refine ⟨fun c => (dats m 0 c).arrAt 2 cfg0.N, Cert.Kernel4Ideal.Value.run_blocks m g, ?_⟩
  refine (θ_run Cert.Reference4Ideal.defs _ _).mono (fun r h c => ?_) (Cert.Reference4Ideal.Value.run (F := Ideal) m' g')
  obtain ⟨hv, hargs⟩ := h c
  obtain ⟨a0, a1⟩ := hagree c
  exact ⟨hv.trans ((Cert.Reference4Ideal.Read.val_main_v4_eq _ _).trans (result m c _ _ a0.symm a1.symm).symm), hargs⟩

end Cert.Weight4
-- ==== Proof.Weight5.lean ====
/-
  The gradient of the queries' up-projection: block by block, the accumulator's four steps, and the array that the call leaves.
-/
module

public import proofs.«01_k».proof.Proof.Blocks
public import proofs.«01_k».proof.Proof.Gen.Kernel5Ideal.Frame
public import Idealize.ShloMosaic.Lib.Pipeline.ValueKit
public import Idealize.ShloMosaic.Lib.StableHlo.RunRead

@[expose] public section

set_option maxRecDepth 16384

noncomputable section

namespace Cert.Weight5

open Idealize.ShloMosaic hiding ix2 ix3 ix4
open Idealize.ShloMosaic.ValueIdx Idealize.ShloMosaic.TcCoe Idealize.SL.Sem Cert.Kernel5Ideal Cert.Kernel5Ideal.Gen

theorem zeros : (![0, 0] : Fin 2 → ℕ) = fun _ => 0 := funext fun a => by fin_cases a <;> rfl

section Steps

variable {F : FTy → Type} [FloatOps F]
variable (c : Dev nD) (i : grid0.Coords) (arg1 : Memref sig .tc .vmem S1024x2048 .bf16) (h1 : arg1.IsWhole)
    (arg2 : Memref sig .tc .vmem S1024x384 .bf16) (h2 : arg2.IsWhole) (arg3 : Memref sig .tc .vmem S2048x384 .bf16) (h3 : arg3.IsWhole)
    (arg4 : Memref sig .tc .vmem S2048x384 .f32) (h4 : arg4.IsWhole)
    (x : Vec F S1024x2048 .bf16) (y : Vec F S1024x384 .bf16) (s : Vec F S2048x384 .f32)

/-- The first point leaves the product of its blocks in the accumulator. -/
theorem first (hc0 hc1 hc2) : sout0_A_0 c i arg1 h1 arg2 h2 arg3 h3 arg4 h4 hc0 hc1 hc2 x y = k0_pay1 x y := by
  unfold sout0_A_0
  rw [View.read_writes_eq_canon _ _ _ (scover0_A_0 c i arg1 h1 arg2 h2 arg3 h3 arg4 h4 hc0 hc1 hc2 x y)]
  unfold kernelRun0_A
  dsimp only
  rw [View.canon_unit_zero zeros]
  simp only [View.readAt_eq_ld, h1.read_unread, h2.read_unread, View.ld_unit_zero (S := S1024x2048) zeros, View.ld_unit_zero (S := S1024x384) zeros]

/-- A middle point adds the product of its blocks to the accumulator. -/
theorem middle (hc0 hc1 hc2) : sout0_B_0 c i arg1 h1 arg2 h2 arg3 h3 arg4 h4 hc0 hc1 hc2 x y s = k0_pay2 s x y := by
  unfold sout0_B_0
  rw [View.read_writes_eq_canon _ _ _ (scover0_B_0 c i arg1 h1 arg2 h2 arg3 h3 arg4 h4 hc0 hc1 hc2 x y s)]
  unfold kernelRun0_B
  dsimp only
  rw [View.canon_unit_zero zeros]
  simp only [View.readAt_eq_ld, h1.read_unread, h2.read_unread, h4.read_unread, View.ld_unit_zero (S := S1024x2048) zeros,
    View.ld_unit_zero (S := S1024x384) zeros, View.ld_unit_zero (S := S2048x384) zeros]

/-- The last point leaves the sum, narrowed, in the result's block. -/
theorem last (hc0 hc1 hc2) : out0_C_2 c i arg1 h1 arg2 h2 arg3 h3 arg4 h4 hc0 hc1 hc2 x y s = k0_pay3 s x y := by
  unfold out0_C_2
  rw [View.read_writes_eq_canon _ _ _ (cover0_C_2 c i arg1 h1 arg2 h2 arg3 h3 arg4 h4 hc0 hc1 hc2 x y s)]
  unfold kernelRun0_C
  dsimp only
  rw [View.canon_unit_zero zeros]
  simp only [View.readAt_eq_ld, h1.read_unread, h2.read_unread, h4.read_unread, View.ld_unit_zero (S := S1024x2048) zeros,
    View.ld_unit_zero (S := S1024x384) zeros, View.ld_unit_zero (S := S2048x384) zeros]

end Steps

/-- The product that a grid point forms. -/
abbrev dot := dot_S1024x2048_S1024x384_S2048x384_0_0_1_1_n_n

theorem lhs_eq (a : Fin 2048) (b : Fin 384) (q : dot.contr.Idx) (k : Fin 1024) (hk : (q ⟨0, by decide⟩).val = k.val) :
    dot.lhsIdx (ix2 a b) q = ix2 k a := by
  funext x
  refine Fin.ext ?_
  match x with
  | ⟨0, _⟩ => exact (dot.lhsIdx_val_of_single rfl (ix2 a b) q).trans hk
  | ⟨1, _⟩ =>
    show (dot.lhsIdx (ix2 a b) q 1).val = a.val
    unfold DotDims.lhsIdx
    rw [dif_neg (show ¬(1 : Fin S1024x2048.rank) ∈ dot.lhsBatch by decide), dif_pos (show (1 : Fin S1024x2048.rank) ∈ dot.lhsNonContracting by decide)]
    rfl

theorem rhs_eq (a : Fin 2048) (b : Fin 384) (q : dot.contr.Idx) (k : Fin 1024) (hk : (q ⟨0, by decide⟩).val = k.val) :
    dot.rhsIdx (ix2 a b) q = ix2 k b := by
  funext x
  refine Fin.ext ?_
  match x with
  | ⟨0, _⟩ => exact (dot.rhsIdx_val_of_single rfl (ix2 a b) q).trans hk
  | ⟨1, _⟩ =>
    show (dot.rhsIdx (ix2 a b) q 1).val = b.val
    unfold DotDims.rhsIdx
    rw [dif_neg (show ¬(1 : Fin S1024x384.rank) ∈ dot.rhsBatch by decide), dif_pos (show (1 : Fin S1024x384.rank) ∈ dot.rhsNonContracting by decide)]
    rfl

section Sums

variable (x : Vec Ideal S1024x2048 .bf16) (y : Vec Ideal S1024x384 .bf16) (s : Vec Ideal S2048x384 .f32) (a : Fin 2048) (b : Fin 384)

theorem pay1_apply : (k0_pay1 x y : S2048x384.Idx → EReal) (ix2 a b) = ∑ r : Fin 1024, x (ix2 r a) * y (ix2 r b) := by
  unfold k0_pay1
  simp only [shapeCast_self]
  refine (Ideal.matmul_constant_zero_apply (φ₁ := .bf16) (φ₂ := .bf16) _ none _ _ _).trans ?_
  rw [← Equiv.sum_comp (contrEquiv1 dot 1024 rfl rfl).symm]
  refine Finset.sum_congr rfl fun k _ => ?_
  have hk := contrEquiv1_symm_val dot 1024 rfl rfl k
  rw [lhs_eq a b _ k hk, rhs_eq a b _ k hk]

theorem pay2_apply : (k0_pay2 s x y : S2048x384.Idx → EReal) (ix2 a b) = s (ix2 a b) + ∑ r : Fin 1024, x (ix2 r a) * y (ix2 r b) := by
  refine Eq.trans ?_ (congrArg (s (ix2 a b) + ·) (pay1_apply x y a b))
  unfold k0_pay2 k0_pay1
  simp only [shapeCast_self]
  rfl

theorem pay3_apply : (k0_pay3 s x y : S2048x384.Idx → EReal) (ix2 a b) = s (ix2 a b) + ∑ r : Fin 1024, x (ix2 r a) * y (ix2 r b) := by
  refine Eq.trans ?_ (pay2_apply x y s a b)
  unfold k0_pay3 k0_pay2
  simp only [shapeCast_self]
  rfl

end Sums

variable (m : (ℓ : Loc nD τ sig) → Buf (Elt Ideal) ℓ) (c : Dev nD)

theorem index_eq : (∀ t, win0_0.index t = ![t.val, 0]) ∧ (∀ t, win0_1.index t = ![t.val, 0]) ∧ (∀ t, win0_2.index t = ![0, 0]) := by
  decide +kernel

/-- The left factor, as the call receives it. -/
def left : (⟨2, ![4096, 2048]⟩ : Shape).Idx → EReal := V m c main_v3

/-- The right factor, as the call receives it. -/
def right : (⟨2, ![4096, 384]⟩ : Shape).Idx → EReal := V m c main_v4

/-- A grid point's block of the left factor. -/
def lblk (t : Fin cfg0.N) : S1024x2048.Idx → EReal := iblk m c 0 t

/-- A grid point's block of the right factor. -/
def rblk (t : Fin cfg0.N) : S1024x384.Idx → EReal := iblk m c 1 t

/-- It is 1024 of the factor's rows. -/
theorem lblk_apply (t : Fin cfg0.N) (r : Fin 1024) (a : Fin 2048) (h : t.val * 1024 + r.val < 4096) :
    lblk m c t (ix2 r a) = left m c (ix2 ⟨t.val * 1024 + r.val, h⟩ a) := by
  have hi : ((cfg0.win 0).blk t).view.emb (ix2 r a) = ix2 ⟨t.val * 1024 + r.val, h⟩ a := by
    blk_ext [index_eq.1 t]
  show V m c main_v3 (((cfg0.win 0).blk t).view.emb (ix2 r a)) = _
  rw [hi]
  rfl

/-- It is the same rows of the right factor. -/
theorem rblk_apply (t : Fin cfg0.N) (r : Fin 1024) (b : Fin 384) (h : t.val * 1024 + r.val < 4096) :
    rblk m c t (ix2 r b) = right m c (ix2 ⟨t.val * 1024 + r.val, h⟩ b) := by
  have hi : ((cfg0.win 1).blk t).view.emb (ix2 r b) = ix2 ⟨t.val * 1024 + r.val, h⟩ b := by
    blk_ext [index_eq.2.1 t]
  show V m c main_v4 (((cfg0.win 1).blk t).view.emb (ix2 r b)) = _
  rw [hi]
  rfl

/-- The products that a grid point adds to an entry. -/
def step (t : Fin 4) (a : Fin 2048) (b : Fin 384) : EReal :=
  ∑ r : Fin 1024, left m c (ix2 ⟨t.val * 1024 + r.val, Blocks.place_lt t r rfl⟩ a) * right m c (ix2 ⟨t.val * 1024 + r.val, Blocks.place_lt t r rfl⟩ b)

theorem step_eq (n : Fin 4) (t : Fin cfg0.N) (hn : t.val = n.val) (a : Fin 2048) (b : Fin 384) :
    ∑ r : Fin 1024, lblk m c t (ix2 r a) * rblk m c t (ix2 r b) = step m c n a b := by
  refine Finset.sum_congr rfl fun r _ => ?_
  have h : t.val * 1024 + r.val < 4096 := by omega
  rw [lblk_apply m c t r a h, rblk_apply m c t r b h]
  simp only [hn]

theorem acc0 (h : 0 < cfg0.N) (a : Fin 2048) (b : Fin 384) : ((outsAt0 m c 0 h).2 : S2048x384.Idx → EReal) (ix2 a b) = step m c 0 a b := by
  rw [outsAt0_A m c ⟨0, h⟩ rfl (by dsimp only; omega) (by dsimp only; omega)]
  dsimp only
  rw [first]
  exact (pay1_apply _ _ a b).trans (step_eq m c 0 _ rfl a b)

theorem acc1 (h : 1 < cfg0.N) (a : Fin 2048) (b : Fin 384) : ((outsAt0 m c 1 h).2 : S2048x384.Idx → EReal) (ix2 a b) = step m c 0 a b + step m c 1 a b := by
  rw [outsAt0_B m c ⟨1, h⟩ (by dsimp only; omega) (by dsimp only; omega) (by dsimp only; omega)]
  dsimp only
  rw [middle]
  exact (pay2_apply _ _ _ a b).trans (congrArg₂ (· + ·) (acc0 m c _ a b) (step_eq m c 1 _ rfl a b))

theorem acc2 (h : 2 < cfg0.N) (a : Fin 2048) (b : Fin 384) :
    ((outsAt0 m c 2 h).2 : S2048x384.Idx → EReal) (ix2 a b) = step m c 0 a b + step m c 1 a b + step m c 2 a b := by
  rw [outsAt0_B m c ⟨2, h⟩ (by dsimp only; omega) (by dsimp only; omega) (by dsimp only; omega)]
  dsimp only
  rw [middle]
  exact (pay2_apply _ _ _ a b).trans (congrArg₂ (· + ·) (acc1 m c _ a b) (step_eq m c 2 _ rfl a b))

theorem out3 (h : 3 < cfg0.N) (a : Fin 2048) (b : Fin 384) :
    ((outsAt0 m c 3 h).1 : S2048x384.Idx → EReal) (ix2 a b) = step m c 0 a b + step m c 1 a b + step m c 2 a b + step m c 3 a b := by
  rw [outsAt0_C m c ⟨3, h⟩ (by dsimp only; omega) (by dsimp only; omega) rfl]
  dsimp only
  rw [last]
  exact (pay3_apply _ _ _ a b).trans (congrArg₂ (· + ·) (acc2 m c _ a b) (step_eq m c 3 _ rfl a b))

/-- The result's block after the last point: the product of the two whole arrays, over all 4096 rows. -/
theorem out_eq (R : S2048x384.Idx → EReal) (hR : ∀ a b, R (ix2 a b) = ∑ k : Fin 4096, left m c (ix2 k a) * right m c (ix2 k b))
    (n : ℕ) (hn : n < cfg0.N) (h3 : n % 4 = 3) (y : S2048x384.Idx) : ((outsAt0 m c n hn).1 : S2048x384.Idx → EReal) y = R y := by
  have h4 : cfg0.N = 4 := N_0
  obtain rfl : n = 3 := by omega
  obtain ⟨a, b, rfl⟩ : ∃ a b, y = ix2 a b := ⟨y 0, y 1, ValueIdx.eq_ix2 y⟩
  rw [hR]
  refine (out3 m c hn a b).trans ?_
  exact Blocks.sum_four (fun k => left m c (ix2 k a) * right m c (ix2 k b)) (fun t => step m c t a b) (fun t => rfl)

/-- The array after the call. -/
theorem array (R : S2048x384.Idx → EReal) (hR : ∀ a b, R (ix2 a b) = ∑ k : Fin 4096, left m c (ix2 k a) * right m c (ix2 k b)) :
    ((dats m 0 c).arrAt 2 cfg0.N : S2048x384.Idx → EReal) = R := by
  refine (dats m 0 c).arrAt_eq_of_covers 2 _ (by decide +kernel) fun t hf y => ?_
  have hi : ((cfg0.win 2).blk t).view.emb y = ix2 (y 0) (y 1) := by
    blk_ext [index_eq.2.2 t]
  rw [hi, after0_2]
  exact (out_eq m c R hR t.val t.isLt ((flush0_2 t).mp hf) y).trans (congrArg R (ValueIdx.eq_ix2 (n0 := 2048) (n1 := 384) y))

end Cert.Weight5
-- ==== Proof.Claims5.lean ====
/-
  The gradient of the queries' up-projection: the claims. The programs run and leave their arguments as they were, and over the
  real numbers the kernel leaves the reference's gradient.
-/
module

public import proofs.«01_k».proof.Defs
public import proofs.«01_k».proof.Proof.Weight5
public import proofs.«01_k».proof.Proof.Gen.Kernel5.Frame
public import proofs.«01_k».proof.Proof.Gen.Kernel5Ideal.Value
public import proofs.«01_k».proof.Proof.Gen.Reference5Ideal.Read
public import Idealize.ShloMosaic.Lib.KernelVsHost
public import Idealize.ShloMosaic.Lib.Quiescent

@[expose] public section

set_option maxRecDepth 16384

noncomputable section

namespace Cert.Weight5

open Idealize.ShloMosaic hiding ix2 ix3 ix4
open Idealize.ShloMosaic.ValueIdx Idealize.ShloMosaic.TcCoe Idealize.SL.Sem Cert.Kernel5Ideal Cert.Kernel5Ideal.Gen

/-- The kernel runs at the machine's floats and leaves its arguments as they were. -/
theorem frame_p : Cert.quiescent_Kernel5 := fun m ρ _ => Cert.Kernel5.Gen.frame m ρ

/-- The idealized kernel runs and leaves its arguments as they were. -/
theorem frame_pi : Cert.quiescent_Kernel5Ideal := fun m ρ _ => Cert.Kernel5Ideal.Gen.frame m ρ

/-- The idealized reference runs and leaves its arguments as they were; it has no semaphores. -/
theorem frame_ri : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- The idealization names no constant. -/
theorem preserves : Cert.preserves_Kernel5_Kernel5Ideal := trivial

variable (m : (ℓ : Loc nD τ sig) → Buf (Elt Ideal) ℓ) (c : Dev nD)

/-- The gradient of the queries, each head's 192 columns followed by 64 of zeros. -/
def padded (y : FVec Ideal S4096x1536 .f32) : FVec Ideal S4096x2048 .bf16 :=
  shapeCast _ (truncf .bf16 (pad S4096x8x256 ![0, 0, 0] ![0, 0, 64] ![0, 0, 0] (shapeCast S4096x8x192 y shapeCasts_S4096x1536_S4096x8x192 : FVec Ideal S4096x8x192 .f32)
    (sitofp .f32 (constantI S_ 32 0#32) : FVec Ideal S_ .f32) pads_S4096x8x192_S4096x8x256_000_000_0640 h_S_ : FVec Ideal S4096x8x256 .f32) bitsLt_bf16_f32 : FVec Ideal S4096x8x256 .bf16)
    shapeCasts_S4096x8x256_S4096x2048

theorem V_left : left m c = padded (m ((c : Thread nD τ).loc main_arg1)) := by
  unfold left V
  after_reads_simp
  simp -implicitDefEqProofs only [StableHlo.TRef.toBuf, StableHlo.TRef.ofBuf, cast_cast, cast_eq]
  rfl

theorem V_right : right m c = (truncf .bf16 (m ((c : Thread nD τ).loc main_arg0) : FVec Ideal S4096x384 .f32) bitsLt_bf16_f32 : FVec Ideal S4096x384 .bf16) := by
  unfold right V
  after_reads_simp

theorem right_apply (x : S4096x384.Idx → EReal) (hx : m ((c : Thread nD τ).loc main_arg0) = x) (i : S4096x384.Idx) : right m c i = x i := by
  subst hx
  exact (congrFun (V_right m c) i).trans rfl

/-- The integer zero, as a float. -/
theorem zero_f32 (i : S_.Idx) : (sitofp .f32 (constantI S_ 32 0#32) : FVec Ideal S_ .f32) i = (0 : EReal) := by
  show (((0#32 : BitVec 32).toInt : ℝ) : EReal) = 0
  simp

/-- The integer zero, as a half-width float. -/
theorem zero_bf16 (i : S_.Idx) : (sitofp .bf16 (constantI S_ 32 0#32) : FVec Ideal S_ .bf16) i = (0 : EReal) := by
  show (((0#32 : BitVec 32).toInt : ℝ) : EReal) = 0
  simp

/-- A column of the padded gradient that is a head's own. -/
theorem padded_in (y : FVec Ideal S4096x1536 .f32) (k : Fin 4096) (h : Fin 8) (j : Fin 192) (a : Fin 2048) (ha : a.val = h.val * 256 + j.val) (q : Fin 1536)
    (hq : q.val = h.val * 192 + j.val) : (padded y (ix2 k a) : EReal) = y (ix2 k q) := by
  unfold padded
  refine (shapeCast_apply _ _ _ (ix3 k h ⟨j.val, by omega⟩) ?_).trans ?_
  · rw [Shape.rowMajor_val_three, Shape.rowMajor_val_two]
    show (k.val * 8 + h.val) * 256 + j.val = k.val * 2048 + a.val
    omega
  · rw [truncf_apply]
    refine (pad_apply_of_inside _ _ _ _ _ _ _ _ (ix3 k h j) fun z => ?_).trans ?_
    · match z with
      | ⟨0, _⟩ => show k.val = 0 + k.val * 1; omega
      | ⟨1, _⟩ => show h.val = 0 + h.val * 1; omega
      | ⟨2, _⟩ => show j.val = 0 + j.val * 1; omega
    · refine shapeCast_apply _ _ _ (ix2 k q) ?_
      rw [Shape.rowMajor_val_three, Shape.rowMajor_val_two]
      show k.val * 1536 + q.val = (k.val * 8 + h.val) * 192 + j.val
      omega

/-- A column of the padding is zero. -/
theorem padded_out (y : FVec Ideal S4096x1536 .f32) (k : Fin 4096) (h : Fin 8) (j : Fin 256) (hj : 192 ≤ j.val) (a : Fin 2048) (ha : a.val = h.val * 256 + j.val) :
    (padded y (ix2 k a) : EReal) = 0 := by
  unfold padded
  refine (shapeCast_apply _ _ _ (ix3 k h j) ?_).trans ?_
  · rw [Shape.rowMajor_val_three, Shape.rowMajor_val_two]
    show (k.val * 8 + h.val) * 256 + j.val = k.val * 2048 + a.val
    omega
  · rw [truncf_apply]
    refine (pad_apply_of_not_inside _ _ _ _ _ _ _ _ ⟨2, by decide⟩ fun hin => ?_).trans (zero_f32 _)
    have : (j.val - 0) / 1 < 192 := hin.2.2
    rw [Nat.div_one] at this
    omega

open Cert.Reference5Ideal.Read in
/-- The reference's gradient before its padding, at an index. -/
theorem product_apply (x : S4096x384.Idx → EReal) (y : S4096x1536.Idx → EReal) (q : Fin 1536) (b : Fin 384) :
    val_main_v5 (F := Ideal) x y (ix2 q b) = ∑ k : Fin 4096, y (ix2 k q) * x (ix2 k b) := by
  show (val_main_v4 (F := Ideal) x y (ix2 q b) : EReal) = _
  rw [val_main_v4_apply, val_main_v3_apply, val_main_v2_apply]
  refine Finset.sum_congr rfl fun k _ => ?_
  refine congrArg₂ (· * ·) (congrArg _ (funext fun z => ?_)) (congrArg _ (funext fun z => ?_))
  · match z with
    | ⟨0, _⟩ => rfl
    | ⟨1, _⟩ => rfl
  · match z with
    | ⟨0, _⟩ => rfl
    | ⟨1, _⟩ => rfl

open Cert.Reference5Ideal.Read in
theorem reference_in (x : S4096x384.Idx → EReal) (y : S4096x1536.Idx → EReal) (h : Fin 8) (j : Fin 192) (a : Fin 2048) (b : Fin 384)
    (ha : a.val = h.val * 256 + j.val) (q : Fin 1536) (hq : q.val = h.val * 192 + j.val) :
    (val_main_v8 (F := Ideal) x y (ix2 a b) : EReal) = ∑ k : Fin 4096, y (ix2 k q) * x (ix2 k b) := by
  refine Eq.trans ?_ (product_apply x y q b)
  unfold val_main_v8 val_main_v7 val_main_v6
  generalize val_main_v5 (F := Ideal) x y = z
  refine (shapeCast_apply _ _ _ (ix3 h ⟨j.val, by omega⟩ b) ?_).trans ?_
  · rw [Shape.rowMajor_val_three, Shape.rowMajor_val_two]
    show (h.val * 256 + j.val) * 384 + b.val = a.val * 384 + b.val
    omega
  · refine (pad_apply_of_inside _ _ _ _ _ _ _ _ (ix3 h j b) fun z => ?_).trans ?_
    · match z with
      | ⟨0, _⟩ => show h.val = 0 + h.val * 1; omega
      | ⟨1, _⟩ => show j.val = 0 + j.val * 1; omega
      | ⟨2, _⟩ => show b.val = 0 + b.val * 1; omega
    · refine shapeCast_apply _ _ _ (ix2 q b) ?_
      rw [Shape.rowMajor_val_three, Shape.rowMajor_val_two]
      show q.val * 384 + b.val = (h.val * 192 + j.val) * 384 + b.val
      omega

open Cert.Reference5Ideal.Read in
theorem reference_out (x : S4096x384.Idx → EReal) (y : S4096x1536.Idx → EReal) (h : Fin 8) (j : Fin 256) (hj : 192 ≤ j.val) (a : Fin 2048) (b : Fin 384)
    (ha : a.val = h.val * 256 + j.val) : (val_main_v8 (F := Ideal) x y (ix2 a b) : EReal) = 0 := by
  unfold val_main_v8 val_main_v7
  generalize val_main_v6 (F := Ideal) x y = z
  refine (shapeCast_apply _ _ _ (ix3 h j b) ?_).trans ?_
  · rw [Shape.rowMajor_val_three, Shape.rowMajor_val_two]
    show (h.val * 256 + j.val) * 384 + b.val = a.val * 384 + b.val
    omega
  · refine (pad_apply_of_not_inside _ _ _ _ _ _ _ _ ⟨1, by decide⟩ fun hin => ?_).trans (zero_bf16 _)
    have : (j.val - 0) / 1 < 192 := hin.2.2
    rw [Nat.div_one] at this
    omega

/-- The array after the call is the reference's gradient. -/
theorem result (x : S4096x384.Idx → EReal) (y : S4096x1536.Idx → EReal) (hx : m ((c : Thread nD τ).loc main_arg0) = x)
    (hy : m ((c : Thread nD τ).loc main_arg1) = y) :
    ((dats m 0 c).arrAt 2 cfg0.N : S2048x384.Idx → EReal) = Cert.Reference5Ideal.Read.val_main_v8 (F := Ideal) x y := by
  have hl : left m c = padded y := by subst hy; exact V_left m c
  refine array m c _ fun a b => ?_
  obtain ⟨h, hh⟩ : ∃ h : Fin 8, h.val = a.val / 256 := ⟨⟨a.val / 256, by omega⟩, rfl⟩
  by_cases hj : a.val % 256 < 192
  · refine (reference_in x y h ⟨a.val % 256, hj⟩ a b (by show a.val = h.val * 256 + a.val % 256; omega) ⟨h.val * 192 + a.val % 256, by omega⟩ rfl).trans ?_
    refine Finset.sum_congr rfl fun k _ => ?_
    refine congrArg₂ (· * ·) ?_ (right_apply m c x hx _).symm
    rw [hl]
    exact (padded_in y k h ⟨a.val % 256, hj⟩ a (by show a.val = h.val * 256 + a.val % 256; omega) _ rfl).symm
  · refine (reference_out x y h ⟨a.val % 256, by omega⟩ (by show 192 ≤ a.val % 256; omega) a b (by show a.val = h.val * 256 + a.val % 256; omega)).trans ?_
    refine (Finset.sum_eq_zero fun k _ => ?_).symm
    rw [hl]
    refine (congrArg (· * right m c (ix2 k b)) (padded_out y k h ⟨a.val % 256, by omega⟩ (by show 192 ≤ a.val % 256; omega) a
      (by show a.val = h.val * 256 + a.val % 256; omega))).trans (zero_mul _)

/-- The kernel's gradient is the reference's. -/
theorem algebraic : Cert.algebraic_Kernel5Ideal_Reference5Ideal := by
  intro m g m' g' _ hagree
  refine ⟨fun c => (dats m 0 c).arrAt 2 cfg0.N, Cert.Kernel5Ideal.Value.run_blocks m g, ?_⟩
  refine (θ_run Cert.Reference5Ideal.defs _ _).mono (fun r h c => ?_) (Cert.Reference5Ideal.Value.run (F := Ideal) m' g')
  obtain ⟨hv, hargs⟩ := h c
  obtain ⟨a0, a1⟩ := hagree c
  exact ⟨hv.trans ((Cert.Reference5Ideal.Read.val_main_v8_eq _ _).trans (result m c _ _ a0.symm a1.symm).symm), hargs⟩

end Cert.Weight5
-- ==== Proof.Weight6.lean ====
/-
  The gradient of the keys' and values' up-projection: block by block, the accumulator's four steps, and the array that the call leaves.
-/
module

public import proofs.«01_k».proof.Proof.Blocks
public import proofs.«01_k».proof.Proof.Gen.Kernel6Ideal.Frame
public import Idealize.ShloMosaic.Lib.Pipeline.ValueKit
public import Idealize.ShloMosaic.Lib.StableHlo.RunRead

@[expose] public section

set_option maxRecDepth 16384

noncomputable section

namespace Cert.Weight6

open Idealize.ShloMosaic hiding ix2 ix3 ix4
open Idealize.ShloMosaic.ValueIdx Idealize.ShloMosaic.TcCoe Idealize.SL.Sem Cert.Kernel6Ideal Cert.Kernel6Ideal.Gen

theorem zeros : (![0, 0] : Fin 2 → ℕ) = fun _ => 0 := funext fun a => by fin_cases a <;> rfl

section Steps

variable {F : FTy → Type} [FloatOps F]
variable (c : Dev nD) (i : grid0.Coords) (arg1 : Memref sig .tc .vmem S1024x2048 .bf16) (h1 : arg1.IsWhole)
    (arg2 : Memref sig .tc .vmem S1024x256 .bf16) (h2 : arg2.IsWhole) (arg3 : Memref sig .tc .vmem S2048x256 .bf16) (h3 : arg3.IsWhole)
    (arg4 : Memref sig .tc .vmem S2048x256 .f32) (h4 : arg4.IsWhole)
    (x : Vec F S1024x2048 .bf16) (y : Vec F S1024x256 .bf16) (s : Vec F S2048x256 .f32)

/-- The first point leaves the product of its blocks in the accumulator. -/
theorem first (hc0 hc1 hc2) : sout0_A_0 c i arg1 h1 arg2 h2 arg3 h3 arg4 h4 hc0 hc1 hc2 x y = k0_pay1 x y := by
  unfold sout0_A_0
  rw [View.read_writes_eq_canon _ _ _ (scover0_A_0 c i arg1 h1 arg2 h2 arg3 h3 arg4 h4 hc0 hc1 hc2 x y)]
  unfold kernelRun0_A
  dsimp only
  rw [View.canon_unit_zero zeros]
  simp only [View.readAt_eq_ld, h1.read_unread, h2.read_unread, View.ld_unit_zero (S := S1024x2048) zeros, View.ld_unit_zero (S := S1024x256) zeros]

/-- A middle point adds the product of its blocks to the accumulator. -/
theorem middle (hc0 hc1 hc2) : sout0_B_0 c i arg1 h1 arg2 h2 arg3 h3 arg4 h4 hc0 hc1 hc2 x y s = k0_pay2 s x y := by
  unfold sout0_B_0
  rw [View.read_writes_eq_canon _ _ _ (scover0_B_0 c i arg1 h1 arg2 h2 arg3 h3 arg4 h4 hc0 hc1 hc2 x y s)]
  unfold kernelRun0_B
  dsimp only
  rw [View.canon_unit_zero zeros]
  simp only [View.readAt_eq_ld, h1.read_unread, h2.read_unread, h4.read_unread, View.ld_unit_zero (S := S1024x2048) zeros,
    View.ld_unit_zero (S := S1024x256) zeros, View.ld_unit_zero (S := S2048x256) zeros]

/-- The last point leaves the sum, narrowed, in the result's block. -/
theorem last (hc0 hc1 hc2) : out0_C_2 c i arg1 h1 arg2 h2 arg3 h3 arg4 h4 hc0 hc1 hc2 x y s = k0_pay3 s x y := by
  unfold out0_C_2
  rw [View.read_writes_eq_canon _ _ _ (cover0_C_2 c i arg1 h1 arg2 h2 arg3 h3 arg4 h4 hc0 hc1 hc2 x y s)]
  unfold kernelRun0_C
  dsimp only
  rw [View.canon_unit_zero zeros]
  simp only [View.readAt_eq_ld, h1.read_unread, h2.read_unread, h4.read_unread, View.ld_unit_zero (S := S1024x2048) zeros,
    View.ld_unit_zero (S := S1024x256) zeros, View.ld_unit_zero (S := S2048x256) zeros]

end Steps

/-- The product that a grid point forms. -/
abbrev dot := dot_S1024x2048_S1024x256_S2048x256_0_0_1_1_n_n

theorem lhs_eq (a : Fin 2048) (b : Fin 256) (q : dot.contr.Idx) (k : Fin 1024) (hk : (q ⟨0, by decide⟩).val = k.val) :
    dot.lhsIdx (ix2 a b) q = ix2 k a := by
  funext x
  refine Fin.ext ?_
  match x with
  | ⟨0, _⟩ => exact (dot.lhsIdx_val_of_single rfl (ix2 a b) q).trans hk
  | ⟨1, _⟩ =>
    show (dot.lhsIdx (ix2 a b) q 1).val = a.val
    unfold DotDims.lhsIdx
    rw [dif_neg (show ¬(1 : Fin S1024x2048.rank) ∈ dot.lhsBatch by decide), dif_pos (show (1 : Fin S1024x2048.rank) ∈ dot.lhsNonContracting by decide)]
    rfl

theorem rhs_eq (a : Fin 2048) (b : Fin 256) (q : dot.contr.Idx) (k : Fin 1024) (hk : (q ⟨0, by decide⟩).val = k.val) :
    dot.rhsIdx (ix2 a b) q = ix2 k b := by
  funext x
  refine Fin.ext ?_
  match x with
  | ⟨0, _⟩ => exact (dot.rhsIdx_val_of_single rfl (ix2 a b) q).trans hk
  | ⟨1, _⟩ =>
    show (dot.rhsIdx (ix2 a b) q 1).val = b.val
    unfold DotDims.rhsIdx
    rw [dif_neg (show ¬(1 : Fin S1024x256.rank) ∈ dot.rhsBatch by decide), dif_pos (show (1 : Fin S1024x256.rank) ∈ dot.rhsNonContracting by decide)]
    rfl

section Sums

variable (x : Vec Ideal S1024x2048 .bf16) (y : Vec Ideal S1024x256 .bf16) (s : Vec Ideal S2048x256 .f32) (a : Fin 2048) (b : Fin 256)

theorem pay1_apply : (k0_pay1 x y : S2048x256.Idx → EReal) (ix2 a b) = ∑ r : Fin 1024, x (ix2 r a) * y (ix2 r b) := by
  unfold k0_pay1
  simp only [shapeCast_self]
  refine (Ideal.matmul_constant_zero_apply (φ₁ := .bf16) (φ₂ := .bf16) _ none _ _ _).trans ?_
  rw [← Equiv.sum_comp (contrEquiv1 dot 1024 rfl rfl).symm]
  refine Finset.sum_congr rfl fun k _ => ?_
  have hk := contrEquiv1_symm_val dot 1024 rfl rfl k
  rw [lhs_eq a b _ k hk, rhs_eq a b _ k hk]

theorem pay2_apply : (k0_pay2 s x y : S2048x256.Idx → EReal) (ix2 a b) = s (ix2 a b) + ∑ r : Fin 1024, x (ix2 r a) * y (ix2 r b) := by
  refine Eq.trans ?_ (congrArg (s (ix2 a b) + ·) (pay1_apply x y a b))
  unfold k0_pay2 k0_pay1
  simp only [shapeCast_self]
  rfl

theorem pay3_apply : (k0_pay3 s x y : S2048x256.Idx → EReal) (ix2 a b) = s (ix2 a b) + ∑ r : Fin 1024, x (ix2 r a) * y (ix2 r b) := by
  refine Eq.trans ?_ (pay2_apply x y s a b)
  unfold k0_pay3 k0_pay2
  simp only [shapeCast_self]
  rfl

end Sums

variable (m : (ℓ : Loc nD τ sig) → Buf (Elt Ideal) ℓ) (c : Dev nD)

theorem index_eq : (∀ t, win0_0.index t = ![t.val, 0]) ∧ (∀ t, win0_1.index t = ![t.val, 0]) ∧ (∀ t, win0_2.index t = ![0, 0]) := by
  decide +kernel

/-- The left factor, as the call receives it. -/
def left : (⟨2, ![4096, 2048]⟩ : Shape).Idx → EReal := V m c main_v0

/-- The right factor, as the call receives it. -/
def right : (⟨2, ![4096, 256]⟩ : Shape).Idx → EReal := V m c main_v1

/-- A grid point's block of the left factor. -/
def lblk (t : Fin cfg0.N) : S1024x2048.Idx → EReal := iblk m c 0 t

/-- A grid point's block of the right factor. -/
def rblk (t : Fin cfg0.N) : S1024x256.Idx → EReal := iblk m c 1 t

/-- It is 1024 of the factor's rows. -/
theorem lblk_apply (t : Fin cfg0.N) (r : Fin 1024) (a : Fin 2048) (h : t.val * 1024 + r.val < 4096) :
    lblk m c t (ix2 r a) = left m c (ix2 ⟨t.val * 1024 + r.val, h⟩ a) := by
  have hi : ((cfg0.win 0).blk t).view.emb (ix2 r a) = ix2 ⟨t.val * 1024 + r.val, h⟩ a := by
    blk_ext [index_eq.1 t]
  show V m c main_v0 (((cfg0.win 0).blk t).view.emb (ix2 r a)) = _
  rw [hi]
  rfl

/-- It is the same rows of the right factor. -/
theorem rblk_apply (t : Fin cfg0.N) (r : Fin 1024) (b : Fin 256) (h : t.val * 1024 + r.val < 4096) :
    rblk m c t (ix2 r b) = right m c (ix2 ⟨t.val * 1024 + r.val, h⟩ b) := by
  have hi : ((cfg0.win 1).blk t).view.emb (ix2 r b) = ix2 ⟨t.val * 1024 + r.val, h⟩ b := by
    blk_ext [index_eq.2.1 t]
  show V m c main_v1 (((cfg0.win 1).blk t).view.emb (ix2 r b)) = _
  rw [hi]
  rfl

/-- The products that a grid point adds to an entry. -/
def step (t : Fin 4) (a : Fin 2048) (b : Fin 256) : EReal :=
  ∑ r : Fin 1024, left m c (ix2 ⟨t.val * 1024 + r.val, Blocks.place_lt t r rfl⟩ a) * right m c (ix2 ⟨t.val * 1024 + r.val, Blocks.place_lt t r rfl⟩ b)

theorem step_eq (n : Fin 4) (t : Fin cfg0.N) (hn : t.val = n.val) (a : Fin 2048) (b : Fin 256) :
    ∑ r : Fin 1024, lblk m c t (ix2 r a) * rblk m c t (ix2 r b) = step m c n a b := by
  refine Finset.sum_congr rfl fun r _ => ?_
  have h : t.val * 1024 + r.val < 4096 := by omega
  rw [lblk_apply m c t r a h, rblk_apply m c t r b h]
  simp only [hn]

theorem acc0 (h : 0 < cfg0.N) (a : Fin 2048) (b : Fin 256) : ((outsAt0 m c 0 h).2 : S2048x256.Idx → EReal) (ix2 a b) = step m c 0 a b := by
  rw [outsAt0_A m c ⟨0, h⟩ rfl (by dsimp only; omega) (by dsimp only; omega)]
  dsimp only
  rw [first]
  exact (pay1_apply _ _ a b).trans (step_eq m c 0 _ rfl a b)

theorem acc1 (h : 1 < cfg0.N) (a : Fin 2048) (b : Fin 256) : ((outsAt0 m c 1 h).2 : S2048x256.Idx → EReal) (ix2 a b) = step m c 0 a b + step m c 1 a b := by
  rw [outsAt0_B m c ⟨1, h⟩ (by dsimp only; omega) (by dsimp only; omega) (by dsimp only; omega)]
  dsimp only
  rw [middle]
  exact (pay2_apply _ _ _ a b).trans (congrArg₂ (· + ·) (acc0 m c _ a b) (step_eq m c 1 _ rfl a b))

theorem acc2 (h : 2 < cfg0.N) (a : Fin 2048) (b : Fin 256) :
    ((outsAt0 m c 2 h).2 : S2048x256.Idx → EReal) (ix2 a b) = step m c 0 a b + step m c 1 a b + step m c 2 a b := by
  rw [outsAt0_B m c ⟨2, h⟩ (by dsimp only; omega) (by dsimp only; omega) (by dsimp only; omega)]
  dsimp only
  rw [middle]
  exact (pay2_apply _ _ _ a b).trans (congrArg₂ (· + ·) (acc1 m c _ a b) (step_eq m c 2 _ rfl a b))

theorem out3 (h : 3 < cfg0.N) (a : Fin 2048) (b : Fin 256) :
    ((outsAt0 m c 3 h).1 : S2048x256.Idx → EReal) (ix2 a b) = step m c 0 a b + step m c 1 a b + step m c 2 a b + step m c 3 a b := by
  rw [outsAt0_C m c ⟨3, h⟩ (by dsimp only; omega) (by dsimp only; omega) rfl]
  dsimp only
  rw [last]
  exact (pay3_apply _ _ _ a b).trans (congrArg₂ (· + ·) (acc2 m c _ a b) (step_eq m c 3 _ rfl a b))

/-- The result's block after the last point: the product of the two whole arrays, over all 4096 rows. -/
theorem out_eq (R : S2048x256.Idx → EReal) (hR : ∀ a b, R (ix2 a b) = ∑ k : Fin 4096, left m c (ix2 k a) * right m c (ix2 k b))
    (n : ℕ) (hn : n < cfg0.N) (h3 : n % 4 = 3) (y : S2048x256.Idx) : ((outsAt0 m c n hn).1 : S2048x256.Idx → EReal) y = R y := by
  have h4 : cfg0.N = 4 := N_0
  obtain rfl : n = 3 := by omega
  obtain ⟨a, b, rfl⟩ : ∃ a b, y = ix2 a b := ⟨y 0, y 1, ValueIdx.eq_ix2 y⟩
  rw [hR]
  refine (out3 m c hn a b).trans ?_
  exact Blocks.sum_four (fun k => left m c (ix2 k a) * right m c (ix2 k b)) (fun t => step m c t a b) (fun t => rfl)

/-- The array after the call. -/
theorem array (R : S2048x256.Idx → EReal) (hR : ∀ a b, R (ix2 a b) = ∑ k : Fin 4096, left m c (ix2 k a) * right m c (ix2 k b)) :
    ((dats m 0 c).arrAt 2 cfg0.N : S2048x256.Idx → EReal) = R := by
  refine (dats m 0 c).arrAt_eq_of_covers 2 _ (by decide +kernel) fun t hf y => ?_
  have hi : ((cfg0.win 2).blk t).view.emb y = ix2 (y 0) (y 1) := by
    blk_ext [index_eq.2.2 t]
  rw [hi, after0_2]
  exact (out_eq m c R hR t.val t.isLt ((flush0_2 t).mp hf) y).trans (congrArg R (ValueIdx.eq_ix2 (n0 := 2048) (n1 := 256) y))

end Cert.Weight6
-- ==== Proof.Claims6.lean ====
/-
  The gradient of the keys' and values' up-projection: the claims. The programs run and leave their arguments as they were, and over the
  real numbers the kernel leaves the reference's gradient.
-/
module

public import proofs.«01_k».proof.Defs
public import proofs.«01_k».proof.Proof.Weight6
public import proofs.«01_k».proof.Proof.Gen.Kernel6.Frame
public import proofs.«01_k».proof.Proof.Gen.Kernel6Ideal.Value
public import proofs.«01_k».proof.Proof.Gen.Reference6Ideal.Read
public import Idealize.ShloMosaic.Lib.Quiescent

@[expose] public section

set_option maxRecDepth 16384

noncomputable section

namespace Cert.Weight6

open Idealize.ShloMosaic hiding ix2 ix3 ix4
open Idealize.ShloMosaic.ValueIdx Idealize.ShloMosaic.TcCoe Idealize.SL.Sem Cert.Kernel6Ideal Cert.Kernel6Ideal.Gen

/-- The kernel runs at the machine's floats and leaves its arguments as they were. -/
theorem frame_p : Cert.quiescent_Kernel6 := fun m ρ _ => Cert.Kernel6.Gen.frame m ρ

/-- The idealized kernel runs and leaves its arguments as they were. -/
theorem frame_pi : Cert.quiescent_Kernel6Ideal := fun m ρ _ => Cert.Kernel6Ideal.Gen.frame m ρ

/-- The idealized reference runs and leaves its arguments as they were; it has no semaphores. -/
theorem frame_ri : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- The idealization names no constant. -/
theorem preserves : Cert.preserves_Kernel6_Kernel6Ideal := trivial

variable (m : (ℓ : Loc nD τ sig) → Buf (Elt Ideal) ℓ) (c : Dev nD)

theorem V_left : left m c = (truncf .bf16 (m ((c : Thread nD τ).loc main_arg1) : FVec Ideal S4096x2048 .f32) bitsLt_bf16_f32 : FVec Ideal S4096x2048 .bf16) := by
  unfold left V
  after_reads_simp

theorem V_right : right m c = (truncf .bf16 (m ((c : Thread nD τ).loc main_arg0) : FVec Ideal S4096x256 .f32) bitsLt_bf16_f32 : FVec Ideal S4096x256 .bf16) := by
  unfold right V
  after_reads_simp

theorem left_apply (x : S4096x2048.Idx → EReal) (hx : m ((c : Thread nD τ).loc main_arg1) = x) (i : S4096x2048.Idx) : left m c i = x i := by
  subst hx
  exact (congrFun (V_left m c) i).trans rfl

theorem right_apply (y : S4096x256.Idx → EReal) (hy : m ((c : Thread nD τ).loc main_arg0) = y) (i : S4096x256.Idx) : right m c i = y i := by
  subst hy
  exact (congrFun (V_right m c) i).trans rfl

open Cert.Reference6Ideal.Read in
/-- The reference's gradient at an index. -/
theorem reference_apply (x : S4096x256.Idx → EReal) (y : S4096x2048.Idx → EReal) (a : Fin 2048) (b : Fin 256) :
    val_main_v5 (F := Ideal) x y (ix2 a b) = ∑ k : Fin 4096, y (ix2 k a) * x (ix2 k b) := by
  show (val_main_v4 (F := Ideal) x y (ix2 a b) : EReal) = _
  rw [val_main_v4_apply, val_main_v3_apply, val_main_v2_apply]
  refine Finset.sum_congr rfl fun k _ => ?_
  refine congrArg₂ (· * ·) (congrArg _ (funext fun z => ?_)) (congrArg _ (funext fun z => ?_))
  · match z with
    | ⟨0, _⟩ => rfl
    | ⟨1, _⟩ => rfl
  · match z with
    | ⟨0, _⟩ => rfl
    | ⟨1, _⟩ => rfl

/-- The array after the call is the reference's gradient. -/
theorem result (x : S4096x256.Idx → EReal) (y : S4096x2048.Idx → EReal) (hx : m ((c : Thread nD τ).loc main_arg0) = x)
    (hy : m ((c : Thread nD τ).loc main_arg1) = y) :
    ((dats m 0 c).arrAt 2 cfg0.N : S2048x256.Idx → EReal) = Cert.Reference6Ideal.Read.val_main_v5 (F := Ideal) x y := by
  refine array m c _ fun a b => (reference_apply x y a b).trans (Finset.sum_congr rfl fun k _ => ?_)
  exact congrArg₂ (· * ·) (left_apply m c _ hy _).symm (right_apply m c _ hx _).symm

/-- The kernel's gradient is the reference's. -/
theorem algebraic : Cert.algebraic_Kernel6Ideal_Reference6Ideal := by
  intro m g m' g' _ hagree
  refine ⟨fun c => (dats m 0 c).arrAt 2 cfg0.N, Cert.Kernel6Ideal.Value.run_blocks m g, ?_⟩
  refine (θ_run Cert.Reference6Ideal.defs _ _).mono (fun r h c => ?_) (Cert.Reference6Ideal.Value.run (F := Ideal) m' g')
  obtain ⟨hv, hargs⟩ := h c
  obtain ⟨a0, a1⟩ := hagree c
  exact ⟨hv.trans ((Cert.Reference6Ideal.Read.val_main_v5_eq _ _).trans (result m c _ _ a0.symm a1.symm).symm), hargs⟩

end Cert.Weight6
-- ==== Proof.Gate.lean ====
/-
  The gates' mathematics over the extended reals: the logistic function in the two forms that the kernel and the reference
  compute, and the gradient of the sigmoid linear unit in the two forms.
-/
module

public import Idealize.ShloMosaic.PureOps.Ideal.Laws
public import Mathlib.Analysis.SpecialFunctions.Exp
public import Mathlib.Analysis.Complex.Trigonometric

@[expose] public section

noncomputable section

namespace Cert.Tail

open Idealize.ShloMosaic

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; try norm_num

/-- The logistic function. -/
def sigm (x : EReal) : EReal := Ideal.div 1 (1 + Ideal.exp (-x))

theorem sigm_top : sigm ⊤ = 1 := by
  unfold sigm
  rw [EReal.neg_top, Ideal.exp_bot, add_zero, ← EReal.coe_one, Ideal.div_coe one_ne_zero, ← EReal.coe_mul]
  norm_num

theorem sigm_bot : sigm ⊥ = 0 := by
  unfold sigm
  rw [EReal.neg_bot, Ideal.exp_top, ← EReal.coe_one, EReal.coe_add_top, Ideal.div, if_neg EReal.top_ne_zero, EReal.inv_top, mul_zero]

theorem sigm_coe (r : ℝ) : sigm (r : EReal) = ((1 / (1 + Real.exp (-r)) : ℝ) : EReal) := by
  unfold sigm
  have h : (1 + Real.exp (-r)) ≠ 0 := (add_pos one_pos (Real.exp_pos _)).ne'
  rw [← EReal.coe_neg, Ideal.exp_coe, ← EReal.coe_one, ← EReal.coe_add, Ideal.div_coe h, ← EReal.coe_mul, one_mul]

/-- It's a real number everywhere. -/
theorem sigm_real (x : EReal) : ∃ s : ℝ, sigm x = (s : EReal) := by
  induction x with
  | bot => exact ⟨0, sigm_bot⟩
  | top => exact ⟨1, sigm_top⟩
  | coe r => exact ⟨_, sigm_coe r⟩

theorem tanh_half (r : ℝ) : 1 / 2 * Real.tanh (1 / 2 * r) + 1 / 2 = 1 / (1 + Real.exp (-r)) := by
  have e1 : Real.exp (-r) = Real.exp (-(1 / 2 * r)) * Real.exp (-(1 / 2 * r)) := by rw [← Real.exp_add]; congr 1; ring
  have e2 : Real.exp (1 / 2 * r) * Real.exp (-(1 / 2 * r)) = 1 := by rw [← Real.exp_add]; simp
  rw [Real.tanh_eq_sinh_div_cosh, Real.sinh_eq, Real.cosh_eq, e1]
  have p := Real.exp_pos (1 / 2 * r)
  have q := Real.exp_pos (-(1 / 2 * r))
  generalize Real.exp (1 / 2 * r) = u at *
  generalize Real.exp (-(1 / 2 * r)) = v at *
  have h1 : u + v ≠ 0 := (add_pos p q).ne'
  have h2 : 1 + v * v ≠ 0 := (add_pos one_pos (mul_pos q q)).ne'
  field_simp
  linear_combination (2 * v) * e2

/-- The kernel's form of it, from the hyperbolic tangent. -/
theorem half_tanh (x : EReal) :
    ((1 / 2 : ℝ) : EReal) * Ideal.tanh (((1 / 2 : ℝ) : EReal) * x) + ((1 / 2 : ℝ) : EReal) = sigm x := by
  have hh : (0 : ℝ) < 1 / 2 := by norm_num
  induction x with
  | bot =>
    rw [EReal.coe_mul_bot_of_pos hh, Ideal.tanh_bot, sigm_bot, ← EReal.coe_one, ← EReal.coe_neg, ← EReal.coe_mul, ← EReal.coe_add, ← EReal.coe_zero]
    norm_num
  | top =>
    rw [EReal.coe_mul_top_of_pos hh, Ideal.tanh_top, sigm_top, mul_one, ← EReal.coe_add, ← EReal.coe_one]
    norm_num
  | coe r => rw [← EReal.coe_mul, Ideal.tanh_coe, ← EReal.coe_mul, ← EReal.coe_add, sigm_coe, tanh_half]

/-- The gradient of the sigmoid linear unit: the kernel takes the cotangent out of the sum, the reference doesn't. -/
theorem silu_grad (d : ℝ) (x : EReal) :
    (d : EReal) * (sigm x * (1 + x * (1 - sigm x))) = (d : EReal) * sigm x + x * (d : EReal) * (sigm x * (1 - sigm x)) := by
  induction x with
  | bot => rw [sigm_bot]; simp
  | top =>
    rw [sigm_top]
    have h : (1 : EReal) - 1 = 0 := by rw [← EReal.coe_one, ← EReal.coe_sub]; norm_num
    rw [h]; simp
  | coe r =>
    obtain ⟨s, hs⟩ := sigm_real (r : EReal)
    rw [hs, ← EReal.coe_one]
    simp only [← EReal.coe_sub, ← EReal.coe_mul, ← EReal.coe_add]
    exact congrArg _ (by ring)

/-- A sum of real numbers is a real number. -/
theorem sum_real {n : Nat} (f : Fin n → EReal) (h : ∀ k, ∃ r : ℝ, f k = (r : EReal)) : ∃ r : ℝ, ∑ k, f k = (r : EReal) := by
  choose g hg using h
  refine ⟨∑ k, g k, ?_⟩
  rw [Finset.sum_congr rfl fun k _ => hg k]
  exact (map_sum (⟨⟨fun r : ℝ => (r : EReal), rfl⟩, fun _ _ => rfl⟩ : ℝ →+ EReal) g Finset.univ).symm

theorem mul_real {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

end Cert.Tail
-- ==== Proof.TailSteps.lean ====
/-
  The backward of the block's gated output: what a grid point leaves in each of its five result blocks, as the kernel's
  own operations of the blocks that it reads.
-/
module

public import proofs.«01_k».proof.Proof.Gen.Kernel7Ideal.Frame
public import Idealize.ShloMosaic.Lib.Pipeline.ValueKit

@[expose] public section

set_option maxRecDepth 16384

noncomputable section

namespace Cert.Tail

open Idealize.ShloMosaic hiding ix2 ix3 ix4
open Idealize.ShloMosaic.ValueIdx Idealize.ShloMosaic.TcCoe Idealize.SL.Sem Cert.Kernel7Ideal Cert.Kernel7Ideal.Gen

theorem zeros : (![0, 0] : Fin 2 → ℕ) = fun _ => 0 := funext fun a => by fin_cases a <;> rfl

variable {F : FTy → Type} [FloatOps F]

/-- The first of the three segments in a block of the projection. -/
def part0 (x : Vec F S3x512x1024 .bf16) : Vec F S1x512x1024 .bf16 :=
  View.ld x (Rect.unit (s := S3x512x1024) ![0, 0, 0] S1x512x1024.size inb_S3x512x1024_S1x512x1024_0_0_0)
/-- The second. -/
def part1 (x : Vec F S3x512x1024 .bf16) : Vec F S1x512x1024 .bf16 :=
  View.ld x (Rect.unit (s := S3x512x1024) ![1, 0, 0] S1x512x1024.size inb_S3x512x1024_S1x512x1024_1_0_0)
/-- The third. -/
def part2 (x : Vec F S3x512x1024 .bf16) : Vec F S1x512x1024 .bf16 :=
  View.ld x (Rect.unit (s := S3x512x1024) ![2, 0, 0] S1x512x1024.size inb_S3x512x1024_S1x512x1024_2_0_0)

variable (c : Dev nD) (i : grid0.Coords)
    (arg1 : Memref sig .tc .vmem S512x1024 .bf16) (h1 : arg1.IsWhole) (arg2 : Memref sig .tc .vmem S3x512x1024 .bf16) (h2 : arg2.IsWhole)
    (arg3 : Memref sig .tc .vmem S512x1024 .bf16) (h3 : arg3.IsWhole) (arg4 : Memref sig .tc .vmem S512x1024 .bf16) (h4 : arg4.IsWhole)
    (arg5 : Memref sig .tc .vmem S512x1024 .bf16) (h5 : arg5.IsWhole) (arg6 : Memref sig .tc .vmem S1024x1024 .bf16) (h6 : arg6.IsWhole)
    (arg7 : Memref sig .tc .vmem S1024x1024 .bf16) (h7 : arg7.IsWhole) (arg8 : Memref sig .tc .vmem S1024x1024 .bf16) (h8 : arg8.IsWhole)
    (arg9 : Memref sig .tc .vmem S3x512x1024 .bf16) (h9 : arg9.IsWhole) (arg10 : Memref sig .tc .vmem S512x1024 .bf16) (h10 : arg10.IsWhole)
    (arg11 : Memref sig .tc .vmem S512x1024 .bf16) (h11 : arg11.IsWhole) (arg12 : Memref sig .tc .vmem S512x1024 .bf16) (h12 : arg12.IsWhole)
    (arg13 : Memref sig .tc .vmem S512x1024 .bf16) (h13 : arg13.IsWhole)
    (x0 : Vec F S512x1024 .bf16) (x1 : Vec F S3x512x1024 .bf16) (x2 x3 x4 : Vec F S512x1024 .bf16) (x5 x6 x7 : Vec F S1024x1024 .bf16)

/-- The block of the convolution branch's gradient. -/
theorem out9_eq : out0_A_9 c i arg1 h1 arg2 h2 arg3 h3 arg4 h4 arg5 h5 arg6 h6 arg7 h7 arg8 h8 arg9 h9 arg10 h10 arg11 h11 arg12 h12 arg13 h13 x0 x1 x2 x3 x4 x5 x6 x7 = k0_pay7 (part1 x1) x0 x5 := by
  unfold out0_A_9
  rw [View.read_writes_eq_canon _ _ _ (cover0_A_9 c i arg1 h1 arg2 h2 arg3 h3 arg4 h4 arg5 h5 arg6 h6 arg7 h7 arg8 h8 arg9 h9 arg10 h10 arg11 h11 arg12 h12 arg13 h13 x0 x1 x2 x3 x4 x5 x6 x7)]
  unfold kernelRun0_A
  dsimp only
  rw [View.canon_unit_zero zeros]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8,
    View.readAt_eq_ld, h1.read_unread, h2.read_unread, h3.read_unread, h4.read_unread, h5.read_unread, h6.read_unread, h7.read_unread, h8.read_unread,
    View.ld_unit_zero (S := S512x1024) zeros, View.ld_unit_zero (S := S1024x1024) zeros]
  rfl

/-- The block of the attention branch's gradient. -/
theorem out10_eq : out0_A_10 c i arg1 h1 arg2 h2 arg3 h3 arg4 h4 arg5 h5 arg6 h6 arg7 h7 arg8 h8 arg9 h9 arg10 h10 arg11 h11 arg12 h12 arg13 h13 x0 x1 x2 x3 x4 x5 x6 x7 = k0_pay8 (part2 x1) x0 x5 := by
  unfold out0_A_10
  rw [View.read_writes_eq_canon _ _ _ (cover0_A_10 c i arg1 h1 arg2 h2 arg3 h3 arg4 h4 arg5 h5 arg6 h6 arg7 h7 arg8 h8 arg9 h9 arg10 h10 arg11 h11 arg12 h12 arg13 h13 x0 x1 x2 x3 x4 x5 x6 x7)]
  unfold kernelRun0_A
  dsimp only
  rw [View.canon_unit_zero zeros]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8,
    View.readAt_eq_ld, h1.read_unread, h2.read_unread, h3.read_unread, h4.read_unread, h5.read_unread, h6.read_unread, h7.read_unread, h8.read_unread,
    View.ld_unit_zero (S := S512x1024) zeros, View.ld_unit_zero (S := S1024x1024) zeros]
  rfl

/-- The block of the attention heads' gradient. -/
theorem out11_eq : out0_A_11 c i arg1 h1 arg2 h2 arg3 h3 arg4 h4 arg5 h5 arg6 h6 arg7 h7 arg8 h8 arg9 h9 arg10 h10 arg11 h11 arg12 h12 arg13 h13 x0 x1 x2 x3 x4 x5 x6 x7 = k0_pay13 (k0_pay3 (part0 x1)) (k0_pay8 (part2 x1) x0 x5) x6 := by
  unfold out0_A_11
  rw [View.read_writes_eq_canon _ _ _ (cover0_A_11 c i arg1 h1 arg2 h2 arg3 h3 arg4 h4 arg5 h5 arg6 h6 arg7 h7 arg8 h8 arg9 h9 arg10 h10 arg11 h11 arg12 h12 arg13 h13 x0 x1 x2 x3 x4 x5 x6 x7)]
  unfold kernelRun0_A
  dsimp only
  rw [View.canon_unit_zero zeros]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8,
    View.readAt_eq_ld, h1.read_unread, h2.read_unread, h3.read_unread, h4.read_unread, h5.read_unread, h6.read_unread, h7.read_unread, h8.read_unread,
    View.ld_unit_zero (S := S512x1024) zeros, View.ld_unit_zero (S := S1024x1024) zeros]
  rfl

/-- The block of the convolution's gradient. -/
theorem out12_eq : out0_A_12 c i arg1 h1 arg2 h2 arg3 h3 arg4 h4 arg5 h5 arg6 h6 arg7 h7 arg8 h8 arg9 h9 arg10 h10 arg11 h11 arg12 h12 arg13 h13 x0 x1 x2 x3 x4 x5 x6 x7 = k0_pay2 (k0_pay7 (part1 x1) x0 x5) x7 := by
  unfold out0_A_12
  rw [View.read_writes_eq_canon _ _ _ (cover0_A_12 c i arg1 h1 arg2 h2 arg3 h3 arg4 h4 arg5 h5 arg6 h6 arg7 h7 arg8 h8 arg9 h9 arg10 h10 arg11 h11 arg12 h12 arg13 h13 x0 x1 x2 x3 x4 x5 x6 x7)]
  unfold kernelRun0_A
  dsimp only
  rw [View.canon_unit_zero zeros]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8,
    View.readAt_eq_ld, h1.read_unread, h2.read_unread, h3.read_unread, h4.read_unread, h5.read_unread, h6.read_unread, h7.read_unread, h8.read_unread,
    View.ld_unit_zero (S := S512x1024) zeros, View.ld_unit_zero (S := S1024x1024) zeros]
  rfl

/-- The block of the gates' gradients: three stores, one for each gate. -/
theorem out8_eq : out0_A_8 c i arg1 h1 arg2 h2 arg3 h3 arg4 h4 arg5 h5 arg6 h6 arg7 h7 arg8 h8 arg9 h9 arg10 h10 arg11 h11 arg12 h12 arg13 h13 x0 x1 x2 x3 x4 x5 x6 x7
    = View.canon [⟨Rect.unit (s := S3x512x1024) ![0, 0, 0] S1x512x1024.size inb_S3x512x1024_S1x512x1024_0_0_0,
          k0_pay1 (k0_pay3 (part0 x1)) (k0_pay11 (k0_pay8 (part2 x1) x0 x5) x6) (k0_pay12 (k0_pay3 (part0 x1))) x4⟩,
        ⟨Rect.unit (s := S3x512x1024) ![2, 0, 0] S1x512x1024.size inb_S3x512x1024_S1x512x1024_2_0_0, k0_pay10 (k0_pay4 x0 x5) (k0_pay6 (part2 x1)) x3⟩,
        ⟨Rect.unit (s := S3x512x1024) ![1, 0, 0] S1x512x1024.size inb_S3x512x1024_S1x512x1024_1_0_0, k0_pay9 (k0_pay4 x0 x5) (k0_pay5 (part1 x1)) x2⟩] := by
  unfold out0_A_8
  rw [View.read_writes_eq_canon _ _ _ (cover0_A_8 c i arg1 h1 arg2 h2 arg3 h3 arg4 h4 arg5 h5 arg6 h6 arg7 h7 arg8 h8 arg9 h9 arg10 h10 arg11 h11 arg12 h12 arg13 h13 x0 x1 x2 x3 x4 x5 x6 x7)]
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8,
    View.readAt_eq_ld, h1.read_unread, h2.read_unread, h3.read_unread, h4.read_unread, h5.read_unread, h6.read_unread, h7.read_unread, h8.read_unread,
    View.ld_unit_zero (S := S512x1024) zeros, View.ld_unit_zero (S := S1024x1024) zeros]
  rfl

end Cert.Tail
-- ==== Proof.TailTile.lean ====
/-
  The backward of the block's gated output: a grid point's results at an index, over the real numbers. A row of each
  result is a function of the same row of the blocks that the point reads.
-/
module

public import proofs.«01_k».proof.Proof.Gate
public import proofs.«01_k».proof.Proof.TailSteps

@[expose] public section

set_option maxRecDepth 16384

noncomputable section

namespace Cert.Tail

open Idealize.ShloMosaic hiding ix2 ix3 ix4
open Idealize.ShloMosaic.ValueIdx Idealize.ShloMosaic.TcCoe Idealize.SL.Sem Cert.Kernel7Ideal Cert.Kernel7Ideal.Gen

/-! ## Rows -/

/-- A row against the rows of a weight: the row times the weight's transpose. -/
def against (x : Fin 1024 → EReal) (w : S1024x1024.Idx → EReal) : Fin 1024 → EReal := fun j => ∑ k : Fin 1024, x k * w (ix2 j k)

/-- A row through a sigmoid gate. -/
def gated (d g : Fin 1024 → EReal) : Fin 1024 → EReal := fun j => d j * sigm (g j)

/-- The gradient of a sigmoid gate whose branch is `y`. -/
def slope (d y g : Fin 1024 → EReal) : Fin 1024 → EReal := fun j => d j * y j * (sigm (g j) * (1 - sigm (g j)))

/-- A row through a silu gate. -/
def through (d z : Fin 1024 → EReal) : Fin 1024 → EReal := fun j => d j * (z j * sigm (z j))

/-- The gradient of a silu gate whose branch is `x`, factored. -/
def factored (d x z : Fin 1024 → EReal) : Fin 1024 → EReal := fun j => d j * x j * (sigm (z j) * (1 + z j * (1 - sigm (z j))))

/-- A row of a block. -/
def row (x : S512x1024.Idx → EReal) (r : Fin 512) : Fin 1024 → EReal := fun j => x (ix2 r j)

/-- A row of one of a block's segments. -/
def seg (x : S3x512x1024.Idx → EReal) (s : Fin 3) (r : Fin 512) : Fin 1024 → EReal := fun j => x (ix3 s r j)

/-! ## The product -/

/-- The product that a grid point forms, four times. -/
abbrev dot := dot_S512x1024_S1024x1024_S512x1024_1_1_0_0_n_n

theorem lhs_eq (a : Fin 512) (b : Fin 1024) (q : dot.contr.Idx) (k : Fin 1024) (hk : (q ⟨0, by decide⟩).val = k.val) :
    dot.lhsIdx (ix2 a b) q = ix2 a k := by
  funext x
  refine Fin.ext ?_
  match x with
  | ⟨1, _⟩ => exact (dot.lhsIdx_val_of_single rfl (ix2 a b) q).trans hk
  | ⟨0, _⟩ =>
    show (dot.lhsIdx (ix2 a b) q 0).val = a.val
    unfold DotDims.lhsIdx
    rw [dif_neg (show ¬(0 : Fin S512x1024.rank) ∈ dot.lhsBatch by decide), dif_pos (show (0 : Fin S512x1024.rank) ∈ dot.lhsNonContracting by decide)]
    rfl

theorem rhs_eq (a : Fin 512) (b : Fin 1024) (q : dot.contr.Idx) (k : Fin 1024) (hk : (q ⟨0, by decide⟩).val = k.val) :
    dot.rhsIdx (ix2 a b) q = ix2 b k := by
  funext x
  refine Fin.ext ?_
  match x with
  | ⟨1, _⟩ => exact (dot.rhsIdx_val_of_single rfl (ix2 a b) q).trans hk
  | ⟨0, _⟩ =>
    show (dot.rhsIdx (ix2 a b) q 0).val = b.val
    unfold DotDims.rhsIdx
    rw [dif_neg (show ¬(0 : Fin S1024x1024.rank) ∈ dot.rhsBatch by decide), dif_pos (show (0 : Fin S1024x1024.rank) ∈ dot.rhsNonContracting by decide)]
    rfl

theorem product_apply (u : FVec Ideal S512x1024 .bf16) (v : FVec Ideal S1024x1024 .bf16) (r : Fin 512) (j : Fin 1024) :
    (matmul dot none u v (constant S512x1024 .f32 0x00000000#32 : FVec Ideal S512x1024 .f32) : S512x1024.Idx → EReal) (ix2 r j)
      = against (row u r) v j := by
  refine (Ideal.matmul_constant_zero_apply (φ₁ := .bf16) (φ₂ := .bf16) _ none _ _ _).trans ?_
  rw [← Equiv.sum_comp (contrEquiv1 dot 1024 rfl rfl).symm]
  refine Finset.sum_congr rfl fun k _ => ?_
  have hk := contrEquiv1_symm_val dot 1024 rfl rfl k
  rw [lhs_eq r j _ k hk, rhs_eq r j _ k hk]
  rfl

/-! ## The operations at an index -/

theorem flat_apply (v : S1x512x1024.Idx → EReal) (r : Fin 512) (j : Fin 1024) :
    (shapeCast S512x1024 v shapeCasts_S1x512x1024_S512x1024 : S512x1024.Idx → EReal) (ix2 r j) = v (ix3 0 r j) := by
  refine shapeCast_apply _ _ _ (ix3 0 r j) ?_
  rw [Shape.rowMajor_val_three, Shape.rowMajor_val_two]
  show (0 * 512 + r.val) * 1024 + j.val = r.val * 1024 + j.val
  omega

theorem unflat_apply (v : S512x1024.Idx → EReal) (r : Fin 512) (j : Fin 1024) :
    (shapeCast S1x512x1024 v shapeCasts_S512x1024_S1x512x1024 : S1x512x1024.Idx → EReal) (ix3 0 r j) = v (ix2 r j) := by
  refine shapeCast_apply _ _ _ (ix2 r j) ?_
  rw [Shape.rowMajor_val_three, Shape.rowMajor_val_two]
  show r.val * 1024 + j.val = (0 * 512 + r.val) * 1024 + j.val
  omega

variable (u : S1x512x1024.Idx → EReal) (x y z d s : S512x1024.Idx → EReal) (w w' : S1024x1024.Idx → EReal) (r : Fin 512) (j : Fin 1024)

theorem pay3_apply : (k0_pay3 (F := Ideal) u : S512x1024.Idx → EReal) (ix2 r j) = u (ix3 0 r j) := by
  unfold k0_pay3
  exact flat_apply u r j

theorem pay4_apply : (k0_pay4 (F := Ideal) x w : S512x1024.Idx → EReal) (ix2 r j) = against (row x r) w j := by
  unfold k0_pay4
  simp only [shapeCast_self]
  exact product_apply x w r j

/-- The kernel's sigmoid, by the hyperbolic tangent. -/
theorem pay12_apply : (k0_pay12 (F := Ideal) x : S512x1024.Idx → EReal) (ix2 r j) = sigm (x (ix2 r j)) := by
  refine Eq.trans ?_ (half_tanh _)
  rw [← ofBits_half]
  rfl

theorem pay5_apply : (k0_pay5 (F := Ideal) u : S512x1024.Idx → EReal) (ix2 r j) = sigm (u (ix3 0 r j)) :=
  Eq.trans (show _ = (k0_pay12 (F := Ideal) (k0_pay3 (F := Ideal) u) : S512x1024.Idx → EReal) (ix2 r j) from rfl)
    ((pay12_apply _ r j).trans (congrArg sigm (pay3_apply u r j)))

theorem pay6_apply : (k0_pay6 (F := Ideal) u : S512x1024.Idx → EReal) (ix2 r j) = sigm (u (ix3 0 r j)) :=
  Eq.trans (show _ = (k0_pay12 (F := Ideal) (k0_pay3 (F := Ideal) u) : S512x1024.Idx → EReal) (ix2 r j) from rfl)
    ((pay12_apply _ r j).trans (congrArg sigm (pay3_apply u r j)))

theorem pay7_apply : (k0_pay7 (F := Ideal) u x w : S512x1024.Idx → EReal) (ix2 r j)
    = gated (against (row x r) w) (fun k => u (ix3 0 r k)) j :=
  congrArg₂ (· * ·) (pay4_apply x w r j) (pay5_apply u r j)

theorem pay8_apply : (k0_pay8 (F := Ideal) u x w : S512x1024.Idx → EReal) (ix2 r j)
    = gated (against (row x r) w) (fun k => u (ix3 0 r k)) j :=
  congrArg₂ (· * ·) (pay4_apply x w r j) (pay6_apply u r j)

theorem pay11_apply : (k0_pay11 (F := Ideal) x w : S512x1024.Idx → EReal) (ix2 r j) = against (row x r) w j := by
  unfold k0_pay11
  simp only [shapeCast_self]
  exact product_apply x w r j

theorem pay2_apply : (k0_pay2 (F := Ideal) x w : S512x1024.Idx → EReal) (ix2 r j) = against (row x r) w j := by
  unfold k0_pay2
  simp only [shapeCast_self]
  exact product_apply x w r j

theorem pay13_apply : (k0_pay13 (F := Ideal) z x w : S512x1024.Idx → EReal) (ix2 r j) = through (against (row x r) w) (row z r) j :=
  congrArg₂ (· * ·) (pay11_apply x w r j) (congrArg (z (ix2 r j) * ·) (pay12_apply z r j))

theorem pay9_apply : (k0_pay9 (F := Ideal) d s y : S1x512x1024.Idx → EReal) (ix3 0 r j)
    = d (ix2 r j) * y (ix2 r j) * (s (ix2 r j) * (1 - s (ix2 r j))) := by
  unfold k0_pay9
  simp only [shapeCast_self]
  refine (unflat_apply _ r j).trans ?_
  rw [← ofBits_one]
  rfl

theorem pay10_apply : (k0_pay10 (F := Ideal) d s y : S1x512x1024.Idx → EReal) (ix3 0 r j)
    = d (ix2 r j) * y (ix2 r j) * (s (ix2 r j) * (1 - s (ix2 r j))) := by
  unfold k0_pay10
  simp only [shapeCast_self]
  refine (unflat_apply _ r j).trans ?_
  rw [← ofBits_one]
  rfl

theorem pay1_apply : (k0_pay1 (F := Ideal) z d s y : S1x512x1024.Idx → EReal) (ix3 0 r j)
    = d (ix2 r j) * y (ix2 r j) * (s (ix2 r j) * (1 + z (ix2 r j) * (1 - s (ix2 r j)))) := by
  unfold k0_pay1
  simp only [shapeCast_self]
  refine (unflat_apply _ r j).trans ?_
  rw [← ofBits_one]
  rfl

/-! ## The parts of a block of the projection, and the stores of three parts -/

variable (p : S3x512x1024.Idx → EReal)

theorem part0_apply : (part0 (F := Ideal) p : S1x512x1024.Idx → EReal) (ix3 0 r j) = p (ix3 0 r j) :=
  View.ld_unit_apply_of (Val := Elt Ideal) (e := .bf16) p _ _ _ _ _ fun z => match z with
    | ⟨0, _⟩ => rfl
    | ⟨1, _⟩ => by show r.val = 0 + r.val; omega
    | ⟨2, _⟩ => by show j.val = 0 + j.val; omega

theorem part1_apply : (part1 (F := Ideal) p : S1x512x1024.Idx → EReal) (ix3 0 r j) = p (ix3 1 r j) :=
  View.ld_unit_apply_of (Val := Elt Ideal) (e := .bf16) p _ _ _ _ _ fun z => match z with
    | ⟨0, _⟩ => rfl
    | ⟨1, _⟩ => by show r.val = 0 + r.val; omega
    | ⟨2, _⟩ => by show j.val = 0 + j.val; omega

theorem part2_apply : (part2 (F := Ideal) p : S1x512x1024.Idx → EReal) (ix3 0 r j) = p (ix3 2 r j) :=
  View.ld_unit_apply_of (Val := Elt Ideal) (e := .bf16) p _ _ _ _ _ fun z => match z with
    | ⟨0, _⟩ => rfl
    | ⟨1, _⟩ => by show r.val = 0 + r.val; omega
    | ⟨2, _⟩ => by show j.val = 0 + j.val; omega

/-- The contents after a store of segment `o`, at that segment. -/
theorem canon_hit {o : ℕ} (k : Fin 3) (ho : o = k.val)
    (inb : ∀ a, (![o, 0, 0] : Fin 3 → ℕ) a + S1x512x1024.size a ≤ S3x512x1024.size a)
    (v : S1x512x1024.Idx → Elt Ideal .bf16) (l : List (View.Piece (Elt Ideal) S3x512x1024 .bf16)) :
    View.canon (⟨Rect.unit (s := S3x512x1024) ![o, 0, 0] S1x512x1024.size inb, v⟩ :: l) (ix3 k r j) = v (ix3 0 r j) := by
  subst ho
  have h : (Rect.unit (s := S3x512x1024) ![k.val, 0, 0] S1x512x1024.size inb).emb (ix3 0 r j : S1x512x1024.Idx) = ix3 k r j := by
    funext a; match a with
    | ⟨0, _⟩ => exact Fin.ext (by show k.val + 1 * 0 = k.val; omega)
    | ⟨1, _⟩ => exact Fin.ext (by show 0 + 1 * r.val = r.val; omega)
    | ⟨2, _⟩ => exact Fin.ext (by show 0 + 1 * j.val = j.val; omega)
  rw [← h]
  exact View.canon_cons_emb _ _ _ _

/-- The contents after a store of segment `o`, at another segment. -/
theorem canon_miss {o : ℕ} (k : Fin 3) (ho : o ≠ k.val)
    (inb : ∀ a, (![o, 0, 0] : Fin 3 → ℕ) a + S1x512x1024.size a ≤ S3x512x1024.size a)
    (v : S1x512x1024.Idx → Elt Ideal .bf16) (l : List (View.Piece (Elt Ideal) S3x512x1024 .bf16)) :
    View.canon (⟨Rect.unit (s := S3x512x1024) ![o, 0, 0] S1x512x1024.size inb, v⟩ :: l) (ix3 k r j) = View.canon l (ix3 k r j) := by
  refine View.canon_cons_of_not_mem _ _ fun h => ?_
  have h0 := (Rect.mem_set_unit (inb := inb)).1 h (0 : Fin 3)
  have h1 : o ≤ k.val := h0.1
  have h2 : k.val < o + 1 := h0.2
  omega

/-! ## The five results of a point -/

variable (x0 x2 x3 x4 : S512x1024.Idx → EReal) (w5 w6 w7 : S1024x1024.Idx → EReal)

/-- The convolution branch's gradient. -/
theorem res9 : (k0_pay7 (F := Ideal) (part1 (F := Ideal) p) x0 w5 : S512x1024.Idx → EReal) (ix2 r j) = gated (against (row x0 r) w5) (seg p 1 r) j :=
  (pay7_apply _ x0 w5 r j).trans (congrArg (fun g => gated (against (row x0 r) w5) g j) (funext fun k => part1_apply r k p))

/-- The attention branch's gradient. -/
theorem res10 : (k0_pay8 (F := Ideal) (part2 (F := Ideal) p) x0 w5 : S512x1024.Idx → EReal) (ix2 r j) = gated (against (row x0 r) w5) (seg p 2 r) j :=
  (pay8_apply _ x0 w5 r j).trans (congrArg (fun g => gated (against (row x0 r) w5) g j) (funext fun k => part2_apply r k p))

theorem first_row : row (k0_pay3 (F := Ideal) (part0 (F := Ideal) p)) r = seg p 0 r := funext fun k => (pay3_apply _ r k).trans (part0_apply r k p)

/-- The attention heads' gradient. -/
theorem res11 : (k0_pay13 (F := Ideal) (k0_pay3 (F := Ideal) (part0 (F := Ideal) p)) (k0_pay8 (F := Ideal) (part2 (F := Ideal) p) x0 w5) w6 : S512x1024.Idx → EReal) (ix2 r j)
    = through (against (gated (against (row x0 r) w5) (seg p 2 r)) w6) (seg p 0 r) j := by
  refine (pay13_apply _ _ w6 r j).trans ?_
  rw [first_row, show row (k0_pay8 (F := Ideal) (part2 (F := Ideal) p) x0 w5) r = _ from funext fun k => res10 r k p x0 w5]

/-- The convolution's gradient. -/
theorem res12 : (k0_pay2 (F := Ideal) (k0_pay7 (F := Ideal) (part1 (F := Ideal) p) x0 w5) w7 : S512x1024.Idx → EReal) (ix2 r j)
    = against (gated (against (row x0 r) w5) (seg p 1 r)) w7 j := by
  refine (pay2_apply _ w7 r j).trans ?_
  rw [show row (k0_pay7 (F := Ideal) (part1 (F := Ideal) p) x0 w5) r = _ from funext fun k => res9 r k p x0 w5]

/-- The second gate's gradient. -/
theorem res8_1 : (k0_pay9 (F := Ideal) (k0_pay4 (F := Ideal) x0 w5) (k0_pay5 (F := Ideal) (part1 (F := Ideal) p)) x2 : S1x512x1024.Idx → EReal) (ix3 0 r j)
    = slope (against (row x0 r) w5) (row x2 r) (seg p 1 r) j := by
  refine (pay9_apply _ _ _ r j).trans ?_
  rw [pay4_apply, pay5_apply, part1_apply]
  rfl

/-- The third gate's gradient. -/
theorem res8_2 : (k0_pay10 (F := Ideal) (k0_pay4 (F := Ideal) x0 w5) (k0_pay6 (F := Ideal) (part2 (F := Ideal) p)) x3 : S1x512x1024.Idx → EReal) (ix3 0 r j)
    = slope (against (row x0 r) w5) (row x3 r) (seg p 2 r) j := by
  refine (pay10_apply _ _ _ r j).trans ?_
  rw [pay4_apply, pay6_apply, part2_apply]
  rfl

/-- The first gate's gradient. -/
theorem res8_0 : (k0_pay1 (F := Ideal) (k0_pay3 (F := Ideal) (part0 (F := Ideal) p)) (k0_pay11 (F := Ideal) (k0_pay8 (F := Ideal) (part2 (F := Ideal) p) x0 w5) w6)
      (k0_pay12 (F := Ideal) (k0_pay3 (F := Ideal) (part0 (F := Ideal) p))) x4 : S1x512x1024.Idx → EReal) (ix3 0 r j)
    = factored (against (gated (against (row x0 r) w5) (seg p 2 r)) w6) (row x4 r) (seg p 0 r) j := by
  refine (pay1_apply _ _ _ _ r j).trans ?_
  rw [pay11_apply, pay12_apply, pay3_apply, part0_apply,
    show row (k0_pay8 (F := Ideal) (part2 (F := Ideal) p) x0 w5) r = _ from funext fun k => res10 r k p x0 w5]
  rfl

end Cert.Tail
-- ==== Proof.TailArrays.lean ====
/-
  The backward of the block's gated output: the blocks that the call reads from its arrays, and the five arrays that it
  leaves. A row of each array is a function of the same row of the arguments.
-/
module

public import proofs.«01_k».proof.Proof.TailTile

@[expose] public section

set_option maxRecDepth 16384

noncomputable section

namespace Cert.Tail

open Idealize.ShloMosaic hiding ix2 ix3 ix4
open Idealize.ShloMosaic.ValueIdx Idealize.ShloMosaic.TcCoe Idealize.SL.Sem Cert.Kernel7Ideal Cert.Kernel7Ideal.Gen

variable (m : (ℓ : Loc nD τ sig) → Buf (Elt Ideal) ℓ) (c : Dev nD)

/-! ## The arrays, as the call receives them -/

/-- The gradient of the block's gated output. -/
def ct : S4096x1024.Idx → EReal := V m c main_v6
/-- The projection, in segments. -/
def pr : S8x4096x1024.Idx → EReal := V m c main_v7
/-- The convolution branch. -/
def ya : S4096x1024.Idx → EReal := V m c main_v8
/-- The attention branch. -/
def yb : S4096x1024.Idx → EReal := V m c main_v9
/-- The attention heads. -/
def heads : S4096x1024.Idx → EReal := V m c main_v10
/-- The output weight. -/
def wOut : S1024x1024.Idx → EReal := V m c main_v11
/-- The attention branch's weight. -/
def wMla : S1024x1024.Idx → EReal := V m c main_v12
/-- The convolution branch's weight. -/
def wConv : S1024x1024.Idx → EReal := V m c main_v13

/-- A row of an array. -/
def line (x : S4096x1024.Idx → EReal) (n : Fin 4096) : Fin 1024 → EReal := fun j => x (ix2 n j)

/-- A row of a segment. -/
def segLine (x : S8x4096x1024.Idx → EReal) (s : Fin 8) (n : Fin 4096) : Fin 1024 → EReal := fun j => x (ix3 s n j)

theorem index_eq : (∀ t, win0_0.index t = ![t.val, 0]) ∧ (∀ t, win0_1.index t = ![0, t.val, 0]) ∧ (∀ t, win0_2.index t = ![t.val, 0])
    ∧ (∀ t, win0_3.index t = ![t.val, 0]) ∧ (∀ t, win0_4.index t = ![t.val, 0]) ∧ (∀ t, win0_5.index t = ![0, 0])
    ∧ (∀ t, win0_6.index t = ![0, 0]) ∧ (∀ t, win0_7.index t = ![0, 0]) := by
  decide +kernel

theorem out_index_eq : (∀ t, win0_8.index t = ![0, t.val, 0]) ∧ (∀ t, win0_9.index t = ![t.val, 0]) ∧ (∀ t, win0_10.index t = ![t.val, 0])
    ∧ (∀ t, win0_11.index t = ![t.val, 0]) ∧ (∀ t, win0_12.index t = ![t.val, 0]) := by
  decide +kernel

/-- The array's row that is row `r` of point `t`. -/
def place (t : Fin cfg0.N) (r : Fin 512) : Fin 4096 := ⟨t.val * 512 + r.val, by
  have h : cfg0.N = 8 := N_0
  have := t.isLt
  omega⟩

section Blocks
variable (t : Fin cfg0.N)

def blk0 : S512x1024.Idx → EReal := iblk m c 0 t
def blk1 : S3x512x1024.Idx → EReal := X0_1 m c t
def blk2 : S512x1024.Idx → EReal := iblk m c 2 t
def blk3 : S512x1024.Idx → EReal := iblk m c 3 t
def blk4 : S512x1024.Idx → EReal := iblk m c 4 t
def blk5 : S1024x1024.Idx → EReal := iblk m c 5 t
def blk6 : S1024x1024.Idx → EReal := iblk m c 6 t
def blk7 : S1024x1024.Idx → EReal := iblk m c 7 t

theorem row0 (r : Fin 512) : row (blk0 m c t) r = line (ct m c) (place t r) := by
  funext j
  have hi : ((cfg0.win 0).blk t).view.emb (ix2 r j) = ix2 (place t r) j := by
    blk_ext [index_eq.1 t, place]
  show V m c main_v6 (((cfg0.win 0).blk t).view.emb (ix2 r j)) = _
  rw [hi]
  rfl

theorem row2 (r : Fin 512) : row (blk2 m c t) r = line (ya m c) (place t r) := by
  funext j
  have hi : ((cfg0.win 2).blk t).view.emb (ix2 r j) = ix2 (place t r) j := by
    blk_ext [index_eq.2.2.1 t, place]
  show V m c main_v8 (((cfg0.win 2).blk t).view.emb (ix2 r j)) = _
  rw [hi]
  rfl

theorem row3 (r : Fin 512) : row (blk3 m c t) r = line (yb m c) (place t r) := by
  funext j
  have hi : ((cfg0.win 3).blk t).view.emb (ix2 r j) = ix2 (place t r) j := by
    blk_ext [index_eq.2.2.2.1 t, place]
  show V m c main_v9 (((cfg0.win 3).blk t).view.emb (ix2 r j)) = _
  rw [hi]
  rfl

theorem row4 (r : Fin 512) : row (blk4 m c t) r = line (heads m c) (place t r) := by
  funext j
  have hi : ((cfg0.win 4).blk t).view.emb (ix2 r j) = ix2 (place t r) j := by
    blk_ext [index_eq.2.2.2.2.1 t, place]
  show V m c main_v10 (((cfg0.win 4).blk t).view.emb (ix2 r j)) = _
  rw [hi]
  rfl

theorem all5 : blk5 m c t = wOut m c := by
  funext y
  have hi : ((cfg0.win 5).blk t).view.emb y = y := by
    blk_ext [index_eq.2.2.2.2.2.1 t]
  show V m c main_v11 (((cfg0.win 5).blk t).view.emb y) = _
  rw [hi]
  rfl

theorem all6 : blk6 m c t = wMla m c := by
  funext y
  have hi : ((cfg0.win 6).blk t).view.emb y = y := by
    blk_ext [index_eq.2.2.2.2.2.2.1 t]
  show V m c main_v12 (((cfg0.win 6).blk t).view.emb y) = _
  rw [hi]
  rfl

theorem all7 : blk7 m c t = wConv m c := by
  funext y
  have hi : ((cfg0.win 7).blk t).view.emb y = y := by
    blk_ext [index_eq.2.2.2.2.2.2.2 t]
  show V m c main_v13 (((cfg0.win 7).blk t).view.emb y) = _
  rw [hi]
  rfl

/-- The projection's block is the same rows of the first three segments. -/
theorem seg1_eq (s : Fin 3) (r : Fin 512) : seg (blk1 m c t) s r = segLine (pr m c) ⟨s.val, by omega⟩ (place t r) := by
  funext j
  show X0_1 m c t (ix3 s r j) = _
  unfold X0_1 Pipeline.Window.fill
  rw [dif_pos (moved0_1 t _)]
  show V m c main_v7 (((cfg0.win 1).blk t).view.emb _) = _
  refine Eq.trans (congrArg (V m c main_v7) (?_ : _ = ix3 ⟨s.val, by omega⟩ (place t r) j)) rfl
  blk_ext [index_eq.2.1 t, place]

/-! ## What a point leaves -/

theorem left9 (r : Fin 512) (j : Fin 1024) : ((outsAt0 m c t).2.1 : S512x1024.Idx → EReal) (ix2 r j)
    = gated (against (line (ct m c) (place t r)) (wOut m c)) (segLine (pr m c) 1 (place t r)) j := by
  unfold outsAt0
  dsimp only
  rw [out9_eq]
  refine (res9 r j (blk1 m c t) (blk0 m c t) (blk5 m c t)).trans ?_
  rw [row0, all5, seg1_eq]
  rfl

theorem left10 (r : Fin 512) (j : Fin 1024) : ((outsAt0 m c t).2.2.1 : S512x1024.Idx → EReal) (ix2 r j)
    = gated (against (line (ct m c) (place t r)) (wOut m c)) (segLine (pr m c) 2 (place t r)) j := by
  unfold outsAt0
  dsimp only
  rw [out10_eq]
  refine (res10 r j (blk1 m c t) (blk0 m c t) (blk5 m c t)).trans ?_
  rw [row0, all5, seg1_eq]
  rfl

theorem left11 (r : Fin 512) (j : Fin 1024) : ((outsAt0 m c t).2.2.2.1 : S512x1024.Idx → EReal) (ix2 r j)
    = through (against (gated (against (line (ct m c) (place t r)) (wOut m c)) (segLine (pr m c) 2 (place t r))) (wMla m c))
        (segLine (pr m c) 0 (place t r)) j := by
  unfold outsAt0
  dsimp only
  rw [out11_eq]
  refine (res11 r j (blk1 m c t) (blk0 m c t) (blk5 m c t) (blk6 m c t)).trans ?_
  rw [row0, all5, all6, seg1_eq, seg1_eq]
  rfl

theorem left12 (r : Fin 512) (j : Fin 1024) : ((outsAt0 m c t).2.2.2.2 : S512x1024.Idx → EReal) (ix2 r j)
    = against (gated (against (line (ct m c) (place t r)) (wOut m c)) (segLine (pr m c) 1 (place t r))) (wConv m c) j := by
  unfold outsAt0
  dsimp only
  rw [out12_eq]
  refine (res12 r j (blk1 m c t) (blk0 m c t) (blk5 m c t) (blk7 m c t)).trans ?_
  rw [row0, all5, all7, seg1_eq]
  rfl

/-- The gradients of the three gates. -/
def gates (s : Fin 3) (n : Fin 4096) : Fin 1024 → EReal :=
  match s with
  | 0 => factored (against (gated (against (line (ct m c) n) (wOut m c)) (segLine (pr m c) 2 n)) (wMla m c)) (line (heads m c) n) (segLine (pr m c) 0 n)
  | 1 => slope (against (line (ct m c) n) (wOut m c)) (line (ya m c) n) (segLine (pr m c) 1 n)
  | 2 => slope (against (line (ct m c) n) (wOut m c)) (line (yb m c) n) (segLine (pr m c) 2 n)

theorem left8 (s : Fin 3) (r : Fin 512) (j : Fin 1024) : ((outsAt0 m c t).1 : S3x512x1024.Idx → EReal) (ix3 s r j) = gates m c s (place t r) j := by
  unfold outsAt0
  dsimp only
  rw [out8_eq]
  match s with
  | 0 =>
    refine (canon_hit r j 0 rfl _ _ _).trans ?_
    refine (res8_0 r j (blk1 m c t) (blk0 m c t) (blk4 m c t) (blk5 m c t) (blk6 m c t)).trans ?_
    rw [row0, row4, all5, all6, seg1_eq, seg1_eq]
    rfl
  | 1 =>
    refine (canon_miss r j 1 (by decide) _ _ _).trans ((canon_miss r j 1 (by decide) _ _ _).trans ((canon_hit r j 1 rfl _ _ _).trans ?_))
    refine (res8_1 r j (blk1 m c t) (blk0 m c t) (blk2 m c t) (blk5 m c t)).trans ?_
    rw [row0, row2, all5, seg1_eq]
    rfl
  | 2 =>
    refine (canon_miss r j 2 (by decide) _ _ _).trans ((canon_hit r j 2 rfl _ _ _).trans ?_)
    refine (res8_2 r j (blk1 m c t) (blk0 m c t) (blk3 m c t) (blk5 m c t)).trans ?_
    rw [row0, row3, all5, seg1_eq]
    rfl

end Blocks

/-! ## The arrays after the call -/

theorem array9 : ((dats m 0 c).arrAt 9 cfg0.N : S4096x1024.Idx → EReal)
    = fun i => gated (against (line (ct m c) (i 0)) (wOut m c)) (segLine (pr m c) 1 (i 0)) (i 1) := by
  refine (dats m 0 c).arrAt_eq_of_covers 9 _ (by decide +kernel) fun t hf y => ?_
  have hi : ((cfg0.win 9).blk t).view.emb y = ix2 (place t (y 0)) (y 1) := by
    blk_ext [out_index_eq.2.1 t, place]
  rw [hi, after0_9]
  exact (congrArg (outsAt0 m c t).2.1 (ValueIdx.eq_ix2 (n0 := 512) (n1 := 1024) y)).trans (left9 m c t (y 0) (y 1))

theorem array10 : ((dats m 0 c).arrAt 10 cfg0.N : S4096x1024.Idx → EReal)
    = fun i => gated (against (line (ct m c) (i 0)) (wOut m c)) (segLine (pr m c) 2 (i 0)) (i 1) := by
  refine (dats m 0 c).arrAt_eq_of_covers 10 _ (by decide +kernel) fun t hf y => ?_
  have hi : ((cfg0.win 10).blk t).view.emb y = ix2 (place t (y 0)) (y 1) := by
    blk_ext [out_index_eq.2.2.1 t, place]
  rw [hi, after0_10]
  exact (congrArg (outsAt0 m c t).2.2.1 (ValueIdx.eq_ix2 (n0 := 512) (n1 := 1024) y)).trans (left10 m c t (y 0) (y 1))

theorem array11 : ((dats m 0 c).arrAt 11 cfg0.N : S4096x1024.Idx → EReal)
    = fun i => through (against (gated (against (line (ct m c) (i 0)) (wOut m c)) (segLine (pr m c) 2 (i 0))) (wMla m c)) (segLine (pr m c) 0 (i 0)) (i 1) := by
  refine (dats m 0 c).arrAt_eq_of_covers 11 _ (by decide +kernel) fun t hf y => ?_
  have hi : ((cfg0.win 11).blk t).view.emb y = ix2 (place t (y 0)) (y 1) := by
    blk_ext [out_index_eq.2.2.2.1 t, place]
  rw [hi, after0_11]
  exact (congrArg (outsAt0 m c t).2.2.2.1 (ValueIdx.eq_ix2 (n0 := 512) (n1 := 1024) y)).trans (left11 m c t (y 0) (y 1))

theorem array12 : ((dats m 0 c).arrAt 12 cfg0.N : S4096x1024.Idx → EReal)
    = fun i => against (gated (against (line (ct m c) (i 0)) (wOut m c)) (segLine (pr m c) 1 (i 0))) (wConv m c) (i 1) := by
  refine (dats m 0 c).arrAt_eq_of_covers 12 _ (by decide +kernel) fun t hf y => ?_
  have hi : ((cfg0.win 12).blk t).view.emb y = ix2 (place t (y 0)) (y 1) := by
    blk_ext [out_index_eq.2.2.2.2 t, place]
  rw [hi, after0_12]
  exact (congrArg (outsAt0 m c t).2.2.2.2 (ValueIdx.eq_ix2 (n0 := 512) (n1 := 1024) y)).trans (left12 m c t (y 0) (y 1))

/-- The gates' gradients in the array of eight segments: its first three. The others are not written. -/
def gatesIn (i : S8x4096x1024.Idx) : EReal := if h : (i 0).val < 3 then gates m c ⟨(i 0).val, h⟩ (i 1) (i 2) else 0

theorem array8 (s : Fin 3) (n : Fin 4096) (j : Fin 1024) :
    ((dats m 0 c).arrAt 8 cfg0.N : S8x4096x1024.Idx → EReal) (ix3 ⟨s.val, by omega⟩ n j) = gates m c s n j := by
  refine ((dats m 0 c).arrAt_apply_of_coversWhere 8 (gatesIn m c) (P := fun i => (i 0).val / 3 = 0) (fun β => β 0 = 0) (by decide +kernel) (fun t hf y => ?_)
    (fun j => by blk_simp [Pipeline.Window.cell_apply]) _).trans ?_
  · rw [after0_8]
    have hv : ∀ a, ((cfg0.win 8).xinj (cfg0.grid.coords t) y a).val = (y a).val := fun a => rfl
    generalize hz : ((cfg0.win 8).xinj (cfg0.grid.coords t) y : S3x512x1024.Idx) = z at hv ⊢
    have v0 : (y 0).val = (z 0).val := (hv 0).symm
    have v1 : (y 1).val = (z 1).val := (hv 1).symm
    have v2 : (y 2).val = (z 2).val := (hv 2).symm
    have hi : ((cfg0.win 8).blk t).view.emb y = ix3 ⟨(z 0).val, lt_of_lt_of_le (z 0).isLt (by decide)⟩ (place t (z 1)) (z 2) := by
      blk_ext [out_index_eq.1 t, place]
    rw [hi]
    refine Eq.trans ((congrArg (outsAt0 m c t).1 (ValueIdx.eq_ix3 (n0 := 3) (n1 := 512) (n2 := 1024) z)).trans (left8 m c t (z 0) (z 1) (z 2))) ?_
    unfold gatesIn
    split
    · rfl
    · next h => exact absurd (z 0).isLt h
  · refine (if_pos (show s.val / 3 = 0 by omega)).trans ?_
    unfold gatesIn
    exact dif_pos s.isLt

end Cert.Tail
-- ==== Proof.TailReference.lean ====
/-
  The backward of the block's gated output: the reference's five results at an index, in the rows of its arguments.
-/
module

public import proofs.«01_k».proof.Proof.TailArrays
public import proofs.«01_k».proof.Proof.Gen.Reference7Ideal.Read

@[expose] public section

set_option maxRecDepth 16384

noncomputable section

namespace Cert.Tail

open Idealize.ShloMosaic hiding ix2 ix3 ix4
open Idealize.ShloMosaic.ValueIdx Cert.Reference7Ideal Cert.Reference7Ideal.Read

variable (p : S8x4096x1024.Idx → EReal) (y x g : S4096x1024.Idx → EReal) (wc wm wo : S1024x1024.Idx → EReal) (n : Fin 4096) (j : Fin 1024)

/-! ## The gates -/

theorem ref1 : (val_main_v1 (F := Ideal) p : S4096x1024.Idx → EReal) (ix2 n j) = segLine p 0 n j := by
  rw [val_main_v1_apply, val_main_v0_apply]
  refine congrArg p (funext fun a => ?_)
  match a with
  | ⟨0, _⟩ => rfl
  | ⟨1, _⟩ => exact Fin.ext (by show (n.val * 1024 + j.val) / 1024 % 4096 = n.val; omega)
  | ⟨2, _⟩ => exact Fin.ext (by show (n.val * 1024 + j.val) % 1024 = j.val; omega)

theorem ref3 : (val_main_v3 (F := Ideal) p : S4096x1024.Idx → EReal) (ix2 n j) = segLine p 1 n j := by
  rw [val_main_v3_apply, val_main_v2_apply]
  refine congrArg p (funext fun a => ?_)
  match a with
  | ⟨0, _⟩ => rfl
  | ⟨1, _⟩ => exact Fin.ext (by show (n.val * 1024 + j.val) / 1024 % 4096 = n.val; omega)
  | ⟨2, _⟩ => exact Fin.ext (by show (n.val * 1024 + j.val) % 1024 = j.val; omega)

theorem ref5 : (val_main_v5 (F := Ideal) p : S4096x1024.Idx → EReal) (ix2 n j) = segLine p 2 n j := by
  rw [val_main_v5_apply, val_main_v4_apply]
  refine congrArg p (funext fun a => ?_)
  match a with
  | ⟨0, _⟩ => rfl
  | ⟨1, _⟩ => exact Fin.ext (by show (n.val * 1024 + j.val) / 1024 % 4096 = n.val; omega)
  | ⟨2, _⟩ => exact Fin.ext (by show (n.val * 1024 + j.val) % 1024 = j.val; omega)

/-- The sigmoid of the second gate. -/
theorem ref15 : (val_main_v15 (F := Ideal) p : S4096x1024.Idx → EReal) (ix2 n j) = sigm (segLine p 1 n j) := by
  rw [← ref3, val_main_v15_apply, val_main_v14_apply, val_main_v13_apply, val_main_v12_apply]
  show Ideal.div (Ideal.ofBits .f32 0x3F800000#32) (Ideal.ofBits .f32 0x3F800000#32 + Ideal.exp (-(val_main_v3 (F := Ideal) p (ix2 n j)))) = _
  rw [ofBits_one]
  rfl

/-- The sigmoid of the third gate. -/
theorem ref25 : (val_main_v25 (F := Ideal) p : S4096x1024.Idx → EReal) (ix2 n j) = sigm (segLine p 2 n j) := by
  rw [← ref5, val_main_v25_apply, val_main_v24_apply, val_main_v23_apply, val_main_v22_apply]
  show Ideal.div (Ideal.ofBits .f32 0x3F800000#32) (Ideal.ofBits .f32 0x3F800000#32 + Ideal.exp (-(val_main_v5 (F := Ideal) p (ix2 n j)))) = _
  rw [ofBits_one]
  rfl

/-- The sigmoid in the first gate. -/
theorem ref39 : (val_main_v39_2 (F := Ideal) p : S4096x1024.Idx → EReal) (ix2 n j) = sigm (segLine p 0 n j) := by
  rw [← ref1, val_main_v39_2_apply, val_main_call1_v4_apply, val_main_call1_v3_apply, val_main_call1_v2_apply]
  show Ideal.div (Ideal.ofBits .f32 0x3F800000#32) (Ideal.ofBits .f32 0x3F800000#32 + Ideal.exp (-(val_main_v1 (F := Ideal) p (ix2 n j)))) = _
  rw [ofBits_one]
  rfl

theorem ref18 : (val_main_v18 (F := Ideal) p : S4096x1024.Idx → EReal) (ix2 n j) = sigm (segLine p 1 n j) * (1 - sigm (segLine p 1 n j)) := by
  rw [← ref15, val_main_v18_apply, val_main_v17_apply, val_main_v16_apply, ← ofBits_one]
  rfl

theorem ref28 : (val_main_v28 (F := Ideal) p : S4096x1024.Idx → EReal) (ix2 n j) = sigm (segLine p 2 n j) * (1 - sigm (segLine p 2 n j)) := by
  rw [← ref25, val_main_v28_apply, val_main_v27_apply, val_main_v26_apply, ← ofBits_one]
  rfl

theorem ref39_1 : (val_main_v39_1 (F := Ideal) p : S4096x1024.Idx → EReal) (ix2 n j) = sigm (segLine p 0 n j) * (1 - sigm (segLine p 0 n j)) := by
  rw [← ref39, val_main_v39_1_apply, val_main_call1_v7_apply, val_main_call1_v6_apply, ← ofBits_one]
  rfl

theorem ref39_0 : (val_main_v39_0 (F := Ideal) p : S4096x1024.Idx → EReal) (ix2 n j) = segLine p 0 n j * sigm (segLine p 0 n j) :=
  congrArg₂ (· * ·) (ref1 p n j) (ref39 p n j)

/-! ## The branches' gradients -/

/-- The gradient before the gates. -/
theorem ref32 : (val_main_v32 (F := Ideal) wo g : S4096x1024.Idx → EReal) (ix2 n j) = against (line g n) wo j := by
  rw [val_main_v32_apply]
  refine Finset.sum_congr rfl fun k _ => congrArg₂ (· * ·) (congrArg g (funext fun z => ?_)) (congrArg wo (funext fun z => ?_))
  · match z with
    | ⟨0, _⟩ => rfl
    | ⟨1, _⟩ => rfl
  · match z with
    | ⟨0, _⟩ => rfl
    | ⟨1, _⟩ => rfl

theorem ref33 : (val_main_v33 (F := Ideal) p wo g : S4096x1024.Idx → EReal) (ix2 n j) = gated (against (line g n) wo) (segLine p 2 n) j :=
  (congrArg₂ (· * ·) (ref25 p n j) (ref32 g wo n j)).trans (mul_comm _ _)

theorem ref36 : (val_main_v36 (F := Ideal) p wo g : S4096x1024.Idx → EReal) (ix2 n j) = gated (against (line g n) wo) (segLine p 1 n) j :=
  (congrArg₂ (· * ·) (ref15 p n j) (ref32 g wo n j)).trans (mul_comm _ _)

theorem ref42 : (val_main_v42 (F := Ideal) p wm wo g : S4096x1024.Idx → EReal) (ix2 n j)
    = against (gated (against (line g n) wo) (segLine p 2 n)) wm j := by
  rw [val_main_v42_apply]
  refine Finset.sum_congr rfl fun k _ => congrArg₂ (· * ·) (Eq.trans (congrArg _ (funext fun z => ?_)) (ref33 p g wo n k)) (congrArg wm (funext fun z => ?_))
  · match z with
    | ⟨0, _⟩ => rfl
    | ⟨1, _⟩ => rfl
  · match z with
    | ⟨0, _⟩ => rfl
    | ⟨1, _⟩ => rfl

theorem ref47 : (val_main_v47 (F := Ideal) p wc wo g : S4096x1024.Idx → EReal) (ix2 n j)
    = against (gated (against (line g n) wo) (segLine p 1 n)) wc j := by
  rw [val_main_v47_apply]
  refine Finset.sum_congr rfl fun k _ => congrArg₂ (· * ·) (Eq.trans (congrArg _ (funext fun z => ?_)) (ref36 p g wo n k)) (congrArg wc (funext fun z => ?_))
  · match z with
    | ⟨0, _⟩ => rfl
    | ⟨1, _⟩ => rfl
  · match z with
    | ⟨0, _⟩ => rfl
    | ⟨1, _⟩ => rfl

theorem ref44 : (val_main_v44 (F := Ideal) p wm wo g : S4096x1024.Idx → EReal) (ix2 n j)
    = through (against (gated (against (line g n) wo) (segLine p 2 n)) wm) (segLine p 0 n) j :=
  congrArg₂ (· * ·) (ref42 p g wm wo n j) (ref39_0 p n j)

/-! ## The gates' gradients -/

theorem ref38 : (val_main_v38 (F := Ideal) p y wc wo g : S4096x1024.Idx → EReal) (ix2 n j)
    = slope (against (line g n) wo) (line (val_main_v6 (F := Ideal) y wc) n) (segLine p 1 n) j :=
  congrArg₂ (· * ·) (congrArg (· * (val_main_v6 (F := Ideal) y wc (ix2 n j) : EReal)) (ref32 g wo n j)) (ref18 p n j)

theorem ref35 : (val_main_v35 (F := Ideal) p x wm wo g : S4096x1024.Idx → EReal) (ix2 n j)
    = slope (against (line g n) wo) (line (val_main_v9 (F := Ideal) p x wm) n) (segLine p 2 n) j :=
  congrArg₂ (· * ·) (congrArg (· * (val_main_v9 (F := Ideal) p x wm (ix2 n j) : EReal)) (ref32 g wo n j)) (ref28 p n j)

/-- A row of real numbers against a weight of real numbers is real. -/
theorem against_real (d : Fin 1024 → EReal) (w : S1024x1024.Idx → EReal) (hd : ∀ k, ∃ r : ℝ, d k = (r : EReal)) (hw : ∀ i, ∃ r : ℝ, w i = (r : EReal)) :
    ∃ r : ℝ, against d w j = (r : EReal) :=
  sum_real _ fun k => mul_real (hd k) (hw _)

/-- The gradient of the first gate: the reference's sum is the factored form where the gradient that reaches the gate is real. -/
theorem ref45 (hx : ∀ i, ∃ r : ℝ, x i = (r : EReal)) (hm : ∀ i, ∃ r : ℝ, wm i = (r : EReal)) (ho : ∀ i, ∃ r : ℝ, wo i = (r : EReal))
    (hg : ∀ i, ∃ r : ℝ, g i = (r : EReal)) : (val_main_v45 (F := Ideal) p x wm wo g : S4096x1024.Idx → EReal) (ix2 n j)
    = factored (against (gated (against (line g n) wo) (segLine p 2 n)) wm) (line x n) (segLine p 0 n) j := by
  obtain ⟨d, hd⟩ : ∃ r : ℝ, against (gated (against (line g n) wo) (segLine p 2 n)) wm j * line x n j = (r : EReal) :=
    mul_real (against_real j _ wm (fun k => mul_real (against_real k _ wo (fun l => hg _) ho) (sigm_real _)) hm) (hx _)
  have h43 : (val_main_v43 (F := Ideal) p x wm wo g : S4096x1024.Idx → EReal) (ix2 n j) = (d : EReal) :=
    ((congrArg (x (ix2 n j) * ·) (ref42 p g wm wo n j)).trans (mul_comm _ _)).trans hd
  refine Eq.trans (congrArg₂ (· + ·) (congrArg₂ (· * ·) h43 (ref39 p n j)) (congrArg₂ (· * ·) (congrArg₂ (· * ·) (ref1 p n j) h43) (ref39_1 p n j))) ?_
  refine (silu_grad d _).symm.trans ?_
  unfold factored
  rw [hd]

/-- Three arrays stacked. -/
theorem stack_apply {α : Type} (u v w : S1x4096x1024.Idx → α)
    (hc : Shape.Concatenates [S1x4096x1024, S1x4096x1024, S1x4096x1024] S3x4096x1024 0) (s : Fin 3) :
    concatenate S3x4096x1024 0 [⟨S1x4096x1024, u⟩, ⟨S1x4096x1024, v⟩, ⟨S1x4096x1024, w⟩] hc (ix3 s n j)
      = (match s with | 0 => u | 1 => v | 2 => w) (ix3 0 n j) := by
  have hb : ∀ (q : Fin 3), q ≠ 0 → ((ix3 0 n j : S1x4096x1024.Idx) q).val = ((ix3 s n j : S3x4096x1024.Idx) q).val := fun q hq =>
    match q with
    | ⟨0, _⟩ => absurd rfl hq
    | ⟨1, _⟩ => rfl
    | ⟨2, _⟩ => rfl
  match s with
  | 0 =>
    exact concatenate_apply_piece (t := S3x4096x1024) 0 [⟨S1x4096x1024, u⟩, ⟨S1x4096x1024, v⟩, ⟨S1x4096x1024, w⟩] hc (ix3 0 n j) 0
      (by show 0 < 3; omega) _ u rfl rfl 0 (by rfl) (ix3 0 n j) (fun q hq => hb q hq) rfl
  | 1 =>
    exact concatenate_apply_piece (t := S3x4096x1024) 0 [⟨S1x4096x1024, u⟩, ⟨S1x4096x1024, v⟩, ⟨S1x4096x1024, w⟩] hc (ix3 1 n j) 1
      (by show 1 < 3; omega) _ v rfl rfl 1 (by rfl) (ix3 0 n j) (fun q hq => hb q hq) rfl
  | 2 =>
    exact concatenate_apply_piece (t := S3x4096x1024) 0 [⟨S1x4096x1024, u⟩, ⟨S1x4096x1024, v⟩, ⟨S1x4096x1024, w⟩] hc (ix3 2 n j) 2
      (by show 2 < 3; omega) _ w rfl rfl 2 (by rfl) (ix3 0 n j) (fun q hq => hb q hq) rfl

/-- The stacked gradients of the three gates. -/
theorem ref52 (s : Fin 3) : (val_main_v52 (F := Ideal) p y x wc wm wo g : S3x4096x1024.Idx → EReal) (ix3 s n j)
    = (match s with
      | 0 => (val_main_v45 (F := Ideal) p x wm wo g : S4096x1024.Idx → EReal)
      | 1 => (val_main_v38 (F := Ideal) p y wc wo g : S4096x1024.Idx → EReal)
      | 2 => (val_main_v35 (F := Ideal) p x wm wo g : S4096x1024.Idx → EReal)) (ix2 n j) := by
  show (val_main_v51 (F := Ideal) p y x wc wm wo g : S3x4096x1024.Idx → EReal) (ix3 s n j) = _
  unfold val_main_v51
  refine (stack_apply n j _ _ _ _ s).trans ?_
  match s with
  | 0 =>
    refine (val_main_v48_apply (F := Ideal) p x wm wo g (ix3 0 n j)).trans (congrArg _ (funext fun z => ?_))
    match z with
    | ⟨0, _⟩ => rfl
    | ⟨1, _⟩ => rfl
  | 1 =>
    refine (val_main_v49_apply (F := Ideal) p y wc wo g (ix3 0 n j)).trans (congrArg _ (funext fun z => ?_))
    match z with
    | ⟨0, _⟩ => rfl
    | ⟨1, _⟩ => rfl
  | 2 =>
    refine (val_main_v50_apply (F := Ideal) p x wm wo g (ix3 0 n j)).trans (congrArg _ (funext fun z => ?_))
    match z with
    | ⟨0, _⟩ => rfl
    | ⟨1, _⟩ => rfl

end Cert.Tail
-- ==== Proof.Claims7.lean ====
/-
  The backward of the block's gated output: the claims. The programs run and leave their arguments as they were, and over
  the real numbers the kernel leaves the reference's five gradients.
-/
module

public import proofs.«01_k».proof.Defs
public import proofs.«01_k».proof.Proof.Finite
public import proofs.«01_k».proof.Proof.TailReference
public import proofs.«01_k».proof.Proof.Gen.Kernel7.Frame
public import proofs.«01_k».proof.Proof.Gen.Pre_finite_tail
public import Idealize.ShloMosaic.Lib.Quiescent
public import Idealize.ShloMosaic.Lib.StableHlo.RunRead

@[expose] public section

set_option maxRecDepth 16384

noncomputable section

namespace Cert.Tail

open Idealize.ShloMosaic hiding ix2 ix3 ix4
open Idealize.ShloMosaic.ValueIdx Idealize.ShloMosaic.TcCoe Idealize.SL.Sem Cert.Kernel7Ideal Cert.Kernel7Ideal.Gen

/-- The kernel runs at the machine's floats and leaves its arguments as they were. -/
theorem frame_p : Cert.quiescent_Kernel7 := fun m ρ _ => Cert.Kernel7.Gen.frame m ρ

/-- The idealized kernel runs and leaves its arguments as they were. -/
theorem frame_pi : Cert.quiescent_Kernel7Ideal := fun m ρ _ => Cert.Kernel7Ideal.Gen.frame m ρ

theorem frame_pi_finite : Cert.quiescent_Kernel7Ideal_pre_finite_tail (hPre_finite_tail := Cert.Pre_finite_tail.Gen.facts) :=
  fun m ρ _ => Cert.Kernel7Ideal.Gen.frame m ρ

/-- The idealized reference runs and leaves its arguments as they were; it has no semaphores. -/
theorem frame_ri : Cert.quiescent_Reference7Ideal := fun m ρ _ =>
  (θ_run Cert.Reference7Ideal.defs _ _).mono (fun r h => ⟨fun c => (h c).2.2.2.2.2, Idealize.ShloMosaic.sem_eq_zero_of_no_sems (by decide) r.2⟩)
    (Cert.Reference7Ideal.Value.run (F := Ideal) m ρ)

theorem frame_ri_finite : Cert.quiescent_Reference7Ideal_pre_finite_tail (hPre_finite_tail := Cert.Pre_finite_tail.Gen.facts) :=
  fun m ρ _ => frame_ri m ρ trivial

/-- The idealization names no constant. -/
theorem preserves : Cert.preserves_Kernel7_Kernel7Ideal := trivial

variable (m : (ℓ : Loc nD τ sig) → Buf (Elt Ideal) ℓ) (c : Dev nD)

/-- The arguments that a memory holds. -/
structure Has (p : S8x4096x1024.Idx → EReal) (y x g : S4096x1024.Idx → EReal) (wc wm wo : S1024x1024.Idx → EReal) : Prop where
  h0 : m ((c : Thread nD τ).loc main_arg0) = p
  h1 : m ((c : Thread nD τ).loc main_arg1) = y
  h2 : m ((c : Thread nD τ).loc main_arg2) = x
  h3 : m ((c : Thread nD τ).loc main_arg3) = wc
  h4 : m ((c : Thread nD τ).loc main_arg4) = wm
  h5 : m ((c : Thread nD τ).loc main_arg5) = wo
  h6 : m ((c : Thread nD τ).loc main_arg6) = g

variable (p : S8x4096x1024.Idx → EReal) (y x g : S4096x1024.Idx → EReal) (wc wm wo : S1024x1024.Idx → EReal) (h : Has m c p y x g wc wm wo)
include h

/-! ## What the call receives -/

theorem ct_eq : ct m c = g := by
  refine Eq.trans ?_ h.h6
  unfold ct V
  after_reads_simp
  rfl

theorem pr_eq : pr m c = p := by
  refine Eq.trans ?_ h.h0
  unfold pr V
  after_reads_simp
  rfl

theorem heads_eq : heads m c = x := by
  refine Eq.trans ?_ h.h2
  unfold heads V
  after_reads_simp
  rfl

theorem wOut_eq : wOut m c = wo := by
  refine Eq.trans ?_ h.h5
  unfold wOut V
  after_reads_simp
  rfl

theorem wMla_eq : wMla m c = wm := by
  refine Eq.trans ?_ h.h4
  unfold wMla V
  after_reads_simp
  rfl

theorem wConv_eq : wConv m c = wc := by
  refine Eq.trans ?_ h.h3
  unfold wConv V
  after_reads_simp
  rfl

/-- The convolution branch, by the same lines in both programs. -/
theorem ya_eq : ya m c = (Cert.Reference7Ideal.Read.val_main_v6 (F := Ideal) y wc : S4096x1024.Idx → EReal) := by
  obtain ⟨h0, h1, h2, h3, h4, h5, h6⟩ := h
  subst h1 h3
  unfold ya V
  after_reads_simp
  rfl

/-- The attention branch, by the same lines in both programs. -/
theorem yb_eq : yb m c = (Cert.Reference7Ideal.Read.val_main_v9 (F := Ideal) p x wm : S4096x1024.Idx → EReal) := by
  obtain ⟨h0, h1, h2, h3, h4, h5, h6⟩ := h
  subst h0 h2 h4
  unfold yb V
  after_reads_simp
  rfl

/-! ## The five results -/

open Cert.Reference7Ideal.Read in
theorem result9 : ((dats m 0 c).arrAt 9 cfg0.N : S4096x1024.Idx → EReal) = val_main_v53 (F := Ideal) p wo g := by
  refine (array9 m c).trans (funext fun i => ?_)
  rw [ct_eq m c p y x g wc wm wo h, pr_eq m c p y x g wc wm wo h, wOut_eq m c p y x g wc wm wo h]
  exact (ref36 p g wo (i 0) (i 1)).symm.trans (congrArg (val_main_v36 (F := Ideal) p wo g) (ValueIdx.eq_ix2 (n0 := 4096) (n1 := 1024) i).symm)

open Cert.Reference7Ideal.Read in
theorem result10 : ((dats m 0 c).arrAt 10 cfg0.N : S4096x1024.Idx → EReal) = val_main_v54 (F := Ideal) p wo g := by
  refine (array10 m c).trans (funext fun i => ?_)
  rw [ct_eq m c p y x g wc wm wo h, pr_eq m c p y x g wc wm wo h, wOut_eq m c p y x g wc wm wo h]
  exact (ref33 p g wo (i 0) (i 1)).symm.trans (congrArg (val_main_v33 (F := Ideal) p wo g) (ValueIdx.eq_ix2 (n0 := 4096) (n1 := 1024) i).symm)

open Cert.Reference7Ideal.Read in
theorem result11 : ((dats m 0 c).arrAt 11 cfg0.N : S4096x1024.Idx → EReal) = val_main_v55 (F := Ideal) p wm wo g := by
  refine (array11 m c).trans (funext fun i => ?_)
  rw [ct_eq m c p y x g wc wm wo h, pr_eq m c p y x g wc wm wo h, wOut_eq m c p y x g wc wm wo h, wMla_eq m c p y x g wc wm wo h]
  exact (ref44 p g wm wo (i 0) (i 1)).symm.trans (congrArg (val_main_v44 (F := Ideal) p wm wo g) (ValueIdx.eq_ix2 (n0 := 4096) (n1 := 1024) i).symm)

open Cert.Reference7Ideal.Read in
theorem result12 : ((dats m 0 c).arrAt 12 cfg0.N : S4096x1024.Idx → EReal) = val_main_v56 (F := Ideal) p wc wo g := by
  refine (array12 m c).trans (funext fun i => ?_)
  rw [ct_eq m c p y x g wc wm wo h, pr_eq m c p y x g wc wm wo h, wOut_eq m c p y x g wc wm wo h, wConv_eq m c p y x g wc wm wo h]
  exact (ref47 p g wc wo (i 0) (i 1)).symm.trans (congrArg (val_main_v47 (F := Ideal) p wc wo g) (ValueIdx.eq_ix2 (n0 := 4096) (n1 := 1024) i).symm)

open Cert.Reference7Ideal.Read in
/-- The gates' gradients, where the numbers that reach the first gate are real. -/
theorem gates_eq (hx : ∀ i, ∃ r : ℝ, x i = (r : EReal)) (hm : ∀ i, ∃ r : ℝ, wm i = (r : EReal)) (ho : ∀ i, ∃ r : ℝ, wo i = (r : EReal))
    (hg : ∀ i, ∃ r : ℝ, g i = (r : EReal)) (s : Fin 3) (n : Fin 4096) (j : Fin 1024) :
    gates m c s n j = (val_main_v52 (F := Ideal) p y x wc wm wo g : S3x4096x1024.Idx → EReal) (ix3 s n j) := by
  refine Eq.trans ?_ (ref52 p y x g wc wm wo n j s).symm
  match s with
  | 0 =>
    unfold gates
    rw [ct_eq m c p y x g wc wm wo h, pr_eq m c p y x g wc wm wo h, wOut_eq m c p y x g wc wm wo h, wMla_eq m c p y x g wc wm wo h,
      heads_eq m c p y x g wc wm wo h]
    exact (ref45 p x g wm wo n j hx hm ho hg).symm
  | 1 =>
    unfold gates
    rw [ct_eq m c p y x g wc wm wo h, pr_eq m c p y x g wc wm wo h, wOut_eq m c p y x g wc wm wo h, ya_eq m c p y x g wc wm wo h]
    exact (ref38 p y g wc wo n j).symm
  | 2 =>
    unfold gates
    rw [ct_eq m c p y x g wc wm wo h, pr_eq m c p y x g wc wm wo h, wOut_eq m c p y x g wc wm wo h, yb_eq m c p y x g wc wm wo h]
    exact (ref35 p x g wm wo n j).symm

omit h in
/-- The returned gradients of the gates: the first three segments of the call's array. -/
theorem slice_eq : (Pipeline.afterTail₀ cfgs (dats m) 0 (V0 m) [hostOps1] c main_v15 : S3x4096x1024.Idx → EReal)
    = (extractStridedSlice S3x4096x1024 ![0, 0, 0] ((dats m 0 c).arrAt 8 cfg0.N : S8x4096x1024.Idx → EReal) slices_S8x4096x1024_S3x4096x1024_0_0_0) := by
  unfold Pipeline.afterTail₀
  after_reads_simp
  exact congrArg (fun A : S8x4096x1024.Idx → EReal => extractStridedSlice S3x4096x1024 ![0, 0, 0] A slices_S8x4096x1024_S3x4096x1024_0_0_0)
    (Pipeline.withArrays_arr spec0 (by decide) c (V0 m c) (fun w => (dats m 0 c).arrAt w cfg0.N) 8)

open Cert.Reference7Ideal.Read in
theorem result8 (hx : ∀ i, ∃ r : ℝ, x i = (r : EReal)) (hm : ∀ i, ∃ r : ℝ, wm i = (r : EReal)) (ho : ∀ i, ∃ r : ℝ, wo i = (r : EReal))
    (hg : ∀ i, ∃ r : ℝ, g i = (r : EReal)) :
    (Pipeline.afterTail₀ cfgs (dats m) 0 (V0 m) [hostOps1] c main_v15 : S3x4096x1024.Idx → EReal) = val_main_v52 (F := Ideal) p y x wc wm wo g := by
  refine (slice_eq m c).trans (funext fun i => ?_)
  obtain ⟨s, n, j, rfl⟩ : ∃ s n j, i = ix3 s n j := ⟨i 0, i 1, i 2, ValueIdx.eq_ix3 i⟩
  refine (extractStridedSlice_apply _ _ _ _ (ix3 ⟨s.val, by omega⟩ n j) fun z => ?_).trans
    ((array8 m c s n j).trans (gates_eq m c p y x g wc wm wo h hx hm ho hg s n j))
  match z with
  | ⟨0, _⟩ => show s.val = 0 + s.val; omega
  | ⟨1, _⟩ => show n.val = 0 + n.val; omega
  | ⟨2, _⟩ => show j.val = 0 + j.val; omega

omit h in
/-- Over the real numbers, on arguments whose gated numbers are real, the kernel's five results are the reference's. -/
theorem algebraic : Cert.algebraic_Kernel7Ideal_Reference7Ideal_pre_finite_tail (hPre_finite_tail := Cert.Pre_finite_tail.Gen.facts) := by
  intro m g m' g' hpre hagree
  refine ⟨fun c => Pipeline.afterTail₀ cfgs (dats m) 0 (V0 m) [hostOps1] c main_v15, fun c => (dats m 0 c).arrAt 9 cfg0.N,
    fun c => (dats m 0 c).arrAt 10 cfg0.N, fun c => (dats m 0 c).arrAt 11 cfg0.N, fun c => (dats m 0 c).arrAt 12 cfg0.N, ?_, ?_⟩
  · exact (θ_run defs _ _).mono (fun r h c => ⟨(h c).2 main_v15 (by decide), (h c).1 9, (h c).1 10, (h c).1 11, (h c).1 12,
      ((h c).2 main_arg0 (by decide)).trans (W_main_arg0 m (dats m) c), ((h c).2 main_arg1 (by decide)).trans (W_main_arg1 m (dats m) c),
      ((h c).2 main_arg2 (by decide)).trans (W_main_arg2 m (dats m) c), ((h c).2 main_arg3 (by decide)).trans (W_main_arg3 m (dats m) c),
      ((h c).2 main_arg4 (by decide)).trans (W_main_arg4 m (dats m) c), ((h c).2 main_arg5 (by decide)).trans (W_main_arg5 m (dats m) c),
      ((h c).2 main_arg6 (by decide)).trans (W_main_arg6 m (dats m) c)⟩) (run_main m g)
  refine (θ_run Cert.Reference7Ideal.defs _ _).mono (fun r h c => ?_) (Cert.Reference7Ideal.Value.run (F := Ideal) m' g')
  obtain ⟨r0, r1, r2, r3, r4, hargs⟩ := h c
  obtain ⟨a0, a1, a2, a3, a4, a5, a6⟩ := hagree c
  obtain ⟨b2, b4, b5, b6⟩ := hpre c
  have k : Has m c _ _ _ _ _ _ _ := ⟨a0.symm, a1.symm, a2.symm, a3.symm, a4.symm, a5.symm, a6.symm⟩
  rw [← a2] at b2
  rw [← a4] at b4
  rw [← a5] at b5
  rw [← a6] at b6
  exact ⟨r0.trans ((Cert.Reference7Ideal.Read.val_main_v52_eq m' c).trans
      (result8 m c _ _ _ _ _ _ _ k (Cert.Flash.reals _ _ b2) (Cert.Flash.reals _ _ b4) (Cert.Flash.reals _ _ b5) (Cert.Flash.reals _ _ b6)).symm),
    r1.trans ((Cert.Reference7Ideal.Read.val_main_v53_eq _ _ _).trans (result9 m c _ _ _ _ _ _ _ k).symm),
    r2.trans ((Cert.Reference7Ideal.Read.val_main_v54_eq _ _ _).trans (result10 m c _ _ _ _ _ _ _ k).symm),
    r3.trans ((Cert.Reference7Ideal.Read.val_main_v55_eq _ _ _ _).trans (result11 m c _ _ _ _ _ _ _ k).symm),
    r4.trans ((Cert.Reference7Ideal.Read.val_main_v56_eq _ _ _ _).trans (result12 m c _ _ _ _ _ _ _ k).symm), hargs⟩

end Cert.Tail
-- ==== Proof.ForwardSteps.lean ====
/-
  The block's gated output: what a grid point leaves in its result blocks, as the kernel's own operations of the blocks that
  it reads. The point's three cases (the first point, the first of a batch entry, any other) differ in the sums that it
  starts, and not in these blocks.
-/
module

public import proofs.«01_k».proof.Proof.Gen.Kernel8Ideal.Frame
public import Idealize.ShloMosaic.Lib.Pipeline.ValueKit

@[expose] public section

set_option maxRecDepth 16384

noncomputable section

namespace Cert.Forward

open Idealize.ShloMosaic hiding ix2 ix3 ix4
open Idealize.ShloMosaic.ValueIdx Idealize.ShloMosaic.TcCoe Idealize.SL.Sem Cert.Kernel8Ideal Cert.Kernel8Ideal.Gen

theorem zeros : (![0, 0] : Fin 2 → ℕ) = fun _ => 0 := funext fun a => by fin_cases a <;> rfl
theorem zeros3 : (![0, 0, 0] : Fin 3 → ℕ) = fun _ => 0 := funext fun a => by fin_cases a <;> rfl

variable {F : FTy → Type} [FloatOps F]

/-- The first of the three segments in a block of the projection. -/
def part0 (x : Vec F S3x512x1024 .bf16) : Vec F S1x512x1024 .bf16 :=
  View.ld x (Rect.unit (s := S3x512x1024) ![0, 0, 0] S1x512x1024.size inb_S3x512x1024_S1x512x1024_0_0_0)
/-- The second. -/
def part1 (x : Vec F S3x512x1024 .bf16) : Vec F S1x512x1024 .bf16 :=
  View.ld x (Rect.unit (s := S3x512x1024) ![1, 0, 0] S1x512x1024.size inb_S3x512x1024_S1x512x1024_1_0_0)
/-- The third. -/
def part2 (x : Vec F S3x512x1024 .bf16) : Vec F S1x512x1024 .bf16 :=
  View.ld x (Rect.unit (s := S3x512x1024) ![2, 0, 0] S1x512x1024.size inb_S3x512x1024_S1x512x1024_2_0_0)

variable (c : Dev nD) (i : grid0.Coords)
    (arg1 : Memref sig .tc .vmem S512x1024 .bf16) (h1 : arg1.IsWhole) (arg2 : Memref sig .tc .vmem S512x1024 .bf16) (h2 : arg2.IsWhole)
    (arg3 : Memref sig .tc .vmem S3x512x1024 .bf16) (h3 : arg3.IsWhole) (arg4 : Memref sig .tc .vmem S512x1024 .f32) (h4 : arg4.IsWhole)
    (arg5 : Memref sig .tc .vmem S512x1024 .f32) (h5 : arg5.IsWhole) (arg6 : Memref sig .tc .vmem S1x1x1024 .f32) (h6 : arg6.IsWhole)
    (arg7 : Memref sig .tc .vmem S1x1024 .f32) (h7 : arg7.IsWhole) (arg8 : Memref sig .tc .vmem S1024x1024 .bf16) (h8 : arg8.IsWhole)
    (arg9 : Memref sig .tc .vmem S1024x1024 .bf16) (h9 : arg9.IsWhole) (arg10 : Memref sig .tc .vmem S1024x1024 .bf16) (h10 : arg10.IsWhole)
    (arg11 : Memref sig .tc .vmem S512x1024 .bf16) (h11 : arg11.IsWhole) (arg12 : Memref sig .tc .vmem S512x1024 .bf16) (h12 : arg12.IsWhole)
    (arg13 : Memref sig .tc .vmem S512x1024 .bf16) (h13 : arg13.IsWhole) (arg14 : Memref sig .tc .vmem S512x1024 .bf16) (h14 : arg14.IsWhole)
    (arg15 : Memref sig .tc .vmem S512x1024 .bf16) (h15 : arg15.IsWhole) (arg16 : Memref sig .tc .vmem S512x1024 .f32) (h16 : arg16.IsWhole)
    (arg17 : Memref sig .tc .vmem S1x1x1024 .f32) (h17 : arg17.IsWhole) (arg18 : Memref sig .tc .vmem S1x1024 .f32) (h18 : arg18.IsWhole)
    (arg19 : Memref sig .tc .vmem S1x1 .f32) (h19 : arg19.IsWhole)
    (x0 x1 : Vec F S512x1024 .bf16) (x2 : Vec F S3x512x1024 .bf16) (x3 x4 : Vec F S512x1024 .f32) (x5 : Vec F S1x1x1024 .f32)
    (x6 : Vec F S1x1024 .f32) (x7 x8 x9 : Vec F S1024x1024 .bf16)
    (xo16 : Vec F S1x1x1024 .f32) (xo17 : Vec F S1x1024 .f32) (xo18 : Vec F S1x1 .f32)

/-- The attention heads through their gate. -/
def gatedHeads : FVec F S512x1024 .bf16 := k0_pay4 (part0 x2) x1
/-- The attention branch. -/
def attended : FVec F S512x1024 .f32 := k0_pay6 (part0 x2) x1 x8
/-- The two branches merged by their gates. -/
def merged : FVec F S512x1024 .bf16 := k0_pay9 (k0_pay2 (part1 x2)) (k0_pay3 (part2 x2)) (k0_pay5 x0 x7) (attended x1 x2 x8)
/-- The merged rows times the output weight, normalized. -/
def normed : FVec F S512x1024 .f32 := k0_pay12 (k0_pay2 (part1 x2)) (k0_pay3 (part2 x2)) (k0_pay5 x0 x7) (attended x1 x2 x8) x9
/-- The gradient of the loss. -/
def grad : FVec F S512x1024 .f32 := k0_pay17 (normed x0 x1 x2 x7 x8 x9) (k0_pay13 x6) x5 x3 x4

section
variable (hc0 : cond0_0 i) (hc1 : cond0_1 i)

theorem outA10_eq : out0_A_10 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 = gatedHeads x1 x2 := by
  unfold out0_A_10
  rw [View.read_writes_eq_canon _ _ _ (cover0_A_10 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9)]
  unfold kernelRun0_A
  dsimp only
  rw [View.canon_unit_zero zeros]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    View.readAt_eq_ld, h1.read_unread, h2.read_unread, h3.read_unread, h4.read_unread, h5.read_unread, h6.read_unread, h7.read_unread, h8.read_unread, h9.read_unread, h10.read_unread,
    View.ld_unit_zero (S := S512x1024) zeros, View.ld_unit_zero (S := S1024x1024) zeros, View.ld_unit_zero (S := S1x1024) zeros,
    View.ld_unit_zero (S := S1x1x1024) zeros3]
  rfl

theorem outA11_eq : out0_A_11 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 = k0_pay7 x0 x7 := by
  unfold out0_A_11
  rw [View.read_writes_eq_canon _ _ _ (cover0_A_11 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9)]
  unfold kernelRun0_A
  dsimp only
  rw [View.canon_unit_zero zeros]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    View.readAt_eq_ld, h1.read_unread, h2.read_unread, h3.read_unread, h4.read_unread, h5.read_unread, h6.read_unread, h7.read_unread, h8.read_unread, h9.read_unread, h10.read_unread,
    View.ld_unit_zero (S := S512x1024) zeros, View.ld_unit_zero (S := S1024x1024) zeros, View.ld_unit_zero (S := S1x1024) zeros,
    View.ld_unit_zero (S := S1x1x1024) zeros3]

theorem outA12_eq : out0_A_12 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 = k0_pay8 (attended x1 x2 x8) := by
  unfold out0_A_12
  rw [View.read_writes_eq_canon _ _ _ (cover0_A_12 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9)]
  unfold kernelRun0_A
  dsimp only
  rw [View.canon_unit_zero zeros]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    View.readAt_eq_ld, h1.read_unread, h2.read_unread, h3.read_unread, h4.read_unread, h5.read_unread, h6.read_unread, h7.read_unread, h8.read_unread, h9.read_unread, h10.read_unread,
    View.ld_unit_zero (S := S512x1024) zeros, View.ld_unit_zero (S := S1024x1024) zeros, View.ld_unit_zero (S := S1x1024) zeros,
    View.ld_unit_zero (S := S1x1x1024) zeros3]
  rfl

theorem outA13_eq : out0_A_13 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 = merged x0 x1 x2 x7 x8 := by
  unfold out0_A_13
  rw [View.read_writes_eq_canon _ _ _ (cover0_A_13 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9)]
  unfold kernelRun0_A
  dsimp only
  rw [View.canon_unit_zero zeros]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    View.readAt_eq_ld, h1.read_unread, h2.read_unread, h3.read_unread, h4.read_unread, h5.read_unread, h6.read_unread, h7.read_unread, h8.read_unread, h9.read_unread, h10.read_unread,
    View.ld_unit_zero (S := S512x1024) zeros, View.ld_unit_zero (S := S1024x1024) zeros, View.ld_unit_zero (S := S1x1024) zeros,
    View.ld_unit_zero (S := S1x1x1024) zeros3]
  rfl

set_option maxHeartbeats 1000000 in
theorem outA15_eq : out0_A_15 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 = grad x0 x1 x2 x3 x4 x5 x6 x7 x8 x9 := by
  unfold out0_A_15
  rw [View.read_writes_eq_canon _ _ _ (cover0_A_15 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9)]
  unfold kernelRun0_A
  dsimp only
  rw [View.canon_unit_zero zeros]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    View.readAt_eq_ld, h1.read_unread, h2.read_unread, h3.read_unread, h4.read_unread, h5.read_unread, h6.read_unread, h7.read_unread, h8.read_unread, h9.read_unread, h10.read_unread,
    View.ld_unit_zero (S := S512x1024) zeros, View.ld_unit_zero (S := S1024x1024) zeros, View.ld_unit_zero (S := S1x1024) zeros,
    View.ld_unit_zero (S := S1x1x1024) zeros3]
  rfl

end

section
variable (hc0 : ¬cond0_0 i) (hc1 : ¬cond0_1 i)

theorem outB10_eq : out0_B_10 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 xo16 xo17 xo18 = gatedHeads x1 x2 := by
  unfold out0_B_10
  rw [View.read_writes_eq_canon _ _ _ (cover0_B_10 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 xo16 xo17 xo18)]
  unfold kernelRun0_B
  dsimp only
  rw [View.canon_unit_zero zeros]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7,
    View.readAt_eq_ld, h1.read_unread, h2.read_unread, h3.read_unread, h4.read_unread, h5.read_unread, h6.read_unread, h7.read_unread, h8.read_unread, h9.read_unread, h10.read_unread,
    View.ld_unit_zero (S := S512x1024) zeros, View.ld_unit_zero (S := S1024x1024) zeros, View.ld_unit_zero (S := S1x1024) zeros,
    View.ld_unit_zero (S := S1x1x1024) zeros3]
  rfl

theorem outB11_eq : out0_B_11 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 xo16 xo17 xo18 = k0_pay7 x0 x7 := by
  unfold out0_B_11
  rw [View.read_writes_eq_canon _ _ _ (cover0_B_11 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 xo16 xo17 xo18)]
  unfold kernelRun0_B
  dsimp only
  rw [View.canon_unit_zero zeros]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7,
    View.readAt_eq_ld, h1.read_unread, h2.read_unread, h3.read_unread, h4.read_unread, h5.read_unread, h6.read_unread, h7.read_unread, h8.read_unread, h9.read_unread, h10.read_unread,
    View.ld_unit_zero (S := S512x1024) zeros, View.ld_unit_zero (S := S1024x1024) zeros, View.ld_unit_zero (S := S1x1024) zeros,
    View.ld_unit_zero (S := S1x1x1024) zeros3]

theorem outB12_eq : out0_B_12 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 xo16 xo17 xo18 = k0_pay8 (attended x1 x2 x8) := by
  unfold out0_B_12
  rw [View.read_writes_eq_canon _ _ _ (cover0_B_12 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 xo16 xo17 xo18)]
  unfold kernelRun0_B
  dsimp only
  rw [View.canon_unit_zero zeros]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7,
    View.readAt_eq_ld, h1.read_unread, h2.read_unread, h3.read_unread, h4.read_unread, h5.read_unread, h6.read_unread, h7.read_unread, h8.read_unread, h9.read_unread, h10.read_unread,
    View.ld_unit_zero (S := S512x1024) zeros, View.ld_unit_zero (S := S1024x1024) zeros, View.ld_unit_zero (S := S1x1024) zeros,
    View.ld_unit_zero (S := S1x1x1024) zeros3]
  rfl

theorem outB13_eq : out0_B_13 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 xo16 xo17 xo18 = merged x0 x1 x2 x7 x8 := by
  unfold out0_B_13
  rw [View.read_writes_eq_canon _ _ _ (cover0_B_13 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 xo16 xo17 xo18)]
  unfold kernelRun0_B
  dsimp only
  rw [View.canon_unit_zero zeros]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7,
    View.readAt_eq_ld, h1.read_unread, h2.read_unread, h3.read_unread, h4.read_unread, h5.read_unread, h6.read_unread, h7.read_unread, h8.read_unread, h9.read_unread, h10.read_unread,
    View.ld_unit_zero (S := S512x1024) zeros, View.ld_unit_zero (S := S1024x1024) zeros, View.ld_unit_zero (S := S1x1024) zeros,
    View.ld_unit_zero (S := S1x1x1024) zeros3]
  rfl

set_option maxHeartbeats 1000000 in
theorem outB15_eq : out0_B_15 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 xo16 xo17 xo18 = grad x0 x1 x2 x3 x4 x5 x6 x7 x8 x9 := by
  unfold out0_B_15
  rw [View.read_writes_eq_canon _ _ _ (cover0_B_15 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 xo16 xo17 xo18)]
  unfold kernelRun0_B
  dsimp only
  rw [View.canon_unit_zero zeros]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7,
    View.readAt_eq_ld, h1.read_unread, h2.read_unread, h3.read_unread, h4.read_unread, h5.read_unread, h6.read_unread, h7.read_unread, h8.read_unread, h9.read_unread, h10.read_unread,
    View.ld_unit_zero (S := S512x1024) zeros, View.ld_unit_zero (S := S1024x1024) zeros, View.ld_unit_zero (S := S1x1024) zeros,
    View.ld_unit_zero (S := S1x1x1024) zeros3]
  rfl

end

section
variable (hc0 : cond0_0 i) (hc1 : ¬cond0_1 i)

theorem outC10_eq : out0_C_10 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 xo17 xo18 = gatedHeads x1 x2 := by
  unfold out0_C_10
  rw [View.read_writes_eq_canon _ _ _ (cover0_C_10 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 xo17 xo18)]
  unfold kernelRun0_C
  dsimp only
  rw [View.canon_unit_zero zeros]
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7,
    View.readAt_eq_ld, h1.read_unread, h2.read_unread, h3.read_unread, h4.read_unread, h5.read_unread, h6.read_unread, h7.read_unread, h8.read_unread, h9.read_unread, h10.read_unread,
    View.ld_unit_zero (S := S512x1024) zeros, View.ld_unit_zero (S := S1024x1024) zeros, View.ld_unit_zero (S := S1x1024) zeros,
    View.ld_unit_zero (S := S1x1x1024) zeros3]
  rfl

theorem outC11_eq : out0_C_11 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 xo17 xo18 = k0_pay7 x0 x7 := by
  unfold out0_C_11
  rw [View.read_writes_eq_canon _ _ _ (cover0_C_11 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 xo17 xo18)]
  unfold kernelRun0_C
  dsimp only
  rw [View.canon_unit_zero zeros]
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7,
    View.readAt_eq_ld, h1.read_unread, h2.read_unread, h3.read_unread, h4.read_unread, h5.read_unread, h6.read_unread, h7.read_unread, h8.read_unread, h9.read_unread, h10.read_unread,
    View.ld_unit_zero (S := S512x1024) zeros, View.ld_unit_zero (S := S1024x1024) zeros, View.ld_unit_zero (S := S1x1024) zeros,
    View.ld_unit_zero (S := S1x1x1024) zeros3]

theorem outC12_eq : out0_C_12 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 xo17 xo18 = k0_pay8 (attended x1 x2 x8) := by
  unfold out0_C_12
  rw [View.read_writes_eq_canon _ _ _ (cover0_C_12 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 xo17 xo18)]
  unfold kernelRun0_C
  dsimp only
  rw [View.canon_unit_zero zeros]
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7,
    View.readAt_eq_ld, h1.read_unread, h2.read_unread, h3.read_unread, h4.read_unread, h5.read_unread, h6.read_unread, h7.read_unread, h8.read_unread, h9.read_unread, h10.read_unread,
    View.ld_unit_zero (S := S512x1024) zeros, View.ld_unit_zero (S := S1024x1024) zeros, View.ld_unit_zero (S := S1x1024) zeros,
    View.ld_unit_zero (S := S1x1x1024) zeros3]
  rfl

theorem outC13_eq : out0_C_13 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 xo17 xo18 = merged x0 x1 x2 x7 x8 := by
  unfold out0_C_13
  rw [View.read_writes_eq_canon _ _ _ (cover0_C_13 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 xo17 xo18)]
  unfold kernelRun0_C
  dsimp only
  rw [View.canon_unit_zero zeros]
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7,
    View.readAt_eq_ld, h1.read_unread, h2.read_unread, h3.read_unread, h4.read_unread, h5.read_unread, h6.read_unread, h7.read_unread, h8.read_unread, h9.read_unread, h10.read_unread,
    View.ld_unit_zero (S := S512x1024) zeros, View.ld_unit_zero (S := S1024x1024) zeros, View.ld_unit_zero (S := S1x1024) zeros,
    View.ld_unit_zero (S := S1x1x1024) zeros3]
  rfl

set_option maxHeartbeats 1000000 in
theorem outC15_eq : out0_C_15 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 xo17 xo18 = grad x0 x1 x2 x3 x4 x5 x6 x7 x8 x9 := by
  unfold out0_C_15
  rw [View.read_writes_eq_canon _ _ _ (cover0_C_15 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc0 hc1 x0 x1 x2 x3 x4 x5 x6 x7 x8 x9 xo17 xo18)]
  unfold kernelRun0_C
  dsimp only
  rw [View.canon_unit_zero zeros]
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7,
    View.readAt_eq_ld, h1.read_unread, h2.read_unread, h3.read_unread, h4.read_unread, h5.read_unread, h6.read_unread, h7.read_unread, h8.read_unread, h9.read_unread, h10.read_unread,
    View.ld_unit_zero (S := S512x1024) zeros, View.ld_unit_zero (S := S1024x1024) zeros, View.ld_unit_zero (S := S1x1024) zeros,
    View.ld_unit_zero (S := S1x1x1024) zeros3]
  rfl

end

end Cert.Forward
-- ==== Proof.ForwardTile.lean ====
/-
  The block's gated output: a grid point's results at an index, over the real numbers. A row of each result is a function of
  the same row of the blocks that the point reads.
-/
module

public import proofs.«01_k».proof.Proof.Gate
public import proofs.«01_k».proof.Proof.ForwardSteps
public import Idealize.ShloMosaic.Lib.ValueLayout

@[expose] public section

set_option maxRecDepth 16384

noncomputable section

namespace Cert.Forward

open Idealize.ShloMosaic hiding ix2 ix3 ix4
open Idealize.ShloMosaic.ValueIdx Idealize.ShloMosaic.TcCoe Idealize.SL.Sem Cert.Kernel8Ideal Cert.Kernel8Ideal.Gen
open Cert.Tail (sigm half_tanh ofBits_half ofBits_one)

/-! ## Rows -/

/-- A row times a weight. -/
def times (x : Fin 1024 → EReal) (w : S1024x1024.Idx → EReal) : Fin 1024 → EReal := fun j => ∑ k : Fin 1024, x k * w (ix2 k j)

/-- A row through a silu gate. -/
def through (x z : Fin 1024 → EReal) : Fin 1024 → EReal := fun j => x j * (z j * sigm (z j))

/-- Two rows, each through its sigmoid gate, added. -/
def merge (a b u v : Fin 1024 → EReal) : Fin 1024 → EReal := fun j => sigm (a j) * u j + sigm (b j) * v j

/-- A row divided by the root of the mean of its squares. -/
def norm (p : Fin 1024 → EReal) : Fin 1024 → EReal := fun j =>
  p j * Ideal.rsqrt (Ideal.div (∑ k : Fin 1024, p k * p k) (Ideal.ofBits .f32 0x44800000#32) + Ideal.ofBits .f32 0x358637BD#32)

/-- What the block's output, its gated and scaled branch added to its input, differs by from the target. -/
def error (x target gate post p : Fin 1024 → EReal) : Fin 1024 → EReal := fun j => x j + gate j * (p j * post j) - target j

/-- A row of a block. -/
def row (x : S512x1024.Idx → EReal) (r : Fin 512) : Fin 1024 → EReal := fun j => x (ix2 r j)

/-- A row of one of a block's segments. -/
def seg (x : S3x512x1024.Idx → EReal) (s : Fin 3) (r : Fin 512) : Fin 1024 → EReal := fun j => x (ix3 s r j)

/-! ## The product -/

/-- The product that a grid point forms, three times. -/
abbrev dot := dot_S512x1024_S1024x1024_S512x1024_1_0_0_1_n_n

theorem lhs_eq (a : Fin 512) (b : Fin 1024) (q : dot.contr.Idx) (k : Fin 1024) (hk : (q ⟨0, by decide⟩).val = k.val) :
    dot.lhsIdx (ix2 a b) q = ix2 a k := by
  funext x
  refine Fin.ext ?_
  match x with
  | ⟨1, _⟩ => exact (dot.lhsIdx_val_of_single rfl (ix2 a b) q).trans hk
  | ⟨0, _⟩ =>
    show (dot.lhsIdx (ix2 a b) q 0).val = a.val
    unfold DotDims.lhsIdx
    rw [dif_neg (show ¬(0 : Fin S512x1024.rank) ∈ dot.lhsBatch by decide), dif_pos (show (0 : Fin S512x1024.rank) ∈ dot.lhsNonContracting by decide)]
    rfl

theorem rhs_eq (a : Fin 512) (b : Fin 1024) (q : dot.contr.Idx) (k : Fin 1024) (hk : (q ⟨0, by decide⟩).val = k.val) :
    dot.rhsIdx (ix2 a b) q = ix2 k b := by
  funext x
  refine Fin.ext ?_
  match x with
  | ⟨0, _⟩ => exact (dot.rhsIdx_val_of_single rfl (ix2 a b) q).trans hk
  | ⟨1, _⟩ =>
    show (dot.rhsIdx (ix2 a b) q 1).val = b.val
    unfold DotDims.rhsIdx
    rw [dif_neg (show ¬(1 : Fin S1024x1024.rank) ∈ dot.rhsBatch by decide), dif_pos (show (1 : Fin S1024x1024.rank) ∈ dot.rhsNonContracting by decide)]
    rfl

theorem product_apply (u : FVec Ideal S512x1024 .bf16) (v : FVec Ideal S1024x1024 .bf16) (r : Fin 512) (j : Fin 1024) :
    (matmul dot none u v (constant S512x1024 .f32 0x00000000#32 : FVec Ideal S512x1024 .f32) : S512x1024.Idx → EReal) (ix2 r j)
      = times (row u r) v j := by
  refine (Ideal.matmul_constant_zero_apply (φ₁ := .bf16) (φ₂ := .bf16) _ none _ _ _).trans ?_
  rw [← Equiv.sum_comp (contrEquiv1 dot 1024 rfl rfl).symm]
  refine Finset.sum_congr rfl fun k _ => ?_
  have hk := contrEquiv1_symm_val dot 1024 rfl rfl k
  rw [lhs_eq r j _ k hk, rhs_eq r j _ k hk]
  rfl

/-! ## The operations at an index -/

theorem flat_apply (v : S1x512x1024.Idx → EReal) (r : Fin 512) (j : Fin 1024) :
    (shapeCast S512x1024 v shapeCasts_S1x512x1024_S512x1024 : S512x1024.Idx → EReal) (ix2 r j) = v (ix3 0 r j) := by
  refine shapeCast_apply _ _ _ (ix3 0 r j) ?_
  rw [Shape.rowMajor_val_three, Shape.rowMajor_val_two]
  show (0 * 512 + r.val) * 1024 + j.val = r.val * 1024 + j.val
  omega

/-- The kernel's sigmoid, by the hyperbolic tangent. -/
theorem sigmoid_eq (z : EReal) :
    Ideal.ofBits .f32 0x3F000000#32 * Ideal.tanh (Ideal.ofBits .f32 0x3F000000#32 * z) + Ideal.ofBits .f32 0x3F000000#32 = sigm z := by
  rw [ofBits_half]
  exact half_tanh z

variable (u : S1x512x1024.Idx → EReal) (x y a b d e p t : S512x1024.Idx → EReal) (w : S1024x1024.Idx → EReal)
  (gp : S1x1024.Idx → EReal) (gt : S1x1x1024.Idx → EReal) (q : S3x512x1024.Idx → EReal) (r : Fin 512) (j : Fin 1024)

theorem pay2_apply : (k0_pay2 (F := Ideal) u : S512x1024.Idx → EReal) (ix2 r j) = u (ix3 0 r j) := by
  unfold k0_pay2
  exact flat_apply u r j

theorem pay3_apply : (k0_pay3 (F := Ideal) u : S512x1024.Idx → EReal) (ix2 r j) = u (ix3 0 r j) := by
  unfold k0_pay3
  exact flat_apply u r j

theorem pay4_apply : (k0_pay4 (F := Ideal) u x : S512x1024.Idx → EReal) (ix2 r j) = through (row x r) (fun k => u (ix3 0 r k)) j := by
  unfold k0_pay4
  simp only [shapeCast_self]
  refine Eq.trans ?_ (congrArg (fun z => x (ix2 r j) * (z * sigm z)) (flat_apply u r j))
  refine Eq.trans ?_ (congrArg (fun s => x (ix2 r j) * (shapeCast S512x1024 u shapeCasts_S1x512x1024_S512x1024 (ix2 r j) * s)) (sigmoid_eq _))
  rfl

theorem pay5_apply : (k0_pay5 (F := Ideal) x w : S512x1024.Idx → EReal) (ix2 r j) = times (row x r) w j := by
  unfold k0_pay5
  simp only [shapeCast_self]
  exact product_apply x w r j

theorem pay6_apply : (k0_pay6 (F := Ideal) u x w : S512x1024.Idx → EReal) (ix2 r j)
    = times (through (row x r) (fun k => u (ix3 0 r k))) w j := by
  unfold k0_pay6
  simp only [shapeCast_self]
  refine (product_apply _ w r j).trans ?_
  exact congrArg (fun f => times f w j) (funext fun k => pay4_apply u x r k)

theorem pay9_apply : (k0_pay9 (F := Ideal) a b d e : S512x1024.Idx → EReal) (ix2 r j) = merge (row a r) (row b r) (row d r) (row e r) j := by
  refine Eq.trans ?_ (congrArg₂ (fun s s' => s * d (ix2 r j) + s' * e (ix2 r j)) (sigmoid_eq (a (ix2 r j))) (sigmoid_eq (b (ix2 r j))))
  rfl

theorem pay10_apply : (k0_pay10 (F := Ideal) a b d e w : S512x1024.Idx → EReal) (ix2 r j)
    = times (merge (row a r) (row b r) (row d r) (row e r)) w j := by
  unfold k0_pay10
  simp only [shapeCast_self]
  refine (product_apply _ w r j).trans ?_
  exact congrArg (fun f => times f w j) (funext fun k => pay9_apply a b d e r k)

/-- The sum of the squares of a row. -/
theorem squares_apply (v : FVec Ideal S512x1024 .f32) :
    (shapeCast S512x1 (multiReduction .add [1] S512 v 0x00000000#32 reduces_S512x1024_S512 (.inl rfl) rfl : FVec Ideal S512 .f32)
      shapeCasts_S512_S512x1 : S512x1.Idx → EReal) (ix2 r 0) = ∑ k : Fin 1024, v (ix2 r k) := by
  rw [shapeCast_apply _ _ _ (ValueIdx.ix1 r) (by rw [Shape.rowMajor_val_two, Shape.rowMajor_val_one]; show r.val = r.val * 1 + 0; omega)]
  refine (Ideal.multiReduction_add_single (φ := .f32) v _ _ _ rfl _).trans ?_
  refine Finset.sum_congr rfl fun k _ => congrArg v (funext fun z => ?_)
  match z with
  | ⟨0, _⟩ => rfl
  | ⟨1, _⟩ => rfl

theorem pay11_apply : (k0_pay11 (F := Ideal) a b d e w : S512x1.Idx → EReal) (ix2 r 0)
    = Ideal.rsqrt (Ideal.div (∑ k : Fin 1024, row (k0_pay10 (F := Ideal) a b d e w) r k * row (k0_pay10 (F := Ideal) a b d e w) r k)
        (Ideal.ofBits .f32 0x44800000#32) + Ideal.ofBits .f32 0x358637BD#32) := by
  refine Eq.trans ?_ (congrArg (fun s => Ideal.rsqrt (Ideal.div s (Ideal.ofBits .f32 0x44800000#32) + Ideal.ofBits .f32 0x358637BD#32))
    (squares_apply r (mulf (k0_pay10 (F := Ideal) a b d e w) (k0_pay10 (F := Ideal) a b d e w))))
  rfl

theorem pay12_apply : (k0_pay12 (F := Ideal) a b d e w : S512x1024.Idx → EReal) (ix2 r j)
    = norm (times (merge (row a r) (row b r) (row d r) (row e r)) w) j := by
  have hs : (broadcastTo S512x1024 (k0_pay11 (F := Ideal) a b d e w) broadcasts_S512x1_S512x1024 : S512x1024.Idx → EReal) (ix2 r j)
      = (k0_pay11 (F := Ideal) a b d e w : S512x1.Idx → EReal) (ix2 r 0) :=
    broadcastTo_apply _ _ _ (ix2 r (0 : Fin 1)) (by intro z; match z with | ⟨0, _⟩ => rfl | ⟨1, _⟩ => rfl)
  have hp : row (k0_pay10 (F := Ideal) a b d e w) r = times (merge (row a r) (row b r) (row d r) (row e r)) w :=
    funext fun k => pay10_apply a b d e w r k
  unfold norm
  rw [← hp]
  exact congrArg (row (k0_pay10 (F := Ideal) a b d e w) r j * ·) (hs.trans (pay11_apply a b d e w r))

theorem pay13_apply : (k0_pay13 (F := Ideal) gp : S1x1024.Idx → EReal) = gp := by
  unfold k0_pay13
  exact shapeCast_self _ _

theorem pay14_apply : (k0_pay14 (F := Ideal) gt : S1x1024.Idx → EReal) (ix2 0 j) = gt (ix3 0 0 j) := by
  unfold k0_pay14
  refine shapeCast_apply _ _ _ (ix3 0 0 j) ?_
  rw [Shape.rowMajor_val_three, Shape.rowMajor_val_two]
  show (0 * 1 + 0) * 1024 + j.val = 0 * 1024 + j.val
  omega

theorem spread_apply (v : S1x1024.Idx → EReal) :
    (broadcastTo S512x1024 v broadcasts_S1x1024_S512x1024 : S512x1024.Idx → EReal) (ix2 r j) = v (ix2 0 j) :=
  broadcastTo_1b_ab_apply v broadcasts_S1x1024_S512x1024 r j

theorem pay17_apply : (k0_pay17 (F := Ideal) p gp gt x t : S512x1024.Idx → EReal) (ix2 r j)
    = error (row x r) (row t r) (fun k => gt (ix3 0 0 k)) (fun k => gp (ix2 0 k)) (row p r) j * Ideal.ofBits .f32 0x3A800000#32 := by
  refine Eq.trans ?_ (congrArg₂ (fun g h => (x (ix2 r j) + g * (p (ix2 r j) * h) - t (ix2 r j)) * Ideal.ofBits .f32 0x3A800000#32)
    ((spread_apply r j (k0_pay14 (F := Ideal) gt)).trans (pay14_apply gt j)) (spread_apply r j gp))
  rfl

/-! ## The parts of a block of the projection -/

theorem part0_apply : (part0 (F := Ideal) q : S1x512x1024.Idx → EReal) (ix3 0 r j) = q (ix3 0 r j) :=
  View.ld_unit_apply_of (Val := Elt Ideal) (e := .bf16) q _ _ _ _ _ fun z => match z with
    | ⟨0, _⟩ => rfl
    | ⟨1, _⟩ => by show r.val = 0 + r.val; omega
    | ⟨2, _⟩ => by show j.val = 0 + j.val; omega

theorem part1_apply : (part1 (F := Ideal) q : S1x512x1024.Idx → EReal) (ix3 0 r j) = q (ix3 1 r j) :=
  View.ld_unit_apply_of (Val := Elt Ideal) (e := .bf16) q _ _ _ _ _ fun z => match z with
    | ⟨0, _⟩ => rfl
    | ⟨1, _⟩ => by show r.val = 0 + r.val; omega
    | ⟨2, _⟩ => by show j.val = 0 + j.val; omega

theorem part2_apply : (part2 (F := Ideal) q : S1x512x1024.Idx → EReal) (ix3 0 r j) = q (ix3 2 r j) :=
  View.ld_unit_apply_of (Val := Elt Ideal) (e := .bf16) q _ _ _ _ _ fun z => match z with
    | ⟨0, _⟩ => rfl
    | ⟨1, _⟩ => by show r.val = 0 + r.val; omega
    | ⟨2, _⟩ => by show j.val = 0 + j.val; omega

theorem first_row : (fun k => (part0 (F := Ideal) q : S1x512x1024.Idx → EReal) (ix3 0 r k)) = seg q 0 r := funext fun k => part0_apply q r k

theorem second_row : row (k0_pay2 (F := Ideal) (part1 (F := Ideal) q)) r = seg q 1 r := funext fun k => (pay2_apply _ r k).trans (part1_apply q r k)

theorem third_row : row (k0_pay3 (F := Ideal) (part2 (F := Ideal) q)) r = seg q 2 r := funext fun k => (pay3_apply _ r k).trans (part2_apply q r k)

/-! ## The five results of a point -/

variable (x0 x1 x3 x4 : S512x1024.Idx → EReal) (w7 w8 w9 : S1024x1024.Idx → EReal)

/-- The gated heads. -/
theorem res10 : (gatedHeads (F := Ideal) x1 q : S512x1024.Idx → EReal) (ix2 r j) = through (row x1 r) (seg q 0 r) j := by
  refine (pay4_apply _ x1 r j).trans ?_
  rw [first_row]

/-- The convolution branch. -/
theorem res11 : (k0_pay7 (F := Ideal) x0 w7 : S512x1024.Idx → EReal) (ix2 r j) = times (row x0 r) w7 j := pay5_apply x0 w7 r j

/-- The attention branch. -/
theorem attended_apply : (attended (F := Ideal) x1 q w8 : S512x1024.Idx → EReal) (ix2 r j) = times (through (row x1 r) (seg q 0 r)) w8 j := by
  refine (pay6_apply _ x1 w8 r j).trans ?_
  rw [first_row]

theorem res12 : (k0_pay8 (F := Ideal) (attended (F := Ideal) x1 q w8) : S512x1024.Idx → EReal) (ix2 r j)
    = times (through (row x1 r) (seg q 0 r)) w8 j := attended_apply q r j x1 w8

/-- The two branches, merged. -/
def mergedRow (y x p0 p1 p2 : Fin 1024 → EReal) (wc wm : S1024x1024.Idx → EReal) : Fin 1024 → EReal :=
  merge p1 p2 (times y wc) (times (through x p0) wm)

theorem rows_eq : merge (row (k0_pay2 (F := Ideal) (part1 (F := Ideal) q)) r) (row (k0_pay3 (F := Ideal) (part2 (F := Ideal) q)) r)
    (row (k0_pay5 (F := Ideal) x0 w7) r) (row (attended (F := Ideal) x1 q w8) r)
      = mergedRow (row x0 r) (row x1 r) (seg q 0 r) (seg q 1 r) (seg q 2 r) w7 w8 := by
  unfold mergedRow
  rw [second_row, third_row, show row (k0_pay5 (F := Ideal) x0 w7) r = _ from funext fun k => pay5_apply x0 w7 r k,
    show row (attended (F := Ideal) x1 q w8) r = _ from funext fun k => attended_apply q r k x1 w8]

theorem res13 : (merged (F := Ideal) x0 x1 q w7 w8 : S512x1024.Idx → EReal) (ix2 r j)
    = mergedRow (row x0 r) (row x1 r) (seg q 0 r) (seg q 1 r) (seg q 2 r) w7 w8 j := by
  refine (pay9_apply _ _ _ _ r j).trans ?_
  rw [rows_eq]

/-- The gradient of the loss at the block's output. -/
theorem res15 : (grad (F := Ideal) x0 x1 q x3 x4 gt gp w7 w8 w9 : S512x1024.Idx → EReal) (ix2 r j)
    = error (row x3 r) (row x4 r) (fun k => gt (ix3 0 0 k)) (fun k => gp (ix2 0 k))
        (norm (times (mergedRow (row x0 r) (row x1 r) (seg q 0 r) (seg q 1 r) (seg q 2 r) w7 w8) w9)) j * Ideal.ofBits .f32 0x3A800000#32 := by
  refine (pay17_apply _ _ _ _ _ r j).trans ?_
  rw [pay13_apply, show row (normed (F := Ideal) x0 x1 q w7 w8 w9) r = _ from funext fun k => (pay12_apply _ _ _ _ w9 r k).trans (by rw [rows_eq])]

end Cert.Forward
-- ==== Proof.ForwardPoints.lean ====
/-
  The block's gated output: what a grid point leaves in its result blocks, in all three cases of the point.
-/
module

public import proofs.«01_k».proof.Proof.ForwardSteps

@[expose] public section

set_option maxRecDepth 16384

noncomputable section

namespace Cert.Forward

open Idealize.ShloMosaic hiding ix2 ix3 ix4
open Idealize.ShloMosaic.ValueIdx Idealize.ShloMosaic.TcCoe Idealize.SL.Sem Cert.Kernel8Ideal Cert.Kernel8Ideal.Gen

variable {F : FTy → Type} [FloatOps F] (m : (ℓ : Loc nD τ sig) → Buf (Elt F) ℓ) (c : Dev nD) (t : Fin cfg0.N)

set_option maxHeartbeats 1000000 in
theorem pointA10 (h0 : t.val % 4 = 0) (h1 : t.val % 8 = 0) : (outsAt0 m c t.val t.isLt).1 = gatedHeads (iblk m c 1 t) (X0_2 m c t) := by
  rw [outsAt0_A m c t h0 h1]
  dsimp only
  have e0 := outA10_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
  have e1 := e0 (ms0_7 t) (hs0_7 t) (ms0_8 t) (hs0_8 t) (ms0_9 t) (hs0_9 t) (ms0_10 t) (hs0_10 t) (ms0_11 t) (hs0_11 t) (ms0_12 t) (hs0_12 t)
  have e2 := e1 (ms0_13 t) (hs0_13 t) (ms0_14 t) (hs0_14 t) (ms0_15 t) (hs0_15 t) (ms0_16 t) (hs0_16 t) (ms0_17 t) (hs0_17 t) (ms0_18 t) (hs0_18 t)
  have e3 := e2 (iblk m c 0 t) (iblk m c 1 t) (X0_2 m c t) (iblk m c 3 t)
  have e4 := e3 (iblk m c 4 t) (iblk m c 5 t) (iblk m c 6 t)
  have e5 := e4 (iblk m c 7 t) (iblk m c 8 t) (iblk m c 9 t)
  exact e5 ((hcond0_0 t).mpr h0) ((hcond0_1 t).mpr h1)

set_option maxHeartbeats 1000000 in
theorem pointB10 (h0 : ¬t.val % 4 = 0) (h1 : ¬t.val % 8 = 0) : (outsAt0 m c t.val t.isLt).1 = gatedHeads (iblk m c 1 t) (X0_2 m c t) := by
  rw [outsAt0_B m c t h0 h1]
  dsimp only
  have e0 := outB10_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
  have e1 := e0 (ms0_7 t) (hs0_7 t) (ms0_8 t) (hs0_8 t) (ms0_9 t) (hs0_9 t) (ms0_10 t) (hs0_10 t) (ms0_11 t) (hs0_11 t) (ms0_12 t) (hs0_12 t)
  have e2 := e1 (ms0_13 t) (hs0_13 t) (ms0_14 t) (hs0_14 t) (ms0_15 t) (hs0_15 t) (ms0_16 t) (hs0_16 t) (ms0_17 t) (hs0_17 t) (ms0_18 t) (hs0_18 t)
  have e3 := e2 (iblk m c 0 t) (iblk m c 1 t) (X0_2 m c t) (iblk m c 3 t)
  have e4 := e3 (iblk m c 4 t) (iblk m c 5 t) (iblk m c 6 t)
  have e5 := e4 (iblk m c 7 t) (iblk m c 8 t) (iblk m c 9 t)
  have e6 := e5 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2
  exact e6 (fun h => h0 ((hcond0_0 t).mp h)) (fun h => h1 ((hcond0_1 t).mp h))

set_option maxHeartbeats 1000000 in
theorem pointC10 (h0 : t.val % 4 = 0) (h1 : ¬t.val % 8 = 0) : (outsAt0 m c t.val t.isLt).1 = gatedHeads (iblk m c 1 t) (X0_2 m c t) := by
  rw [outsAt0_C m c t h0 h1]
  dsimp only
  have e0 := outC10_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
  have e1 := e0 (ms0_7 t) (hs0_7 t) (ms0_8 t) (hs0_8 t) (ms0_9 t) (hs0_9 t) (ms0_10 t) (hs0_10 t) (ms0_11 t) (hs0_11 t) (ms0_12 t) (hs0_12 t)
  have e2 := e1 (ms0_13 t) (hs0_13 t) (ms0_14 t) (hs0_14 t) (ms0_15 t) (hs0_15 t) (ms0_16 t) (hs0_16 t) (ms0_17 t) (hs0_17 t) (ms0_18 t) (hs0_18 t)
  have e3 := e2 (iblk m c 0 t) (iblk m c 1 t) (X0_2 m c t) (iblk m c 3 t)
  have e4 := e3 (iblk m c 4 t) (iblk m c 5 t) (iblk m c 6 t)
  have e5 := e4 (iblk m c 7 t) (iblk m c 8 t) (iblk m c 9 t)
  have e6 := e5 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2
  exact e6 ((hcond0_0 t).mpr h0) (fun h => h1 ((hcond0_1 t).mp h))

set_option maxHeartbeats 1000000 in
theorem pointA11 (h0 : t.val % 4 = 0) (h1 : t.val % 8 = 0) : (outsAt0 m c t.val t.isLt).2.1 = k0_pay7 (iblk m c 0 t) (iblk m c 7 t) := by
  rw [outsAt0_A m c t h0 h1]
  dsimp only
  have e0 := outA11_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
  have e1 := e0 (ms0_7 t) (hs0_7 t) (ms0_8 t) (hs0_8 t) (ms0_9 t) (hs0_9 t) (ms0_10 t) (hs0_10 t) (ms0_11 t) (hs0_11 t) (ms0_12 t) (hs0_12 t)
  have e2 := e1 (ms0_13 t) (hs0_13 t) (ms0_14 t) (hs0_14 t) (ms0_15 t) (hs0_15 t) (ms0_16 t) (hs0_16 t) (ms0_17 t) (hs0_17 t) (ms0_18 t) (hs0_18 t)
  have e3 := e2 (iblk m c 0 t) (iblk m c 1 t) (X0_2 m c t) (iblk m c 3 t)
  have e4 := e3 (iblk m c 4 t) (iblk m c 5 t) (iblk m c 6 t)
  have e5 := e4 (iblk m c 7 t) (iblk m c 8 t) (iblk m c 9 t)
  exact e5 ((hcond0_0 t).mpr h0) ((hcond0_1 t).mpr h1)

set_option maxHeartbeats 1000000 in
theorem pointB11 (h0 : ¬t.val % 4 = 0) (h1 : ¬t.val % 8 = 0) : (outsAt0 m c t.val t.isLt).2.1 = k0_pay7 (iblk m c 0 t) (iblk m c 7 t) := by
  rw [outsAt0_B m c t h0 h1]
  dsimp only
  have e0 := outB11_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
  have e1 := e0 (ms0_7 t) (hs0_7 t) (ms0_8 t) (hs0_8 t) (ms0_9 t) (hs0_9 t) (ms0_10 t) (hs0_10 t) (ms0_11 t) (hs0_11 t) (ms0_12 t) (hs0_12 t)
  have e2 := e1 (ms0_13 t) (hs0_13 t) (ms0_14 t) (hs0_14 t) (ms0_15 t) (hs0_15 t) (ms0_16 t) (hs0_16 t) (ms0_17 t) (hs0_17 t) (ms0_18 t) (hs0_18 t)
  have e3 := e2 (iblk m c 0 t) (iblk m c 1 t) (X0_2 m c t) (iblk m c 3 t)
  have e4 := e3 (iblk m c 4 t) (iblk m c 5 t) (iblk m c 6 t)
  have e5 := e4 (iblk m c 7 t) (iblk m c 8 t) (iblk m c 9 t)
  have e6 := e5 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2
  exact e6 (fun h => h0 ((hcond0_0 t).mp h)) (fun h => h1 ((hcond0_1 t).mp h))

set_option maxHeartbeats 1000000 in
theorem pointC11 (h0 : t.val % 4 = 0) (h1 : ¬t.val % 8 = 0) : (outsAt0 m c t.val t.isLt).2.1 = k0_pay7 (iblk m c 0 t) (iblk m c 7 t) := by
  rw [outsAt0_C m c t h0 h1]
  dsimp only
  have e0 := outC11_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
  have e1 := e0 (ms0_7 t) (hs0_7 t) (ms0_8 t) (hs0_8 t) (ms0_9 t) (hs0_9 t) (ms0_10 t) (hs0_10 t) (ms0_11 t) (hs0_11 t) (ms0_12 t) (hs0_12 t)
  have e2 := e1 (ms0_13 t) (hs0_13 t) (ms0_14 t) (hs0_14 t) (ms0_15 t) (hs0_15 t) (ms0_16 t) (hs0_16 t) (ms0_17 t) (hs0_17 t) (ms0_18 t) (hs0_18 t)
  have e3 := e2 (iblk m c 0 t) (iblk m c 1 t) (X0_2 m c t) (iblk m c 3 t)
  have e4 := e3 (iblk m c 4 t) (iblk m c 5 t) (iblk m c 6 t)
  have e5 := e4 (iblk m c 7 t) (iblk m c 8 t) (iblk m c 9 t)
  have e6 := e5 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2
  exact e6 ((hcond0_0 t).mpr h0) (fun h => h1 ((hcond0_1 t).mp h))

set_option maxHeartbeats 1000000 in
theorem pointA12 (h0 : t.val % 4 = 0) (h1 : t.val % 8 = 0) : (outsAt0 m c t.val t.isLt).2.2.1 = k0_pay8 (attended (iblk m c 1 t) (X0_2 m c t) (iblk m c 8 t)) := by
  rw [outsAt0_A m c t h0 h1]
  dsimp only
  have e0 := outA12_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
  have e1 := e0 (ms0_7 t) (hs0_7 t) (ms0_8 t) (hs0_8 t) (ms0_9 t) (hs0_9 t) (ms0_10 t) (hs0_10 t) (ms0_11 t) (hs0_11 t) (ms0_12 t) (hs0_12 t)
  have e2 := e1 (ms0_13 t) (hs0_13 t) (ms0_14 t) (hs0_14 t) (ms0_15 t) (hs0_15 t) (ms0_16 t) (hs0_16 t) (ms0_17 t) (hs0_17 t) (ms0_18 t) (hs0_18 t)
  have e3 := e2 (iblk m c 0 t) (iblk m c 1 t) (X0_2 m c t) (iblk m c 3 t)
  have e4 := e3 (iblk m c 4 t) (iblk m c 5 t) (iblk m c 6 t)
  have e5 := e4 (iblk m c 7 t) (iblk m c 8 t) (iblk m c 9 t)
  exact e5 ((hcond0_0 t).mpr h0) ((hcond0_1 t).mpr h1)

set_option maxHeartbeats 1000000 in
theorem pointB12 (h0 : ¬t.val % 4 = 0) (h1 : ¬t.val % 8 = 0) : (outsAt0 m c t.val t.isLt).2.2.1 = k0_pay8 (attended (iblk m c 1 t) (X0_2 m c t) (iblk m c 8 t)) := by
  rw [outsAt0_B m c t h0 h1]
  dsimp only
  have e0 := outB12_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
  have e1 := e0 (ms0_7 t) (hs0_7 t) (ms0_8 t) (hs0_8 t) (ms0_9 t) (hs0_9 t) (ms0_10 t) (hs0_10 t) (ms0_11 t) (hs0_11 t) (ms0_12 t) (hs0_12 t)
  have e2 := e1 (ms0_13 t) (hs0_13 t) (ms0_14 t) (hs0_14 t) (ms0_15 t) (hs0_15 t) (ms0_16 t) (hs0_16 t) (ms0_17 t) (hs0_17 t) (ms0_18 t) (hs0_18 t)
  have e3 := e2 (iblk m c 0 t) (iblk m c 1 t) (X0_2 m c t) (iblk m c 3 t)
  have e4 := e3 (iblk m c 4 t) (iblk m c 5 t) (iblk m c 6 t)
  have e5 := e4 (iblk m c 7 t) (iblk m c 8 t) (iblk m c 9 t)
  have e6 := e5 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2
  exact e6 (fun h => h0 ((hcond0_0 t).mp h)) (fun h => h1 ((hcond0_1 t).mp h))

set_option maxHeartbeats 1000000 in
theorem pointC12 (h0 : t.val % 4 = 0) (h1 : ¬t.val % 8 = 0) : (outsAt0 m c t.val t.isLt).2.2.1 = k0_pay8 (attended (iblk m c 1 t) (X0_2 m c t) (iblk m c 8 t)) := by
  rw [outsAt0_C m c t h0 h1]
  dsimp only
  have e0 := outC12_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
  have e1 := e0 (ms0_7 t) (hs0_7 t) (ms0_8 t) (hs0_8 t) (ms0_9 t) (hs0_9 t) (ms0_10 t) (hs0_10 t) (ms0_11 t) (hs0_11 t) (ms0_12 t) (hs0_12 t)
  have e2 := e1 (ms0_13 t) (hs0_13 t) (ms0_14 t) (hs0_14 t) (ms0_15 t) (hs0_15 t) (ms0_16 t) (hs0_16 t) (ms0_17 t) (hs0_17 t) (ms0_18 t) (hs0_18 t)
  have e3 := e2 (iblk m c 0 t) (iblk m c 1 t) (X0_2 m c t) (iblk m c 3 t)
  have e4 := e3 (iblk m c 4 t) (iblk m c 5 t) (iblk m c 6 t)
  have e5 := e4 (iblk m c 7 t) (iblk m c 8 t) (iblk m c 9 t)
  have e6 := e5 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2
  exact e6 ((hcond0_0 t).mpr h0) (fun h => h1 ((hcond0_1 t).mp h))

set_option maxHeartbeats 1000000 in
theorem pointA13 (h0 : t.val % 4 = 0) (h1 : t.val % 8 = 0) : (outsAt0 m c t.val t.isLt).2.2.2.1 = merged (iblk m c 0 t) (iblk m c 1 t) (X0_2 m c t) (iblk m c 7 t) (iblk m c 8 t) := by
  rw [outsAt0_A m c t h0 h1]
  dsimp only
  have e0 := outA13_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
  have e1 := e0 (ms0_7 t) (hs0_7 t) (ms0_8 t) (hs0_8 t) (ms0_9 t) (hs0_9 t) (ms0_10 t) (hs0_10 t) (ms0_11 t) (hs0_11 t) (ms0_12 t) (hs0_12 t)
  have e2 := e1 (ms0_13 t) (hs0_13 t) (ms0_14 t) (hs0_14 t) (ms0_15 t) (hs0_15 t) (ms0_16 t) (hs0_16 t) (ms0_17 t) (hs0_17 t) (ms0_18 t) (hs0_18 t)
  have e3 := e2 (iblk m c 0 t) (iblk m c 1 t) (X0_2 m c t) (iblk m c 3 t)
  have e4 := e3 (iblk m c 4 t) (iblk m c 5 t) (iblk m c 6 t)
  have e5 := e4 (iblk m c 7 t) (iblk m c 8 t) (iblk m c 9 t)
  exact e5 ((hcond0_0 t).mpr h0) ((hcond0_1 t).mpr h1)

set_option maxHeartbeats 1000000 in
theorem pointB13 (h0 : ¬t.val % 4 = 0) (h1 : ¬t.val % 8 = 0) : (outsAt0 m c t.val t.isLt).2.2.2.1 = merged (iblk m c 0 t) (iblk m c 1 t) (X0_2 m c t) (iblk m c 7 t) (iblk m c 8 t) := by
  rw [outsAt0_B m c t h0 h1]
  dsimp only
  have e0 := outB13_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
  have e1 := e0 (ms0_7 t) (hs0_7 t) (ms0_8 t) (hs0_8 t) (ms0_9 t) (hs0_9 t) (ms0_10 t) (hs0_10 t) (ms0_11 t) (hs0_11 t) (ms0_12 t) (hs0_12 t)
  have e2 := e1 (ms0_13 t) (hs0_13 t) (ms0_14 t) (hs0_14 t) (ms0_15 t) (hs0_15 t) (ms0_16 t) (hs0_16 t) (ms0_17 t) (hs0_17 t) (ms0_18 t) (hs0_18 t)
  have e3 := e2 (iblk m c 0 t) (iblk m c 1 t) (X0_2 m c t) (iblk m c 3 t)
  have e4 := e3 (iblk m c 4 t) (iblk m c 5 t) (iblk m c 6 t)
  have e5 := e4 (iblk m c 7 t) (iblk m c 8 t) (iblk m c 9 t)
  have e6 := e5 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2
  exact e6 (fun h => h0 ((hcond0_0 t).mp h)) (fun h => h1 ((hcond0_1 t).mp h))

set_option maxHeartbeats 1000000 in
theorem pointC13 (h0 : t.val % 4 = 0) (h1 : ¬t.val % 8 = 0) : (outsAt0 m c t.val t.isLt).2.2.2.1 = merged (iblk m c 0 t) (iblk m c 1 t) (X0_2 m c t) (iblk m c 7 t) (iblk m c 8 t) := by
  rw [outsAt0_C m c t h0 h1]
  dsimp only
  have e0 := outC13_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
  have e1 := e0 (ms0_7 t) (hs0_7 t) (ms0_8 t) (hs0_8 t) (ms0_9 t) (hs0_9 t) (ms0_10 t) (hs0_10 t) (ms0_11 t) (hs0_11 t) (ms0_12 t) (hs0_12 t)
  have e2 := e1 (ms0_13 t) (hs0_13 t) (ms0_14 t) (hs0_14 t) (ms0_15 t) (hs0_15 t) (ms0_16 t) (hs0_16 t) (ms0_17 t) (hs0_17 t) (ms0_18 t) (hs0_18 t)
  have e3 := e2 (iblk m c 0 t) (iblk m c 1 t) (X0_2 m c t) (iblk m c 3 t)
  have e4 := e3 (iblk m c 4 t) (iblk m c 5 t) (iblk m c 6 t)
  have e5 := e4 (iblk m c 7 t) (iblk m c 8 t) (iblk m c 9 t)
  have e6 := e5 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2
  exact e6 ((hcond0_0 t).mpr h0) (fun h => h1 ((hcond0_1 t).mp h))

set_option maxHeartbeats 1000000 in
theorem pointA15 (h0 : t.val % 4 = 0) (h1 : t.val % 8 = 0) : (outsAt0 m c t.val t.isLt).2.2.2.2.2.1 = grad (iblk m c 0 t) (iblk m c 1 t) (X0_2 m c t) (iblk m c 3 t) (iblk m c 4 t) (iblk m c 5 t) (iblk m c 6 t) (iblk m c 7 t) (iblk m c 8 t) (iblk m c 9 t) := by
  rw [outsAt0_A m c t h0 h1]
  dsimp only
  have e0 := outA15_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
  have e1 := e0 (ms0_7 t) (hs0_7 t) (ms0_8 t) (hs0_8 t) (ms0_9 t) (hs0_9 t) (ms0_10 t) (hs0_10 t) (ms0_11 t) (hs0_11 t) (ms0_12 t) (hs0_12 t)
  have e2 := e1 (ms0_13 t) (hs0_13 t) (ms0_14 t) (hs0_14 t) (ms0_15 t) (hs0_15 t) (ms0_16 t) (hs0_16 t) (ms0_17 t) (hs0_17 t) (ms0_18 t) (hs0_18 t)
  have e3 := e2 (iblk m c 0 t) (iblk m c 1 t) (X0_2 m c t) (iblk m c 3 t)
  have e4 := e3 (iblk m c 4 t) (iblk m c 5 t) (iblk m c 6 t)
  have e5 := e4 (iblk m c 7 t) (iblk m c 8 t) (iblk m c 9 t)
  exact e5 ((hcond0_0 t).mpr h0) ((hcond0_1 t).mpr h1)

set_option maxHeartbeats 1000000 in
theorem pointB15 (h0 : ¬t.val % 4 = 0) (h1 : ¬t.val % 8 = 0) : (outsAt0 m c t.val t.isLt).2.2.2.2.2.1 = grad (iblk m c 0 t) (iblk m c 1 t) (X0_2 m c t) (iblk m c 3 t) (iblk m c 4 t) (iblk m c 5 t) (iblk m c 6 t) (iblk m c 7 t) (iblk m c 8 t) (iblk m c 9 t) := by
  rw [outsAt0_B m c t h0 h1]
  dsimp only
  have e0 := outB15_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
  have e1 := e0 (ms0_7 t) (hs0_7 t) (ms0_8 t) (hs0_8 t) (ms0_9 t) (hs0_9 t) (ms0_10 t) (hs0_10 t) (ms0_11 t) (hs0_11 t) (ms0_12 t) (hs0_12 t)
  have e2 := e1 (ms0_13 t) (hs0_13 t) (ms0_14 t) (hs0_14 t) (ms0_15 t) (hs0_15 t) (ms0_16 t) (hs0_16 t) (ms0_17 t) (hs0_17 t) (ms0_18 t) (hs0_18 t)
  have e3 := e2 (iblk m c 0 t) (iblk m c 1 t) (X0_2 m c t) (iblk m c 3 t)
  have e4 := e3 (iblk m c 4 t) (iblk m c 5 t) (iblk m c 6 t)
  have e5 := e4 (iblk m c 7 t) (iblk m c 8 t) (iblk m c 9 t)
  have e6 := e5 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2
  exact e6 (fun h => h0 ((hcond0_0 t).mp h)) (fun h => h1 ((hcond0_1 t).mp h))

set_option maxHeartbeats 1000000 in
theorem pointC15 (h0 : t.val % 4 = 0) (h1 : ¬t.val % 8 = 0) : (outsAt0 m c t.val t.isLt).2.2.2.2.2.1 = grad (iblk m c 0 t) (iblk m c 1 t) (X0_2 m c t) (iblk m c 3 t) (iblk m c 4 t) (iblk m c 5 t) (iblk m c 6 t) (iblk m c 7 t) (iblk m c 8 t) (iblk m c 9 t) := by
  rw [outsAt0_C m c t h0 h1]
  dsimp only
  have e0 := outC15_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
  have e1 := e0 (ms0_7 t) (hs0_7 t) (ms0_8 t) (hs0_8 t) (ms0_9 t) (hs0_9 t) (ms0_10 t) (hs0_10 t) (ms0_11 t) (hs0_11 t) (ms0_12 t) (hs0_12 t)
  have e2 := e1 (ms0_13 t) (hs0_13 t) (ms0_14 t) (hs0_14 t) (ms0_15 t) (hs0_15 t) (ms0_16 t) (hs0_16 t) (ms0_17 t) (hs0_17 t) (ms0_18 t) (hs0_18 t)
  have e3 := e2 (iblk m c 0 t) (iblk m c 1 t) (X0_2 m c t) (iblk m c 3 t)
  have e4 := e3 (iblk m c 4 t) (iblk m c 5 t) (iblk m c 6 t)
  have e5 := e4 (iblk m c 7 t) (iblk m c 8 t) (iblk m c 9 t)
  have e6 := e5 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2
  exact e6 ((hcond0_0 t).mpr h0) (fun h => h1 ((hcond0_1 t).mp h))

/-- The gated heads. -/
theorem point10 : (outsAt0 m c t.val t.isLt).1 = gatedHeads (iblk m c 1 t) (X0_2 m c t) := by
  have hN : t.val < 8 := lt_of_lt_of_eq t.isLt N_0
  by_cases h1 : t.val % 8 = 0
  · exact pointA10 m c t (by omega) h1
  · by_cases h0 : t.val % 4 = 0
    · exact pointC10 m c t h0 h1
    · exact pointB10 m c t h0 h1

/-- The convolution branch. -/
theorem point11 : (outsAt0 m c t.val t.isLt).2.1 = k0_pay7 (iblk m c 0 t) (iblk m c 7 t) := by
  have hN : t.val < 8 := lt_of_lt_of_eq t.isLt N_0
  by_cases h1 : t.val % 8 = 0
  · exact pointA11 m c t (by omega) h1
  · by_cases h0 : t.val % 4 = 0
    · exact pointC11 m c t h0 h1
    · exact pointB11 m c t h0 h1

/-- The attention branch. -/
theorem point12 : (outsAt0 m c t.val t.isLt).2.2.1 = k0_pay8 (attended (iblk m c 1 t) (X0_2 m c t) (iblk m c 8 t)) := by
  have hN : t.val < 8 := lt_of_lt_of_eq t.isLt N_0
  by_cases h1 : t.val % 8 = 0
  · exact pointA12 m c t (by omega) h1
  · by_cases h0 : t.val % 4 = 0
    · exact pointC12 m c t h0 h1
    · exact pointB12 m c t h0 h1

/-- The two branches, merged. -/
theorem point13 : (outsAt0 m c t.val t.isLt).2.2.2.1 = merged (iblk m c 0 t) (iblk m c 1 t) (X0_2 m c t) (iblk m c 7 t) (iblk m c 8 t) := by
  have hN : t.val < 8 := lt_of_lt_of_eq t.isLt N_0
  by_cases h1 : t.val % 8 = 0
  · exact pointA13 m c t (by omega) h1
  · by_cases h0 : t.val % 4 = 0
    · exact pointC13 m c t h0 h1
    · exact pointB13 m c t h0 h1

/-- The gradient of the loss at the output. -/
theorem point15 : (outsAt0 m c t.val t.isLt).2.2.2.2.2.1 = grad (iblk m c 0 t) (iblk m c 1 t) (X0_2 m c t) (iblk m c 3 t) (iblk m c 4 t) (iblk m c 5 t) (iblk m c 6 t) (iblk m c 7 t) (iblk m c 8 t) (iblk m c 9 t) := by
  have hN : t.val < 8 := lt_of_lt_of_eq t.isLt N_0
  by_cases h1 : t.val % 8 = 0
  · exact pointA15 m c t (by omega) h1
  · by_cases h0 : t.val % 4 = 0
    · exact pointC15 m c t h0 h1
    · exact pointB15 m c t h0 h1

end Cert.Forward
-- ==== Proof.ForwardArrays.lean ====
/-
  The block's gated output: the blocks that the call reads from its arrays, and five of the arrays that it leaves. A row of
  each array is a function of the same row of the arguments.
-/
module

public import proofs.«01_k».proof.Proof.ForwardTile
public import proofs.«01_k».proof.Proof.ForwardPoints
public import proofs.«01_k».proof.Proof.Gen.Kernel8Ideal.Value

@[expose] public section

set_option maxRecDepth 16384

noncomputable section

namespace Cert.Forward

open Idealize.ShloMosaic hiding ix2 ix3 ix4
open Idealize.ShloMosaic.ValueIdx Idealize.ShloMosaic.TcCoe Idealize.SL.Sem Cert.Kernel8Ideal Cert.Kernel8Ideal.Gen

variable (m : (ℓ : Loc nD τ sig) → Buf (Elt Ideal) ℓ) (c : Dev nD)

/-! ## The arrays, as the call receives them -/

/-- The convolution's output. -/
def conv : S4096x1024.Idx → EReal := V m c main_v0
/-- The attention heads. -/
def heads : S4096x1024.Idx → EReal := V m c main_v1
/-- The projection, in segments. -/
def pr : S8x4096x1024.Idx → EReal := V m c main_v2
/-- The block's input. -/
def input : S4096x1024.Idx → EReal := V m c main_arg3
/-- The target. -/
def target : S4096x1024.Idx → EReal := V m c main_arg4
/-- The gate of each batch entry. -/
def gate : S2x1x1024.Idx → EReal := V m c main_v3
/-- The norm's scale. -/
def post : S1x1024.Idx → EReal := V m c main_v4
/-- The convolution branch's weight. -/
def wConv : S1024x1024.Idx → EReal := V m c main_v5
/-- The attention branch's weight. -/
def wMla : S1024x1024.Idx → EReal := V m c main_v6
/-- The output weight. -/
def wOut : S1024x1024.Idx → EReal := V m c main_v7

/-- A row of an array. -/
def line (x : S4096x1024.Idx → EReal) (n : Fin 4096) : Fin 1024 → EReal := fun j => x (ix2 n j)

/-- A row of a segment. -/
def segLine (x : S8x4096x1024.Idx → EReal) (s : Fin 8) (n : Fin 4096) : Fin 1024 → EReal := fun j => x (ix3 s n j)

/-- The gate of a row's batch entry. -/
def gateLine (x : S2x1x1024.Idx → EReal) (n : Fin 4096) : Fin 1024 → EReal := fun j => x (ix3 ⟨n.val / 2048, by omega⟩ 0 j)

theorem index_eq : (∀ t, win0_0.index t = ![t.val, 0]) ∧ (∀ t, win0_1.index t = ![t.val, 0]) ∧ (∀ t, win0_2.index t = ![0, t.val, 0])
    ∧ (∀ t, win0_3.index t = ![t.val, 0]) ∧ (∀ t, win0_4.index t = ![t.val, 0]) ∧ (∀ t, win0_5.index t = ![t.val / 4, 0, 0])
    ∧ (∀ t, win0_6.index t = ![0, 0]) ∧ (∀ t, win0_7.index t = ![0, 0]) ∧ (∀ t, win0_8.index t = ![0, 0]) ∧ (∀ t, win0_9.index t = ![0, 0]) := by
  decide +kernel

theorem out_index_eq : (∀ t, win0_10.index t = ![t.val, 0]) ∧ (∀ t, win0_11.index t = ![t.val, 0]) ∧ (∀ t, win0_12.index t = ![t.val, 0])
    ∧ (∀ t, win0_13.index t = ![t.val, 0]) ∧ (∀ t, win0_15.index t = ![t.val, 0]) := by
  decide +kernel

/-- The array's row that is row `r` of point `t`. -/
def place (t : Fin cfg0.N) (r : Fin 512) : Fin 4096 := ⟨t.val * 512 + r.val, by
  have h : cfg0.N = 8 := N_0
  have := t.isLt
  omega⟩

section Blocks
variable (t : Fin cfg0.N)

def blk0 : S512x1024.Idx → EReal := iblk m c 0 t
def blk1 : S512x1024.Idx → EReal := iblk m c 1 t
def blk2 : S3x512x1024.Idx → EReal := X0_2 m c t
def blk3 : S512x1024.Idx → EReal := iblk m c 3 t
def blk4 : S512x1024.Idx → EReal := iblk m c 4 t
def blk5 : S1x1x1024.Idx → EReal := iblk m c 5 t
def blk6 : S1x1024.Idx → EReal := iblk m c 6 t
def blk7 : S1024x1024.Idx → EReal := iblk m c 7 t
def blk8 : S1024x1024.Idx → EReal := iblk m c 8 t
def blk9 : S1024x1024.Idx → EReal := iblk m c 9 t

theorem row0 (r : Fin 512) : row (blk0 m c t) r = line (conv m c) (place t r) := by
  funext j
  have hi : ((cfg0.win 0).blk t).view.emb (ix2 r j) = ix2 (place t r) j := by
    blk_ext [index_eq.1 t, place]
  show V m c main_v0 (((cfg0.win 0).blk t).view.emb (ix2 r j)) = _
  rw [hi]
  rfl

theorem row1 (r : Fin 512) : row (blk1 m c t) r = line (heads m c) (place t r) := by
  funext j
  have hi : ((cfg0.win 1).blk t).view.emb (ix2 r j) = ix2 (place t r) j := by
    blk_ext [index_eq.2.1 t, place]
  show V m c main_v1 (((cfg0.win 1).blk t).view.emb (ix2 r j)) = _
  rw [hi]
  rfl

theorem row3 (r : Fin 512) : row (blk3 m c t) r = line (input m c) (place t r) := by
  funext j
  have hi : ((cfg0.win 3).blk t).view.emb (ix2 r j) = ix2 (place t r) j := by
    blk_ext [index_eq.2.2.2.1 t, place]
  show V m c main_arg3 (((cfg0.win 3).blk t).view.emb (ix2 r j)) = _
  rw [hi]
  rfl

theorem row4 (r : Fin 512) : row (blk4 m c t) r = line (target m c) (place t r) := by
  funext j
  have hi : ((cfg0.win 4).blk t).view.emb (ix2 r j) = ix2 (place t r) j := by
    blk_ext [index_eq.2.2.2.2.1 t, place]
  show V m c main_arg4 (((cfg0.win 4).blk t).view.emb (ix2 r j)) = _
  rw [hi]
  rfl

theorem all6 : blk6 m c t = post m c := by
  funext y
  have hi : ((cfg0.win 6).blk t).view.emb y = y := by
    blk_ext [index_eq.2.2.2.2.2.2.1 t]
  show V m c main_v4 (((cfg0.win 6).blk t).view.emb y) = _
  rw [hi]
  rfl

theorem all7 : blk7 m c t = wConv m c := by
  funext y
  have hi : ((cfg0.win 7).blk t).view.emb y = y := by
    blk_ext [index_eq.2.2.2.2.2.2.2.1 t]
  show V m c main_v5 (((cfg0.win 7).blk t).view.emb y) = _
  rw [hi]
  rfl

theorem all8 : blk8 m c t = wMla m c := by
  funext y
  have hi : ((cfg0.win 8).blk t).view.emb y = y := by
    blk_ext [index_eq.2.2.2.2.2.2.2.2.1 t]
  show V m c main_v6 (((cfg0.win 8).blk t).view.emb y) = _
  rw [hi]
  rfl

theorem all9 : blk9 m c t = wOut m c := by
  funext y
  have hi : ((cfg0.win 9).blk t).view.emb y = y := by
    blk_ext [index_eq.2.2.2.2.2.2.2.2.2 t]
  show V m c main_v7 (((cfg0.win 9).blk t).view.emb y) = _
  rw [hi]
  rfl

/-- The gate's block is the gate of the batch entry that the point's rows are of. -/
theorem gate_row (r : Fin 512) : (fun k => blk5 m c t (ix3 0 0 k)) = gateLine (gate m c) (place t r) := by
  funext j
  have hn : t.val / 4 = (t.val * 512 + r.val) / 2048 := by omega
  have hi : ((cfg0.win 5).blk t).view.emb (ix3 0 0 j) = ix3 ⟨(place t r).val / 2048, by omega⟩ 0 j := by
    blk_ext [index_eq.2.2.2.2.2.1 t, place]
  show V m c main_v3 (((cfg0.win 5).blk t).view.emb (ix3 0 0 j)) = _
  rw [hi]
  rfl

/-- The projection's block is the same rows of the first three segments. -/
theorem seg_eq (s : Fin 3) (r : Fin 512) : seg (blk2 m c t) s r = segLine (pr m c) ⟨s.val, by omega⟩ (place t r) := by
  funext j
  show X0_2 m c t (ix3 s r j) = _
  unfold X0_2 Pipeline.Window.fill
  rw [dif_pos (moved0_2 t _)]
  show V m c main_v2 (((cfg0.win 2).blk t).view.emb _) = _
  refine Eq.trans (congrArg (V m c main_v2) (?_ : _ = ix3 ⟨s.val, by omega⟩ (place t r) j)) rfl
  blk_ext [index_eq.2.2.1 t, place]

/-! ## What a point leaves -/

/-- The merged row `n` of the two branches. -/
def mergedLine (n : Fin 4096) : Fin 1024 → EReal :=
  mergedRow (line (conv m c) n) (line (heads m c) n) (segLine (pr m c) 0 n) (segLine (pr m c) 1 n) (segLine (pr m c) 2 n) (wConv m c) (wMla m c)

/-- The gradient of the loss at row `n` of the block's output. -/
def gradLine (n : Fin 4096) : Fin 1024 → EReal := fun j =>
  error (line (input m c) n) (line (target m c) n) (gateLine (gate m c) n) (fun k => post m c (ix2 0 k))
    (norm (times (mergedLine m c n) (wOut m c))) j * Ideal.ofBits .f32 0x3A800000#32

theorem left10 (r : Fin 512) (j : Fin 1024) : ((outsAt0 m c t.val t.isLt).1 : S512x1024.Idx → EReal) (ix2 r j)
    = through (line (heads m c) (place t r)) (segLine (pr m c) 0 (place t r)) j := by
  refine (congrFun (point10 m c t) (ix2 r j)).trans ((res10 (blk2 m c t) r j (blk1 m c t)).trans ?_)
  rw [row1, seg_eq]
  rfl

theorem left11 (r : Fin 512) (j : Fin 1024) : ((outsAt0 m c t.val t.isLt).2.1 : S512x1024.Idx → EReal) (ix2 r j)
    = times (line (conv m c) (place t r)) (wConv m c) j := by
  refine (congrFun (point11 m c t) (ix2 r j)).trans ((res11 r j (blk0 m c t) (blk7 m c t)).trans ?_)
  rw [row0, all7]

theorem left12 (r : Fin 512) (j : Fin 1024) : ((outsAt0 m c t.val t.isLt).2.2.1 : S512x1024.Idx → EReal) (ix2 r j)
    = times (through (line (heads m c) (place t r)) (segLine (pr m c) 0 (place t r))) (wMla m c) j := by
  refine (congrFun (point12 m c t) (ix2 r j)).trans ((res12 (blk2 m c t) r j (blk1 m c t) (blk8 m c t)).trans ?_)
  rw [row1, seg_eq, all8]
  rfl

theorem left13 (r : Fin 512) (j : Fin 1024) : ((outsAt0 m c t.val t.isLt).2.2.2.1 : S512x1024.Idx → EReal) (ix2 r j)
    = mergedLine m c (place t r) j := by
  refine (congrFun (point13 m c t) (ix2 r j)).trans ((res13 (blk2 m c t) r j (blk0 m c t) (blk1 m c t) (blk7 m c t) (blk8 m c t)).trans ?_)
  rw [row0, row1, seg_eq, seg_eq, seg_eq, all7, all8]
  rfl

theorem left15 (r : Fin 512) (j : Fin 1024) : ((outsAt0 m c t.val t.isLt).2.2.2.2.2.1 : S512x1024.Idx → EReal) (ix2 r j)
    = gradLine m c (place t r) j := by
  refine (congrFun (point15 m c t) (ix2 r j)).trans ((res15 (blk6 m c t) (blk5 m c t) (blk2 m c t) r j (blk0 m c t) (blk1 m c t) (blk3 m c t) (blk4 m c t) (blk7 m c t) (blk8 m c t) (blk9 m c t)).trans ?_)
  rw [row0, row1, row3, row4, seg_eq, seg_eq, seg_eq, all6, all7, all8, all9, gate_row m c t r]
  rfl

end Blocks

/-! ## The arrays after the call -/

theorem array10 : ((dats m 0 c).arrAt 10 cfg0.N : S4096x1024.Idx → EReal)
    = fun i => through (line (heads m c) (i 0)) (segLine (pr m c) 0 (i 0)) (i 1) := by
  refine (dats m 0 c).arrAt_eq_of_covers 10 _ (by decide +kernel) fun t hf y => ?_
  have hi : ((cfg0.win 10).blk t).view.emb y = ix2 (place t (y 0)) (y 1) := by
    blk_ext [out_index_eq.1 t, place]
  rw [hi, after0_10]
  exact (congrArg (outsAt0 m c t.val t.isLt).1 (ValueIdx.eq_ix2 (n0 := 512) (n1 := 1024) y)).trans (left10 m c t (y 0) (y 1))

theorem array11 : ((dats m 0 c).arrAt 11 cfg0.N : S4096x1024.Idx → EReal)
    = fun i => times (line (conv m c) (i 0)) (wConv m c) (i 1) := by
  refine (dats m 0 c).arrAt_eq_of_covers 11 _ (by decide +kernel) fun t hf y => ?_
  have hi : ((cfg0.win 11).blk t).view.emb y = ix2 (place t (y 0)) (y 1) := by
    blk_ext [out_index_eq.2.1 t, place]
  rw [hi, after0_11]
  exact (congrArg (outsAt0 m c t.val t.isLt).2.1 (ValueIdx.eq_ix2 (n0 := 512) (n1 := 1024) y)).trans (left11 m c t (y 0) (y 1))

theorem array12 : ((dats m 0 c).arrAt 12 cfg0.N : S4096x1024.Idx → EReal)
    = fun i => times (through (line (heads m c) (i 0)) (segLine (pr m c) 0 (i 0))) (wMla m c) (i 1) := by
  refine (dats m 0 c).arrAt_eq_of_covers 12 _ (by decide +kernel) fun t hf y => ?_
  have hi : ((cfg0.win 12).blk t).view.emb y = ix2 (place t (y 0)) (y 1) := by
    blk_ext [out_index_eq.2.2.1 t, place]
  rw [hi, after0_12]
  exact (congrArg (outsAt0 m c t.val t.isLt).2.2.1 (ValueIdx.eq_ix2 (n0 := 512) (n1 := 1024) y)).trans (left12 m c t (y 0) (y 1))

theorem array13 : ((dats m 0 c).arrAt 13 cfg0.N : S4096x1024.Idx → EReal)
    = fun i => mergedLine m c (i 0) (i 1) := by
  refine (dats m 0 c).arrAt_eq_of_covers 13 _ (by decide +kernel) fun t hf y => ?_
  have hi : ((cfg0.win 13).blk t).view.emb y = ix2 (place t (y 0)) (y 1) := by
    blk_ext [out_index_eq.2.2.2.1 t, place]
  rw [hi, after0_13]
  exact (congrArg (outsAt0 m c t.val t.isLt).2.2.2.1 (ValueIdx.eq_ix2 (n0 := 512) (n1 := 1024) y)).trans (left13 m c t (y 0) (y 1))

theorem array15 : ((dats m 0 c).arrAt 15 cfg0.N : S4096x1024.Idx → EReal)
    = fun i => gradLine m c (i 0) (i 1) := by
  refine (dats m 0 c).arrAt_eq_of_covers 15 _ (by decide +kernel) fun t hf y => ?_
  have hi : ((cfg0.win 15).blk t).view.emb y = ix2 (place t (y 0)) (y 1) := by
    blk_ext [out_index_eq.2.2.2.2 t, place]
  rw [hi, after0_15]
  exact (congrArg (outsAt0 m c t.val t.isLt).2.2.2.2.2.1 (ValueIdx.eq_ix2 (n0 := 512) (n1 := 1024) y)).trans (left15 m c t (y 0) (y 1))

end Cert.Forward
-- ==== Proof.ForwardReference.lean ====
/-
  The block's gated output: the reference's five results at an index, in the rows of its arguments.
-/
module

public import proofs.«01_k».proof.Proof.ForwardArrays
public import proofs.«01_k».proof.Proof.Gen.Reference8Ideal.Read

@[expose] public section

set_option maxRecDepth 16384

noncomputable section

namespace Cert.Forward

open Idealize.ShloMosaic hiding ix2 ix3 ix4
open Idealize.ShloMosaic.ValueIdx Cert.Reference8Ideal Cert.Reference8Ideal.Read
open Cert.Tail (sigm ofBits_half ofBits_one)

variable (y x : S4096x1024.Idx → EReal) (p : S8x4096x1024.Idx → EReal) (s g : S4096x1024.Idx → EReal) (b : S2x1024.Idx → EReal) (q : S1024.Idx → EReal)
  (wc wm wo : S1024x1024.Idx → EReal) (n : Fin 4096) (j : Fin 1024)

/-! ## The gates -/

theorem ref1 : (val_main_v1 (F := Ideal) p : S4096x1024.Idx → EReal) (ix2 n j) = segLine p 0 n j := by
  rw [val_main_v1_apply, val_main_v0_apply]
  refine congrArg p (funext fun a => ?_)
  match a with
  | ⟨0, _⟩ => rfl
  | ⟨1, _⟩ => exact Fin.ext (by show (n.val * 1024 + j.val) / 1024 % 4096 = n.val; omega)
  | ⟨2, _⟩ => exact Fin.ext (by show (n.val * 1024 + j.val) % 1024 = j.val; omega)

theorem ref3 : (val_main_v3 (F := Ideal) p : S4096x1024.Idx → EReal) (ix2 n j) = segLine p 1 n j := by
  rw [val_main_v3_apply, val_main_v2_apply]
  refine congrArg p (funext fun a => ?_)
  match a with
  | ⟨0, _⟩ => rfl
  | ⟨1, _⟩ => exact Fin.ext (by show (n.val * 1024 + j.val) / 1024 % 4096 = n.val; omega)
  | ⟨2, _⟩ => exact Fin.ext (by show (n.val * 1024 + j.val) % 1024 = j.val; omega)

theorem ref5 : (val_main_v5 (F := Ideal) p : S4096x1024.Idx → EReal) (ix2 n j) = segLine p 2 n j := by
  rw [val_main_v5_apply, val_main_v4_apply]
  refine congrArg p (funext fun a => ?_)
  match a with
  | ⟨0, _⟩ => rfl
  | ⟨1, _⟩ => exact Fin.ext (by show (n.val * 1024 + j.val) / 1024 % 4096 = n.val; omega)
  | ⟨2, _⟩ => exact Fin.ext (by show (n.val * 1024 + j.val) % 1024 = j.val; omega)

/-- The sigmoid of the second gate. -/
theorem ref15 : (val_main_v15 (F := Ideal) p : S4096x1024.Idx → EReal) (ix2 n j) = sigm (segLine p 1 n j) := by
  rw [← ref3, val_main_v15_apply, val_main_v14_apply, val_main_v13_apply, val_main_v12_apply]
  show Ideal.div (Ideal.ofBits .f32 0x3F800000#32) (Ideal.ofBits .f32 0x3F800000#32 + Ideal.exp (-(val_main_v3 (F := Ideal) p (ix2 n j)))) = _
  rw [ofBits_one]
  rfl

/-- The sigmoid of the third gate. -/
theorem ref22 : (val_main_v22 (F := Ideal) p : S4096x1024.Idx → EReal) (ix2 n j) = sigm (segLine p 2 n j) := by
  rw [← ref5, val_main_v22_apply, val_main_v21_apply, val_main_v20_apply, val_main_v19_apply]
  show Ideal.div (Ideal.ofBits .f32 0x3F800000#32) (Ideal.ofBits .f32 0x3F800000#32 + Ideal.exp (-(val_main_v5 (F := Ideal) p (ix2 n j)))) = _
  rw [ofBits_one]
  rfl

/-- The sigmoid in the first gate. -/
theorem ref0_5 : (val_main_call0_v5 (F := Ideal) p : S4096x1024.Idx → EReal) (ix2 n j) = sigm (segLine p 0 n j) := by
  rw [← ref1, val_main_call0_v5_apply, val_main_call0_v4_apply, val_main_call0_v3_apply, val_main_call0_v2_apply]
  show Ideal.div (Ideal.ofBits .f32 0x3F800000#32) (Ideal.ofBits .f32 0x3F800000#32 + Ideal.exp (-(val_main_v1 (F := Ideal) p (ix2 n j)))) = _
  rw [ofBits_one]
  rfl

/-! ## The two branches -/

/-- The gated heads. -/
theorem ref7 : (val_main_v7 (F := Ideal) x p : S4096x1024.Idx → EReal) (ix2 n j) = through (line x n) (segLine p 0 n) j :=
  congrArg (x (ix2 n j) * ·) (congrArg₂ (· * ·) (ref1 p n j) (ref0_5 p n j))

/-- The convolution branch. -/
theorem ref8 : (val_main_v8 (F := Ideal) y wc : S4096x1024.Idx → EReal) (ix2 n j) = times (line y n) wc j := by
  rw [val_main_v8_apply]
  refine Finset.sum_congr rfl fun k _ => congrArg₂ (· * ·) (congrArg y (funext fun z => ?_)) (congrArg wc (funext fun z => ?_))
  · match z with
    | ⟨0, _⟩ => rfl
    | ⟨1, _⟩ => rfl
  · match z with
    | ⟨0, _⟩ => rfl
    | ⟨1, _⟩ => rfl

/-- The attention branch. -/
theorem ref9 : (val_main_v9 (F := Ideal) x p wm : S4096x1024.Idx → EReal) (ix2 n j) = times (through (line x n) (segLine p 0 n)) wm j := by
  rw [val_main_v9_apply]
  refine Finset.sum_congr rfl fun k _ => congrArg₂ (· * ·) (Eq.trans (congrArg _ (funext fun z => ?_)) (ref7 x p n k)) (congrArg wm (funext fun z => ?_))
  · match z with
    | ⟨0, _⟩ => rfl
    | ⟨1, _⟩ => rfl
  · match z with
    | ⟨0, _⟩ => rfl
    | ⟨1, _⟩ => rfl

/-- The two branches, merged. -/
theorem ref24 : (val_main_v24 (F := Ideal) y x p wc wm : S4096x1024.Idx → EReal) (ix2 n j)
    = mergedRow (line y n) (line x n) (segLine p 0 n) (segLine p 1 n) (segLine p 2 n) wc wm j :=
  congrArg₂ (· + ·) (congrArg₂ (· * ·) (ref15 p n j) (ref8 y wc n j)) (congrArg₂ (· * ·) (ref22 p n j) (ref9 x p wm n j))

/-- The merged rows times the output weight. -/
def outLine : Fin 1024 → EReal := times (mergedRow (line y n) (line x n) (segLine p 0 n) (segLine p 1 n) (segLine p 2 n) wc wm) wo

theorem ref25 : (val_main_v25 (F := Ideal) y x p wc wm wo : S4096x1024.Idx → EReal) (ix2 n j) = outLine y x p wc wm wo n j := by
  unfold outLine times
  rw [val_main_v25_apply]
  refine Finset.sum_congr rfl fun k _ => congrArg₂ (· * ·) (Eq.trans (congrArg _ (funext fun z => ?_)) (ref24 y x p wc wm n k)) (congrArg wo (funext fun z => ?_))
  · match z with
    | ⟨0, _⟩ => rfl
    | ⟨1, _⟩ => rfl
  · match z with
    | ⟨0, _⟩ => rfl
    | ⟨1, _⟩ => rfl

/-! ## The norm -/

/-- The sum of a row's squares. -/
theorem ref27 : (val_main_v27 (F := Ideal) y x p wc wm wo : S4096.Idx → EReal) (ValueIdx.ix1 n)
    = ∑ k : Fin 1024, outLine y x p wc wm wo n k * outLine y x p wc wm wo n k := by
  rw [val_main_v27_apply]
  refine Eq.trans (congrArg₂ (· + ·) (Ideal.ofBits_zero_f32 : Ideal.ofBits .f32 0x00000000#32 = 0) (Finset.sum_congr rfl fun k _ => ?_)) (zero_add _)
  have hi : idx_main_v27 (ValueIdx.ix1 n) k = ix2 n k := funext fun z => match z with
    | ⟨0, _⟩ => rfl
    | ⟨1, _⟩ => rfl
  rw [hi, val_main_v26_apply]
  exact congrArg₂ (· * ·) (ref25 y x p wc wm wo n k) (ref25 y x p wc wm wo n k)

/-- What a row is multiplied by. -/
theorem ref34 : (val_main_v34 (F := Ideal) y x p wc wm wo : S4096x1024.Idx → EReal) (ix2 n j)
    = Ideal.rsqrt (Ideal.div (∑ k : Fin 1024, outLine y x p wc wm wo n k * outLine y x p wc wm wo n k) (Ideal.ofBits .f32 0x44800000#32)
        + Ideal.ofBits .f32 0x358637BD#32) := by
  rw [← ref27, val_main_v34_apply, val_main_v33_apply, val_main_v32_apply, val_main_v30_apply, val_main_v28_apply, val_main_v29_apply, val_main_v31_apply]
  have hi : idx_main_v28 (idx_main_v34 (ix2 n j)) = ValueIdx.ix1 n := funext fun z => match z with
    | ⟨0, _⟩ => rfl
  rw [hi]
  rfl

theorem ref35 : (val_main_v35 (F := Ideal) y x p wc wm wo : S4096x1024.Idx → EReal) (ix2 n j) = norm (outLine y x p wc wm wo n) j :=
  congrArg₂ (· * ·) (ref25 y x p wc wm wo n j) (ref34 y x p wc wm wo n j)

/-! ## The error and the gradient -/

/-- The norm's scale. -/
theorem ref37 : (val_main_v37 (F := Ideal) q : S4096x1024.Idx → EReal) (ix2 n j) = q (ValueIdx.ix1 j) := by
  rw [val_main_v37_apply, val_main_v36_apply]
  refine congrArg q (funext fun z => ?_)
  match z with
  | ⟨0, _⟩ => rfl

/-- The gate of the row's batch entry. -/
theorem ref41 : (val_main_v41 (F := Ideal) b : S4096x1024.Idx → EReal) (ix2 n j) = b (ix2 ⟨n.val / 2048, by omega⟩ j) := by
  rw [val_main_v41_apply, val_main_v40_apply, val_main_v39_apply]
  refine congrArg b (funext fun z => ?_)
  match z with
  | ⟨0, _⟩ => exact Fin.ext (by show (n.val * 1024 + j.val) / 2097152 = n.val / 2048; omega)
  | ⟨1, _⟩ => exact Fin.ext (by show (n.val * 1024 + j.val) % 1024 = j.val; omega)

/-- The error at row `n`. -/
def errorLine : Fin 1024 → EReal :=
  error (line s n) (line g n) (fun k => b (ix2 ⟨n.val / 2048, by omega⟩ k)) (fun k => q (ValueIdx.ix1 k)) (norm (outLine y x p wc wm wo n))

theorem ref44 : (val_main_v44 (F := Ideal) y x p s g b q wc wm wo : S4096x1024.Idx → EReal) (ix2 n j) = errorLine y x p s g b q wc wm wo n j :=
  congrArg (s (ix2 n j) + · - g (ix2 n j)) (congrArg₂ (· * ·) (ref41 b n j) (congrArg₂ (· * ·) (ref35 y x p wc wm wo n j) (ref37 q n j)))

theorem ofBits_two : Ideal.ofBits .f32 0x40000000#32 = ((2 : ℝ) : EReal) := by
  simp [Ideal.ofBits, Ideal.ieee, -EReal.coe_mul]; norm_num

theorem ofBits_width : Ideal.ofBits .f32 0x44800000#32 = ((1024 : ℝ) : EReal) := by
  simp [Ideal.ofBits, Ideal.ieee, -EReal.coe_mul]; norm_num

theorem ofBits_mean : Ideal.ofBits .f32 0x3A800000#32 = ((1 / 1024 : ℝ) : EReal) := by
  simp [Ideal.ofBits, Ideal.ieee, -EReal.coe_mul]; norm_num

/-- Half the mean's weight times twice the error is the error over the width. -/
theorem mean_eq (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  rw [ofBits_half, ofBits_one, ofBits_width, ofBits_two, ofBits_mean, mul_one, Ideal.div_coe (by norm_num : (1024 : ℝ) ≠ 0), ← mul_assoc,
    ← EReal.coe_mul, ← EReal.coe_mul, mul_comm]
  norm_num

/-- The gradient of the loss at the block's output. -/
theorem ref58 : (val_main_v58 (F := Ideal) y x p s g b q wc wm wo : S4096x1024.Idx → EReal) (ix2 n j)
    = errorLine y x p s g b q wc wm wo n j * Ideal.ofBits .f32 0x3A800000#32 := by
  rw [← ref44, ← mean_eq, val_main_v58_apply, val_main_v57_apply, val_main_v56_apply, val_main_v55_apply, val_main_v54_apply, val_main_v53_apply,
    val_main_v47_apply, val_main_v46_apply]
  rfl

end Cert.Forward
-- ==== Proof.Claims8.lean ====
/-
  The block's gated output: the claims. The programs run and leave their arguments as they were, and over the real numbers
  the kernel leaves the reference's gated heads, branches, merged rows and gradient of the loss at the output.
-/
module

public import proofs.«01_k».proof.Defs
public import proofs.«01_k».proof.Proof.ForwardReference
public import proofs.«01_k».proof.Proof.Gen.Kernel8.Frame
public import Idealize.ShloMosaic.Lib.Quiescent
public import Idealize.ShloMosaic.Lib.StableHlo.RunRead

@[expose] public section

set_option maxRecDepth 16384

noncomputable section

namespace Cert.Forward

open Idealize.ShloMosaic hiding ix2 ix3 ix4
open Idealize.ShloMosaic.ValueIdx Idealize.ShloMosaic.TcCoe Idealize.SL.Sem Cert.Kernel8Ideal Cert.Kernel8Ideal.Gen

/-- The kernel runs at the machine's floats and leaves its arguments as they were. -/
theorem frame_p : Cert.quiescent_Kernel8 := fun m ρ _ => Cert.Kernel8.Gen.frame m ρ

/-- The idealized kernel runs and leaves its arguments as they were. -/
theorem frame_pi : Cert.quiescent_Kernel8Ideal := fun m ρ _ => Cert.Kernel8Ideal.Gen.frame m ρ

/-- The idealized reference runs and leaves its arguments as they were; it has no semaphores. -/
theorem frame_ri : Cert.quiescent_Reference8Ideal := fun m ρ _ =>
  (θ_run Cert.Reference8Ideal.defs _ _).mono (fun r h => ⟨fun c => (h c).2.2.2.2.2, Idealize.ShloMosaic.sem_eq_zero_of_no_sems (by decide) r.2⟩)
    (Cert.Reference8Ideal.Value.run (F := Ideal) m ρ)

/-- The idealization names no constant. -/
theorem preserves : Cert.preserves_Kernel8_Kernel8Ideal := trivial

variable (m : (ℓ : Loc nD τ sig) → Buf (Elt Ideal) ℓ) (c : Dev nD)

/-- The arguments that a memory holds. -/
structure Has (y x : S4096x1024.Idx → EReal) (p : S8x4096x1024.Idx → EReal) (s g : S4096x1024.Idx → EReal) (b : S2x1024.Idx → EReal)
    (q : S1024.Idx → EReal) (wc wm wo : S1024x1024.Idx → EReal) : Prop where
  h0 : m ((c : Thread nD τ).loc main_arg0) = y
  h1 : m ((c : Thread nD τ).loc main_arg1) = x
  h2 : m ((c : Thread nD τ).loc main_arg2) = p
  h3 : m ((c : Thread nD τ).loc main_arg3) = s
  h4 : m ((c : Thread nD τ).loc main_arg4) = g
  h5 : m ((c : Thread nD τ).loc main_arg5) = b
  h6 : m ((c : Thread nD τ).loc main_arg6) = q
  h7 : m ((c : Thread nD τ).loc main_arg7) = wc
  h8 : m ((c : Thread nD τ).loc main_arg8) = wm
  h9 : m ((c : Thread nD τ).loc main_arg9) = wo

variable (y x : S4096x1024.Idx → EReal) (p : S8x4096x1024.Idx → EReal) (s g : S4096x1024.Idx → EReal) (b : S2x1024.Idx → EReal)
  (q : S1024.Idx → EReal) (wc wm wo : S1024x1024.Idx → EReal) (h : Has m c y x p s g b q wc wm wo)
include h

/-! ## What the call receives -/

theorem conv_eq : conv m c = y := by
  refine Eq.trans ?_ h.h0
  unfold conv V
  after_reads_simp
  rfl

theorem heads_eq : heads m c = x := by
  refine Eq.trans ?_ h.h1
  unfold heads V
  after_reads_simp
  rfl

theorem pr_eq : pr m c = p := by
  refine Eq.trans ?_ h.h2
  unfold pr V
  after_reads_simp
  rfl

theorem input_eq : input m c = s := by
  refine Eq.trans ?_ h.h3
  unfold input V
  after_reads_simp

theorem target_eq : target m c = g := by
  refine Eq.trans ?_ h.h4
  unfold target V
  after_reads_simp

theorem wConv_eq : wConv m c = wc := by
  refine Eq.trans ?_ h.h7
  unfold wConv V
  after_reads_simp
  rfl

theorem wMla_eq : wMla m c = wm := by
  refine Eq.trans ?_ h.h8
  unfold wMla V
  after_reads_simp
  rfl

theorem wOut_eq : wOut m c = wo := by
  refine Eq.trans ?_ h.h9
  unfold wOut V
  after_reads_simp
  rfl

theorem gate_eq : gate m c = shapeCast S2x1x1024 b shapeCasts_S2x1024_S2x1x1024 := by
  obtain ⟨h0, h1, h2, h3, h4, h5, h6, h7, h8, h9⟩ := h
  subst h5
  unfold gate V
  after_reads_simp
  rfl

theorem post_eq : post m c = shapeCast S1x1024 q shapeCasts_S1024_S1x1024 := by
  obtain ⟨h0, h1, h2, h3, h4, h5, h6, h7, h8, h9⟩ := h
  subst h6
  unfold post V
  after_reads_simp
  rfl

theorem gateLine_eq (n : Fin 4096) : gateLine (gate m c) n = fun k => b (ix2 ⟨n.val / 2048, by omega⟩ k) := by
  rw [gate_eq m c y x p s g b q wc wm wo h]
  funext k
  refine shapeCast_apply _ _ _ (ix2 ⟨n.val / 2048, by omega⟩ k) ?_
  rw [Shape.rowMajor_val_three, Shape.rowMajor_val_two]
  show n.val / 2048 * 1024 + k.val = (n.val / 2048 * 1 + 0) * 1024 + k.val
  omega

theorem postLine_eq : (fun k => post m c (ix2 0 k)) = fun k => q (ValueIdx.ix1 k) := by
  rw [post_eq m c y x p s g b q wc wm wo h]
  funext k
  refine shapeCast_apply _ _ _ (ValueIdx.ix1 k) ?_
  rw [Shape.rowMajor_val_two, Shape.rowMajor_val_one]
  show k.val = 0 * 1024 + k.val
  omega

theorem mergedLine_eq (n : Fin 4096) : mergedLine m c n
    = mergedRow (line y n) (line x n) (segLine p 0 n) (segLine p 1 n) (segLine p 2 n) wc wm := by
  unfold mergedLine
  rw [conv_eq m c y x p s g b q wc wm wo h, heads_eq m c y x p s g b q wc wm wo h, pr_eq m c y x p s g b q wc wm wo h, wConv_eq m c y x p s g b q wc wm wo h, wMla_eq m c y x p s g b q wc wm wo h]

/-! ## The five results -/

open Cert.Reference8Ideal.Read in
theorem result10 : ((dats m 0 c).arrAt 10 cfg0.N : S4096x1024.Idx → EReal) = val_main_v59 (F := Ideal) x p := by
  refine (array10 m c).trans (funext fun i => ?_)
  rw [heads_eq m c y x p s g b q wc wm wo h, pr_eq m c y x p s g b q wc wm wo h]
  exact (ref7 x p (i 0) (i 1)).symm.trans (congrArg (val_main_v7 (F := Ideal) x p) (ValueIdx.eq_ix2 (n0 := 4096) (n1 := 1024) i).symm)

open Cert.Reference8Ideal.Read in
theorem result11 : ((dats m 0 c).arrAt 11 cfg0.N : S4096x1024.Idx → EReal) = val_main_v60 (F := Ideal) y wc := by
  refine (array11 m c).trans (funext fun i => ?_)
  rw [conv_eq m c y x p s g b q wc wm wo h, wConv_eq m c y x p s g b q wc wm wo h]
  exact (ref8 y wc (i 0) (i 1)).symm.trans (congrArg (val_main_v8 (F := Ideal) y wc) (ValueIdx.eq_ix2 (n0 := 4096) (n1 := 1024) i).symm)

open Cert.Reference8Ideal.Read in
theorem result12 : ((dats m 0 c).arrAt 12 cfg0.N : S4096x1024.Idx → EReal) = val_main_v61 (F := Ideal) x p wm := by
  refine (array12 m c).trans (funext fun i => ?_)
  rw [heads_eq m c y x p s g b q wc wm wo h, pr_eq m c y x p s g b q wc wm wo h, wMla_eq m c y x p s g b q wc wm wo h]
  exact (ref9 x p wm (i 0) (i 1)).symm.trans (congrArg (val_main_v9 (F := Ideal) x p wm) (ValueIdx.eq_ix2 (n0 := 4096) (n1 := 1024) i).symm)

open Cert.Reference8Ideal.Read in
theorem result13 : ((dats m 0 c).arrAt 13 cfg0.N : S4096x1024.Idx → EReal) = val_main_v62 (F := Ideal) y x p wc wm := by
  refine (array13 m c).trans (funext fun i => ?_)
  rw [mergedLine_eq m c y x p s g b q wc wm wo h (i 0)]
  exact (ref24 y x p wc wm (i 0) (i 1)).symm.trans (congrArg (val_main_v24 (F := Ideal) y x p wc wm) (ValueIdx.eq_ix2 (n0 := 4096) (n1 := 1024) i).symm)

open Cert.Reference8Ideal.Read in
theorem result15 : ((dats m 0 c).arrAt 15 cfg0.N : S4096x1024.Idx → EReal) = val_main_v58 (F := Ideal) y x p s g b q wc wm wo := by
  refine (array15 m c).trans (funext fun i => ?_)
  refine Eq.trans ?_ ((ref58 y x p s g b q wc wm wo (i 0) (i 1)).symm.trans
    (congrArg (val_main_v58 (F := Ideal) y x p s g b q wc wm wo) (ValueIdx.eq_ix2 (n0 := 4096) (n1 := 1024) i).symm))
  unfold gradLine errorLine outLine
  rw [mergedLine_eq m c y x p s g b q wc wm wo h (i 0), gateLine_eq m c y x p s g b q wc wm wo h (i 0), postLine_eq m c y x p s g b q wc wm wo h,
    input_eq m c y x p s g b q wc wm wo h, target_eq m c y x p s g b q wc wm wo h, wOut_eq m c y x p s g b q wc wm wo h]

omit h in
/-- Over the real numbers the kernel's five results are the reference's. -/
theorem algebraic : Cert.algebraic_Kernel8Ideal_Reference8Ideal := by
  intro m g m' g' _ hagree
  refine ⟨fun c => (dats m 0 c).arrAt 10 cfg0.N, fun c => (dats m 0 c).arrAt 11 cfg0.N, fun c => (dats m 0 c).arrAt 12 cfg0.N,
    fun c => (dats m 0 c).arrAt 13 cfg0.N, fun c => (dats m 0 c).arrAt 15 cfg0.N, ?_, ?_⟩
  · exact (θ_run defs _ _).mono (fun r h c => by
      obtain ⟨r0, r1, r2, r3, _, r5, _, _, _, hargs⟩ := h c
      exact ⟨r0, r1, r2, r3, r5, hargs⟩) (Cert.Kernel8Ideal.Value.run_blocks m g)
  refine (θ_run Cert.Reference8Ideal.defs _ _).mono (fun r h c => ?_) (Cert.Reference8Ideal.Value.run (F := Ideal) m' g')
  obtain ⟨r0, r1, r2, r3, r4, hargs⟩ := h c
  obtain ⟨a0, a1, a2, a3, a4, a5, a6, a7, a8, a9⟩ := hagree c
  have k : Has m c _ _ _ _ _ _ _ _ _ _ := ⟨a0.symm, a1.symm, a2.symm, a3.symm, a4.symm, a5.symm, a6.symm, a7.symm, a8.symm, a9.symm⟩
  exact ⟨r0.trans ((Cert.Reference8Ideal.Read.val_main_v59_eq _ _).trans (result10 m c _ _ _ _ _ _ _ _ _ _ k).symm),
    r1.trans ((Cert.Reference8Ideal.Read.val_main_v60_eq _ _).trans (result11 m c _ _ _ _ _ _ _ _ _ _ k).symm),
    r2.trans ((Cert.Reference8Ideal.Read.val_main_v61_eq _ _ _).trans (result12 m c _ _ _ _ _ _ _ _ _ _ k).symm),
    r3.trans ((Cert.Reference8Ideal.Read.val_main_v62_eq _ _ _ _ _).trans (result13 m c _ _ _ _ _ _ _ _ _ _ k).symm),
    r4.trans ((Cert.Reference8Ideal.Read.val_main_v58_eq m' c).trans (result15 m c _ _ _ _ _ _ _ _ _ _ k).symm), hargs⟩

end Cert.Forward
-- ==== Proof.lean ====
/-
  The proof of everything claimed of attention's backward call, of the two calls that form the gradient of the block's
  input, and of the three kinds of call that form a weight's gradient: for each, the frames of the kernel, of its
  idealization and of the reference, what the idealization names, and the equality of the kernel's and the reference's
  results over the real numbers.
-/
module

public import proofs.«01_k».proof.Defs
public import proofs.«01_k».proof.Proof.Frames
public import proofs.«01_k».proof.Proof.Algebraic
public import proofs.«01_k».proof.Proof.Claims2
public import proofs.«01_k».proof.Proof.Claims3
public import proofs.«01_k».proof.Proof.Claims4
public import proofs.«01_k».proof.Proof.Claims5
public import proofs.«01_k».proof.Proof.Claims6
public import proofs.«01_k».proof.Proof.Claims7
public import proofs.«01_k».proof.Proof.Claims8
public import proofs.«01_k».proof.Proof.Gen.Kernel
public import proofs.«01_k».proof.Proof.Gen.KernelIdeal
public import proofs.«01_k».proof.Proof.Gen.ReferenceIdeal
public import proofs.«01_k».proof.Proof.Gen.ReferenceIdeal.Read
public import proofs.«01_k».proof.Proof.Gen.Pre_finite
public import proofs.«01_k».proof.Proof.Gen.Pre_finite_tail
public import proofs.«01_k».proof.Proof.Gen.Kernel2.Frame
public import proofs.«01_k».proof.Proof.Gen.Kernel2Ideal.Frame
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Read

public import Idealize.ShloMosaic.Adequacy
public import Idealize.ShloMosaic.Init

@[expose] public section

noncomputable section

namespace Cert.Proof

open Idealize.ShloMosaic Idealize.SL.Sem Cert.Kernel

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_finite.Gen.facts, Cert.Pre_finite_tail.Gen.facts,
  Cert.Flash.frame_p, Cert.Flash.frame_pi, fun m ρ _ => Cert.KernelIdeal.Gen.frame m ρ, Cert.Flash.frame_ri,
  fun m ρ _ => Cert.Flash.frame_ri m ρ trivial,
  Cert.Input2.frame_p, Cert.Input2.frame_pi, Cert.Input2.frame_ri,
  Cert.Input3.frame_p, Cert.Input3.frame_pi, Cert.Input3.frame_ri,
  Cert.Weight4.frame_p, Cert.Weight4.frame_pi, Cert.Weight4.frame_ri,
  Cert.Weight5.frame_p, Cert.Weight5.frame_pi, Cert.Weight5.frame_ri,
  Cert.Weight6.frame_p, Cert.Weight6.frame_pi, Cert.Weight6.frame_ri,
  Cert.Tail.frame_p, Cert.Tail.frame_pi, Cert.Tail.frame_pi_finite, Cert.Tail.frame_ri, Cert.Tail.frame_ri_finite,
  Cert.Forward.frame_p, Cert.Forward.frame_pi, Cert.Forward.frame_ri,
  Cert.Flash.preserves, Cert.Flash.algebraic,
  Cert.Input2.preserves, Cert.Input2.algebraic,
  Cert.Input3.preserves, Cert.Input3.algebraic,
  Cert.Weight4.preserves, Cert.Weight4.algebraic,
  Cert.Weight5.preserves, Cert.Weight5.algebraic,
  Cert.Weight6.preserves, Cert.Weight6.algebraic,
  Cert.Tail.preserves, Cert.Tail.algebraic,
  Cert.Forward.preserves, Cert.Forward.algebraic⟩

end Cert.Proof

end
